-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 [hPre_on_mesh15 : Cert.Pre_on_mesh15.Facts] (m : (ℓ : Loc Cert.Kernel15.nD Cert.Kernel15.τ Cert.Kernel15.sig) → Buf (Elt Bits) ℓ) : Prop :=
  ∀ c : Dev Cert.Kernel15.nD,
    (Cert.Pre_on_mesh15.fn (F := Bits) (m ((c.tc : Thread Cert.Kernel15.nD Cert.Kernel15.τ).loc Cert.Kernel15.main_arg0)) (m ((c.tc : Thread Cert.Kernel15.nD Cert.Kernel15.τ).loc Cert.Kernel15.main_arg1)) (m ((c.tc : Thread Cert.Kernel15.nD Cert.Kernel15.τ).loc Cert.Kernel15.main_arg2)) (m ((c.tc : Thread Cert.Kernel15.nD Cert.Kernel15.τ).loc Cert.Kernel15.main_arg3)) (m ((c.tc : Thread Cert.Kernel15.nD Cert.Kernel15.τ).loc Cert.Kernel15.main_arg4)) (m ((c.tc : Thread Cert.Kernel15.nD Cert.Kernel15.τ).loc Cert.Kernel15.main_arg5))) = (fun _ => 1#1)

def Pre_Kernel15Ideal [hPre_on_mesh15 : Cert.Pre_on_mesh15.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_on_mesh15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4)) (m ((c.tc : Thread Cert.Kernel15Ideal.nD Cert.Kernel15Ideal.τ).loc Cert.Kernel15Ideal.main_arg5))) = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_on_mesh15 [hPre_on_mesh15 : Cert.Pre_on_mesh15.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_on_mesh15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4)) (m ((c.tc : Thread Cert.Reference15Ideal.nD Cert.Reference15Ideal.τ).loc Cert.Reference15Ideal.main_arg5))) = (fun _ => 1#1)

def Pre_Kernel16 [hPre_on_mesh16 : Cert.Pre_on_mesh16.Facts] (m : (ℓ : Loc Cert.Kernel16.nD Cert.Kernel16.τ Cert.Kernel16.sig) → Buf (Elt Bits) ℓ) : Prop :=
  ∀ c : Dev Cert.Kernel16.nD,
    (Cert.Pre_on_mesh16.fn (F := Bits) (m ((c.tc : Thread Cert.Kernel16.nD Cert.Kernel16.τ).loc Cert.Kernel16.main_arg0)) (m ((c.tc : Thread Cert.Kernel16.nD Cert.Kernel16.τ).loc Cert.Kernel16.main_arg1)) (m ((c.tc : Thread Cert.Kernel16.nD Cert.Kernel16.τ).loc Cert.Kernel16.main_arg2)) (m ((c.tc : Thread Cert.Kernel16.nD Cert.Kernel16.τ).loc Cert.Kernel16.main_arg3)) (m ((c.tc : Thread Cert.Kernel16.nD Cert.Kernel16.τ).loc Cert.Kernel16.main_arg4)) (m ((c.tc : Thread Cert.Kernel16.nD Cert.Kernel16.τ).loc Cert.Kernel16.main_arg5))) = (fun _ => 1#1)

def Pre_Kernel16Ideal [hPre_on_mesh16 : Cert.Pre_on_mesh16.Facts] (m : (ℓ : Loc Cert.Kernel16Ideal.nD Cert.Kernel16Ideal.τ Cert.Kernel16Ideal.sig) → Buf (Elt Ideal) ℓ) : Prop :=
  ∀ c : Dev Cert.Kernel16Ideal.nD,
    (Cert.Pre_on_mesh16.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)) (m ((c.tc : Thread Cert.Kernel16Ideal.nD Cert.Kernel16Ideal.τ).loc Cert.Kernel16Ideal.main_arg4)) (m ((c.tc : Thread Cert.Kernel16Ideal.nD Cert.Kernel16Ideal.τ).loc Cert.Kernel16Ideal.main_arg5))) = (fun _ => 1#1)

def Pre_Reference16Ideal (m : (ℓ : Loc Cert.Reference16Ideal.nD Cert.Reference16Ideal.τ Cert.Reference16Ideal.sig) → Buf (Elt Ideal) ℓ) : Prop :=
  True

def Pre_Reference16Ideal_on_mesh16 [hPre_on_mesh16 : Cert.Pre_on_mesh16.Facts] (m : (ℓ : Loc Cert.Reference16Ideal.nD Cert.Reference16Ideal.τ Cert.Reference16Ideal.sig) → Buf (Elt Ideal) ℓ) : Prop :=
  ∀ c : Dev Cert.Reference16Ideal.nD,
    (Cert.Pre_on_mesh16.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2)) (m ((c.tc : Thread Cert.Reference16Ideal.nD Cert.Reference16Ideal.τ).loc Cert.Reference16Ideal.main_arg3)) (m ((c.tc : Thread Cert.Reference16Ideal.nD Cert.Reference16Ideal.τ).loc Cert.Reference16Ideal.main_arg4)) (m ((c.tc : Thread Cert.Reference16Ideal.nD Cert.Reference16Ideal.τ).loc Cert.Reference16Ideal.main_arg5))) = (fun _ => 1#1)

def Pre_Kernel17 [hPre_on_mesh17 : Cert.Pre_on_mesh17.Facts] (m : (ℓ : Loc Cert.Kernel17.nD Cert.Kernel17.τ Cert.Kernel17.sig) → Buf (Elt Bits) ℓ) : Prop :=
  ∀ c : Dev Cert.Kernel17.nD,
    (Cert.Pre_on_mesh17.fn (F := Bits) (m ((c.tc : Thread Cert.Kernel17.nD Cert.Kernel17.τ).loc Cert.Kernel17.main_arg0)) (m ((c.tc : Thread Cert.Kernel17.nD Cert.Kernel17.τ).loc Cert.Kernel17.main_arg1)) (m ((c.tc : Thread Cert.Kernel17.nD Cert.Kernel17.τ).loc Cert.Kernel17.main_arg2)) (m ((c.tc : Thread Cert.Kernel17.nD Cert.Kernel17.τ).loc Cert.Kernel17.main_arg3)) (m ((c.tc : Thread Cert.Kernel17.nD Cert.Kernel17.τ).loc Cert.Kernel17.main_arg4)) (m ((c.tc : Thread Cert.Kernel17.nD Cert.Kernel17.τ).loc Cert.Kernel17.main_arg5))) = (fun _ => 1#1)

def Pre_Kernel17Ideal [hPre_on_mesh17 : Cert.Pre_on_mesh17.Facts] (m : (ℓ : Loc Cert.Kernel17Ideal.nD Cert.Kernel17Ideal.τ Cert.Kernel17Ideal.sig) → Buf (Elt Ideal) ℓ) : Prop :=
  ∀ c : Dev Cert.Kernel17Ideal.nD,
    (Cert.Pre_on_mesh17.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4)) (m ((c.tc : Thread Cert.Kernel17Ideal.nD Cert.Kernel17Ideal.τ).loc Cert.Kernel17Ideal.main_arg5))) = (fun _ => 1#1)

def Pre_Reference17Ideal (m : (ℓ : Loc Cert.Reference17Ideal.nD Cert.Reference17Ideal.τ Cert.Reference17Ideal.sig) → Buf (Elt Ideal) ℓ) : Prop :=
  True

def Pre_Reference17Ideal_on_mesh17 [hPre_on_mesh17 : Cert.Pre_on_mesh17.Facts] (m : (ℓ : Loc Cert.Reference17Ideal.nD Cert.Reference17Ideal.τ Cert.Reference17Ideal.sig) → Buf (Elt Ideal) ℓ) : Prop :=
  ∀ c : Dev Cert.Reference17Ideal.nD,
    (Cert.Pre_on_mesh17.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3)) (m ((c.tc : Thread Cert.Reference17Ideal.nD Cert.Reference17Ideal.τ).loc Cert.Reference17Ideal.main_arg4)) (m ((c.tc : Thread Cert.Reference17Ideal.nD Cert.Reference17Ideal.τ).loc Cert.Reference17Ideal.main_arg5))) = (fun _ => 1#1)

def Pre_Kernel18 [hPre_on_mesh18 : Cert.Pre_on_mesh18.Facts] (m : (ℓ : Loc Cert.Kernel18.nD Cert.Kernel18.τ Cert.Kernel18.sig) → Buf (Elt Bits) ℓ) : Prop :=
  ∀ c : Dev Cert.Kernel18.nD,
    (Cert.Pre_on_mesh18.fn (F := Bits) (m ((c.tc : Thread Cert.Kernel18.nD Cert.Kernel18.τ).loc Cert.Kernel18.main_arg0)) (m ((c.tc : Thread Cert.Kernel18.nD Cert.Kernel18.τ).loc Cert.Kernel18.main_arg1)) (m ((c.tc : Thread Cert.Kernel18.nD Cert.Kernel18.τ).loc Cert.Kernel18.main_arg2)) (m ((c.tc : Thread Cert.Kernel18.nD Cert.Kernel18.τ).loc Cert.Kernel18.main_arg3)) (m ((c.tc : Thread Cert.Kernel18.nD Cert.Kernel18.τ).loc Cert.Kernel18.main_arg4)) (m ((c.tc : Thread Cert.Kernel18.nD Cert.Kernel18.τ).loc Cert.Kernel18.main_arg5))) = (fun _ => 1#1)

def Pre_Kernel18Ideal [hPre_on_mesh18 : Cert.Pre_on_mesh18.Facts] (m : (ℓ : Loc Cert.Kernel18Ideal.nD Cert.Kernel18Ideal.τ Cert.Kernel18Ideal.sig) → Buf (Elt Ideal) ℓ) : Prop :=
  ∀ c : Dev Cert.Kernel18Ideal.nD,
    (Cert.Pre_on_mesh18.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)) (m ((c.tc : Thread Cert.Kernel18Ideal.nD Cert.Kernel18Ideal.τ).loc Cert.Kernel18Ideal.main_arg4)) (m ((c.tc : Thread Cert.Kernel18Ideal.nD Cert.Kernel18Ideal.τ).loc Cert.Kernel18Ideal.main_arg5))) = (fun _ => 1#1)

def Pre_Reference18Ideal (m : (ℓ : Loc Cert.Reference18Ideal.nD Cert.Reference18Ideal.τ Cert.Reference18Ideal.sig) → Buf (Elt Ideal) ℓ) : Prop :=
  True

def Pre_Reference18Ideal_on_mesh18 [hPre_on_mesh18 : Cert.Pre_on_mesh18.Facts] (m : (ℓ : Loc Cert.Reference18Ideal.nD Cert.Reference18Ideal.τ Cert.Reference18Ideal.sig) → Buf (Elt Ideal) ℓ) : Prop :=
  ∀ c : Dev Cert.Reference18Ideal.nD,
    (Cert.Pre_on_mesh18.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2)) (m ((c.tc : Thread Cert.Reference18Ideal.nD Cert.Reference18Ideal.τ).loc Cert.Reference18Ideal.main_arg3)) (m ((c.tc : Thread Cert.Reference18Ideal.nD Cert.Reference18Ideal.τ).loc Cert.Reference18Ideal.main_arg4)) (m ((c.tc : Thread Cert.Reference18Ideal.nD Cert.Reference18Ideal.τ).loc Cert.Reference18Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6))
      ∧ r.2.sem = fun _ => 0)

def quiescent_Kernel15 [hKernel15 : Cert.Kernel15.Facts] [hPre_on_mesh15 : Cert.Pre_on_mesh15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5))
      ∧ r.2.sem = fun _ => 0)

def quiescent_Kernel15Ideal [hKernel15Ideal : Cert.Kernel15Ideal.Facts] [hPre_on_mesh15 : Cert.Pre_on_mesh15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5))
      ∧ r.2.sem = fun _ => 0)

def quiescent_Reference15Ideal_pre_on_mesh15 [hReference15Ideal : Cert.Reference15Ideal.Facts] [hPre_on_mesh15 : Cert.Pre_on_mesh15.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_on_mesh15 m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5))
      ∧ r.2.sem = fun _ => 0)

def quiescent_Kernel16 [hKernel16 : Cert.Kernel16.Facts] [hPre_on_mesh16 : Cert.Pre_on_mesh16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5))
      ∧ r.2.sem = fun _ => 0)

def quiescent_Kernel16Ideal [hKernel16Ideal : Cert.Kernel16Ideal.Facts] [hPre_on_mesh16 : Cert.Pre_on_mesh16.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5))
      ∧ r.2.sem = fun _ => 0)

def quiescent_Reference16Ideal_pre_on_mesh16 [hReference16Ideal : Cert.Reference16Ideal.Facts] [hPre_on_mesh16 : Cert.Pre_on_mesh16.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal_on_mesh16 m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5))
      ∧ r.2.sem = fun _ => 0)

def quiescent_Kernel17 [hKernel17 : Cert.Kernel17.Facts] [hPre_on_mesh17 : Cert.Pre_on_mesh17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5))
      ∧ r.2.sem = fun _ => 0)

def quiescent_Kernel17Ideal [hKernel17Ideal : Cert.Kernel17Ideal.Facts] [hPre_on_mesh17 : Cert.Pre_on_mesh17.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5))
      ∧ r.2.sem = fun _ => 0)

def quiescent_Reference17Ideal_pre_on_mesh17 [hReference17Ideal : Cert.Reference17Ideal.Facts] [hPre_on_mesh17 : Cert.Pre_on_mesh17.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal_on_mesh17 m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5))
      ∧ r.2.sem = fun _ => 0)

def quiescent_Kernel18 [hKernel18 : Cert.Kernel18.Facts] [hPre_on_mesh18 : Cert.Pre_on_mesh18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5))
      ∧ r.2.sem = fun _ => 0)

def quiescent_Kernel18Ideal [hKernel18Ideal : Cert.Kernel18Ideal.Facts] [hPre_on_mesh18 : Cert.Pre_on_mesh18.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5))
      ∧ r.2.sem = fun _ => 0)

def quiescent_Reference18Ideal_pre_on_mesh18 [hReference18Ideal : Cert.Reference18Ideal.Facts] [hPre_on_mesh18 : Cert.Pre_on_mesh18.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal_on_mesh18 m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)) (v2 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v1_1) = v1 c
          ∧ r.2.mem ((c.tc : Thread Cert.Kernel2Ideal.nD Cert.Kernel2Ideal.τ).loc Cert.Kernel2Ideal.main_v3) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v48) = v0 c
          ∧ r.2.mem ((c.tc : Thread Cert.Reference2Ideal.nD Cert.Reference2Ideal.τ).loc Cert.Reference2Ideal.main_v50) = v1 c
          ∧ r.2.mem ((c.tc : Thread Cert.Reference2Ideal.nD Cert.Reference2Ideal.τ).loc Cert.Reference2Ideal.main_v49) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v28) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)) →
    ∃ (v0 : (c : Dev Cert.Kernel10Ideal.nD) → Buf (Elt Ideal) ((c.tc : Thread Cert.Kernel10Ideal.nD Cert.Kernel10Ideal.τ).loc Cert.Kernel10Ideal.main_v2_0)) (v1 : (c : Dev Cert.Kernel10Ideal.nD) → Buf (Elt Ideal) ((c.tc : Thread Cert.Kernel10Ideal.nD Cert.Kernel10Ideal.τ).loc Cert.Kernel10Ideal.main_v2_1)) (v2 : (c : Dev Cert.Kernel10Ideal.nD) → Buf (Elt Ideal) ((c.tc : Thread Cert.Kernel10Ideal.nD Cert.Kernel10Ideal.τ).loc Cert.Kernel10Ideal.main_v2_2)) (v3 : (c : Dev Cert.Kernel10Ideal.nD) → Buf (Elt Ideal) ((c.tc : Thread Cert.Kernel10Ideal.nD Cert.Kernel10Ideal.τ).loc Cert.Kernel10Ideal.main_v4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2_0) = v0 c
          ∧ r.2.mem ((c.tc : Thread Cert.Kernel10Ideal.nD Cert.Kernel10Ideal.τ).loc Cert.Kernel10Ideal.main_v2_1) = v1 c
          ∧ r.2.mem ((c.tc : Thread Cert.Kernel10Ideal.nD Cert.Kernel10Ideal.τ).loc Cert.Kernel10Ideal.main_v2_2) = v2 c
          ∧ r.2.mem ((c.tc : Thread Cert.Kernel10Ideal.nD Cert.Kernel10Ideal.τ).loc Cert.Kernel10Ideal.main_v4) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v42) = v0 c
          ∧ r.2.mem ((c.tc : Thread Cert.Reference10Ideal.nD Cert.Reference10Ideal.τ).loc Cert.Reference10Ideal.main_v43) = v1 c
          ∧ r.2.mem ((c.tc : Thread Cert.Reference10Ideal.nD Cert.Reference10Ideal.τ).loc Cert.Reference10Ideal.main_v41) = v2 c
          ∧ r.2.mem ((c.tc : Thread Cert.Reference10Ideal.nD Cert.Reference10Ideal.τ).loc Cert.Reference10Ideal.main_v32) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v8) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v2_0)) (v1 : (c : Dev Cert.Kernel12Ideal.nD) → Buf (Elt Ideal) ((c.tc : Thread Cert.Kernel12Ideal.nD Cert.Kernel12Ideal.τ).loc Cert.Kernel12Ideal.main_v2_1)) (v2 : (c : Dev Cert.Kernel12Ideal.nD) → Buf (Elt Ideal) ((c.tc : Thread Cert.Kernel12Ideal.nD Cert.Kernel12Ideal.τ).loc Cert.Kernel12Ideal.main_v4)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2_0) = v0 c
          ∧ r.2.mem ((c.tc : Thread Cert.Kernel12Ideal.nD Cert.Kernel12Ideal.τ).loc Cert.Kernel12Ideal.main_v2_1) = v1 c
          ∧ r.2.mem ((c.tc : Thread Cert.Kernel12Ideal.nD Cert.Kernel12Ideal.τ).loc Cert.Kernel12Ideal.main_v4) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v18) = v0 c
          ∧ r.2.mem ((c.tc : Thread Cert.Reference12Ideal.nD Cert.Reference12Ideal.τ).loc Cert.Reference12Ideal.main_v19) = v1 c
          ∧ r.2.mem ((c.tc : Thread Cert.Reference12Ideal.nD Cert.Reference12Ideal.τ).loc Cert.Reference12Ideal.main_v12) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v2_0)) (v1 : (c : Dev Cert.Kernel13Ideal.nD) → Buf (Elt Ideal) ((c.tc : Thread Cert.Kernel13Ideal.nD Cert.Kernel13Ideal.τ).loc Cert.Kernel13Ideal.main_v2_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2_0) = v0 c
          ∧ r.2.mem ((c.tc : Thread Cert.Kernel13Ideal.nD Cert.Kernel13Ideal.τ).loc Cert.Kernel13Ideal.main_v2_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_v18) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)) →
    ∃ (v0 : (c : Dev Cert.Kernel14Ideal.nD) → Buf (Elt Ideal) ((c.tc : Thread Cert.Kernel14Ideal.nD Cert.Kernel14Ideal.τ).loc Cert.Kernel14Ideal.main_v2_0)) (v1 : (c : Dev Cert.Kernel14Ideal.nD) → Buf (Elt Ideal) ((c.tc : Thread Cert.Kernel14Ideal.nD Cert.Kernel14Ideal.τ).loc Cert.Kernel14Ideal.main_v2_1)) (v2 : (c : Dev Cert.Kernel14Ideal.nD) → Buf (Elt Ideal) ((c.tc : Thread Cert.Kernel14Ideal.nD Cert.Kernel14Ideal.τ).loc Cert.Kernel14Ideal.main_v2_2)) (v3 : (c : Dev Cert.Kernel14Ideal.nD) → Buf (Elt Ideal) ((c.tc : Thread Cert.Kernel14Ideal.nD Cert.Kernel14Ideal.τ).loc Cert.Kernel14Ideal.main_v2_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2_0) = v0 c
          ∧ r.2.mem ((c.tc : Thread Cert.Kernel14Ideal.nD Cert.Kernel14Ideal.τ).loc Cert.Kernel14Ideal.main_v2_1) = v1 c
          ∧ r.2.mem ((c.tc : Thread Cert.Kernel14Ideal.nD Cert.Kernel14Ideal.τ).loc Cert.Kernel14Ideal.main_v2_2) = v2 c
          ∧ r.2.mem ((c.tc : Thread Cert.Kernel14Ideal.nD Cert.Kernel14Ideal.τ).loc Cert.Kernel14Ideal.main_v2_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v15) = v0 c
          ∧ r.2.mem ((c.tc : Thread Cert.Reference14Ideal.nD Cert.Reference14Ideal.τ).loc Cert.Reference14Ideal.main_v18) = v1 c
          ∧ r.2.mem ((c.tc : Thread Cert.Reference14Ideal.nD Cert.Reference14Ideal.τ).loc Cert.Reference14Ideal.main_v21) = v2 c
          ∧ r.2.mem ((c.tc : Thread Cert.Reference14Ideal.nD Cert.Reference14Ideal.τ).loc Cert.Reference14Ideal.main_v40) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6))

def preserves_Kernel15_Kernel15Ideal : Prop :=
  True

def algebraic_Kernel15Ideal_Reference15Ideal [hKernel15Ideal : Cert.Kernel15Ideal.Facts] [hReference15Ideal : Cert.Reference15Ideal.Facts] [hPre_on_mesh15 : Cert.Pre_on_mesh15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v7) = v0 c
          ∧ r.2.mem ((c.tc : Thread Cert.Reference15Ideal.nD Cert.Reference15Ideal.τ).loc Cert.Reference15Ideal.main_v31) = v1 c
          ∧ r.2.mem ((c.tc : Thread Cert.Reference15Ideal.nD Cert.Reference15Ideal.τ).loc Cert.Reference15Ideal.main_v12) = v2 c
          ∧ r.2.mem ((c.tc : Thread Cert.Reference15Ideal.nD Cert.Reference15Ideal.τ).loc Cert.Reference15Ideal.main_v18) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5))

def preserves_Kernel16_Kernel16Ideal : Prop :=
  True

def algebraic_Kernel16Ideal_Reference16Ideal [hKernel16Ideal : Cert.Kernel16Ideal.Facts] [hReference16Ideal : Cert.Reference16Ideal.Facts] [hPre_on_mesh16 : Cert.Pre_on_mesh16.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v7) = v0 c
          ∧ r.2.mem ((c.tc : Thread Cert.Reference16Ideal.nD Cert.Reference16Ideal.τ).loc Cert.Reference16Ideal.main_v31) = v1 c
          ∧ r.2.mem ((c.tc : Thread Cert.Reference16Ideal.nD Cert.Reference16Ideal.τ).loc Cert.Reference16Ideal.main_v12) = v2 c
          ∧ r.2.mem ((c.tc : Thread Cert.Reference16Ideal.nD Cert.Reference16Ideal.τ).loc Cert.Reference16Ideal.main_v18) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5))

def preserves_Kernel17_Kernel17Ideal : Prop :=
  True

def algebraic_Kernel17Ideal_Reference17Ideal [hKernel17Ideal : Cert.Kernel17Ideal.Facts] [hReference17Ideal : Cert.Reference17Ideal.Facts] [hPre_on_mesh17 : Cert.Pre_on_mesh17.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v8) = v0 c
          ∧ r.2.mem ((c.tc : Thread Cert.Reference17Ideal.nD Cert.Reference17Ideal.τ).loc Cert.Reference17Ideal.main_v32) = v1 c
          ∧ r.2.mem ((c.tc : Thread Cert.Reference17Ideal.nD Cert.Reference17Ideal.τ).loc Cert.Reference17Ideal.main_v13) = v2 c
          ∧ r.2.mem ((c.tc : Thread Cert.Reference17Ideal.nD Cert.Reference17Ideal.τ).loc Cert.Reference17Ideal.main_v19) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5))

def preserves_Kernel18_Kernel18Ideal : Prop :=
  True

def algebraic_Kernel18Ideal_Reference18Ideal [hKernel18Ideal : Cert.Kernel18Ideal.Facts] [hReference18Ideal : Cert.Reference18Ideal.Facts] [hPre_on_mesh18 : Cert.Pre_on_mesh18.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v8) = v0 c
          ∧ r.2.mem ((c.tc : Thread Cert.Reference18Ideal.nD Cert.Reference18Ideal.τ).loc Cert.Reference18Ideal.main_v32) = v1 c
          ∧ r.2.mem ((c.tc : Thread Cert.Reference18Ideal.nD Cert.Reference18Ideal.τ).loc Cert.Reference18Ideal.main_v13) = v2 c
          ∧ r.2.mem ((c.tc : Thread Cert.Reference18Ideal.nD Cert.Reference18Ideal.τ).loc Cert.Reference18Ideal.main_v19) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hPre_on_mesh15 : Cert.Pre_on_mesh15.Facts) (hPre_on_mesh16 : Cert.Pre_on_mesh16.Facts) (hPre_on_mesh17 : Cert.Pre_on_mesh17.Facts) (hPre_on_mesh18 : Cert.Pre_on_mesh18.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15) (hPre_on_mesh15 := hPre_on_mesh15)
    ∧ quiescent_Kernel15Ideal (hKernel15Ideal := hKernel15Ideal) (hPre_on_mesh15 := hPre_on_mesh15)
    ∧ quiescent_Reference15Ideal (hReference15Ideal := hReference15Ideal)
    ∧ quiescent_Reference15Ideal_pre_on_mesh15 (hReference15Ideal := hReference15Ideal) (hPre_on_mesh15 := hPre_on_mesh15)
    ∧ quiescent_Kernel16 (hKernel16 := hKernel16) (hPre_on_mesh16 := hPre_on_mesh16)
    ∧ quiescent_Kernel16Ideal (hKernel16Ideal := hKernel16Ideal) (hPre_on_mesh16 := hPre_on_mesh16)
    ∧ quiescent_Reference16Ideal (hReference16Ideal := hReference16Ideal)
    ∧ quiescent_Reference16Ideal_pre_on_mesh16 (hReference16Ideal := hReference16Ideal) (hPre_on_mesh16 := hPre_on_mesh16)
    ∧ quiescent_Kernel17 (hKernel17 := hKernel17) (hPre_on_mesh17 := hPre_on_mesh17)
    ∧ quiescent_Kernel17Ideal (hKernel17Ideal := hKernel17Ideal) (hPre_on_mesh17 := hPre_on_mesh17)
    ∧ quiescent_Reference17Ideal (hReference17Ideal := hReference17Ideal)
    ∧ quiescent_Reference17Ideal_pre_on_mesh17 (hReference17Ideal := hReference17Ideal) (hPre_on_mesh17 := hPre_on_mesh17)
    ∧ quiescent_Kernel18 (hKernel18 := hKernel18) (hPre_on_mesh18 := hPre_on_mesh18)
    ∧ quiescent_Kernel18Ideal (hKernel18Ideal := hKernel18Ideal) (hPre_on_mesh18 := hPre_on_mesh18)
    ∧ quiescent_Reference18Ideal (hReference18Ideal := hReference18Ideal)
    ∧ quiescent_Reference18Ideal_pre_on_mesh18 (hReference18Ideal := hReference18Ideal) (hPre_on_mesh18 := hPre_on_mesh18)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal) (hPre_on_mesh15 := hPre_on_mesh15)
    ∧ preserves_Kernel16_Kernel16Ideal
    ∧ algebraic_Kernel16Ideal_Reference16Ideal (hKernel16Ideal := hKernel16Ideal) (hReference16Ideal := hReference16Ideal) (hPre_on_mesh16 := hPre_on_mesh16)
    ∧ preserves_Kernel17_Kernel17Ideal
    ∧ algebraic_Kernel17Ideal_Reference17Ideal (hKernel17Ideal := hKernel17Ideal) (hReference17Ideal := hReference17Ideal) (hPre_on_mesh17 := hPre_on_mesh17)
    ∧ preserves_Kernel18_Kernel18Ideal
    ∧ algebraic_Kernel18Ideal_Reference18Ideal (hKernel18Ideal := hKernel18Ideal) (hReference18Ideal := hReference18Ideal) (hPre_on_mesh18 := hPre_on_mesh18)
-- ==== Pre_on_mesh15.lean ====
abbrev S1 : Shape := ⟨1, ![1]⟩
abbrev S8x128x1024 : Shape := ⟨3, ![8, 128, 1024]⟩
abbrev S128x1024 : Shape := ⟨2, ![128, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S8x128x1024 .bf16) (main_arg2 : FVec F S8x128x1024 .bf16) (main_arg3 : FVec F S128x1024 .f32) (main_arg4 : FVec F S128x1024 .f32) (main_arg5 : FVec F S128x1024 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 8#32
  let main_v2 : IVec S1 32 := broadcastInDim S1 ![] bcast_S_S1 main_c_0
  let main_v3 : IVec S1 1 := cmpi .slt main_arg0 main_v2
  let main_v4 : IVec S1 1 := andi main_v1 main_v3
  main_v4
-- ==== Pre_on_mesh16.lean ====
abbrev S1 : Shape := ⟨1, ![1]⟩
abbrev S8x352x1024 : Shape := ⟨3, ![8, 352, 1024]⟩
abbrev S352x1024 : Shape := ⟨2, ![352, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S8x352x1024 .bf16) (main_arg2 : FVec F S8x352x1024 .bf16) (main_arg3 : FVec F S352x1024 .f32) (main_arg4 : FVec F S352x1024 .f32) (main_arg5 : FVec F S352x1024 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 8#32
  let main_v2 : IVec S1 32 := broadcastInDim S1 ![] bcast_S_S1 main_c_0
  let main_v3 : IVec S1 1 := cmpi .slt main_arg0 main_v2
  let main_v4 : IVec S1 1 := andi main_v1 main_v3
  main_v4
-- ==== Pre_on_mesh17.lean ====
abbrev S1 : Shape := ⟨1, ![1]⟩
abbrev S8x896x1024 : Shape := ⟨3, ![8, 896, 1024]⟩
abbrev S1024x896 : Shape := ⟨2, ![1024, 896]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S8x896x1024 .bf16) (main_arg2 : FVec F S8x896x1024 .bf16) (main_arg3 : FVec F S1024x896 .f32) (main_arg4 : FVec F S1024x896 .f32) (main_arg5 : FVec F S1024x896 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 8#32
  let main_v2 : IVec S1 32 := broadcastInDim S1 ![] bcast_S_S1 main_c_0
  let main_v3 : IVec S1 1 := cmpi .slt main_arg0 main_v2
  let main_v4 : IVec S1 1 := andi main_v1 main_v3
  main_v4
-- ==== Pre_on_mesh18.lean ====
abbrev S1 : Shape := ⟨1, ![1]⟩
abbrev S8x704x1024 : Shape := ⟨3, ![8, 704, 1024]⟩
abbrev S1024x704 : Shape := ⟨2, ![1024, 704]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S8x704x1024 .bf16) (main_arg2 : FVec F S8x704x1024 .bf16) (main_arg3 : FVec F S1024x704 .f32) (main_arg4 : FVec F S1024x704 .f32) (main_arg5 : FVec F S1024x704 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 8#32
  let main_v2 : IVec S1 32 := broadcastInDim S1 ![] bcast_S_S1 main_c_0
  let main_v3 : IVec S1 1 := cmpi .slt main_arg0 main_v2
  let main_v4 : IVec S1 1 := andi main_v1 main_v3
  main_v4
-- ==== Kernel.lean ====
abbrev S8x4096x1024 : Shape := ⟨3, ![8, 4096, 1024]⟩
abbrev S7168x1024 : Shape := ⟨2, ![7168, 1024]⟩
abbrev S4096x1024 : Shape := ⟨2, ![4096, 1024]⟩
abbrev S1x1024 : Shape := ⟨2, ![1, 1024]⟩
abbrev S8x128 : Shape := ⟨2, ![8, 128]⟩
abbrev S7x1024x1024 : Shape := ⟨3, ![7, 1024, 1024]⟩
abbrev S8x1024 : Shape := ⟨2, ![8, 1024]⟩
abbrev S7x512x1024 : Shape := ⟨3, ![7, 512, 1024]⟩
abbrev S512x1024 : Shape := ⟨2, ![512, 1024]⟩
abbrev S1x512x1024 : Shape := ⟨3, ![1, 512, 1024]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩
abbrev S64x8x1024 : Shape := ⟨3, ![64, 8, 1024]⟩
abbrev S_ : Shape := ⟨0, ![]⟩
abbrev S1024 : Shape := ⟨1, ![1024]⟩

abbrev nBuf : Space → Nat
  | .hbm => 12
  | .vmem => 11
  | .smem => 0
  | _ => 0

abbrev bufTy : (tb : Table) → Fin (tcTables nBuf tb) → BufTy
  | .hbm, ⟨0, _⟩ => ⟨S8x4096x1024, .bf16⟩
  | .hbm, ⟨1, _⟩ => ⟨S7168x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S8x128, .bf16⟩
  | .hbm, ⟨6, _⟩ => ⟨S7x1024x1024, .bf16⟩
  | .hbm, ⟨7, _⟩ => ⟨S4096x1024, .f32⟩
  | .hbm, ⟨8, _⟩ => ⟨S8x1024, .f32⟩
  | .hbm, ⟨9, _⟩ => ⟨S_, .f32⟩
  | .hbm, ⟨10, _⟩ => ⟨S1024, .f32⟩
  | .hbm, ⟨11, _⟩ => ⟨S1x1024, .f32⟩
  | .local _ .vmem, ⟨0, _⟩ => ⟨S7x512x1024, .bf16⟩
  | .local _ .vmem, ⟨1, _⟩ => ⟨S7x512x1024, .bf16⟩
  | .local _ .vmem, ⟨2, _⟩ => ⟨S7x1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S7x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S8x4096x1024 : Shape := ⟨3, ![8, 4096, 1024]⟩
abbrev S7168x1024 : Shape := ⟨2, ![7168, 1024]⟩
abbrev S4096x1024 : Shape := ⟨2, ![4096, 1024]⟩
abbrev S1x1024 : Shape := ⟨2, ![1, 1024]⟩
abbrev S8x128 : Shape := ⟨2, ![8, 128]⟩
abbrev S1024x7168 : Shape := ⟨2, ![1024, 7168]⟩
abbrev S1x4096x1024 : Shape := ⟨3, ![1, 4096, 1024]⟩
abbrev S4096x7168 : Shape := ⟨2, ![4096, 7168]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 80
  | .vmem => 0
  | .smem => 0
  | _ => 0

abbrev bufTy : (tb : Table) → Fin (tcTables nBuf tb) → BufTy
  | .hbm, ⟨0, _⟩ => ⟨S8x4096x1024, .bf16⟩
  | .hbm, ⟨1, _⟩ => ⟨S7168x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S8x128, .bf16⟩
  | .hbm, ⟨6, _⟩ => ⟨S7168x1024, .f32⟩
  | .hbm, ⟨7, _⟩ => ⟨S1024x7168, .f32⟩
  | .hbm, ⟨8, _⟩ => ⟨S1x4096x1024, .bf16⟩
  | .hbm, ⟨9, _⟩ => ⟨S4096x1024, .bf16⟩
  | .hbm, ⟨10, _⟩ => ⟨S4096x1024, .f32⟩
  | .hbm, ⟨11, _⟩ => ⟨S1x4096x1024, .bf16⟩
  | .hbm, ⟨12, _⟩ => ⟨S4096x1024, .bf16⟩
  | .hbm, ⟨13, _⟩ => ⟨S4096x1024, .f32⟩
  | .hbm, ⟨14, _⟩ => ⟨S1x4096x1024, .bf16⟩
  | .hbm, ⟨15, _⟩ => ⟨S4096x1024, .bf16⟩
  | .hbm, ⟨16, _⟩ => ⟨S4096x1024, .f32⟩
  | .hbm, ⟨17, _⟩ => ⟨S1x4096x1024, .bf16⟩
  | .hbm, ⟨18, _⟩ => ⟨S4096x1024, .bf16⟩
  | .hbm, ⟨19, _⟩ => ⟨S4096x1024, .f32⟩
  | .hbm, ⟨20, _⟩ => ⟨S1x4096x1024, .bf16⟩
  | .hbm, ⟨21, _⟩ => ⟨S4096x1024, .bf16⟩
  | .hbm, ⟨22, _⟩ => ⟨S4096x1024, .f32⟩
  | .hbm, ⟨23, _⟩ => ⟨S1x4096x1024, .bf16⟩
  | .hbm, ⟨24, _⟩ => ⟨S4096x1024, .bf16⟩
  | .hbm, ⟨25, _⟩ => ⟨S4096x1024, .f32⟩
  | .hbm, ⟨26, _⟩ => ⟨S1x4096x1024, .bf16⟩
  | .hbm, ⟨27, _⟩ => ⟨S4096x1024, .bf16⟩
  | .hbm, ⟨28, _⟩ => ⟨S4096x1024, .f32⟩
  | .hbm, ⟨29, _⟩ => ⟨S4096x7168, .f32⟩
  | .hbm, ⟨30, _⟩ => ⟨S1024, .f32⟩
  | .hbm, ⟨31, _⟩ => ⟨S4096x1024, .f32⟩
  | .hbm, ⟨32, _⟩ => ⟨S_, .f32⟩
  | .hbm, ⟨33, _⟩ => ⟨S4096, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S4096x1024, .f32⟩
  | .hbm, ⟨47, _⟩ => ⟨S4096x1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S4096x7168, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S1024, .f32⟩
  | .hbm, ⟨61, _⟩ => ⟨S4096x1024, .f32⟩
  | .hbm, ⟨62, _⟩ => ⟨S_, .f32⟩
  | .hbm, ⟨63, _⟩ => ⟨S4096, .f32⟩
  | .hbm, ⟨64, _⟩ => ⟨S4096x1, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1, .f32⟩
  | .hbm, ⟨69, _⟩ => ⟨S_, .f32⟩
  | .hbm, ⟨70, _⟩ => ⟨S4096x1, .f32⟩
  | .hbm, ⟨71, _⟩ => ⟨S4096x1, .f32⟩
  | .hbm, ⟨72, _⟩ => ⟨S_, .f32⟩
  | .hbm, ⟨73, _⟩ => ⟨S4096, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S1x1024, .f32⟩
  | _, _ => ⟨S8x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst : Ref sig .tc := ⟨.hbm, 32, rfl⟩
abbrev main_v26 : Ref sig .tc := ⟨.hbm, 33, rfl⟩
abbrev main_v27 : Ref sig .tc := ⟨.hbm, 34, rfl⟩
abbrev main_cst_0 : Ref sig .tc := ⟨.hbm, 35, rfl⟩
abbrev main_v28 : Ref sig .tc := ⟨.hbm, 36, rfl⟩
abbrev main_v29 : Ref sig .tc := ⟨.hbm, 37, rfl⟩
abbrev main_cst_1 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_2 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_3 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_4 : Ref sig .tc := ⟨.hbm, 59, rfl⟩
abbrev main_v48 : Ref sig .tc := ⟨.hbm, 60, rfl⟩
abbrev main_v49 : Ref sig .tc := ⟨.hbm, 61, rfl⟩
abbrev main_cst_5 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_6 : Ref sig .tc := ⟨.hbm, 69, rfl⟩
abbrev main_v56 : Ref sig .tc := ⟨.hbm, 70, rfl⟩
abbrev main_v57 : Ref sig .tc := ⟨.hbm, 71, rfl⟩
abbrev main_cst_7 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩

abbrev nD : Nat := 1
abbrev τ : Topo := Topo.v7x

variable {F : FTy → Type} [FloatOps F]
-- ==== Kernel2.lean ====
abbrev S2x4096x2816 : Shape := ⟨3, ![2, 4096, 2816]⟩
abbrev S5632x1024 : Shape := ⟨2, ![5632, 1024]⟩
abbrev S4096x1024 : Shape := ⟨2, ![4096, 1024]⟩
abbrev S1x1024 : Shape := ⟨2, ![1, 1024]⟩
abbrev S8x128 : Shape := ⟨2, ![8, 128]⟩
abbrev S2x2816x1024 : Shape := ⟨3, ![2, 2816, 1024]⟩
abbrev S8x1024 : Shape := ⟨2, ![8, 1024]⟩
abbrev S2x512x2816 : Shape := ⟨3, ![2, 512, 2816]⟩
abbrev S512x1024 : Shape := ⟨2, ![512, 1024]⟩
abbrev S1x512x2816 : Shape := ⟨3, ![1, 512, 2816]⟩
abbrev S512x2816 : Shape := ⟨2, ![512, 2816]⟩
abbrev S1x2816x1024 : Shape := ⟨3, ![1, 2816, 1024]⟩
abbrev S2816x1024 : Shape := ⟨2, ![2816, 1024]⟩
abbrev S512 : Shape := ⟨1, ![512]⟩
abbrev S512x1 : Shape := ⟨2, ![512, 1]⟩
abbrev S64x8x1024 : Shape := ⟨3, ![64, 8, 1024]⟩
abbrev S_ : Shape := ⟨0, ![]⟩
abbrev S1024 : Shape := ⟨1, ![1024]⟩

abbrev nBuf : Space → Nat
  | .hbm => 13
  | .vmem => 13
  | .smem => 0
  | _ => 0

abbrev bufTy : (tb : Table) → Fin (tcTables nBuf tb) → BufTy
  | .hbm, ⟨0, _⟩ => ⟨S2x4096x2816, .bf16⟩
  | .hbm, ⟨1, _⟩ => ⟨S5632x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S8x128, .bf16⟩
  | .hbm, ⟨6, _⟩ => ⟨S2x2816x1024, .bf16⟩
  | .hbm, ⟨7, _⟩ => ⟨S4096x1024, .f32⟩
  | .hbm, ⟨8, _⟩ => ⟨S4096x1024, .bf16⟩
  | .hbm, ⟨9, _⟩ => ⟨S8x1024, .f32⟩
  | .hbm, ⟨10, _⟩ => ⟨S_, .f32⟩
  | .hbm, ⟨11, _⟩ => ⟨S1024, .f32⟩
  | .hbm, ⟨12, _⟩ => ⟨S1x1024, .f32⟩
  | .local _ .vmem, ⟨0, _⟩ => ⟨S2x512x2816, .bf16⟩
  | .local _ .vmem, ⟨1, _⟩ => ⟨S2x512x2816, .bf16⟩
  | .local _ .vmem, ⟨2, _⟩ => ⟨S2x2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S8x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference2Ideal.lean ====
abbrev S2x4096x2816 : Shape := ⟨3, ![2, 4096, 2816]⟩
abbrev S5632x1024 : Shape := ⟨2, ![5632, 1024]⟩
abbrev S4096x1024 : Shape := ⟨2, ![4096, 1024]⟩
abbrev S1x1024 : Shape := ⟨2, ![1, 1024]⟩
abbrev S8x128 : Shape := ⟨2, ![8, 128]⟩
abbrev S1024x5632 : Shape := ⟨2, ![1024, 5632]⟩
abbrev S1x4096x2816 : Shape := ⟨3, ![1, 4096, 2816]⟩
abbrev S4096x2816 : Shape := ⟨2, ![4096, 2816]⟩
abbrev S4096x5632 : Shape := ⟨2, ![4096, 5632]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 66
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S5632x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S8x128, .bf16⟩
  | .hbm, ⟨6, _⟩ => ⟨S5632x1024, .f32⟩
  | .hbm, ⟨7, _⟩ => ⟨S1024x5632, .f32⟩
  | .hbm, ⟨8, _⟩ => ⟨S1x4096x2816, .bf16⟩
  | .hbm, ⟨9, _⟩ => ⟨S4096x2816, .bf16⟩
  | .hbm, ⟨10, _⟩ => ⟨S4096x2816, .f32⟩
  | .hbm, ⟨11, _⟩ => ⟨S1x4096x2816, .bf16⟩
  | .hbm, ⟨12, _⟩ => ⟨S4096x2816, .bf16⟩
  | .hbm, ⟨13, _⟩ => ⟨S4096x2816, .f32⟩
  | .hbm, ⟨14, _⟩ => ⟨S4096x5632, .f32⟩
  | .hbm, ⟨15, _⟩ => ⟨S1024, .f32⟩
  | .hbm, ⟨16, _⟩ => ⟨S4096x1024, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x5632, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S1024, .f32⟩
  | .hbm, ⟨46, _⟩ => ⟨S4096x1024, .f32⟩
  | .hbm, ⟨47, _⟩ => ⟨S_, .f32⟩
  | .hbm, ⟨48, _⟩ => ⟨S4096, .f32⟩
  | .hbm, ⟨49, _⟩ => ⟨S4096x1, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1, .f32⟩
  | .hbm, ⟨54, _⟩ => ⟨S_, .f32⟩
  | .hbm, ⟨55, _⟩ => ⟨S4096x1, .f32⟩
  | .hbm, ⟨56, _⟩ => ⟨S4096x1, .f32⟩
  | .hbm, ⟨57, _⟩ => ⟨S_, .f32⟩
  | .hbm, ⟨58, _⟩ => ⟨S4096, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S1x1024, .f32⟩
  | .hbm, ⟨65, _⟩ => ⟨S4096x1024, .bf16⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_6 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩

abbrev nD : Nat := 1
abbrev τ : Topo := Topo.v7x

variable {F : FTy → Type} [FloatOps F]
-- ==== Kernel3.lean ====
abbrev S2x4096x2816 : Shape := ⟨3, ![2, 4096, 2816]⟩
abbrev S4096x1024 : Shape := ⟨2, ![4096, 1024]⟩
abbrev S5632x1024 : Shape := ⟨2, ![5632, 1024]⟩
abbrev S1x4096x1408 : Shape := ⟨3, ![1, 4096, 1408]⟩
abbrev S1408x1024 : Shape := ⟨2, ![1408, 1024]⟩
abbrev S4096x1408 : Shape := ⟨2, ![4096, 1408]⟩

abbrev nBuf : Space → Nat
  | .hbm => 3
  | .vmem => 5
  | .smem => 0
  | _ => 0

abbrev bufTy : (tb : Table) → Fin (tcTables nBuf tb) → BufTy
  | .hbm, ⟨0, _⟩ => ⟨S2x4096x2816, .bf16⟩
  | .hbm, ⟨1, _⟩ => ⟨S4096x1024, .bf16⟩
  | .hbm, ⟨2, _⟩ => ⟨S5632x1024, .bf16⟩
  | .local _ .vmem, ⟨0, _⟩ => ⟨S1x4096x1408, .bf16⟩
  | .local _ .vmem, ⟨1, _⟩ => ⟨S1x4096x1408, .bf16⟩
  | .local _ .vmem, ⟨2, _⟩ => ⟨S4096x1024, .bf16⟩
  | .local _ .vmem, ⟨3, _⟩ => ⟨S1408x1024, .bf16⟩
  | .local _ .vmem, ⟨4, _⟩ => ⟨S1408x1024, .bf16⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1x4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference3Ideal.lean ====
abbrev S2x4096x2816 : Shape := ⟨3, ![2, 4096, 2816]⟩
abbrev S4096x1024 : Shape := ⟨2, ![4096, 1024]⟩
abbrev S1x4096x2816 : Shape := ⟨3, ![1, 4096, 2816]⟩
abbrev S4096x2816 : Shape := ⟨2, ![4096, 2816]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 17
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S4096x1024, .bf16⟩
  | .hbm, ⟨2, _⟩ => ⟨S4096x1024, .f32⟩
  | .hbm, ⟨3, _⟩ => ⟨S1x4096x2816, .bf16⟩
  | .hbm, ⟨4, _⟩ => ⟨S4096x2816, .bf16⟩
  | .hbm, ⟨5, _⟩ => ⟨S4096x2816, .f32⟩
  | .hbm, ⟨6, _⟩ => ⟨S1x4096x2816, .bf16⟩
  | .hbm, ⟨7, _⟩ => ⟨S4096x2816, .bf16⟩
  | .hbm, ⟨8, _⟩ => ⟨S4096x2816, .f32⟩
  | .hbm, ⟨9, _⟩ => ⟨S4096x5632, .f32⟩
  | .hbm, ⟨10, _⟩ => ⟨S_, .f32⟩
  | .hbm, ⟨11, _⟩ => ⟨S1024x5632, .f32⟩
  | .hbm, ⟨12, _⟩ => ⟨S4096x5632, .f32⟩
  | .hbm, ⟨13, _⟩ => ⟨S5632x1024, .f32⟩
  | .hbm, ⟨14, _⟩ => ⟨S1024x5632, .f32⟩
  | .hbm, ⟨15, _⟩ => ⟨S5632x1024, .f32⟩
  | .hbm, ⟨16, _⟩ => ⟨S5632x1024, .bf16⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Kernel4.lean ====
abbrev S8x4096x1024 : Shape := ⟨3, ![8, 4096, 1024]⟩
abbrev S4096x1024 : Shape := ⟨2, ![4096, 1024]⟩
abbrev S7168x1024 : Shape := ⟨2, ![7168, 1024]⟩
abbrev S1x4096x1024 : Shape := ⟨3, ![1, 4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8x4096x1024, .bf16⟩
  | .hbm, ⟨1, _⟩ => ⟨S4096x1024, .bf16⟩
  | .hbm, ⟨2, _⟩ => ⟨S7168x1024, .bf16⟩
  | .local _ .vmem, ⟨0, _⟩ => ⟨S1x4096x1024, .bf16⟩
  | .local _ .vmem, ⟨1, _⟩ => ⟨S1x4096x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![7, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 1 := Scalar.cmpi .slt arg0 c2_i32
  let c5_i32 : BitVec 32 := 5#32
  let v1 : BitVec 1 := Scalar.cmpi .slt arg0 c5_i32
  let c2_i32_0 : BitVec 32 := 2#32
  let v2 : BitVec 32 := Scalar.addi arg0 c2_i32_0
  let c3_i32 : BitVec 32 := 3#32
  let v3 : BitVec 32 := Scalar.subi arg0 c3_i32
  let v4 : BitVec 32 := Scalar.select v1 v2 v3
  let v5 : BitVec 32 := Scalar.select v0 arg0 v4
  let c0_i32 : BitVec 32 := 0#32
  let c0_i32_1 : BitVec 32 := 0#32
  let c0_i32_2 : BitVec 32 := 0#32
  ![v5.toNat, c0_i32.toNat, c0_i32_1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1x4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference4Ideal.lean ====
abbrev S8x4096x1024 : Shape := ⟨3, ![8, 4096, 1024]⟩
abbrev S4096x1024 : Shape := ⟨2, ![4096, 1024]⟩
abbrev S1x4096x1024 : Shape := ⟨3, ![1, 4096, 1024]⟩
abbrev S4096x7168 : Shape := ⟨2, ![4096, 7168]⟩
abbrev S_ : Shape := ⟨0, ![]⟩
abbrev S1024x7168 : Shape := ⟨2, ![1024, 7168]⟩
abbrev S7168x1024 : Shape := ⟨2, ![7168, 1024]⟩

abbrev nBuf : Space → Nat
  | .hbm => 32
  | .vmem => 0
  | .smem => 0
  | _ => 0

abbrev bufTy : (tb : Table) → Fin (tcTables nBuf tb) → BufTy
  | .hbm, ⟨0, _⟩ => ⟨S8x4096x1024, .bf16⟩
  | .hbm, ⟨1, _⟩ => ⟨S4096x1024, .bf16⟩
  | .hbm, ⟨2, _⟩ => ⟨S4096x1024, .f32⟩
  | .hbm, ⟨3, _⟩ => ⟨S1x4096x1024, .bf16⟩
  | .hbm, ⟨4, _⟩ => ⟨S4096x1024, .bf16⟩
  | .hbm, ⟨5, _⟩ => ⟨S4096x1024, .f32⟩
  | .hbm, ⟨6, _⟩ => ⟨S1x4096x1024, .bf16⟩
  | .hbm, ⟨7, _⟩ => ⟨S4096x1024, .bf16⟩
  | .hbm, ⟨8, _⟩ => ⟨S4096x1024, .f32⟩
  | .hbm, ⟨9, _⟩ => ⟨S1x4096x1024, .bf16⟩
  | .hbm, ⟨10, _⟩ => ⟨S4096x1024, .bf16⟩
  | .hbm, ⟨11, _⟩ => ⟨S4096x1024, .f32⟩
  | .hbm, ⟨12, _⟩ => ⟨S1x4096x1024, .bf16⟩
  | .hbm, ⟨13, _⟩ => ⟨S4096x1024, .bf16⟩
  | .hbm, ⟨14, _⟩ => ⟨S4096x1024, .f32⟩
  | .hbm, ⟨15, _⟩ => ⟨S1x4096x1024, .bf16⟩
  | .hbm, ⟨16, _⟩ => ⟨S4096x1024, .bf16⟩
  | .hbm, ⟨17, _⟩ => ⟨S4096x1024, .f32⟩
  | .hbm, ⟨18, _⟩ => ⟨S1x4096x1024, .bf16⟩
  | .hbm, ⟨19, _⟩ => ⟨S4096x1024, .bf16⟩
  | .hbm, ⟨20, _⟩ => ⟨S4096x1024, .f32⟩
  | .hbm, ⟨21, _⟩ => ⟨S1x4096x1024, .bf16⟩
  | .hbm, ⟨22, _⟩ => ⟨S4096x1024, .bf16⟩
  | .hbm, ⟨23, _⟩ => ⟨S4096x1024, .f32⟩
  | .hbm, ⟨24, _⟩ => ⟨S4096x7168, .f32⟩
  | .hbm, ⟨25, _⟩ => ⟨S_, .f32⟩
  | .hbm, ⟨26, _⟩ => ⟨S1024x7168, .f32⟩
  | .hbm, ⟨27, _⟩ => ⟨S4096x7168, .f32⟩
  | .hbm, ⟨28, _⟩ => ⟨S7168x1024, .f32⟩
  | .hbm, ⟨29, _⟩ => ⟨S1024x7168, .f32⟩
  | .hbm, ⟨30, _⟩ => ⟨S7168x1024, .f32⟩
  | .hbm, ⟨31, _⟩ => ⟨S7168x1024, .bf16⟩
  | _, _ => ⟨S8x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_cst : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩

abbrev nD : Nat := 1
abbrev τ : Topo := Topo.v7x

variable {F : FTy → Type} [FloatOps F]
-- ==== Kernel5.lean ====
abbrev S4096x1024 : Shape := ⟨2, ![4096, 1024]⟩
abbrev S2816x1024 : Shape := ⟨2, ![2816, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S_, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S4096x2816, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S4096x2816 : Shape := ⟨2, ![4096, 2816]⟩
abbrev S4096x1024 : Shape := ⟨2, ![4096, 1024]⟩
abbrev S2816x1024 : Shape := ⟨2, ![2816, 1024]⟩
abbrev S4096x1408 : Shape := ⟨2, ![4096, 1408]⟩
abbrev S1408x1024 : Shape := ⟨2, ![1408, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S4096x1408, .bf16⟩
  | .local _ .vmem, ⟨1, _⟩ => ⟨S4096x1408, .bf16⟩
  | .local _ .vmem, ⟨2, _⟩ => ⟨S4096x1024, .bf16⟩
  | .local _ .vmem, ⟨3, _⟩ => ⟨S1408x1024, .bf16⟩
  | .local _ .vmem, ⟨4, _⟩ => ⟨S1408x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S4096x1024 : Shape := ⟨2, ![4096, 1024]⟩
abbrev S1024x1024 : Shape := ⟨2, ![1024, 1024]⟩
abbrev S4096x512 : Shape := ⟨2, ![4096, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S4096x1024 : Shape := ⟨2, ![4096, 1024]⟩
abbrev S1024x1024 : Shape := ⟨2, ![1024, 1024]⟩
abbrev S8x128 : Shape := ⟨2, ![8, 128]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S8x128, .bf16⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x1024 : Shape := ⟨2, ![4096, 1024]⟩
abbrev S1024x1024 : Shape := ⟨2, ![1024, 1024]⟩
abbrev S8x128 : Shape := ⟨2, ![8, 128]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S8x128, .bf16⟩
  | .hbm, ⟨3, _⟩ => ⟨S_, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel10.lean ====
abbrev S4096x1024 : Shape := ⟨2, ![4096, 1024]⟩
abbrev S1024x1024 : Shape := ⟨2, ![1024, 1024]⟩
abbrev S8x4096x1024 : Shape := ⟨3, ![8, 4096, 1024]⟩
abbrev S1x2048 : Shape := ⟨2, ![1, 2048]⟩
abbrev S1x4096x1024 : Shape := ⟨3, ![1, 4096, 1024]⟩
abbrev S1x1024x1024 : Shape := ⟨3, ![1, 1024, 1024]⟩
abbrev S8x2048 : Shape := ⟨2, ![8, 2048]⟩
abbrev S1x512x1024 : Shape := ⟨3, ![1, 512, 1024]⟩
abbrev S512x1024 : Shape := ⟨2, ![512, 1024]⟩
abbrev S2x512x1024 : Shape := ⟨3, ![2, 512, 1024]⟩
abbrev S1x1024 : Shape := ⟨2, ![1, 1024]⟩
abbrev S8x1024 : Shape := ⟨2, ![8, 1024]⟩
abbrev S64x8x1024 : Shape := ⟨3, ![64, 8, 1024]⟩
abbrev S_ : Shape := ⟨0, ![]⟩
abbrev S2048 : Shape := ⟨1, ![2048]⟩

abbrev nBuf : Space → Nat
  | .hbm => 16
  | .vmem => 19
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S8x4096x1024, .f32⟩
  | .hbm, ⟨3, _⟩ => ⟨S1x2048, .f32⟩
  | .hbm, ⟨4, _⟩ => ⟨S4096x1024, .f32⟩
  | .hbm, ⟨5, _⟩ => ⟨S4096x1024, .f32⟩
  | .hbm, ⟨6, _⟩ => ⟨S8x4096x1024, .bf16⟩
  | .hbm, ⟨7, _⟩ => ⟨S1x4096x1024, .bf16⟩
  | .hbm, ⟨8, _⟩ => ⟨S1x1024x1024, .bf16⟩
  | .hbm, ⟨9, _⟩ => ⟨S4096x1024, .bf16⟩
  | .hbm, ⟨10, _⟩ => ⟨S4096x1024, .bf16⟩
  | .hbm, ⟨11, _⟩ => ⟨S8x4096x1024, .bf16⟩
  | .hbm, ⟨12, _⟩ => ⟨S8x2048, .f32⟩
  | .hbm, ⟨13, _⟩ => ⟨S_, .f32⟩
  | .hbm, ⟨14, _⟩ => ⟨S2048, .f32⟩
  | .hbm, ⟨15, _⟩ => ⟨S1x2048, .f32⟩
  | .local _ .vmem, ⟨0, _⟩ => ⟨S1x512x1024, .bf16⟩
  | .local _ .vmem, ⟨1, _⟩ => ⟨S1x512x1024, .bf16⟩
  | .local _ .vmem, ⟨2, _⟩ => ⟨S1x1024x1024, .bf16⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x2048, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S2x512x1024, .bf16⟩
  | .local _ .vmem, ⟨17, _⟩ => ⟨S2x512x1024, .bf16⟩
  | .local _ .vmem, ⟨18, _⟩ => ⟨S8x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference10Ideal.lean ====
abbrev S4096x1024 : Shape := ⟨2, ![4096, 1024]⟩
abbrev S1024x1024 : Shape := ⟨2, ![1024, 1024]⟩
abbrev S8x4096x1024 : Shape := ⟨3, ![8, 4096, 1024]⟩
abbrev S1x2048 : Shape := ⟨2, ![1, 2048]⟩
abbrev S1x4096x1024 : Shape := ⟨3, ![1, 4096, 1024]⟩
abbrev S4096x2048 : Shape := ⟨2, ![4096, 2048]⟩
abbrev S_ : Shape := ⟨0, ![]⟩
abbrev S2048 : Shape := ⟨1, ![2048]⟩
abbrev S2x4096x1024 : Shape := ⟨3, ![2, 4096, 1024]⟩
abbrev S4x4096x1024 : Shape := ⟨3, ![4, 4096, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S8x4096x1024, .f32⟩
  | .hbm, ⟨3, _⟩ => ⟨S1x2048, .f32⟩
  | .hbm, ⟨4, _⟩ => ⟨S4096x1024, .f32⟩
  | .hbm, ⟨5, _⟩ => ⟨S4096x1024, .f32⟩
  | .hbm, ⟨6, _⟩ => ⟨S8x4096x1024, .bf16⟩
  | .hbm, ⟨7, _⟩ => ⟨S1x4096x1024, .f32⟩
  | .hbm, ⟨8, _⟩ => ⟨S4096x1024, .f32⟩
  | .hbm, ⟨9, _⟩ => ⟨S1x4096x1024, .f32⟩
  | .hbm, ⟨10, _⟩ => ⟨S4096x1024, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S1024x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x2048, .f32⟩
  | .hbm, ⟨40, _⟩ => ⟨S4096x2048, .f32⟩
  | .hbm, ⟨41, _⟩ => ⟨S_, .f32⟩
  | .hbm, ⟨42, _⟩ => ⟨S2048, .f32⟩
  | .hbm, ⟨43, _⟩ => ⟨S1x2048, .f32⟩
  | .hbm, ⟨44, _⟩ => ⟨S4096x1024, .f32⟩
  | .hbm, ⟨45, _⟩ => ⟨S4096x1024, .f32⟩
  | .hbm, ⟨46, _⟩ => ⟨S2x4096x1024, .bf16⟩
  | .hbm, ⟨47, _⟩ => ⟨S4096x1024, .bf16⟩
  | .hbm, ⟨48, _⟩ => ⟨S1x4096x1024, .bf16⟩
  | .hbm, ⟨49, _⟩ => ⟨S4096x1024, .bf16⟩
  | .hbm, ⟨50, _⟩ => ⟨S1x4096x1024, .bf16⟩
  | .hbm, ⟨51, _⟩ => ⟨S4x4096x1024, .bf16⟩
  | .hbm, ⟨52, _⟩ => ⟨S8x4096x1024, .bf16⟩
  | .hbm, ⟨53, _⟩ => ⟨S4096x1024, .bf16⟩
  | .hbm, ⟨54, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_2 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩

abbrev nD : Nat := 1
abbrev τ : Topo := Topo.v7x

variable {F : FTy → Type} [FloatOps F]
-- ==== Kernel11.lean ====
abbrev S4096x1024 : Shape := ⟨2, ![4096, 1024]⟩
abbrev S5632x1024 : Shape := ⟨2, ![5632, 1024]⟩
abbrev S2x4096x2816 : Shape := ⟨3, ![2, 4096, 2816]⟩
abbrev S1024x1024 : Shape := ⟨2, ![1024, 1024]⟩
abbrev S1408x1024 : Shape := ⟨2, ![1408, 1024]⟩
abbrev S1x1024x1408 : Shape := ⟨3, ![1, 1024, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S5632x1024, .bf16⟩
  | .hbm, ⟨2, _⟩ => ⟨S2x4096x2816, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1x1024x1408, .f32⟩
  | .local _ .vmem, ⟨5, _⟩ => ⟨S1x1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x1024 : Shape := ⟨2, ![4096, 1024]⟩
abbrev S5632x1024 : Shape := ⟨2, ![5632, 1024]⟩
abbrev S1024x5632 : Shape := ⟨2, ![1024, 5632]⟩
abbrev S4096x5632 : Shape := ⟨2, ![4096, 5632]⟩
abbrev S4096x2816 : Shape := ⟨2, ![4096, 2816]⟩
abbrev S1x4096x2816 : Shape := ⟨3, ![1, 4096, 2816]⟩
abbrev S2x4096x2816 : Shape := ⟨3, ![2, 4096, 2816]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S5632x1024, .bf16⟩
  | .hbm, ⟨2, _⟩ => ⟨S4096x1024, .f32⟩
  | .hbm, ⟨3, _⟩ => ⟨S5632x1024, .f32⟩
  | .hbm, ⟨4, _⟩ => ⟨S1024x5632, .f32⟩
  | .hbm, ⟨5, _⟩ => ⟨S4096x5632, .f32⟩
  | .hbm, ⟨6, _⟩ => ⟨S4096x2816, .f32⟩
  | .hbm, ⟨7, _⟩ => ⟨S4096x2816, .f32⟩
  | .hbm, ⟨8, _⟩ => ⟨S1x4096x2816, .f32⟩
  | .hbm, ⟨9, _⟩ => ⟨S1x4096x2816, .f32⟩
  | .hbm, ⟨10, _⟩ => ⟨S2x4096x2816, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== Kernel12.lean ====
abbrev S4096x2816 : Shape := ⟨2, ![4096, 2816]⟩
abbrev S2816x1024 : Shape := ⟨2, ![2816, 1024]⟩
abbrev S4096x1024 : Shape := ⟨2, ![4096, 1024]⟩
abbrev S1x4096x2816 : Shape := ⟨3, ![1, 4096, 2816]⟩
abbrev S1x2816x1024 : Shape := ⟨3, ![1, 2816, 1024]⟩
abbrev S8x1024 : Shape := ⟨2, ![8, 1024]⟩
abbrev S1x512x2816 : Shape := ⟨3, ![1, 512, 2816]⟩
abbrev S512x1024 : Shape := ⟨2, ![512, 1024]⟩
abbrev S512x2816 : Shape := ⟨2, ![512, 2816]⟩
abbrev S64x8x1024 : Shape := ⟨3, ![64, 8, 1024]⟩
abbrev S_ : Shape := ⟨0, ![]⟩

abbrev nBuf : Space → Nat
  | .hbm => 13
  | .vmem => 12
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .hbm, ⟨4, _⟩ => ⟨S1x4096x2816, .bf16⟩
  | .hbm, ⟨5, _⟩ => ⟨S1x2816x1024, .bf16⟩
  | .hbm, ⟨6, _⟩ => ⟨S4096x1024, .f32⟩
  | .hbm, ⟨7, _⟩ => ⟨S4096x1024, .bf16⟩
  | .hbm, ⟨8, _⟩ => ⟨S8x1024, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S1x512x2816, .bf16⟩
  | .local _ .vmem, ⟨1, _⟩ => ⟨S1x512x2816, .bf16⟩
  | .local _ .vmem, ⟨2, _⟩ => ⟨S1x2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S8x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_cst : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference12Ideal.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩
abbrev S4096 : Shape := ⟨1, ![4096]⟩

abbrev nBuf : Space → Nat
  | .hbm => 32
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .hbm, ⟨4, _⟩ => ⟨S4096x2816, .f32⟩
  | .hbm, ⟨5, _⟩ => ⟨S2816x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S_, .f32⟩
  | .hbm, ⟨16, _⟩ => ⟨S4096, .f32⟩
  | .hbm, ⟨17, _⟩ => ⟨S4096, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S4096, .f32⟩
  | .hbm, ⟨26, _⟩ => ⟨S_, .f32⟩
  | .hbm, ⟨27, _⟩ => ⟨S4096, .f32⟩
  | .hbm, ⟨28, _⟩ => ⟨S4096, .f32⟩
  | .hbm, ⟨29, _⟩ => ⟨S4096x1024, .f32⟩
  | .hbm, ⟨30, _⟩ => ⟨S4096x1024, .f32⟩
  | .hbm, ⟨31, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_cst_4 : Ref sig .tc := ⟨.hbm, 22, rfl⟩
abbrev main_cst_5 : Ref sig .tc := ⟨.hbm, 23, rfl⟩
abbrev main_v13 : Ref sig .tc := ⟨.hbm, 24, rfl⟩
abbrev main_v14 : Ref sig .tc := ⟨.hbm, 25, rfl⟩
abbrev main_cst_6 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩

abbrev nD : Nat := 1
abbrev τ : Topo := Topo.v7x

variable {F : FTy → Type} [FloatOps F]
-- ==== Kernel13.lean ====
abbrev S4096x1024 : Shape := ⟨2, ![4096, 1024]⟩
abbrev S1024x1024 : Shape := ⟨2, ![1024, 1024]⟩
abbrev S1x1024 : Shape := ⟨2, ![1, 1024]⟩
abbrev S1x4096x1024 : Shape := ⟨3, ![1, 4096, 1024]⟩
abbrev S1x1024x1024 : Shape := ⟨3, ![1, 1024, 1024]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S1x4096x1024, .bf16⟩
  | .hbm, ⟨5, _⟩ => ⟨S1x1024x1024, .bf16⟩
  | .hbm, ⟨6, _⟩ => ⟨S4096x1024, .f32⟩
  | .hbm, ⟨7, _⟩ => ⟨S4096x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference13Ideal.lean ====
abbrev S4096x1024 : Shape := ⟨2, ![4096, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel14.lean ====
abbrev S4096x1024 : Shape := ⟨2, ![4096, 1024]⟩
abbrev S8x4096x1024 : Shape := ⟨3, ![8, 4096, 1024]⟩
abbrev S1x1024 : Shape := ⟨2, ![1, 1024]⟩
abbrev S1x2048 : Shape := ⟨2, ![1, 2048]⟩
abbrev S1024x1024 : Shape := ⟨2, ![1024, 1024]⟩
abbrev S1x4096x1024 : Shape := ⟨3, ![1, 4096, 1024]⟩
abbrev S1x1024x1024 : Shape := ⟨3, ![1, 1024, 1024]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩

abbrev nBuf : Space → Nat
  | .hbm => 13
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S8x4096x1024, .f32⟩
  | .hbm, ⟨3, _⟩ => ⟨S1x1024, .f32⟩
  | .hbm, ⟨4, _⟩ => ⟨S1x2048, .f32⟩
  | .hbm, ⟨5, _⟩ => ⟨S1024x1024, .bf16⟩
  | .hbm, ⟨6, _⟩ => ⟨S1024x1024, .bf16⟩
  | .hbm, ⟨7, _⟩ => ⟨S1x4096x1024, .bf16⟩
  | .hbm, ⟨8, _⟩ => ⟨S1x1024x1024, .bf16⟩
  | .hbm, ⟨9, _⟩ => ⟨S4096x1024, .bf16⟩
  | .hbm, ⟨10, _⟩ => ⟨S4096x1024, .f32⟩
  | .hbm, ⟨11, _⟩ => ⟨S4096x1024, .f32⟩
  | .hbm, ⟨12, _⟩ => ⟨S4096x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x1024, .f32⟩
  | .local _ .vmem, ⟨10, _⟩ => ⟨S1x2048, .f32⟩
  | .local _ .vmem, ⟨11, _⟩ => ⟨S1024x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference14Ideal.lean ====
abbrev S4096x1024 : Shape := ⟨2, ![4096, 1024]⟩
abbrev S8x4096x1024 : Shape := ⟨3, ![8, 4096, 1024]⟩
abbrev S1x1024 : Shape := ⟨2, ![1, 1024]⟩
abbrev S1x2048 : Shape := ⟨2, ![1, 2048]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x4096x1024 : Shape := ⟨3, ![1, 4096, 1024]⟩
abbrev S4096x2048 : Shape := ⟨2, ![4096, 2048]⟩

abbrev nBuf : Space → Nat
  | .hbm => 61
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S8x4096x1024, .f32⟩
  | .hbm, ⟨3, _⟩ => ⟨S1x1024, .f32⟩
  | .hbm, ⟨4, _⟩ => ⟨S1x2048, .f32⟩
  | .hbm, ⟨5, _⟩ => ⟨S1024x1024, .bf16⟩
  | .hbm, ⟨6, _⟩ => ⟨S1024x1024, .bf16⟩
  | .hbm, ⟨7, _⟩ => ⟨S1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .bf16⟩
  | .hbm, ⟨34, _⟩ => ⟨S4096x1024, .f32⟩
  | .hbm, ⟨35, _⟩ => ⟨S1024x1024, .f32⟩
  | .hbm, ⟨36, _⟩ => ⟨S4096x1024, .f32⟩
  | .hbm, ⟨37, _⟩ => ⟨S4096x1024, .f32⟩
  | .hbm, ⟨38, _⟩ => ⟨S1024x1024, .f32⟩
  | .hbm, ⟨39, _⟩ => ⟨S4096x1024, .f32⟩
  | .hbm, ⟨40, _⟩ => ⟨S1x4096x1024, .f32⟩
  | .hbm, ⟨41, _⟩ => ⟨S4096x1024, .f32⟩
  | .hbm, ⟨42, _⟩ => ⟨S1x4096x1024, .f32⟩
  | .hbm, ⟨43, _⟩ => ⟨S4096x1024, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S_, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S4096x2048, .f32⟩
  | .hbm, ⟨54, _⟩ => ⟨S4096x2048, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_2 : Ref sig .tc := ⟨.hbm, 49, rfl⟩
abbrev main_v31 : Ref sig .tc := ⟨.hbm, 50, rfl⟩
abbrev main_v32 : Ref sig .tc := ⟨.hbm, 51, rfl⟩
abbrev main_cst_3 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]
-- ==== Kernel15.lean ====
abbrev S1 : Shape := ⟨1, ![1]⟩
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 9
  | .vmem => 9
  | .smem => 1
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .local _ .vmem, ⟨0, _⟩ => ⟨S8x128x1024, .bf16⟩
  | .local _ .vmem, ⟨1, _⟩ => ⟨S1x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .smem, ⟨0, _⟩ => ⟨S1, .i32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference15Ideal.lean ====
abbrev S1 : Shape := ⟨1, ![1]⟩
abbrev S8x128x1024 : Shape := ⟨3, ![8, 128, 1024]⟩
abbrev S128x1024 : Shape := ⟨2, ![128, 1024]⟩
abbrev S8 : Shape := ⟨1, ![8]⟩
abbrev S_ : Shape := ⟨0, ![]⟩
abbrev S8x1x1 : Shape := ⟨3, ![8, 1, 1]⟩

abbrev nBuf : Space → Nat
  | .hbm => 49
  | .vmem => 0
  | .smem => 0
  | _ => 0

abbrev bufTy : (tb : Table) → Fin (tcTables nBuf tb) → BufTy
  | .hbm, ⟨0, _⟩ => ⟨S1, .i32⟩
  | .hbm, ⟨1, _⟩ => ⟨S8x128x1024, .bf16⟩
  | .hbm, ⟨2, _⟩ => ⟨S8x128x1024, .bf16⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S8, .i32⟩
  | .hbm, ⟨7, _⟩ => ⟨S_, .i32⟩
  | .hbm, ⟨8, _⟩ => ⟨S8, .i32⟩
  | .hbm, ⟨9, _⟩ => ⟨S8, .i1⟩
  | .hbm, ⟨10, _⟩ => ⟨S8x1x1, .i1⟩
  | .hbm, ⟨11, _⟩ => ⟨S8x128x1024, .i1⟩
  | .hbm, ⟨12, _⟩ => ⟨S8x128x1024, .bf16⟩
  | .hbm, ⟨13, _⟩ => ⟨S8x128x1024, .f32⟩
  | .hbm, ⟨14, _⟩ => ⟨S_, .f32⟩
  | .hbm, ⟨15, _⟩ => ⟨S128x1024, .f32⟩
  | .hbm, ⟨16, _⟩ => ⟨S_, .f32⟩
  | .hbm, ⟨17, _⟩ => ⟨S128x1024, .f32⟩
  | .hbm, ⟨18, _⟩ => ⟨S128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S128x1024, .f32⟩
  | .hbm, ⟨23, _⟩ => ⟨S_, .f32⟩
  | .hbm, ⟨24, _⟩ => ⟨S128x1024, .f32⟩
  | .hbm, ⟨25, _⟩ => ⟨S128x1024, .f32⟩
  | .hbm, ⟨26, _⟩ => ⟨S128x1024, .f32⟩
  | .hbm, ⟨27, _⟩ => ⟨S_, .f32⟩
  | .hbm, ⟨28, _⟩ => ⟨S128x1024, .f32⟩
  | .hbm, ⟨29, _⟩ => ⟨S128x1024, .f32⟩
  | .hbm, ⟨30, _⟩ => ⟨S128x1024, .f32⟩
  | .hbm, ⟨31, _⟩ => ⟨S_, .f32⟩
  | .hbm, ⟨32, _⟩ => ⟨S128x1024, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | .hbm, ⟨37, _⟩ => ⟨S128x1024, .f32⟩
  | .hbm, ⟨38, _⟩ => ⟨S_, .f32⟩
  | .hbm, ⟨39, _⟩ => ⟨S128x1024, .f32⟩
  | .hbm, ⟨40, _⟩ => ⟨S128x1024, .f32⟩
  | .hbm, ⟨41, _⟩ => ⟨S128x1024, .f32⟩
  | .hbm, ⟨42, _⟩ => ⟨S_, .f32⟩
  | .hbm, ⟨43, _⟩ => ⟨S128x1024, .f32⟩
  | .hbm, ⟨44, _⟩ => ⟨S128x1024, .f32⟩
  | .hbm, ⟨45, _⟩ => ⟨S128x1024, .f32⟩
  | .hbm, ⟨46, _⟩ => ⟨S_, .f32⟩
  | .hbm, ⟨47, _⟩ => ⟨S128x1024, .f32⟩
  | .hbm, ⟨48, _⟩ => ⟨S128x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== Kernel16.lean ====
abbrev S1 : Shape := ⟨1, ![1]⟩
abbrev S8x352x1024 : Shape := ⟨3, ![8, 352, 1024]⟩
abbrev S352x1024 : Shape := ⟨2, ![352, 1024]⟩
abbrev S8x176x1024 : Shape := ⟨3, ![8, 176, 1024]⟩
abbrev S1x176x1024 : Shape := ⟨3, ![1, 176, 1024]⟩
abbrev S176x1024 : Shape := ⟨2, ![176, 1024]⟩

abbrev nBuf : Space → Nat
  | .hbm => 9
  | .vmem => 18
  | .smem => 1
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .hbm, ⟨8, _⟩ => ⟨S352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S1x176x1024, .bf16⟩
  | .local _ .vmem, ⟨3, _⟩ => ⟨S1x176x1024, .bf16⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | .local _ .smem, ⟨0, _⟩ => ⟨S1, .i32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference16Ideal.lean ====
abbrev S1 : Shape := ⟨1, ![1]⟩
abbrev S8x352x1024 : Shape := ⟨3, ![8, 352, 1024]⟩
abbrev S352x1024 : Shape := ⟨2, ![352, 1024]⟩
abbrev S8 : Shape := ⟨1, ![8]⟩
abbrev S_ : Shape := ⟨0, ![]⟩
abbrev S8x1x1 : Shape := ⟨3, ![8, 1, 1]⟩

abbrev nBuf : Space → Nat
  | .hbm => 49
  | .vmem => 0
  | .smem => 0
  | _ => 0

abbrev bufTy : (tb : Table) → Fin (tcTables nBuf tb) → BufTy
  | .hbm, ⟨0, _⟩ => ⟨S1, .i32⟩
  | .hbm, ⟨1, _⟩ => ⟨S8x352x1024, .bf16⟩
  | .hbm, ⟨2, _⟩ => ⟨S8x352x1024, .bf16⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S8, .i32⟩
  | .hbm, ⟨7, _⟩ => ⟨S_, .i32⟩
  | .hbm, ⟨8, _⟩ => ⟨S8, .i32⟩
  | .hbm, ⟨9, _⟩ => ⟨S8, .i1⟩
  | .hbm, ⟨10, _⟩ => ⟨S8x1x1, .i1⟩
  | .hbm, ⟨11, _⟩ => ⟨S8x352x1024, .i1⟩
  | .hbm, ⟨12, _⟩ => ⟨S8x352x1024, .bf16⟩
  | .hbm, ⟨13, _⟩ => ⟨S8x352x1024, .f32⟩
  | .hbm, ⟨14, _⟩ => ⟨S_, .f32⟩
  | .hbm, ⟨15, _⟩ => ⟨S352x1024, .f32⟩
  | .hbm, ⟨16, _⟩ => ⟨S_, .f32⟩
  | .hbm, ⟨17, _⟩ => ⟨S352x1024, .f32⟩
  | .hbm, ⟨18, _⟩ => ⟨S352x1024, .f32⟩
  | .hbm, ⟨19, _⟩ => ⟨S_, .f32⟩
  | .hbm, ⟨20, _⟩ => ⟨S352x1024, .f32⟩
  | .hbm, ⟨21, _⟩ => ⟨S352x1024, .f32⟩
  | .hbm, ⟨22, _⟩ => ⟨S352x1024, .f32⟩
  | .hbm, ⟨23, _⟩ => ⟨S_, .f32⟩
  | .hbm, ⟨24, _⟩ => ⟨S352x1024, .f32⟩
  | .hbm, ⟨25, _⟩ => ⟨S352x1024, .f32⟩
  | .hbm, ⟨26, _⟩ => ⟨S352x1024, .f32⟩
  | .hbm, ⟨27, _⟩ => ⟨S_, .f32⟩
  | .hbm, ⟨28, _⟩ => ⟨S352x1024, .f32⟩
  | .hbm, ⟨29, _⟩ => ⟨S352x1024, .f32⟩
  | .hbm, ⟨30, _⟩ => ⟨S352x1024, .f32⟩
  | .hbm, ⟨31, _⟩ => ⟨S_, .f32⟩
  | .hbm, ⟨32, _⟩ => ⟨S352x1024, .f32⟩
  | .hbm, ⟨33, _⟩ => ⟨S352x1024, .f32⟩
  | .hbm, ⟨34, _⟩ => ⟨S_, .f32⟩
  | .hbm, ⟨35, _⟩ => ⟨S352x1024, .f32⟩
  | .hbm, ⟨36, _⟩ => ⟨S352x1024, .f32⟩
  | .hbm, ⟨37, _⟩ => ⟨S352x1024, .f32⟩
  | .hbm, ⟨38, _⟩ => ⟨S_, .f32⟩
  | .hbm, ⟨39, _⟩ => ⟨S352x1024, .f32⟩
  | .hbm, ⟨40, _⟩ => ⟨S352x1024, .f32⟩
  | .hbm, ⟨41, _⟩ => ⟨S352x1024, .f32⟩
  | .hbm, ⟨42, _⟩ => ⟨S_, .f32⟩
  | .hbm, ⟨43, _⟩ => ⟨S352x1024, .f32⟩
  | .hbm, ⟨44, _⟩ => ⟨S352x1024, .f32⟩
  | .hbm, ⟨45, _⟩ => ⟨S352x1024, .f32⟩
  | .hbm, ⟨46, _⟩ => ⟨S_, .f32⟩
  | .hbm, ⟨47, _⟩ => ⟨S352x1024, .f32⟩
  | .hbm, ⟨48, _⟩ => ⟨S352x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== Kernel17.lean ====
abbrev S1 : Shape := ⟨1, ![1]⟩
abbrev S8x896x1024 : Shape := ⟨3, ![8, 896, 1024]⟩
abbrev S1024x896 : Shape := ⟨2, ![1024, 896]⟩
abbrev S8x128x1024 : Shape := ⟨3, ![8, 128, 1024]⟩
abbrev S1x128x1024 : Shape := ⟨3, ![1, 128, 1024]⟩
abbrev S1024x128 : Shape := ⟨2, ![1024, 128]⟩
abbrev S128x1024 : Shape := ⟨2, ![128, 1024]⟩

abbrev nBuf : Space → Nat
  | .hbm => 9
  | .vmem => 18
  | .smem => 1
  | _ => 0

abbrev bufTy : (tb : Table) → Fin (tcTables nBuf tb) → BufTy
  | .hbm, ⟨0, _⟩ => ⟨S8x896x1024, .bf16⟩
  | .hbm, ⟨1, _⟩ => ⟨S8x896x1024, .bf16⟩
  | .hbm, ⟨2, _⟩ => ⟨S1024x896, .f32⟩
  | .hbm, ⟨3, _⟩ => ⟨S1024x896, .f32⟩
  | .hbm, ⟨4, _⟩ => ⟨S1024x896, .f32⟩
  | .hbm, ⟨5, _⟩ => ⟨S1024x896, .f32⟩
  | .hbm, ⟨6, _⟩ => ⟨S1024x896, .f32⟩
  | .hbm, ⟨7, _⟩ => ⟨S1024x896, .f32⟩
  | .hbm, ⟨8, _⟩ => ⟨S1024x896, .f32⟩
  | .local _ .vmem, ⟨0, _⟩ => ⟨S8x128x1024, .bf16⟩
  | .local _ .vmem, ⟨1, _⟩ => ⟨S8x128x1024, .bf16⟩
  | .local _ .vmem, ⟨2, _⟩ => ⟨S1x128x1024, .bf16⟩
  | .local _ .vmem, ⟨3, _⟩ => ⟨S1x128x1024, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .smem, ⟨0, _⟩ => ⟨S1, .i32⟩
  | _, _ => ⟨S8x896x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![7], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference17Ideal.lean ====
abbrev S1 : Shape := ⟨1, ![1]⟩
abbrev S8x896x1024 : Shape := ⟨3, ![8, 896, 1024]⟩
abbrev S1024x896 : Shape := ⟨2, ![1024, 896]⟩
abbrev S8 : Shape := ⟨1, ![8]⟩
abbrev S_ : Shape := ⟨0, ![]⟩
abbrev S8x1x1 : Shape := ⟨3, ![8, 1, 1]⟩
abbrev S896x1024 : Shape := ⟨2, ![896, 1024]⟩

abbrev nBuf : Space → Nat
  | .hbm => 50
  | .vmem => 0
  | .smem => 0
  | _ => 0

abbrev bufTy : (tb : Table) → Fin (tcTables nBuf tb) → BufTy
  | .hbm, ⟨0, _⟩ => ⟨S1, .i32⟩
  | .hbm, ⟨1, _⟩ => ⟨S8x896x1024, .bf16⟩
  | .hbm, ⟨2, _⟩ => ⟨S8x896x1024, .bf16⟩
  | .hbm, ⟨3, _⟩ => ⟨S1024x896, .f32⟩
  | .hbm, ⟨4, _⟩ => ⟨S1024x896, .f32⟩
  | .hbm, ⟨5, _⟩ => ⟨S1024x896, .f32⟩
  | .hbm, ⟨6, _⟩ => ⟨S8, .i32⟩
  | .hbm, ⟨7, _⟩ => ⟨S_, .i32⟩
  | .hbm, ⟨8, _⟩ => ⟨S8, .i32⟩
  | .hbm, ⟨9, _⟩ => ⟨S8, .i1⟩
  | .hbm, ⟨10, _⟩ => ⟨S8x1x1, .i1⟩
  | .hbm, ⟨11, _⟩ => ⟨S8x896x1024, .i1⟩
  | .hbm, ⟨12, _⟩ => ⟨S8x896x1024, .bf16⟩
  | .hbm, ⟨13, _⟩ => ⟨S8x896x1024, .f32⟩
  | .hbm, ⟨14, _⟩ => ⟨S_, .f32⟩
  | .hbm, ⟨15, _⟩ => ⟨S896x1024, .f32⟩
  | .hbm, ⟨16, _⟩ => ⟨S1024x896, .f32⟩
  | .hbm, ⟨17, _⟩ => ⟨S_, .f32⟩
  | .hbm, ⟨18, _⟩ => ⟨S1024x896, .f32⟩
  | .hbm, ⟨19, _⟩ => ⟨S1024x896, .f32⟩
  | .hbm, ⟨20, _⟩ => ⟨S_, .f32⟩
  | .hbm, ⟨21, _⟩ => ⟨S1024x896, .f32⟩
  | .hbm, ⟨22, _⟩ => ⟨S1024x896, .f32⟩
  | .hbm, ⟨23, _⟩ => ⟨S1024x896, .f32⟩
  | .hbm, ⟨24, _⟩ => ⟨S_, .f32⟩
  | .hbm, ⟨25, _⟩ => ⟨S1024x896, .f32⟩
  | .hbm, ⟨26, _⟩ => ⟨S1024x896, .f32⟩
  | .hbm, ⟨27, _⟩ => ⟨S1024x896, .f32⟩
  | .hbm, ⟨28, _⟩ => ⟨S_, .f32⟩
  | .hbm, ⟨29, _⟩ => ⟨S1024x896, .f32⟩
  | .hbm, ⟨30, _⟩ => ⟨S1024x896, .f32⟩
  | .hbm, ⟨31, _⟩ => ⟨S1024x896, .f32⟩
  | .hbm, ⟨32, _⟩ => ⟨S_, .f32⟩
  | .hbm, ⟨33, _⟩ => ⟨S1024x896, .f32⟩
  | .hbm, ⟨34, _⟩ => ⟨S1024x896, .f32⟩
  | .hbm, ⟨35, _⟩ => ⟨S_, .f32⟩
  | .hbm, ⟨36, _⟩ => ⟨S1024x896, .f32⟩
  | .hbm, ⟨37, _⟩ => ⟨S1024x896, .f32⟩
  | .hbm, ⟨38, _⟩ => ⟨S1024x896, .f32⟩
  | .hbm, ⟨39, _⟩ => ⟨S_, .f32⟩
  | .hbm, ⟨40, _⟩ => ⟨S1024x896, .f32⟩
  | .hbm, ⟨41, _⟩ => ⟨S1024x896, .f32⟩
  | .hbm, ⟨42, _⟩ => ⟨S1024x896, .f32⟩
  | .hbm, ⟨43, _⟩ => ⟨S_, .f32⟩
  | .hbm, ⟨44, _⟩ => ⟨S1024x896, .f32⟩
  | .hbm, ⟨45, _⟩ => ⟨S1024x896, .f32⟩
  | .hbm, ⟨46, _⟩ => ⟨S1024x896, .f32⟩
  | .hbm, ⟨47, _⟩ => ⟨S_, .f32⟩
  | .hbm, ⟨48, _⟩ => ⟨S1024x896, .f32⟩
  | .hbm, ⟨49, _⟩ => ⟨S1024x896, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]
-- ==== Kernel18.lean ====
abbrev S1 : Shape := ⟨1, ![1]⟩
abbrev S8x704x1024 : Shape := ⟨3, ![8, 704, 1024]⟩
abbrev S1024x704 : Shape := ⟨2, ![1024, 704]⟩
abbrev S1x704x1024 : Shape := ⟨3, ![1, 704, 1024]⟩
abbrev S704x1024 : Shape := ⟨2, ![704, 1024]⟩

abbrev nBuf : Space → Nat
  | .hbm => 9
  | .vmem => 9
  | .smem => 1
  | _ => 0

abbrev bufTy : (tb : Table) → Fin (tcTables nBuf tb) → BufTy
  | .hbm, ⟨0, _⟩ => ⟨S8x704x1024, .bf16⟩
  | .hbm, ⟨1, _⟩ => ⟨S8x704x1024, .bf16⟩
  | .hbm, ⟨2, _⟩ => ⟨S1024x704, .f32⟩
  | .hbm, ⟨3, _⟩ => ⟨S1024x704, .f32⟩
  | .hbm, ⟨4, _⟩ => ⟨S1024x704, .f32⟩
  | .hbm, ⟨5, _⟩ => ⟨S1024x704, .f32⟩
  | .hbm, ⟨6, _⟩ => ⟨S1024x704, .f32⟩
  | .hbm, ⟨7, _⟩ => ⟨S1024x704, .f32⟩
  | .hbm, ⟨8, _⟩ => ⟨S1024x704, .f32⟩
  | .local _ .vmem, ⟨0, _⟩ => ⟨S8x704x1024, .bf16⟩
  | .local _ .vmem, ⟨1, _⟩ => ⟨S1x704x1024, .bf16⟩
  | .local _ .vmem, ⟨2, _⟩ => ⟨S1024x704, .f32⟩
  | .local _ .vmem, ⟨3, _⟩ => ⟨S1024x704, .f32⟩
  | .local _ .vmem, ⟨4, _⟩ => ⟨S1024x704, .f32⟩
  | .local _ .vmem, ⟨5, _⟩ => ⟨S1024x704, .f32⟩
  | .local _ .vmem, ⟨6, _⟩ => ⟨S1024x704, .f32⟩
  | .local _ .vmem, ⟨7, _⟩ => ⟨S1024x704, .f32⟩
  | .local _ .vmem, ⟨8, _⟩ => ⟨S1024x704, .f32⟩
  | .local _ .smem, ⟨0, _⟩ => ⟨S1, .i32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x704x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x704 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x704 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x704 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x704 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x704 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1024x704 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1024x704 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference18Ideal.lean ====
abbrev S1 : Shape := ⟨1, ![1]⟩
abbrev S8x704x1024 : Shape := ⟨3, ![8, 704, 1024]⟩
abbrev S1024x704 : Shape := ⟨2, ![1024, 704]⟩
abbrev S8 : Shape := ⟨1, ![8]⟩
abbrev S_ : Shape := ⟨0, ![]⟩
abbrev S8x1x1 : Shape := ⟨3, ![8, 1, 1]⟩
abbrev S704x1024 : Shape := ⟨2, ![704, 1024]⟩

abbrev nBuf : Space → Nat
  | .hbm => 50
  | .vmem => 0
  | .smem => 0
  | _ => 0

abbrev bufTy : (tb : Table) → Fin (tcTables nBuf tb) → BufTy
  | .hbm, ⟨0, _⟩ => ⟨S1, .i32⟩
  | .hbm, ⟨1, _⟩ => ⟨S8x704x1024, .bf16⟩
  | .hbm, ⟨2, _⟩ => ⟨S8x704x1024, .bf16⟩
  | .hbm, ⟨3, _⟩ => ⟨S1024x704, .f32⟩
  | .hbm, ⟨4, _⟩ => ⟨S1024x704, .f32⟩
  | .hbm, ⟨5, _⟩ => ⟨S1024x704, .f32⟩
  | .hbm, ⟨6, _⟩ => ⟨S8, .i32⟩
  | .hbm, ⟨7, _⟩ => ⟨S_, .i32⟩
  | .hbm, ⟨8, _⟩ => ⟨S8, .i32⟩
  | .hbm, ⟨9, _⟩ => ⟨S8, .i1⟩
  | .hbm, ⟨10, _⟩ => ⟨S8x1x1, .i1⟩
  | .hbm, ⟨11, _⟩ => ⟨S8x704x1024, .i1⟩
  | .hbm, ⟨12, _⟩ => ⟨S8x704x1024, .bf16⟩
  | .hbm, ⟨13, _⟩ => ⟨S8x704x1024, .f32⟩
  | .hbm, ⟨14, _⟩ => ⟨S_, .f32⟩
  | .hbm, ⟨15, _⟩ => ⟨S704x1024, .f32⟩
  | .hbm, ⟨16, _⟩ => ⟨S1024x704, .f32⟩
  | .hbm, ⟨17, _⟩ => ⟨S_, .f32⟩
  | .hbm, ⟨18, _⟩ => ⟨S1024x704, .f32⟩
  | .hbm, ⟨19, _⟩ => ⟨S1024x704, .f32⟩
  | .hbm, ⟨20, _⟩ => ⟨S_, .f32⟩
  | .hbm, ⟨21, _⟩ => ⟨S1024x704, .f32⟩
  | .hbm, ⟨22, _⟩ => ⟨S1024x704, .f32⟩
  | .hbm, ⟨23, _⟩ => ⟨S1024x704, .f32⟩
  | .hbm, ⟨24, _⟩ => ⟨S_, .f32⟩
  | .hbm, ⟨25, _⟩ => ⟨S1024x704, .f32⟩
  | .hbm, ⟨26, _⟩ => ⟨S1024x704, .f32⟩
  | .hbm, ⟨27, _⟩ => ⟨S1024x704, .f32⟩
  | .hbm, ⟨28, _⟩ => ⟨S_, .f32⟩
  | .hbm, ⟨29, _⟩ => ⟨S1024x704, .f32⟩
  | .hbm, ⟨30, _⟩ => ⟨S1024x704, .f32⟩
  | .hbm, ⟨31, _⟩ => ⟨S1024x704, .f32⟩
  | .hbm, ⟨32, _⟩ => ⟨S_, .f32⟩
  | .hbm, ⟨33, _⟩ => ⟨S1024x704, .f32⟩
  | .hbm, ⟨34, _⟩ => ⟨S1024x704, .f32⟩
  | .hbm, ⟨35, _⟩ => ⟨S_, .f32⟩
  | .hbm, ⟨36, _⟩ => ⟨S1024x704, .f32⟩
  | .hbm, ⟨37, _⟩ => ⟨S1024x704, .f32⟩
  | .hbm, ⟨38, _⟩ => ⟨S1024x704, .f32⟩
  | .hbm, ⟨39, _⟩ => ⟨S_, .f32⟩
  | .hbm, ⟨40, _⟩ => ⟨S1024x704, .f32⟩
  | .hbm, ⟨41, _⟩ => ⟨S1024x704, .f32⟩
  | .hbm, ⟨42, _⟩ => ⟨S1024x704, .f32⟩
  | .hbm, ⟨43, _⟩ => ⟨S_, .f32⟩
  | .hbm, ⟨44, _⟩ => ⟨S1024x704, .f32⟩
  | .hbm, ⟨45, _⟩ => ⟨S1024x704, .f32⟩
  | .hbm, ⟨46, _⟩ => ⟨S1024x704, .f32⟩
  | .hbm, ⟨47, _⟩ => ⟨S_, .f32⟩
  | .hbm, ⟨48, _⟩ => ⟨S1024x704, .f32⟩
  | .hbm, ⟨49, _⟩ => ⟨S1024x704, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]
-- ==== Proof.Dwup.lean ====
module

public import proofs.«01_k».proof.Proof.Gen.Kernel3Ideal.Value
public import proofs.«01_k».proof.Proof.Gen.Reference3Ideal.Run
public import Idealize.ShloMosaic.Lib.Pointwise
public import Idealize.ShloMosaic.Lib.Tactic

@[expose] public section

set_option maxRecDepth 16384

noncomputable section

/-!
  The gradient of the feed-forward block's first weight (`mm_dwup`): what the call leaves is, at `(r, l)`, the sum over
  the tokens of `du[r / 2816, t, r % 2816] · h[t, l]`, and the host's product of the joined halves is the same sum.
-/

namespace Cert.Proof.Dwup

open Idealize.ShloMosaic Idealize.ShloMosaic.TcCoe Idealize.SL.Sem
open Idealize.ShloMosaic.Pipeline (Dat)
open Cert.Kernel3Ideal Cert.Kernel3Ideal.Gen

/-- The gradient, entry by entry. -/
def G (du : Vec Ideal S2x4096x2816 .bf16) (h : Vec Ideal S4096x1024 .bf16) : Vec Ideal S5632x1024 .bf16 := fun i =>
  ∑ t : Fin 4096, du (ix3 (⟨(i 0).val / 2816, by have : (i 0).val < 5632 := (i 0).isLt; omega⟩ : Fin 2) t
    (⟨(i 0).val % 2816, Nat.mod_lt _ (by decide)⟩ : Fin 2816)) * h (ix2 t (i 1))

theorem hz2 : (![0, 0] : Fin 2 → Nat) = fun _ => 0 := funext fun a => by fin_cases a <;> rfl
theorem hz3 : (![0, 0, 0] : Fin 3 → Nat) = fun _ => 0 := funext fun a => by fin_cases a <;> rfl

theorem out_eq (x0 : Vec Ideal S1x4096x1408 .bf16) (x1 : Vec Ideal S4096x1024 .bf16) : out0_2 x0 x1 = k0_pay1 x0 x1 := by
  unfold out0_2
  rw [View.canon_unit_zero hz2, View.ld_unit_zero hz3, View.ld_unit_zero hz2]

theorem pay_apply (x0 : Vec Ideal S1x4096x1408 .bf16) (x1 : Vec Ideal S4096x1024 .bf16) (j : S1408x1024.Idx) :
    k0_pay1 x0 x1 j = ∑ t : Fin 4096, x0 (ix3 0 t (j 0)) * x1 (ix2 t (j 1)) := by
  pointwise [k0_pay1]

variable (m : (ℓ : Loc nD τ sig) → Buf (Elt Ideal) ℓ) (ρ : Dev nD → PrngReg)

theorem idx_in (t : Fin cfg0.N) : win0_0.index t 0 = t.val / 2 ∧ win0_0.index t 1 = 0 ∧ win0_0.index t 2 = t.val % 2
    ∧ win0_1.index t 0 = 0 ∧ win0_1.index t 1 = 0 ∧ win0_2.index t 0 = t.val ∧ win0_2.index t 1 = 0 := by
  rcases fin_N0 t with rfl | rfl | rfl | rfl <;> decide

theorem flushed_eq (c : Dev nD) (t : Fin cfg0.N) (_ : (cfg0.win 2).flush t = true) :
    (dats m 0 c).flushed 2 t = ((cfg0.win 2).blk t).view.read (Elt Ideal)
      (G (m ((c : Thread nD τ).loc main_arg0)) (m ((c : Thread nD τ).loc main_arg1))) := by
  obtain ⟨h00, h01, h02, h10, h11, h20, h21⟩ := idx_in t
  have ht : t.val < 4 := t.isLt
  rw [Value.flushed2]
  show out0_2 (iblk m c 0 t) (iblk m c 1 t) = _
  rw [out_eq]
  funext j
  rw [View.read_apply]
  refine (pay_apply _ _ j).trans ?_
  have hj : (j 0).val < 1408 := (j 0).isLt
  unfold G
  refine Finset.sum_congr rfl fun s _ => ?_
  unfold iblk
  rw [View.read_apply, View.read_apply]
  show HMul.hMul (α := EReal) (β := EReal) (γ := EReal) (m ((c : Thread nD τ).loc main_arg0) _) (m ((c : Thread nD τ).loc main_arg1) _) = _
  congr 2
  · funext a
    apply Fin.ext
    match a with
    | ⟨0, _⟩ => show win0_0.index t 0 * 1 + 1 * 0 = (win0_2.index t 0 * 1408 + 1 * (j 0).val) / 2816; rw [h00, h20]; omega
    | ⟨1, _⟩ => show win0_0.index t 1 * 4096 + 1 * s.val = s.val; rw [h01]; omega
    | ⟨2, _⟩ => show win0_0.index t 2 * 1408 + 1 * (j 0).val = (win0_2.index t 0 * 1408 + 1 * (j 0).val) % 2816; rw [h02, h20]; omega
  · funext a
    apply Fin.ext
    match a with
    | ⟨0, _⟩ => show win0_1.index t 0 * 4096 + 1 * s.val = s.val; rw [h10]; omega
    | ⟨1, _⟩ => show win0_1.index t 1 * 1024 + 1 * (j 1).val = win0_2.index t 1 * 1024 + 1 * (j 1).val; rw [h11, h21]

theorem final (c : Dev nD) : (dats m 0 c).arrAt 2 cfg0.N
    = G (m ((c : Thread nD τ).loc main_arg0)) (m ((c : Thread nD τ).loc main_arg1)) :=
  (dats m 0 c).arrAt_eq_of_cover 2 _ (flushed_eq m c) fun i => by
    have h0 : (i 0 : Nat) < 5632 := (i 0).isLt
    have h1 : (i 1 : Nat) < 1024 := (i 1).isLt
    have hN : (i 0).val / 1408 < cfg0.N := by show _ < 4; omega
    refine ⟨⟨(i 0).val / 1408, hN⟩, flush0_2 _, ?_⟩
    obtain ⟨-, -, -, -, -, h20, h21⟩ := idx_in ⟨(i 0).val / 1408, hN⟩
    show i ∈ ((View.whole main_v0).slice (win0_2.rect ⟨(i 0).val / 1408, hN⟩)).set
    rw [View.set_slice_whole, Rect.mem_set_unit]
    intro a
    match a with
    | ⟨0, _⟩ => show win0_2.index _ 0 * 1408 ≤ (i 0 : Nat) ∧ (i 0 : Nat) < win0_2.index _ 0 * 1408 + 1408; rw [h20]; dsimp only; omega
    | ⟨1, _⟩ => show win0_2.index _ 1 * 1024 ≤ (i 1 : Nat) ∧ (i 1 : Nat) < win0_2.index _ 1 * 1024 + 1024; rw [h21]; omega

end Cert.Proof.Dwup

namespace Cert.Proof.Dwup.Ref

open Idealize.ShloMosaic Idealize.ShloMosaic.TcCoe Idealize.SL.Sem
open Cert.Reference3Ideal Cert.Reference3Ideal.Gen

/-- The host's term is the gradient. -/
theorem ref_eq (du : FVec Ideal S2x4096x2816 .bf16) (h : FVec Ideal S4096x1024 .bf16) :
    (truncf .bf16 (transpose S5632x1024 [1, 0] (transpose S1024x5632 [1, 0] (Host.dotGeneral dot_S4096x5632_S4096x1024_S5632x1024_0_0_1_1_n_n none (concatenate S4096x5632 1 [⟨S4096x2816, (extf .f32 (shapeCast _ (extractStridedSlice S1x4096x2816 ![0, 0, 0] du slices_S2x4096x2816_S1x4096x2816_0_0_0) shapeCasts_S1x4096x2816_S4096x2816) bitsLt_bf16_f32)⟩, ⟨S4096x2816, (extf .f32 (shapeCast _ (extractStridedSlice S1x4096x2816 ![1, 0, 0] du slices_S2x4096x2816_S1x4096x2816_1_0_0) shapeCasts_S1x4096x2816_S4096x2816) bitsLt_bf16_f32)⟩] concatenates_S4096x2816_S4096x2816_S4096x5632_d1) (extf .f32 h bitsLt_bf16_f32)) transposes_S5632x1024_S1024x5632_1_0) transposes_S1024x5632_S5632x1024_1_0) bitsLt_bf16_f32 : FVec Ideal S5632x1024 .bf16)
      = G du h := by
  funext j
  have hj : (j 0).val < 5632 := (j 0).isLt
  pointwise [G]
  refine Finset.sum_congr rfl fun t _ => ?_
  congr 1
  by_cases hc : (j 0).val < 2816
  · rw [dif_pos hc]
    congr 1
    funext a
    apply Fin.ext
    match a with
    | ⟨0, _⟩ => show 0 = (j 0).val / 2816; omega
    | ⟨1, _⟩ => rfl
    | ⟨2, _⟩ => show (j 0).val = (j 0).val % 2816; omega
  · rw [dif_neg hc]
    congr 1
    funext a
    apply Fin.ext
    match a with
    | ⟨0, _⟩ => show 1 = (j 0).val / 2816; omega
    | ⟨1, _⟩ => rfl
    | ⟨2, _⟩ => show (j 0).val - 2816 = (j 0).val % 2816; omega

end Cert.Proof.Dwup.Ref
-- ==== Proof.DwupRun.lean ====
module

public import proofs.«01_k».proof.Proof.Dwup
public import proofs.«01_k».proof.Defs

@[expose] public section

set_option maxRecDepth 16384

noncomputable section

/-!
  The feed-forward block's first weight: the call against the host's product.
-/

namespace Cert.Proof.Dwup

open Idealize.ShloMosaic Idealize.ShloMosaic.TcCoe Idealize.SL.Sem
open Cert.Kernel3Ideal Cert.Kernel3Ideal.Gen

theorem claim3 : Cert.algebraic_Kernel3Ideal_Reference3Ideal := by
  intro m g m' g' _ hargs
  refine ⟨fun c => G (m ((c : Thread nD τ).loc main_arg0)) (m ((c : Thread nD τ).loc main_arg1)),
    (θ_run _ _ _).mono (fun _ h c => ⟨(h c).1.trans (final m c), (h c).2⟩) (Cert.Kernel3Ideal.Value.run_blocks m g),
    (θ_run _ _ _).mono (fun _ h c => ⟨(h c).1.trans ?_, (h c).2⟩) (Cert.Reference3Ideal.Value.run m' g')⟩
  obtain ⟨e0, e1⟩ := hargs c
  dsimp only
  rw [← e0, ← e1]
  exact Ref.ref_eq _ _

end Cert.Proof.Dwup
-- ==== Proof.Dwin.lean ====
module

public import proofs.«01_k».proof.Proof.Gen.Kernel4Ideal.Value
public import proofs.«01_k».proof.Proof.Gen.Reference4Ideal.Run
public import Idealize.ShloMosaic.Lib.Pointwise
public import Idealize.ShloMosaic.Lib.Tactic

@[expose] public section

set_option maxRecDepth 16384

noncomputable section

/-!
  The gradient of the mixer's input weight (`mm_dwin`): what the call leaves is, at `(r, l)`, the sum over the tokens of
  `dz[sec (r / 1024), t, r % 1024] · h[t, l]`, where `sec` is the order in which the weight's seven sections stand in
  the eight sections of the cotangent; the host's product of the joined sections is the same sum.
-/

namespace Cert.Proof.Dwin

open Idealize.ShloMosaic Idealize.ShloMosaic.TcCoe Idealize.SL.Sem
open Idealize.ShloMosaic.Pipeline (Dat)
open Cert.Kernel4Ideal Cert.Kernel4Ideal.Gen

/-- Which section of the cotangent the weight's section `q` takes. -/
def sec (q : Nat) : Fin 8 := if q < 2 then ⟨q % 8, Nat.mod_lt _ (by decide)⟩ else if q < 5 then ⟨(q + 2) % 8, Nat.mod_lt _ (by decide)⟩
  else ⟨(q - 3) % 8, Nat.mod_lt _ (by decide)⟩

/-- The gradient, entry by entry. -/
def G (du : Vec Ideal S8x4096x1024 .bf16) (h : Vec Ideal S4096x1024 .bf16) : Vec Ideal S7168x1024 .bf16 := fun i =>
  ∑ t : Fin 4096, du (ix3 (sec ((i 0).val / 1024)) t
    (⟨(i 0).val % 1024, Nat.mod_lt _ (by decide)⟩ : Fin 1024)) * h (ix2 t (i 1))

theorem hz2 : (![0, 0] : Fin 2 → Nat) = fun _ => 0 := funext fun a => by fin_cases a <;> rfl
theorem hz3 : (![0, 0, 0] : Fin 3 → Nat) = fun _ => 0 := funext fun a => by fin_cases a <;> rfl

theorem out_eq (x0 : Vec Ideal S1x4096x1024 .bf16) (x1 : Vec Ideal S4096x1024 .bf16) : out0_2 x0 x1 = k0_pay1 x0 x1 := by
  unfold out0_2
  rw [View.canon_unit_zero hz2, View.ld_unit_zero hz3, View.ld_unit_zero hz2]

theorem pay_apply (x0 : Vec Ideal S1x4096x1024 .bf16) (x1 : Vec Ideal S4096x1024 .bf16) (j : S1024x1024.Idx) :
    k0_pay1 x0 x1 j = ∑ t : Fin 4096, x0 (ix3 0 t (j 0)) * x1 (ix2 t (j 1)) := by
  pointwise [k0_pay1]

variable (m : (ℓ : Loc nD τ sig) → Buf (Elt Ideal) ℓ) (ρ : Dev nD → PrngReg)

theorem idx_in (t : Fin cfg0.N) : win0_0.index t 0 = (sec t.val).val ∧ win0_0.index t 1 = 0 ∧ win0_0.index t 2 = 0
    ∧ win0_1.index t 0 = 0 ∧ win0_1.index t 1 = 0 ∧ win0_2.index t 0 = t.val ∧ win0_2.index t 1 = 0 := by
  rcases fin_N0 t with rfl | rfl | rfl | rfl | rfl | rfl | rfl <;> decide

theorem flushed_eq (c : Dev nD) (t : Fin cfg0.N) (_ : (cfg0.win 2).flush t = true) :
    (dats m 0 c).flushed 2 t = ((cfg0.win 2).blk t).view.read (Elt Ideal)
      (G (m ((c : Thread nD τ).loc main_arg0)) (m ((c : Thread nD τ).loc main_arg1))) := by
  obtain ⟨h00, h01, h02, h10, h11, h20, h21⟩ := idx_in t
  have ht : t.val < 7 := t.isLt
  rw [Value.flushed2]
  show out0_2 (iblk m c 0 t) (iblk m c 1 t) = _
  rw [out_eq]
  funext j
  rw [View.read_apply]
  refine (pay_apply _ _ j).trans ?_
  have hj : (j 0).val < 1024 := (j 0).isLt
  unfold G
  refine Finset.sum_congr rfl fun s _ => ?_
  unfold iblk
  rw [View.read_apply, View.read_apply]
  show HMul.hMul (α := EReal) (β := EReal) (γ := EReal) (m ((c : Thread nD τ).loc main_arg0) _) (m ((c : Thread nD τ).loc main_arg1) _) = _
  congr 2
  · funext a
    apply Fin.ext
    match a with
    | ⟨0, _⟩ => show win0_0.index t 0 * 1 + 1 * 0 = (sec ((win0_2.index t 0 * 1024 + 1 * (j 0).val) / 1024)).val; rw [h00, h20, show (t.val * 1024 + 1 * (j 0).val) / 1024 = t.val by omega]; omega
    | ⟨1, _⟩ => show win0_0.index t 1 * 4096 + 1 * s.val = s.val; rw [h01]; omega
    | ⟨2, _⟩ => show win0_0.index t 2 * 1024 + 1 * (j 0).val = (win0_2.index t 0 * 1024 + 1 * (j 0).val) % 1024; rw [h02, h20]; omega
  · funext a
    apply Fin.ext
    match a with
    | ⟨0, _⟩ => show win0_1.index t 0 * 4096 + 1 * s.val = s.val; rw [h10]; omega
    | ⟨1, _⟩ => show win0_1.index t 1 * 1024 + 1 * (j 1).val = win0_2.index t 1 * 1024 + 1 * (j 1).val; rw [h11, h21]

theorem final (c : Dev nD) : (dats m 0 c).arrAt 2 cfg0.N
    = G (m ((c : Thread nD τ).loc main_arg0)) (m ((c : Thread nD τ).loc main_arg1)) :=
  (dats m 0 c).arrAt_eq_of_cover 2 _ (flushed_eq m c) fun i => by
    have h0 : (i 0 : Nat) < 7168 := (i 0).isLt
    have h1 : (i 1 : Nat) < 1024 := (i 1).isLt
    have hN : (i 0).val / 1024 < cfg0.N := by show _ < 7; omega
    refine ⟨⟨(i 0).val / 1024, hN⟩, flush0_2 _, ?_⟩
    obtain ⟨-, -, -, -, -, h20, h21⟩ := idx_in ⟨(i 0).val / 1024, hN⟩
    show i ∈ ((View.whole main_v0).slice (win0_2.rect ⟨(i 0).val / 1024, hN⟩)).set
    rw [View.set_slice_whole, Rect.mem_set_unit]
    intro a
    match a with
    | ⟨0, _⟩ => show win0_2.index _ 0 * 1024 ≤ (i 0 : Nat) ∧ (i 0 : Nat) < win0_2.index _ 0 * 1024 + 1024; rw [h20]; dsimp only; omega
    | ⟨1, _⟩ => show win0_2.index _ 1 * 1024 ≤ (i 1 : Nat) ∧ (i 1 : Nat) < win0_2.index _ 1 * 1024 + 1024; rw [h21]; omega

end Cert.Proof.Dwin

namespace Cert.Proof.Dwin.Ref

open Idealize.ShloMosaic Idealize.ShloMosaic.TcCoe Idealize.SL.Sem
open Cert.Reference4Ideal Cert.Reference4Ideal.Gen

theorem idx3_ext {n : Fin 3 → Nat} {x y : (a : Fin 3) → Fin (n a)} (h0 : (x 0).val = (y 0).val) (h1 : (x 1).val = (y 1).val)
    (h2 : (x 2).val = (y 2).val) : x = y := by
  funext a
  apply Fin.ext
  match a with
  | ⟨0, _⟩ => exact h0
  | ⟨1, _⟩ => exact h1
  | ⟨2, _⟩ => exact h2

/-- The host's term is the gradient. -/
theorem ref_eq (du : FVec Ideal S8x4096x1024 .bf16) (h : FVec Ideal S4096x1024 .bf16) :
    (truncf .bf16 (transpose S7168x1024 [1, 0] (transpose S1024x7168 [1, 0] (Host.dotGeneral dot_S4096x7168_S4096x1024_S7168x1024_0_0_1_1_n_n (φ₁ := .f32) (φ₂ := .f32) none ((concatenate S4096x7168 1 [⟨S4096x1024, ((extf .f32 (shapeCast _ (extractStridedSlice S1x4096x1024 ![0, 0, 0] du slices_S8x4096x1024_S1x4096x1024_0_0_0) shapeCasts_S1x4096x1024_S4096x1024) bitsLt_bf16_f32) : (⟨S4096x1024, .f32⟩ : BufTy).Contents (Elt Ideal))⟩, ⟨S4096x1024, ((extf .f32 (shapeCast _ (extractStridedSlice S1x4096x1024 ![1, 0, 0] du slices_S8x4096x1024_S1x4096x1024_1_0_0) shapeCasts_S1x4096x1024_S4096x1024) bitsLt_bf16_f32) : (⟨S4096x1024, .f32⟩ : BufTy).Contents (Elt Ideal))⟩, ⟨S4096x1024, ((extf .f32 (shapeCast _ (extractStridedSlice S1x4096x1024 ![4, 0, 0] du slices_S8x4096x1024_S1x4096x1024_4_0_0) shapeCasts_S1x4096x1024_S4096x1024) bitsLt_bf16_f32) : (⟨S4096x1024, .f32⟩ : BufTy).Contents (Elt Ideal))⟩, ⟨S4096x1024, ((extf .f32 (shapeCast _ (extractStridedSlice S1x4096x1024 ![5, 0, 0] du slices_S8x4096x1024_S1x4096x1024_5_0_0) shapeCasts_S1x4096x1024_S4096x1024) bitsLt_bf16_f32) : (⟨S4096x1024, .f32⟩ : BufTy).Contents (Elt Ideal))⟩, ⟨S4096x1024, ((extf .f32 (shapeCast _ (extractStridedSlice S1x4096x1024 ![6, 0, 0] du slices_S8x4096x1024_S1x4096x1024_6_0_0) shapeCasts_S1x4096x1024_S4096x1024) bitsLt_bf16_f32) : (⟨S4096x1024, .f32⟩ : BufTy).Contents (Elt Ideal))⟩, ⟨S4096x1024, ((extf .f32 (shapeCast _ (extractStridedSlice S1x4096x1024 ![2, 0, 0] du slices_S8x4096x1024_S1x4096x1024_2_0_0) shapeCasts_S1x4096x1024_S4096x1024) bitsLt_bf16_f32) : (⟨S4096x1024, .f32⟩ : BufTy).Contents (Elt Ideal))⟩, ⟨S4096x1024, ((extf .f32 (shapeCast _ (extractStridedSlice S1x4096x1024 ![3, 0, 0] du slices_S8x4096x1024_S1x4096x1024_3_0_0) shapeCasts_S1x4096x1024_S4096x1024) bitsLt_bf16_f32) : (⟨S4096x1024, .f32⟩ : BufTy).Contents (Elt Ideal))⟩] concatenates_S4096x1024_S4096x1024_S4096x1024_S4096x1024_S4096x1024_S4096x1024_S4096x1024_S4096x7168_d1 : (⟨S4096x7168, .f32⟩ : BufTy).Contents (Elt Ideal))) (extf .f32 h bitsLt_bf16_f32)) transposes_S7168x1024_S1024x7168_1_0) transposes_S1024x7168_S7168x1024_1_0) bitsLt_bf16_f32 : FVec Ideal S7168x1024 .bf16)
      = G du h := by
  funext j
  have hj : (j 0).val < 7168 := (j 0).isLt
  pointwise [G]
  refine Finset.sum_congr rfl fun t _ => ?_
  congr 1
  rcases (by omega : (j 0).val / 1024 = 0 ∨ (j 0).val / 1024 = 1 ∨ (j 0).val / 1024 = 2 ∨ (j 0).val / 1024 = 3 ∨ (j 0).val / 1024 = 4 ∨ (j 0).val / 1024 = 5 ∨ (j 0).val / 1024 = 6) with hq | hq | hq | hq | hq | hq | hq
  · rw [dif_pos (by omega)]
    exact congrArg du (idx3_ext (show _ = (sec _).val by rw [hq]; rfl) rfl (show (j 0).val = (j 0).val % 1024 by omega))
  · rw [dif_neg (by omega), dif_pos (by omega)]
    exact congrArg du (idx3_ext (show _ = (sec _).val by rw [hq]; rfl) rfl (show (j 0).val - 1024 = (j 0).val % 1024 by omega))
  · rw [dif_neg (by omega), dif_neg (by omega), dif_pos (by omega)]
    exact congrArg du (idx3_ext (show _ = (sec _).val by rw [hq]; rfl) rfl (show (j 0).val - 1024 - 1024 = (j 0).val % 1024 by omega))
  · rw [dif_neg (by omega), dif_neg (by omega), dif_neg (by omega), dif_pos (by omega)]
    exact congrArg du (idx3_ext (show _ = (sec _).val by rw [hq]; rfl) rfl (show (j 0).val - 1024 - 1024 - 1024 = (j 0).val % 1024 by omega))
  · rw [dif_neg (by omega), dif_neg (by omega), dif_neg (by omega), dif_neg (by omega), dif_pos (by omega)]
    exact congrArg du (idx3_ext (show _ = (sec _).val by rw [hq]; rfl) rfl (show (j 0).val - 1024 - 1024 - 1024 - 1024 = (j 0).val % 1024 by omega))
  · rw [dif_neg (by omega), dif_neg (by omega), dif_neg (by omega), dif_neg (by omega), dif_neg (by omega), dif_pos (by omega)]
    exact congrArg du (idx3_ext (show _ = (sec _).val by rw [hq]; rfl) rfl (show (j 0).val - 1024 - 1024 - 1024 - 1024 - 1024 = (j 0).val % 1024 by omega))
  · rw [dif_neg (by omega), dif_neg (by omega), dif_neg (by omega), dif_neg (by omega), dif_neg (by omega), dif_neg (by omega)]
    exact congrArg du (idx3_ext (show _ = (sec _).val by rw [hq]; rfl) rfl (show (j 0).val - 1024 - 1024 - 1024 - 1024 - 1024 - 1024 = (j 0).val % 1024 by omega))

end Cert.Proof.Dwin.Ref
-- ==== Proof.DwinRun.lean ====
module

public import proofs.«01_k».proof.Proof.Dwin
public import proofs.«01_k».proof.Defs

@[expose] public section

set_option maxRecDepth 16384

noncomputable section

/-!
  The mixer's input weight: the call against the host's product.
-/

namespace Cert.Proof.Dwin

open Idealize.ShloMosaic Idealize.ShloMosaic.TcCoe Idealize.SL.Sem
open Cert.Kernel4Ideal Cert.Kernel4Ideal.Gen

theorem claim4 : Cert.algebraic_Kernel4Ideal_Reference4Ideal := by
  intro m g m' g' _ hargs
  refine ⟨fun c => G (m ((c : Thread nD τ).loc main_arg0)) (m ((c : Thread nD τ).loc main_arg1)),
    (θ_run _ _ _).mono (fun _ h c => ⟨(h c).1.trans (final m c), (h c).2⟩) (Cert.Kernel4Ideal.Value.run_blocks m g),
    (θ_run _ _ _).mono (fun _ h c => ⟨(h c).1.trans ?_, (h c).2⟩) (Cert.Reference4Ideal.Value.run m' g')⟩
  obtain ⟨e0, e1⟩ := hargs c
  dsimp only
  rw [← e0, ← e1]
  exact Ref.ref_eq _ _

end Cert.Proof.Dwin
-- ==== Proof.NormGrad.lean ====
module

public import Idealize.ShloMosaic.Lib.Pointwise
public import Idealize.ShloMosaic.Lib.Tactic

@[expose] public section

noncomputable section

/-!
  The gradient of the root-mean-square norm over the extended reals. With `V = (∑ x²) / N + e` and `r = rsqrt V`, the
  kernel's `r · (a − x r · mean (a · x r))` and the two equal halves that the host's chain rule makes of it,
  `a r + x c + c x` with `c = ((∑ x a) · (−½ · r / V)) / N`, agree for every `x` and `a`: when the sum of squares is
  infinite, `r` and `r / V` are zero and both sides are zero; otherwise `r` is a positive real, and a positive real
  distributes over every sum.
-/

namespace Cert.Proof.NormGrad

open Idealize.ShloMosaic

theorem const_1024 : Ideal.ofBits .f32 0x44800000#32 = ((1024 : ℝ) : EReal) := by
  simp [Ideal.ofBits, Ideal.ieee]
  rw [← EReal.coe_mul]
  norm_num

theorem const_neg_half : Ideal.ofBits .f32 0xBF000000#32 = ((-(1 / 2) : ℝ) : EReal) := by
  simp [Ideal.ofBits, Ideal.ieee]
  rw [← EReal.coe_mul]
  norm_num

theorem const_eps : ∃ e : ℝ, 0 < e ∧ Ideal.ofBits .f32 0x358637BD#32 = (e : EReal) := by
  refine ⟨8796093 / 8796093022208, by norm_num, ?_⟩
  simp [Ideal.ofBits, Ideal.ieee]
  rw [← EReal.coe_mul]
  norm_num

/-- A positive real factor comes out of a sum, whatever the terms. -/
theorem sum_mul_coe {n : ℕ} (f : Fin n → EReal) {c : ℝ} (hc : 0 ≤ c) : ∑ k, f k * (c : EReal) = (∑ k, f k) * (c : EReal) := by
  have h : ∀ s : Finset (Fin n), ∑ k ∈ s, f k * (c : EReal) = (∑ k ∈ s, f k) * (c : EReal) := by
    intro s
    induction s using Finset.cons_induction with
    | empty => simp
    | cons a s ha ih =>
      rw [Finset.sum_cons, Finset.sum_cons, ih, mul_comm _ (c : EReal), mul_comm _ (c : EReal), mul_comm _ (c : EReal),
        EReal.left_distrib_of_nonneg_of_ne_top (by exact_mod_cast hc) (EReal.coe_ne_top c)]
  exact h _

theorem mul_self_nonneg (x : EReal) : 0 ≤ x * x := by
  induction x with
  | bot => simp
  | top => simp
  | coe r => rw [← EReal.coe_mul]; exact_mod_cast _root_.mul_self_nonneg r

theorem sumSq_cases {n : ℕ} (x : Fin n → EReal) : (∑ k, x k * x k) = ⊤ ∨ ∃ s : ℝ, 0 ≤ s ∧ (∑ k, x k * x k) = (s : EReal) := by
  have h : 0 ≤ ∑ k, x k * x k := Finset.sum_nonneg fun k _ => mul_self_nonneg (x k)
  generalize (∑ k, x k * x k) = S at h
  induction S with
  | bot => exact absurd h (by simp)
  | top => exact .inl rfl
  | coe r => exact .inr ⟨r, by exact_mod_cast h, rfl⟩

theorem rms_grad {n : ℕ} (x a : Fin n → EReal) (y A X : EReal) {N e : ℝ} (hN : 0 < N) (he : 0 < e) :
    y + Ideal.rsqrt (Ideal.div (∑ k, x k * x k) (N : EReal) + (e : EReal))
        * (A - X * Ideal.rsqrt (Ideal.div (∑ k, x k * x k) (N : EReal) + (e : EReal))
          * Ideal.div (∑ k, a k * (x k * Ideal.rsqrt (Ideal.div (∑ k, x k * x k) (N : EReal) + (e : EReal)))) (N : EReal))
      = y + A * Ideal.rsqrt (Ideal.div (∑ k, x k * x k) (N : EReal) + (e : EReal))
        + X * Ideal.div ((∑ k, x k * a k) * (((-(1 / 2) : ℝ) : EReal)
            * Ideal.div (Ideal.rsqrt (Ideal.div (∑ k, x k * x k) (N : EReal) + (e : EReal)))
              (Ideal.div (∑ k, x k * x k) (N : EReal) + (e : EReal)))) (N : EReal)
        + Ideal.div ((∑ k, x k * a k) * (((-(1 / 2) : ℝ) : EReal)
            * Ideal.div (Ideal.rsqrt (Ideal.div (∑ k, x k * x k) (N : EReal) + (e : EReal)))
              (Ideal.div (∑ k, x k * x k) (N : EReal) + (e : EReal)))) (N : EReal) * X := by
  have hdN : ∀ z : EReal, Ideal.div z (N : EReal) = z * ((1 / N : ℝ) : EReal) := Ideal.div_coe hN.ne'
  rcases sumSq_cases x with hS | ⟨s, hs, hS⟩
  · have hV : Ideal.div (∑ k, x k * x k) (N : EReal) + (e : EReal) = ⊤ := by
      rw [hS, hdN, EReal.top_mul_coe_of_pos (by positivity)]; rfl
    rw [hV]
    simp only [Ideal.rsqrt_top, zero_mul, mul_zero, add_zero]
    have h0 : Ideal.div 0 ⊤ = 0 := by simp [Ideal.div]
    rw [h0, mul_zero, mul_zero, hdN, zero_mul, mul_zero, zero_mul, add_zero, add_zero]
  · obtain ⟨v, hv, hV⟩ : ∃ v : ℝ, 0 < v ∧ Ideal.div (∑ k, x k * x k) (N : EReal) + (e : EReal) = (v : EReal) :=
      ⟨s * (1 / N) + e, by positivity, by rw [hS, hdN, ← EReal.coe_mul, ← EReal.coe_add]⟩
    rw [hV]
    obtain ⟨ρ, hρ, hρv, hr⟩ : ∃ ρ : ℝ, 0 < ρ ∧ ρ * ρ * v = 1 ∧ Ideal.rsqrt (v : EReal) = (ρ : EReal) := by
      refine ⟨(Real.sqrt v)⁻¹, inv_pos.mpr (Real.sqrt_pos.mpr hv), ?_, ?_⟩
      · have h := Real.mul_self_sqrt hv.le
        have h' : Real.sqrt v ≠ 0 := (Real.sqrt_pos.mpr hv).ne'
        field_simp
        nlinarith [h]
      · rw [Ideal.rsqrt_coe, if_neg (by linarith), if_neg hv.ne']
    rw [hr]
    have hT : ∑ k, a k * (x k * (ρ : EReal)) = (∑ k, x k * a k) * (ρ : EReal) := by
      rw [← sum_mul_coe _ hρ.le]
      exact Finset.sum_congr rfl fun k _ => by rw [← mul_assoc, mul_comm (a k)]
    rw [hT]
    generalize (∑ k, x k * a k) = T
    rw [hdN, hdN, Ideal.div_coe hv.ne', sub_eq_add_neg,
      EReal.left_distrib_of_nonneg_of_ne_top (by exact_mod_cast hρ.le) (EReal.coe_ne_top ρ)]
    have e1 : (ρ : EReal) * -(X * (ρ : EReal) * (T * (ρ : EReal) * ((1 / N : ℝ) : EReal)))
        = X * T * ((-(ρ * ρ * ρ * (1 / N)) : ℝ) : EReal) := by
      rw [EReal.coe_neg, mul_neg, mul_neg, EReal.coe_mul, EReal.coe_mul, EReal.coe_mul]
      congr 1
      ac_rfl
    have e2 : ∀ c : ℝ, X * (T * (((-(1 / 2) : ℝ) : EReal) * ((ρ : EReal) * ((1 / v : ℝ) : EReal))) * ((1 / N : ℝ) : EReal))
        = X * T * ((-(1 / 2) * (ρ * (1 / v)) * (1 / N) : ℝ) : EReal) := by
      intro _
      rw [EReal.coe_mul, EReal.coe_mul, EReal.coe_mul]
      ac_rfl
    rw [e1, mul_comm _ X, e2 0, add_assoc, add_assoc, mul_comm (ρ : EReal) A]
    congr 2
    have e3 : ∀ (z : EReal) (c : ℝ), z * (c : EReal) + z * (c : EReal) = z * ((2 * c : ℝ) : EReal) := by
      intro z c
      have h2 : (((2 : ℝ)) : EReal) = 1 + 1 := by rw [← EReal.coe_one, ← EReal.coe_add]; norm_num
      rw [EReal.coe_mul, mul_comm ((2 : ℝ) : EReal), ← mul_assoc, h2, mul_comm _ (1 + 1 : EReal),
        EReal.right_distrib_of_nonneg zero_le_one zero_le_one, one_mul]
    rw [e3]
    congr 2
    have h3 : ρ * (1 / v) = ρ * ρ * ρ := by
      field_simp
      nlinarith [hρv]
    rw [h3]
    ring

/-- A row's mean square, with the norm's epsilon. -/
def var (x : Fin 1024 → EReal) : EReal :=
  Ideal.div (∑ k, x k * x k) (Ideal.ofBits .f32 0x44800000#32) + Ideal.ofBits .f32 0x358637BD#32

/-- The kernel's gradient of one entry: `x` is the row, `a` the gradient of the scaled row, `X` and `A` their entries
    and `y` the residual's gradient. -/
def row (x : Fin 1024 → EReal) (y X A : EReal) (a : Fin 1024 → EReal) : EReal :=
  y + Ideal.rsqrt (var x) * (A - X * Ideal.rsqrt (var x)
    * Ideal.div (∑ k, a k * (x k * Ideal.rsqrt (var x))) (Ideal.ofBits .f32 0x44800000#32))

/-- It is what the chain rule makes of the forward lines. -/
theorem row_eq (x : Fin 1024 → EReal) (y X A : EReal) (a : Fin 1024 → EReal) :
    row x y X A a = y + A * Ideal.rsqrt (var x)
      + X * Ideal.div ((∑ k, x k * a k) * (Ideal.ofBits .f32 0xBF000000#32 * Ideal.div (Ideal.rsqrt (var x)) (var x))) (Ideal.ofBits .f32 0x44800000#32)
      + Ideal.div ((∑ k, x k * a k) * (Ideal.ofBits .f32 0xBF000000#32 * Ideal.div (Ideal.rsqrt (var x)) (var x))) (Ideal.ofBits .f32 0x44800000#32) * X := by
  obtain ⟨e, he, h⟩ := const_eps
  unfold row var
  rw [const_1024, const_neg_half, h]
  exact rms_grad x a y A X (by norm_num) he

end Cert.Proof.NormGrad
-- ==== Proof.UpNorm.lean ====
module

public import proofs.«01_k».proof.Proof.Gen.Kernel2Ideal.Frame
public import proofs.«01_k».proof.Proof.NormGrad
public import Idealize.ShloMosaic.Lib.Pipeline.Value
public import Idealize.ShloMosaic.Lib.Pointwise

@[expose] public section

set_option maxRecDepth 16384

noncomputable section

/-!
  The fused call that takes the feed-forward block's gradient back through its first product and its norm
  (`_up_norm2_bwd`): what one grid point leaves, as a function of its blocks.
-/

namespace Cert.Proof.UpNorm

open Idealize.ShloMosaic Idealize.ShloMosaic.TcCoe Idealize.SL.Sem
open Idealize.ShloMosaic.Pipeline (Dat)
open Cert.Kernel2Ideal Cert.Kernel2Ideal.Gen
open Cert.Proof.NormGrad (var row)

theorem hz2 : (![0, 0] : Fin 2 → Nat) = fun _ => 0 := funext fun a => by fin_cases a <;> rfl

/-- The gradient of the normed rows, for one block of rows: both halves' products. -/
def dh (x0 : Vec Ideal S2x512x2816 .bf16) (x1 : Vec Ideal S2x2816x1024 .bf16) (r : Fin 512) (l : Fin 1024) : EReal :=
  (∑ k : Fin 2816, x0 (ix3 0 r k) * x1 (ix3 0 k l)) + ∑ k : Fin 2816, x0 (ix3 1 r k) * x1 (ix3 1 k l)

/-- The block of the gradient of the norm's input, with the residual's. -/
def b5 (x0 : Vec Ideal S2x512x2816 .bf16) (x1 : Vec Ideal S2x2816x1024 .bf16) (x2 : Vec Ideal S512x1024 .f32) (x3 : Vec Ideal S512x1024 .f32) (x4 : Vec Ideal S1x1024 .f32) : Vec Ideal S512x1024 .f32 := fun j =>
  row (fun k => x2 (ix2 (j 0) k)) (x3 j) (x2 j) (dh x0 x1 (j 0) (j 1) * x4 (ix2 0 (j 1))) (fun k => dh x0 x1 (j 0) k * x4 (ix2 0 k))

/-- The block's part of the gradient of the norm's scale: the rows `s`, `8 + s`, … summed. -/
def b7 (x0 : Vec Ideal S2x512x2816 .bf16) (x1 : Vec Ideal S2x2816x1024 .bf16) (x2 : Vec Ideal S512x1024 .f32) (j : S8x1024.Idx) : EReal :=
  ∑ q : Fin 64, dh x0 x1 (⟨q.val * 8 + (j 0).val, by have : (j 0).val < 8 := (j 0).isLt; omega⟩ : Fin 512) (j 1)
    * (x2 (ix2 (⟨q.val * 8 + (j 0).val, by have : (j 0).val < 8 := (j 0).isLt; omega⟩ : Fin 512) (j 1))
      * Ideal.rsqrt (var fun k => x2 (ix2 (⟨q.val * 8 + (j 0).val, by have : (j 0).val < 8 := (j 0).isLt; omega⟩ : Fin 512) k)))

theorem b5_eq (x0 : Vec Ideal S2x512x2816 .bf16) (x1 : Vec Ideal S2x2816x1024 .bf16) (x2 : Vec Ideal S512x1024 .f32) (x3 : Vec Ideal S512x1024 .f32) (x4 : Vec Ideal S1x1024 .f32) (j : S512x1024.Idx) :
    k0_pay1 (k0_pay6 x2) x3
      (k0_pay8 (View.ld x0 (Rect.unit ![0, 0, 0] S1x512x2816.size inb_S2x512x2816_S1x512x2816_0_0_0))
        (View.ld x1 (Rect.unit ![0, 0, 0] S1x2816x1024.size inb_S2x2816x1024_S1x2816x1024_0_0_0))
        (View.ld x0 (Rect.unit ![1, 0, 0] S1x512x2816.size inb_S2x512x2816_S1x512x2816_1_0_0))
        (View.ld x1 (Rect.unit ![1, 0, 0] S1x2816x1024.size inb_S2x2816x1024_S1x2816x1024_1_0_0)) x2 x4) j
      = b5 x0 x1 x2 x3 x4 j := by
  pointwise [k0_pay1, k0_pay8, k0_pay7, k0_pay6, k0_pay5, b5, row, var, dh]

theorem b6_eq (x0 : Vec Ideal S2x512x2816 .bf16) (x1 : Vec Ideal S2x2816x1024 .bf16) (x2 : Vec Ideal S512x1024 .f32) (x3 : Vec Ideal S512x1024 .f32) (x4 : Vec Ideal S1x1024 .f32) (j : S512x1024.Idx) :
    k0_pay2 (k0_pay6 x2) x3
      (k0_pay8 (View.ld x0 (Rect.unit ![0, 0, 0] S1x512x2816.size inb_S2x512x2816_S1x512x2816_0_0_0))
        (View.ld x1 (Rect.unit ![0, 0, 0] S1x2816x1024.size inb_S2x2816x1024_S1x2816x1024_0_0_0))
        (View.ld x0 (Rect.unit ![1, 0, 0] S1x512x2816.size inb_S2x512x2816_S1x512x2816_1_0_0))
        (View.ld x1 (Rect.unit ![1, 0, 0] S1x2816x1024.size inb_S2x2816x1024_S1x2816x1024_1_0_0)) x2 x4) j
      = b5 x0 x1 x2 x3 x4 j := b5_eq x0 x1 x2 x3 x4 j

theorem b7_eq (x0 : Vec Ideal S2x512x2816 .bf16) (x1 : Vec Ideal S2x2816x1024 .bf16) (x2 : Vec Ideal S512x1024 .f32) (xo7 : Vec Ideal S8x1024 .f32) (j : S8x1024.Idx) :
    k0_pay4 (k0_pay5 (View.ld x0 (Rect.unit ![0, 0, 0] S1x512x2816.size inb_S2x512x2816_S1x512x2816_0_0_0))
        (View.ld x1 (Rect.unit ![0, 0, 0] S1x2816x1024.size inb_S2x2816x1024_S1x2816x1024_0_0_0))
        (View.ld x0 (Rect.unit ![1, 0, 0] S1x512x2816.size inb_S2x512x2816_S1x512x2816_1_0_0))
        (View.ld x1 (Rect.unit ![1, 0, 0] S1x2816x1024.size inb_S2x2816x1024_S1x2816x1024_1_0_0))) (k0_pay7 x2) xo7 j
      = xo7 j + b7 x0 x1 x2 j := by
  pointwise [k0_pay4, k0_pay7, k0_pay6, k0_pay5, b7, var, dh]

theorem b7_eq_zero (x0 : Vec Ideal S2x512x2816 .bf16) (x1 : Vec Ideal S2x2816x1024 .bf16) (x2 : Vec Ideal S512x1024 .f32) (j : S8x1024.Idx) :
    k0_pay4 (k0_pay5 (View.ld x0 (Rect.unit ![0, 0, 0] S1x512x2816.size inb_S2x512x2816_S1x512x2816_0_0_0))
        (View.ld x1 (Rect.unit ![0, 0, 0] S1x2816x1024.size inb_S2x2816x1024_S1x2816x1024_0_0_0))
        (View.ld x0 (Rect.unit ![1, 0, 0] S1x512x2816.size inb_S2x512x2816_S1x512x2816_1_0_0))
        (View.ld x1 (Rect.unit ![1, 0, 0] S1x2816x1024.size inb_S2x2816x1024_S1x2816x1024_1_0_0))) (k0_pay7 x2) (k0_pay3 (F := Ideal)) j
      = b7 x0 x1 x2 j := by
  rw [b7_eq]
  have h : (k0_pay3 (F := Ideal) : Vec Ideal S8x1024 .f32) j = 0 := by pointwise [k0_pay3]
  rw [h, zero_add]

theorem out_A5 (c : Dev nD) (i : grid0.Coords) (a1 : Memref sig .tc .vmem S2x512x2816 .bf16) (h1 : a1.IsWhole) (a2 : Memref sig .tc .vmem S2x2816x1024 .bf16) (h2 : a2.IsWhole) (a3 : Memref sig .tc .vmem S512x1024 .f32) (h3 : a3.IsWhole) (a4 : Memref sig .tc .vmem S512x1024 .f32) (h4 : a4.IsWhole) (a5 : Memref sig .tc .vmem S1x1024 .f32) (h5 : a5.IsWhole) (a7 : Memref sig .tc .vmem S512x1024 .f32) (h7 : a7.IsWhole) (a8 : Memref sig .tc .vmem S512x1024 .bf16) (h8 : a8.IsWhole) (a9 : Memref sig .tc .vmem S8x1024 .f32) (h9 : a9.IsWhole) (hc : cond0_0 i)
    (x0 : Vec Ideal S2x512x2816 .bf16) (x1 : Vec Ideal S2x2816x1024 .bf16) (x2 : Vec Ideal S512x1024 .f32) (x3 : Vec Ideal S512x1024 .f32) (x4 : Vec Ideal S1x1024 .f32) :
    out0_A_5 c i a1 h1 a2 h2 a3 h3 a4 h4 a5 h5 a7 h7 a8 h8 a9 h9 hc x0 x1 x2 x3 x4 = b5 x0 x1 x2 x3 x4 := by
  funext j
  unfold out0_A_5
  rw [View.read_writes_eq_canon _ _ _ (cover0_A_5 c i a1 h1 a2 h2 a3 h3 a4 h4 a5 h5 a7 h7 a8 h8 a9 h9 hc x0 x1 x2 x3 x4)]
  unfold kernelRun0_A
  dsimp only
  sl_unfold_words
  rw [View.canon_unit_zero hz2]
  simp only [View.readAt_eq_ld, h1.read_unread, h2.read_unread, h3.read_unread, h4.read_unread, h5.read_unread, h9.read_unread, View.ld_unit_zero (S := S512x1024) hz2, View.ld_unit_zero (S := S1x1024) hz2, View.ld_unit_zero (S := S8x1024) hz2]
  exact b5_eq x0 x1 x2 x3 x4 j

theorem out_A6 (c : Dev nD) (i : grid0.Coords) (a1 : Memref sig .tc .vmem S2x512x2816 .bf16) (h1 : a1.IsWhole) (a2 : Memref sig .tc .vmem S2x2816x1024 .bf16) (h2 : a2.IsWhole) (a3 : Memref sig .tc .vmem S512x1024 .f32) (h3 : a3.IsWhole) (a4 : Memref sig .tc .vmem S512x1024 .f32) (h4 : a4.IsWhole) (a5 : Memref sig .tc .vmem S1x1024 .f32) (h5 : a5.IsWhole) (a7 : Memref sig .tc .vmem S512x1024 .f32) (h7 : a7.IsWhole) (a8 : Memref sig .tc .vmem S512x1024 .bf16) (h8 : a8.IsWhole) (a9 : Memref sig .tc .vmem S8x1024 .f32) (h9 : a9.IsWhole) (hc : cond0_0 i)
    (x0 : Vec Ideal S2x512x2816 .bf16) (x1 : Vec Ideal S2x2816x1024 .bf16) (x2 : Vec Ideal S512x1024 .f32) (x3 : Vec Ideal S512x1024 .f32) (x4 : Vec Ideal S1x1024 .f32) :
    out0_A_6 c i a1 h1 a2 h2 a3 h3 a4 h4 a5 h5 a7 h7 a8 h8 a9 h9 hc x0 x1 x2 x3 x4 = b5 x0 x1 x2 x3 x4 := by
  funext j
  unfold out0_A_6
  rw [View.read_writes_eq_canon _ _ _ (cover0_A_6 c i a1 h1 a2 h2 a3 h3 a4 h4 a5 h5 a7 h7 a8 h8 a9 h9 hc x0 x1 x2 x3 x4)]
  unfold kernelRun0_A
  dsimp only
  sl_unfold_words
  rw [View.canon_unit_zero hz2]
  simp only [View.readAt_eq_ld, h1.read_unread, h2.read_unread, h3.read_unread, h4.read_unread, h5.read_unread, h9.read_unread, View.ld_unit_zero (S := S512x1024) hz2, View.ld_unit_zero (S := S1x1024) hz2, View.ld_unit_zero (S := S8x1024) hz2]
  exact b6_eq x0 x1 x2 x3 x4 j

theorem out_A7 (c : Dev nD) (i : grid0.Coords) (a1 : Memref sig .tc .vmem S2x512x2816 .bf16) (h1 : a1.IsWhole) (a2 : Memref sig .tc .vmem S2x2816x1024 .bf16) (h2 : a2.IsWhole) (a3 : Memref sig .tc .vmem S512x1024 .f32) (h3 : a3.IsWhole) (a4 : Memref sig .tc .vmem S512x1024 .f32) (h4 : a4.IsWhole) (a5 : Memref sig .tc .vmem S1x1024 .f32) (h5 : a5.IsWhole) (a7 : Memref sig .tc .vmem S512x1024 .f32) (h7 : a7.IsWhole) (a8 : Memref sig .tc .vmem S512x1024 .bf16) (h8 : a8.IsWhole) (a9 : Memref sig .tc .vmem S8x1024 .f32) (h9 : a9.IsWhole) (hc : cond0_0 i)
    (x0 : Vec Ideal S2x512x2816 .bf16) (x1 : Vec Ideal S2x2816x1024 .bf16) (x2 : Vec Ideal S512x1024 .f32) (x3 : Vec Ideal S512x1024 .f32) (x4 : Vec Ideal S1x1024 .f32) :
    out0_A_7 c i a1 h1 a2 h2 a3 h3 a4 h4 a5 h5 a7 h7 a8 h8 a9 h9 hc x0 x1 x2 x3 x4 = fun j => b7 x0 x1 x2 j := by
  funext j
  unfold out0_A_7
  rw [View.read_writes_eq_canon _ _ _ (cover0_A_7 c i a1 h1 a2 h2 a3 h3 a4 h4 a5 h5 a7 h7 a8 h8 a9 h9 hc x0 x1 x2 x3 x4)]
  unfold kernelRun0_A
  dsimp only
  sl_unfold_words
  rw [View.canon_cons_unit_zero (S := S8x1024) hz2, View.readCov_unit_zero _ hz2]
  simp only [View.readAt_eq_ld, h1.read_unread, h2.read_unread, h3.read_unread, h4.read_unread, h5.read_unread, h9.read_unread, View.ld_unit_zero (S := S512x1024) hz2, View.ld_unit_zero (S := S1x1024) hz2, View.ld_unit_zero (S := S8x1024) hz2]
  exact b7_eq_zero x0 x1 x2 j

theorem out_B5 (c : Dev nD) (i : grid0.Coords) (a1 : Memref sig .tc .vmem S2x512x2816 .bf16) (h1 : a1.IsWhole) (a2 : Memref sig .tc .vmem S2x2816x1024 .bf16) (h2 : a2.IsWhole) (a3 : Memref sig .tc .vmem S512x1024 .f32) (h3 : a3.IsWhole) (a4 : Memref sig .tc .vmem S512x1024 .f32) (h4 : a4.IsWhole) (a5 : Memref sig .tc .vmem S1x1024 .f32) (h5 : a5.IsWhole) (a7 : Memref sig .tc .vmem S512x1024 .f32) (h7 : a7.IsWhole) (a8 : Memref sig .tc .vmem S512x1024 .bf16) (h8 : a8.IsWhole) (a9 : Memref sig .tc .vmem S8x1024 .f32) (h9 : a9.IsWhole) (hc : ¬cond0_0 i)
    (x0 : Vec Ideal S2x512x2816 .bf16) (x1 : Vec Ideal S2x2816x1024 .bf16) (x2 : Vec Ideal S512x1024 .f32) (x3 : Vec Ideal S512x1024 .f32) (x4 : Vec Ideal S1x1024 .f32) (xo7 : Vec Ideal S8x1024 .f32) :
    out0_B_5 c i a1 h1 a2 h2 a3 h3 a4 h4 a5 h5 a7 h7 a8 h8 a9 h9 hc x0 x1 x2 x3 x4 xo7 = b5 x0 x1 x2 x3 x4 := by
  funext j
  unfold out0_B_5
  rw [View.read_writes_eq_canon _ _ _ (cover0_B_5 c i a1 h1 a2 h2 a3 h3 a4 h4 a5 h5 a7 h7 a8 h8 a9 h9 hc x0 x1 x2 x3 x4 xo7)]
  unfold kernelRun0_B
  dsimp only
  sl_unfold_words
  rw [View.canon_unit_zero hz2]
  simp only [View.readAt_eq_ld, h1.read_unread, h2.read_unread, h3.read_unread, h4.read_unread, h5.read_unread, h9.read_unread, View.ld_unit_zero (S := S512x1024) hz2, View.ld_unit_zero (S := S1x1024) hz2, View.ld_unit_zero (S := S8x1024) hz2]
  exact b5_eq x0 x1 x2 x3 x4 j

theorem out_B6 (c : Dev nD) (i : grid0.Coords) (a1 : Memref sig .tc .vmem S2x512x2816 .bf16) (h1 : a1.IsWhole) (a2 : Memref sig .tc .vmem S2x2816x1024 .bf16) (h2 : a2.IsWhole) (a3 : Memref sig .tc .vmem S512x1024 .f32) (h3 : a3.IsWhole) (a4 : Memref sig .tc .vmem S512x1024 .f32) (h4 : a4.IsWhole) (a5 : Memref sig .tc .vmem S1x1024 .f32) (h5 : a5.IsWhole) (a7 : Memref sig .tc .vmem S512x1024 .f32) (h7 : a7.IsWhole) (a8 : Memref sig .tc .vmem S512x1024 .bf16) (h8 : a8.IsWhole) (a9 : Memref sig .tc .vmem S8x1024 .f32) (h9 : a9.IsWhole) (hc : ¬cond0_0 i)
    (x0 : Vec Ideal S2x512x2816 .bf16) (x1 : Vec Ideal S2x2816x1024 .bf16) (x2 : Vec Ideal S512x1024 .f32) (x3 : Vec Ideal S512x1024 .f32) (x4 : Vec Ideal S1x1024 .f32) (xo7 : Vec Ideal S8x1024 .f32) :
    out0_B_6 c i a1 h1 a2 h2 a3 h3 a4 h4 a5 h5 a7 h7 a8 h8 a9 h9 hc x0 x1 x2 x3 x4 xo7 = b5 x0 x1 x2 x3 x4 := by
  funext j
  unfold out0_B_6
  rw [View.read_writes_eq_canon _ _ _ (cover0_B_6 c i a1 h1 a2 h2 a3 h3 a4 h4 a5 h5 a7 h7 a8 h8 a9 h9 hc x0 x1 x2 x3 x4 xo7)]
  unfold kernelRun0_B
  dsimp only
  sl_unfold_words
  rw [View.canon_unit_zero hz2]
  simp only [View.readAt_eq_ld, h1.read_unread, h2.read_unread, h3.read_unread, h4.read_unread, h5.read_unread, h9.read_unread, View.ld_unit_zero (S := S512x1024) hz2, View.ld_unit_zero (S := S1x1024) hz2, View.ld_unit_zero (S := S8x1024) hz2]
  exact b6_eq x0 x1 x2 x3 x4 j

theorem out_B7 (c : Dev nD) (i : grid0.Coords) (a1 : Memref sig .tc .vmem S2x512x2816 .bf16) (h1 : a1.IsWhole) (a2 : Memref sig .tc .vmem S2x2816x1024 .bf16) (h2 : a2.IsWhole) (a3 : Memref sig .tc .vmem S512x1024 .f32) (h3 : a3.IsWhole) (a4 : Memref sig .tc .vmem S512x1024 .f32) (h4 : a4.IsWhole) (a5 : Memref sig .tc .vmem S1x1024 .f32) (h5 : a5.IsWhole) (a7 : Memref sig .tc .vmem S512x1024 .f32) (h7 : a7.IsWhole) (a8 : Memref sig .tc .vmem S512x1024 .bf16) (h8 : a8.IsWhole) (a9 : Memref sig .tc .vmem S8x1024 .f32) (h9 : a9.IsWhole) (hc : ¬cond0_0 i)
    (x0 : Vec Ideal S2x512x2816 .bf16) (x1 : Vec Ideal S2x2816x1024 .bf16) (x2 : Vec Ideal S512x1024 .f32) (x3 : Vec Ideal S512x1024 .f32) (x4 : Vec Ideal S1x1024 .f32) (xo7 : Vec Ideal S8x1024 .f32) :
    out0_B_7 c i a1 h1 a2 h2 a3 h3 a4 h4 a5 h5 a7 h7 a8 h8 a9 h9 hc x0 x1 x2 x3 x4 xo7 = fun j => xo7 j + b7 x0 x1 x2 j := by
  funext j
  unfold out0_B_7
  rw [View.read_writes_eq_canon _ _ _ (cover0_B_7 c i a1 h1 a2 h2 a3 h3 a4 h4 a5 h5 a7 h7 a8 h8 a9 h9 hc x0 x1 x2 x3 x4 xo7)]
  unfold kernelRun0_B
  dsimp only
  sl_unfold_words
  rw [View.canon_unit_zero hz2]
  simp only [View.readAt_eq_ld, h1.read_unread, h2.read_unread, h3.read_unread, h4.read_unread, h5.read_unread, h9.read_unread, View.ld_unit_zero (S := S512x1024) hz2, View.ld_unit_zero (S := S1x1024) hz2, View.ld_unit_zero (S := S8x1024) hz2]
  exact b7_eq x0 x1 x2 xo7 j

variable (m : (ℓ : Loc nD τ sig) → Buf (Elt Ideal) ℓ) (ρ : Dev nD → PrngReg)

theorem idx_in (t : Fin cfg0.N) : win0_0.index t 0 = 0 ∧ win0_0.index t 1 = t.val ∧ win0_0.index t 2 = 0
    ∧ win0_1.index t 0 = 0 ∧ win0_1.index t 1 = 0 ∧ win0_1.index t 2 = 0 ∧ win0_2.index t 0 = t.val ∧ win0_2.index t 1 = 0
    ∧ win0_3.index t 0 = t.val ∧ win0_3.index t 1 = 0 ∧ win0_4.index t 0 = 0 ∧ win0_4.index t 1 = 0 := by
  rcases fin_N0 t with rfl | rfl | rfl | rfl | rfl | rfl | rfl | rfl <;> decide

theorem idx_out (t : Fin cfg0.N) : win0_5.index t 0 = t.val ∧ win0_5.index t 1 = 0 ∧ win0_6.index t 0 = t.val ∧ win0_6.index t 1 = 0
    ∧ win0_7.index t 0 = 0 ∧ win0_7.index t 1 = 0 := by
  rcases fin_N0 t with rfl | rfl | rfl | rfl | rfl | rfl | rfl | rfl <;> decide

theorem V_w (c : Dev nD) : V m c main_v0 = shapeCast S2x2816x1024 (m ((c : Thread nD τ).loc main_arg1) : Vec Ideal S5632x1024 .bf16) shapeCasts_S5632x1024_S2x2816x1024 := by
  rfl

theorem blk0 (c : Dev nD) (t : Fin cfg0.N) (s : Fin 2) (r : Fin 512) (k : Fin 2816) :
    iblk m c 0 t (ix3 s r k) = m ((c : Thread nD τ).loc main_arg0) (ix3 s (⟨512 * t.val + r.val, by have : t.val < 8 := t.isLt; omega⟩ : Fin 4096) k) := by
  obtain ⟨h0, h1, h2, -⟩ := idx_in t
  unfold iblk
  rw [View.read_apply]
  show V m c main_arg0 _ = _
  rw [V_main_arg0]
  congr 1
  funext a
  apply Fin.ext
  match a with
  | ⟨0, _⟩ => show win0_0.index t 0 * 2 + 1 * s.val = s.val; rw [h0]; omega
  | ⟨1, _⟩ => show win0_0.index t 1 * 512 + 1 * r.val = 512 * t.val + r.val; rw [h1]; omega
  | ⟨2, _⟩ => show win0_0.index t 2 * 2816 + 1 * k.val = k.val; rw [h2]; omega

theorem w_at (w : Vec Ideal S5632x1024 .bf16) (s : Fin 2) (k : Fin 2816) (l : Fin 1024) :
    shapeCast S2x2816x1024 w shapeCasts_S5632x1024_S2x2816x1024 (ix3 s k l) = w (ix2 (⟨s.val * 2816 + k.val, by omega⟩ : Fin 5632) l) := by
  pointwise []

theorem blk1 (c : Dev nD) (t : Fin cfg0.N) (s : Fin 2) (k : Fin 2816) (l : Fin 1024) :
    iblk m c 1 t (ix3 s k l) = m ((c : Thread nD τ).loc main_arg1) (ix2 (⟨s.val * 2816 + k.val, by omega⟩ : Fin 5632) l) := by
  obtain ⟨-, -, -, h0, h1, h2, -⟩ := idx_in t
  unfold iblk
  rw [View.read_apply]
  have e : ((cfg0.win 1).blk t).view.emb (ix3 s k l) = ix3 s k l := by
    funext a
    apply Fin.ext
    match a with
    | ⟨0, _⟩ => show win0_1.index t 0 * 2 + 1 * s.val = s.val; rw [h0]; omega
    | ⟨1, _⟩ => show win0_1.index t 1 * 2816 + 1 * k.val = k.val; rw [h1]; omega
    | ⟨2, _⟩ => show win0_1.index t 2 * 1024 + 1 * l.val = l.val; rw [h2]; omega
  rw [e]
  show V m c main_v0 _ = _
  rw [V_w]
  exact w_at _ s k l

theorem blk2 (c : Dev nD) (t : Fin cfg0.N) (r : Fin 512) (l : Fin 1024) :
    iblk m c 2 t (ix2 r l) = m ((c : Thread nD τ).loc main_arg2) (ix2 (⟨512 * t.val + r.val, by have : t.val < 8 := t.isLt; omega⟩ : Fin 4096) l) := by
  obtain ⟨-, -, -, -, -, -, h0, h1, -⟩ := idx_in t
  unfold iblk
  rw [View.read_apply]
  show V m c main_arg2 _ = _
  rw [V_main_arg2]
  congr 1
  funext a
  apply Fin.ext
  match a with
  | ⟨0, _⟩ => show win0_2.index t 0 * 512 + 1 * r.val = 512 * t.val + r.val; rw [h0]; omega
  | ⟨1, _⟩ => show win0_2.index t 1 * 1024 + 1 * l.val = l.val; rw [h1]; omega

theorem blk3 (c : Dev nD) (t : Fin cfg0.N) (r : Fin 512) (l : Fin 1024) :
    iblk m c 3 t (ix2 r l) = m ((c : Thread nD τ).loc main_arg3) (ix2 (⟨512 * t.val + r.val, by have : t.val < 8 := t.isLt; omega⟩ : Fin 4096) l) := by
  obtain ⟨-, -, -, -, -, -, -, -, h0, h1, -⟩ := idx_in t
  unfold iblk
  rw [View.read_apply]
  show V m c main_arg3 _ = _
  rw [V_main_arg3]
  congr 1
  funext a
  apply Fin.ext
  match a with
  | ⟨0, _⟩ => show win0_3.index t 0 * 512 + 1 * r.val = 512 * t.val + r.val; rw [h0]; omega
  | ⟨1, _⟩ => show win0_3.index t 1 * 1024 + 1 * l.val = l.val; rw [h1]; omega

theorem blk4 (c : Dev nD) (t : Fin cfg0.N) (l : Fin 1024) :
    iblk m c 4 t (ix2 0 l) = m ((c : Thread nD τ).loc main_arg4) (ix2 0 l) := by
  obtain ⟨-, -, -, -, -, -, -, -, -, -, h0, h1⟩ := idx_in t
  unfold iblk
  rw [View.read_apply]
  show V m c main_arg4 _ = _
  rw [V_main_arg4]
  congr 1
  funext a
  apply Fin.ext
  match a with
  | ⟨0, _⟩ => show win0_4.index t 0 * 1 + 1 * 0 = 0; rw [h0]
  | ⟨1, _⟩ => show win0_4.index t 1 * 1024 + 1 * l.val = l.val; rw [h1]; omega

/-! ## The whole arrays -/

/-- The gradient of the normed rows. -/
def dhG (du : Vec Ideal S2x4096x2816 .bf16) (w : Vec Ideal S5632x1024 .bf16) (r : Fin 4096) (l : Fin 1024) : EReal :=
  (∑ k : Fin 2816, du (ix3 0 r k) * w (ix2 (⟨k.val, by omega⟩ : Fin 5632) l))
    + ∑ k : Fin 2816, du (ix3 1 r k) * w (ix2 (⟨2816 + k.val, by omega⟩ : Fin 5632) l)

/-- The gradient of the norm's input. -/
def dxG (du : Vec Ideal S2x4096x2816 .bf16) (w : Vec Ideal S5632x1024 .bf16) (x y : Vec Ideal S4096x1024 .f32) (g : Vec Ideal S1x1024 .f32) :
    Vec Ideal S4096x1024 .f32 := fun i =>
  row (fun k => x (ix2 (i 0) k)) (y i) (x i) (dhG du w (i 0) (i 1) * g (ix2 0 (i 1))) (fun k => dhG du w (i 0) k * g (ix2 0 k))

/-- One token's part of the gradient of the norm's scale. -/
def dgT (du : Vec Ideal S2x4096x2816 .bf16) (w : Vec Ideal S5632x1024 .bf16) (x : Vec Ideal S4096x1024 .f32) (r : Fin 4096) (l : Fin 1024) : EReal :=
  dhG du w r l * (x (ix2 r l) * Ideal.rsqrt (var fun k => x (ix2 r k)))

/-- What the call leaves of it: eight rows, each the sum over every eighth token. -/
def dg8 (du : Vec Ideal S2x4096x2816 .bf16) (w : Vec Ideal S5632x1024 .bf16) (x : Vec Ideal S4096x1024 .f32) : Vec Ideal S8x1024 .f32 := fun i =>
  ∑ t : Fin 8, ∑ q : Fin 64, dgT du w x (⟨512 * t.val + (q.val * 8 + (i 0).val), by have : (i 0).val < 8 := (i 0).isLt; omega⟩ : Fin 4096) (i 1)

theorem dh_blk (c : Dev nD) (t : Fin cfg0.N) (r : Fin 512) (l : Fin 1024) : dh (iblk m c 0 t) (iblk m c 1 t) r l
    = dhG (m ((c : Thread nD τ).loc main_arg0)) (m ((c : Thread nD τ).loc main_arg1)) (⟨512 * t.val + r.val, by have : t.val < 8 := t.isLt; omega⟩ : Fin 4096) l := by
  unfold dh dhG
  congr 1
  · exact Finset.sum_congr rfl fun k _ => by
      rw [blk0, blk1]
      have e : (⟨(0 : Fin 2).val * 2816 + k.val, by show 0 * 2816 + k.val < 5632; omega⟩ : Fin 5632) = ⟨k.val, by omega⟩ :=
        Fin.ext (by show 0 * 2816 + k.val = k.val; omega)
      rw [e]
  · exact Finset.sum_congr rfl fun k _ => by
      rw [blk0, blk1]
      have e : (⟨(1 : Fin 2).val * 2816 + k.val, by show 1 * 2816 + k.val < 5632; omega⟩ : Fin 5632) = ⟨2816 + k.val, by omega⟩ :=
        Fin.ext (by show 1 * 2816 + k.val = 2816 + k.val; omega)
      rw [e]

theorem b5_congr (x0 : Vec Ideal S2x512x2816 .bf16) (x1 : Vec Ideal S2x2816x1024 .bf16) (x2 : Vec Ideal S512x1024 .f32) (x3 : Vec Ideal S512x1024 .f32) (x4 : Vec Ideal S1x1024 .f32)
    (du : Vec Ideal S2x4096x2816 .bf16) (w : Vec Ideal S5632x1024 .bf16) (x y : Vec Ideal S4096x1024 .f32) (g : Vec Ideal S1x1024 .f32) (R : Fin 4096) (j : S512x1024.Idx)
    (hd : ∀ k, dh x0 x1 (j 0) k = dhG du w R k) (h2 : ∀ k : Fin 1024, x2 (ix2 (j 0 : Fin 512) k) = x (ix2 R k)) (h2' : x2 j = x (ix2 R (j 1)))
    (h3 : x3 j = y (ix2 R (j 1))) (h4 : ∀ k : Fin 1024, x4 (ix2 0 k) = g (ix2 0 k)) :
    b5 x0 x1 x2 x3 x4 j = dxG du w x y g (ix2 R (j 1)) := by
  unfold b5 dxG
  rw [h2', h3, hd (j 1), h4 (j 1)]
  simp only [hd, h4, h2]
  rfl

theorem b5_blk (c : Dev nD) (t : Fin cfg0.N) (j : S512x1024.Idx) : b5 (iblk m c 0 t) (iblk m c 1 t) (iblk m c 2 t) (iblk m c 3 t) (iblk m c 4 t) j
    = dxG (m ((c : Thread nD τ).loc main_arg0)) (m ((c : Thread nD τ).loc main_arg1)) (m ((c : Thread nD τ).loc main_arg2))
        (m ((c : Thread nD τ).loc main_arg3)) (m ((c : Thread nD τ).loc main_arg4))
        (ix2 (⟨512 * t.val + (j 0).val, by have : t.val < 8 := t.isLt; have : (j 0).val < 512 := (j 0).isLt; omega⟩ : Fin 4096) (j 1)) := by
  have e : j = ix2 (j 0 : Fin 512) (j 1 : Fin 1024) := by funext a; match a with | ⟨0, _⟩ => rfl | ⟨1, _⟩ => rfl
  have h2 : ∀ k : Fin 1024, iblk m c 2 t (ix2 (j 0 : Fin 512) k) = _ := fun k => blk2 m c t (j 0) k
  have h3 := (congrArg (iblk m c 3 t) e).trans (blk3 m c t (j 0) (j 1))
  have h4 : ∀ k : Fin 1024, iblk m c 4 t (ix2 0 k) = _ := fun k => blk4 m c t k
  have hd : ∀ k : Fin 1024, dh (iblk m c 0 t) (iblk m c 1 t) (j 0) k = _ := fun k => dh_blk m c t (j 0) k
  have h2' := (congrArg (iblk m c 2 t) e).trans (blk2 m c t (j 0) (j 1))
  exact b5_congr (iblk m c 0 t) (iblk m c 1 t) (iblk m c 2 t) (iblk m c 3 t) (iblk m c 4 t) _ _ _ _ _ _ j hd h2 h2' h3 h4

theorem b7_blk (c : Dev nD) (t : Fin cfg0.N) (j : S8x1024.Idx) : b7 (iblk m c 0 t) (iblk m c 1 t) (iblk m c 2 t) j
    = ∑ q : Fin 64, dgT (m ((c : Thread nD τ).loc main_arg0)) (m ((c : Thread nD τ).loc main_arg1)) (m ((c : Thread nD τ).loc main_arg2))
        (⟨512 * t.val + (q.val * 8 + (j 0).val), by have : t.val < 8 := t.isLt; have : (j 0).val < 8 := (j 0).isLt; omega⟩ : Fin 4096) (j 1) := by
  unfold b7 dgT
  refine Finset.sum_congr rfl fun q _ => ?_
  have hq : q.val * 8 + (j 0).val < 512 := by have : (j 0).val < 8 := (j 0).isLt; omega
  have h2 : ∀ k : Fin 1024, iblk m c 2 t (ix2 (⟨q.val * 8 + (j 0).val, hq⟩ : Fin 512) k) = _ := fun k => blk2 m c t ⟨q.val * 8 + (j 0).val, hq⟩ k
  have hd := dh_blk m c t ⟨q.val * 8 + (j 0).val, hq⟩ (j 1)
  rw [hd]
  congr 1
  refine congrArg₂ (fun a b => a * Ideal.rsqrt (var b)) (h2 (j 1)) (funext fun k => h2 k)

theorem out5 (c : Dev nD) (t : Fin cfg0.N) : (outsAt0 m c t.val t.isLt).1 = b5 (iblk m c 0 t) (iblk m c 1 t) (iblk m c 2 t) (iblk m c 3 t) (iblk m c 4 t) := by
  by_cases h0 : t.val % 8 = 0
  · rw [outsAt0_A m c t h0]; dsimp only; rw [out_A5]
  · rw [outsAt0_B m c t h0]; dsimp only; rw [out_B5]

theorem out6 (c : Dev nD) (t : Fin cfg0.N) : (outsAt0 m c t.val t.isLt).2.1 = b5 (iblk m c 0 t) (iblk m c 1 t) (iblk m c 2 t) (iblk m c 3 t) (iblk m c 4 t) := by
  by_cases h0 : t.val % 8 = 0
  · rw [outsAt0_A m c t h0]; dsimp only; rw [out_A6]
  · rw [outsAt0_B m c t h0]; dsimp only; rw [out_B6]

theorem out7 (c : Dev nD) : ∀ (n : ℕ) (hn : n < cfg0.N), (outsAt0 m c n hn).2.2 = fun j => ∑ t : Fin (n + 1),
    b7 (iblk m c 0 ⟨t.val, Nat.lt_of_le_of_lt (Nat.le_of_lt_succ t.isLt) hn⟩) (iblk m c 1 ⟨t.val, Nat.lt_of_le_of_lt (Nat.le_of_lt_succ t.isLt) hn⟩)
      (iblk m c 2 ⟨t.val, Nat.lt_of_le_of_lt (Nat.le_of_lt_succ t.isLt) hn⟩) j
  | 0, hn => by
    have h := outsAt0_A m c ⟨0, hn⟩ rfl
    dsimp only at h
    rw [h]
    dsimp only
    rw [out_A7]
    funext j
    rw [Fin.sum_univ_one]
    rfl
  | n + 1, hn => by
    have h8 : n + 1 < 8 := hn
    have h := outsAt0_B m c ⟨n + 1, hn⟩ (by show ¬(n + 1) % 8 = 0; omega)
    dsimp only at h
    rw [h]
    dsimp only
    rw [out_B7]
    funext j
    have ih := out7 c n (Nat.lt_of_succ_lt hn)
    rw [Fin.sum_univ_castSucc]
    refine congrArg (· + _) ?_
    exact congrFun ih j

theorem flushed5 (c : Dev nD) (t : Fin cfg0.N) (_ : (cfg0.win 5).flush t = true) :
    (dats m 0 c).flushed 5 t = ((cfg0.win 5).blk t).view.read (Elt Ideal)
      (dxG (m ((c : Thread nD τ).loc main_arg0)) (m ((c : Thread nD τ).loc main_arg1)) (m ((c : Thread nD τ).loc main_arg2))
        (m ((c : Thread nD τ).loc main_arg3)) (m ((c : Thread nD τ).loc main_arg4))) := by
  obtain ⟨h0, h1, -⟩ := idx_out t
  show (dats m 0 c).after 5 t = _
  rw [after0_5, out5]
  funext j
  rw [View.read_apply, b5_blk]
  congr 1
  funext a
  apply Fin.ext
  match a with
  | ⟨0, _⟩ => show 512 * t.val + (j 0).val = win0_5.index t 0 * 512 + 1 * (j 0).val; rw [h0]; omega
  | ⟨1, _⟩ => show (j 1).val = win0_5.index t 1 * 1024 + 1 * (j 1).val; rw [h1]; omega

theorem final5 (c : Dev nD) : (dats m 0 c).arrAt 5 cfg0.N
    = dxG (m ((c : Thread nD τ).loc main_arg0)) (m ((c : Thread nD τ).loc main_arg1)) (m ((c : Thread nD τ).loc main_arg2))
        (m ((c : Thread nD τ).loc main_arg3)) (m ((c : Thread nD τ).loc main_arg4)) :=
  (dats m 0 c).arrAt_eq_of_cover 5 _ (flushed5 m c) fun i => by
    have h0 : (i 0 : Nat) < 4096 := (i 0).isLt
    have h1 : (i 1 : Nat) < 1024 := (i 1).isLt
    have hN : (i 0).val / 512 < cfg0.N := by show _ < 8; omega
    refine ⟨⟨(i 0).val / 512, hN⟩, flush0_5 _, ?_⟩
    obtain ⟨h20, h21, -⟩ := idx_out ⟨(i 0).val / 512, hN⟩
    show i ∈ ((View.whole main_v1_0).slice (win0_5.rect ⟨(i 0).val / 512, hN⟩)).set
    rw [View.set_slice_whole, Rect.mem_set_unit]
    intro a
    match a with
    | ⟨0, _⟩ => show win0_5.index _ 0 * 512 ≤ (i 0 : Nat) ∧ (i 0 : Nat) < win0_5.index _ 0 * 512 + 512; rw [h20]; dsimp only; omega
    | ⟨1, _⟩ => show win0_5.index _ 1 * 1024 ≤ (i 1 : Nat) ∧ (i 1 : Nat) < win0_5.index _ 1 * 1024 + 1024; rw [h21]; omega

theorem flushed6 (c : Dev nD) (t : Fin cfg0.N) (_ : (cfg0.win 6).flush t = true) :
    (dats m 0 c).flushed 6 t = ((cfg0.win 6).blk t).view.read (Elt Ideal)
      (dxG (m ((c : Thread nD τ).loc main_arg0)) (m ((c : Thread nD τ).loc main_arg1)) (m ((c : Thread nD τ).loc main_arg2))
        (m ((c : Thread nD τ).loc main_arg3)) (m ((c : Thread nD τ).loc main_arg4)) : Vec Ideal S4096x1024 .bf16) := by
  obtain ⟨-, -, h0, h1, -⟩ := idx_out t
  show (dats m 0 c).after 6 t = _
  rw [after0_6, out6]
  funext j
  rw [View.read_apply]
  refine (b5_blk m c t j).trans ?_
  congr 1
  funext a
  apply Fin.ext
  match a with
  | ⟨0, _⟩ => show 512 * t.val + (j 0).val = win0_6.index t 0 * 512 + 1 * (j 0).val; rw [h0]; omega
  | ⟨1, _⟩ => show (j 1).val = win0_6.index t 1 * 1024 + 1 * (j 1).val; rw [h1]; omega

theorem final6 (c : Dev nD) : (dats m 0 c).arrAt 6 cfg0.N
    = (dxG (m ((c : Thread nD τ).loc main_arg0)) (m ((c : Thread nD τ).loc main_arg1)) (m ((c : Thread nD τ).loc main_arg2))
        (m ((c : Thread nD τ).loc main_arg3)) (m ((c : Thread nD τ).loc main_arg4)) : Vec Ideal S4096x1024 .bf16) :=
  (dats m 0 c).arrAt_eq_of_cover 6 _ (flushed6 m c) fun i => by
    have h0 : (i 0 : Nat) < 4096 := (i 0).isLt
    have h1 : (i 1 : Nat) < 1024 := (i 1).isLt
    have hN : (i 0).val / 512 < cfg0.N := by show _ < 8; omega
    refine ⟨⟨(i 0).val / 512, hN⟩, flush0_6 _, ?_⟩
    obtain ⟨-, -, h20, h21, -⟩ := idx_out ⟨(i 0).val / 512, hN⟩
    show i ∈ ((View.whole main_v1_1).slice (win0_6.rect ⟨(i 0).val / 512, hN⟩)).set
    rw [View.set_slice_whole, Rect.mem_set_unit]
    intro a
    match a with
    | ⟨0, _⟩ => show win0_6.index _ 0 * 512 ≤ (i 0 : Nat) ∧ (i 0 : Nat) < win0_6.index _ 0 * 512 + 512; rw [h20]; dsimp only; omega
    | ⟨1, _⟩ => show win0_6.index _ 1 * 1024 ≤ (i 1 : Nat) ∧ (i 1 : Nat) < win0_6.index _ 1 * 1024 + 1024; rw [h21]; omega

theorem flushed7 (c : Dev nD) (t : Fin cfg0.N) (ht : (cfg0.win 7).flush t = true) :
    (dats m 0 c).flushed 7 t = ((cfg0.win 7).blk t).view.read (Elt Ideal)
      (dg8 (m ((c : Thread nD τ).loc main_arg0)) (m ((c : Thread nD τ).loc main_arg1)) (m ((c : Thread nD τ).loc main_arg2))) := by
  have h8 : t.val < 8 := t.isLt
  have ht7 : t.val = 7 := by have := (flush0_7 t).mp ht; omega
  obtain ⟨-, -, -, -, h0, h1⟩ := idx_out t
  show (dats m 0 c).after 7 t = _
  rw [after0_7, out7]
  obtain ⟨n, hn⟩ := t
  obtain rfl : n = 7 := ht7
  funext j
  rw [View.read_apply]
  have e : ((cfg0.win 7).blk ⟨7, hn⟩).view.emb j = j := by
    funext a
    apply Fin.ext
    match a with
    | ⟨0, _⟩ => show win0_7.index ⟨7, hn⟩ 0 * 8 + 1 * (j 0).val = (j 0).val; rw [h0]; omega
    | ⟨1, _⟩ => show win0_7.index ⟨7, hn⟩ 1 * 1024 + 1 * (j 1).val = (j 1).val; rw [h1]; omega
  rw [e]
  unfold dg8
  exact Finset.sum_congr rfl fun t _ => b7_blk m c ⟨t.val, t.isLt⟩ j

theorem final7 (c : Dev nD) : (dats m 0 c).arrAt 7 cfg0.N
    = dg8 (m ((c : Thread nD τ).loc main_arg0)) (m ((c : Thread nD τ).loc main_arg1)) (m ((c : Thread nD τ).loc main_arg2)) :=
  (dats m 0 c).arrAt_eq_of_cover 7 _ (flushed7 m c) fun i => by
    have h0 : (i 0 : Nat) < 8 := (i 0).isLt
    have h1 : (i 1 : Nat) < 1024 := (i 1).isLt
    have hN : 7 < cfg0.N := by show _ < 8; omega
    refine ⟨⟨7, hN⟩, (flush0_7 _).mpr rfl, ?_⟩
    obtain ⟨-, -, -, -, h20, h21⟩ := idx_out ⟨7, hN⟩
    show i ∈ ((View.whole main_v1_2).slice (win0_7.rect ⟨7, hN⟩)).set
    rw [View.set_slice_whole, Rect.mem_set_unit]
    intro a
    match a with
    | ⟨0, _⟩ => show win0_7.index _ 0 * 8 ≤ (i 0 : Nat) ∧ (i 0 : Nat) < win0_7.index _ 0 * 8 + 8; rw [h20]; omega
    | ⟨1, _⟩ => show win0_7.index _ 1 * 1024 ≤ (i 1 : Nat) ∧ (i 1 : Nat) < win0_7.index _ 1 * 1024 + 1024; rw [h21]; omega

end Cert.Proof.UpNorm
-- ==== Proof.UpNormRef.lean ====
module

public import proofs.«01_k».proof.Proof.UpNorm
public import proofs.«01_k».proof.Proof.Gen.Reference2Ideal.Run
public import Idealize.ShloMosaic.Lib.Pointwise

@[expose] public section

set_option maxRecDepth 16384

noncomputable section

/-!
  What the host's chain rule computes for the feed-forward block's first product and norm: the same sums and the same
  gradient of the norm as the fused call's.
-/

namespace Cert.Proof.UpNorm.Ref

open Idealize.ShloMosaic Idealize.ShloMosaic.TcCoe Idealize.SL.Sem
open Cert.Reference2Ideal Cert.Reference2Ideal.Gen
open Cert.Proof.NormGrad (var row row_eq)
open Cert.Proof.UpNorm (dhG dxG dgT)

/-- The product with the transposed weight. -/
theorem dh_ref (du : FVec Ideal S2x4096x2816 .bf16) (w : FVec Ideal S5632x1024 .bf16) :
    ((Host.dotGeneral (φ₁ := .f32) (φ₂ := .f32) dot_S4096x5632_S1024x5632_S4096x1024_1_1_0_0_n_n none (concatenate S4096x5632 1 [⟨S4096x2816, (extf .f32 (shapeCast _ (extractStridedSlice S1x4096x2816 ![0, 0, 0] du slices_S2x4096x2816_S1x4096x2816_0_0_0) shapeCasts_S1x4096x2816_S4096x2816) bitsLt_bf16_f32)⟩, ⟨S4096x2816, (extf .f32 (shapeCast _ (extractStridedSlice S1x4096x2816 ![1, 0, 0] du slices_S2x4096x2816_S1x4096x2816_1_0_0) shapeCasts_S1x4096x2816_S4096x2816) bitsLt_bf16_f32)⟩] concatenates_S4096x2816_S4096x2816_S4096x5632_d1) (transpose S1024x5632 [1, 0] (extf .f32 w bitsLt_bf16_f32) transposes_S5632x1024_S1024x5632_1_0)) : FVec Ideal S4096x1024 .f32)
      = fun i => dhG du w (i 0) (i 1) := by
  funext j
  pointwise [dhG]

/-- The chain rule through the norm, for any gradient `H` of the normed rows. -/
theorem dx_ref (H x y : FVec Ideal S4096x1024 .f32) (g : FVec Ideal S1x1024 .f32) :
    (addf (addf (addf y (mulf (mulf H (broadcastInDim S4096x1024 ![0, 1] bcast_S1x1024_S4096x1024_0_1 (broadcastInDim S1x1024 ![1] bcast_S1024_S1x1024_1 (shapeCast _ g shapeCasts_S1x1024_S1024)))) (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))))))) (mulf x (broadcastInDim S4096x1024 ![0] bcast_S4096_S4096x1024_0 (Host.reduceAdd (Host.divf (mulf (shapeCast _ (Host.reduceAdd (mulf x (mulf H (broadcastInDim S4096x1024 ![0, 1] bcast_S1x1024_S4096x1024_0_1 (broadcastInDim S1x1024 ![1] bcast_S1024_S1x1024_1 (shapeCast _ g shapeCasts_S1x1024_S1024))))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)))) (mulf (broadcastInDim S4096x1024 ![0] bcast_S4096_S4096x1024_0 (Host.reduceAdd (Host.divf (mulf (shapeCast _ (Host.reduceAdd (mulf x (mulf H (broadcastInDim S4096x1024 ![0, 1] bcast_S1x1024_S4096x1024_0_1 (broadcastInDim S1x1024 ![1] bcast_S1024_S1x1024_1 (shapeCast _ g shapeCasts_S1x1024_S1024))))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)) x) : FVec Ideal S4096x1024 .f32)
      = fun i => row (fun k => x (ix2 (i 0) k)) (y i) (x i) (H i * g (ix2 0 (i 1))) (fun k => H (ix2 (i 0) k) * g (ix2 0 k)) := by
  funext j
  rw [row_eq]
  pointwise [var]
  simp only [Fin.sum_univ_one]

/-- The gradient of the scale, summed over the tokens. -/
theorem dg_ref (H x : FVec Ideal S4096x1024 .f32) :
    (broadcastInDim S1x1024 ![1] bcast_S1024_S1x1024_1 (Host.reduceAdd (shapeCast _ (Host.reduceAdd (mulf (mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) H) (constant S_ .f32 0x00000000#32) reducesTo_S4096x1024_S1024_d0 h_S_) shapeCasts_S1024_S1x1024) (constant S_ .f32 0x00000000#32) reducesTo_S1x1024_S1024_d0 h_S_) : FVec Ideal S1x1024 .f32)
      = fun i => ∑ r : Fin 4096, H (ix2 r (i 1)) * (x (ix2 r (i 1)) * Ideal.rsqrt (var fun k => x (ix2 r k))) := by
  funext j
  pointwise [var]
  simp only [Fin.sum_univ_one]
  exact Finset.sum_congr rfl fun r _ => mul_comm _ _

end Cert.Proof.UpNorm.Ref
-- ==== Proof.UpNormRun.lean ====
module

public import proofs.«01_k».proof.Proof.UpNormRef
public import proofs.«01_k».proof.Defs

@[expose] public section

set_option maxRecDepth 16384

noncomputable section

/-!
  The call with the host's sum of its eight rows, against the chain rule of the forward lines.
-/

namespace Cert.Proof.UpNorm

open Idealize.ShloMosaic Idealize.ShloMosaic.TcCoe Idealize.SL.Sem
open Idealize.ShloMosaic.Pipeline (Dat)
open Cert.Kernel2Ideal Cert.Kernel2Ideal.Gen

variable (m : (ℓ : Loc nD τ sig) → Buf (Elt Ideal) ℓ) (ρ : Dev nD → PrngReg)

/-- Every token is in one of the eight rows of one of the blocks. -/
theorem sum_rows (f : Fin 4096 → EReal) : ∑ s : Fin 8, ∑ t : Fin 8, ∑ q : Fin 64, f ⟨512 * t.val + (q.val * 8 + s.val), by omega⟩ = ∑ r, f r := by
  have h : ∑ p : Fin 8 × Fin 8 × Fin 64, f ⟨512 * p.2.1.val + (p.2.2.val * 8 + p.1.val), by omega⟩ = ∑ r, f r := by
    refine Fintype.sum_bijective (fun p : Fin 8 × Fin 8 × Fin 64 => (⟨512 * p.2.1.val + (p.2.2.val * 8 + p.1.val), by omega⟩ : Fin 4096)) ?_ _ _ fun _ => rfl
    refine (Fintype.bijective_iff_injective_and_card _).mpr ⟨?_, by simp⟩
    rintro ⟨s, t, q⟩ ⟨s', t', q'⟩ e
    have e' : 512 * t.val + (q.val * 8 + s.val) = 512 * t'.val + (q'.val * 8 + s'.val) := congrArg Fin.val e
    have := t.isLt; have := t'.isLt; have := q.isLt; have := q'.isLt; have := s.isLt; have := s'.isLt
    refine Prod.ext (Fin.ext ?_) (Prod.ext (Fin.ext ?_) (Fin.ext ?_)) <;> dsimp only <;> omega
  rw [← h]
  simp only [Fintype.sum_prod_type]

/-- The gradient of the norm's scale. -/
def dgG (du : Vec Ideal S2x4096x2816 .bf16) (w : Vec Ideal S5632x1024 .bf16) (x : Vec Ideal S4096x1024 .f32) : Vec Ideal S1x1024 .f32 := fun i =>
  ∑ r : Fin 4096, dgT du w x r (i 1)

theorem tail_eq (a : FVec Ideal S8x1024 .f32) : (broadcastInDim S1x1024 ![1] bcast_S1024_S1x1024_1
      (Host.reduceAdd a (constant S_ .f32 0x00000000#32) reducesTo_S8x1024_S1024_d0 h_S_) : FVec Ideal S1x1024 .f32)
    = fun i => ∑ s : Fin 8, a (ix2 s (i 1)) := by
  funext j
  pointwise []

theorem dg_eq (du : Vec Ideal S2x4096x2816 .bf16) (w : Vec Ideal S5632x1024 .bf16) (x : Vec Ideal S4096x1024 .f32) :
    (broadcastInDim S1x1024 ![1] bcast_S1024_S1x1024_1
      (Host.reduceAdd (dg8 du w x : FVec Ideal S8x1024 .f32) (constant S_ .f32 0x00000000#32) reducesTo_S8x1024_S1024_d0 h_S_) : FVec Ideal S1x1024 .f32)
    = dgG du w x := by
  rw [tail_eq]
  funext i
  exact sum_rows fun r => dgT du w x r (i 1)

theorem tail_v3 (c : Dev nD) : Pipeline.afterTail₀ cfgs (dats m) 0 (V0 m) [hostOps1] c main_v3
    = dgG (m ((c : Thread nD τ).loc main_arg0)) (m ((c : Thread nD τ).loc main_arg1)) (m ((c : Thread nD τ).loc main_arg2)) := by
  unfold Pipeline.afterTail₀
  simp only [hostOps1, List.flatten_cons, List.flatten_nil, List.append_nil]
  after_results_simp

  have h : Pipeline.withArrays (cfgs 0).spec c (V0 m c) (fun w => (dats m 0 c).arrAt w (cfgs 0).N) (Proc.tc.devRef main_v1_2)
      = dg8 (m ((c : Thread nD τ).loc main_arg0)) (m ((c : Thread nD τ).loc main_arg1)) (m ((c : Thread nD τ).loc main_arg2)) :=
    (Pipeline.withArrays_arr (cfgs 0).spec winFacts0.arr_inj c (V0 m c) (fun w => (dats m 0 c).arrAt w (cfgs 0).N) 7).trans (final7 m c)
  rw [h]
  exact dg_eq _ _ _

/-- What the whole program leaves: the three gradients, and the arguments as they were. -/
theorem run_value : θ_run defs (onTc (τ := τ) (main (F := Ideal))) ⟨m, fun _ => 0, ρ⟩ (fun r => ∀ c : Dev nD,
      r.2.mem ((c.tc : Thread nD τ).loc main_v1_0) = dxG (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_v1_1) = (dxG (m ((c : Thread nD τ).loc main_arg0)) (m ((c : Thread nD τ).loc main_arg1)) (m ((c : Thread nD τ).loc main_arg2)) (m ((c : Thread nD τ).loc main_arg3)) (m ((c : Thread nD τ).loc main_arg4)) : Vec Ideal S4096x1024 .bf16)
      ∧ r.2.mem ((c.tc : Thread nD τ).loc main_v3) = dgG (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 5).trans (final5 m c), ((h c).1 6).trans (final6 m c),
      ((h c).2 main_v3 (Pipeline.mem_restRefs_of main_v3 (by decide) (by decide))).trans (tail_v3 m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      (((h c).2 main_arg5 (Pipeline.mem_restRefs_of main_arg5 (by decide) (by decide))).trans (W_main_arg5 m (dats m) c))⟩)
    (run_main m ρ)

/-- The host's first result is the gradient of the norm's input. -/
theorem ref_dx (m' : (ℓ : Loc Cert.Reference2Ideal.nD Cert.Reference2Ideal.τ Cert.Reference2Ideal.sig) → Buf (Elt Ideal) ℓ) (c : Dev Cert.Reference2Ideal.nD) :
    Cert.Reference2Ideal.Value.res_main_v48 m' c = dxG (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) := by
  unfold Cert.Reference2Ideal.Value.res_main_v48
  refine (Ref.dx_ref _ _ _ _).trans ?_
  rw [Ref.dh_ref]
  rfl

theorem claim2 : Cert.algebraic_Kernel2Ideal_Reference2Ideal := by
  intro m g m' g' _ hargs
  refine ⟨fun c => dxG (m ((c : Thread nD τ).loc main_arg0)) (m ((c : Thread nD τ).loc main_arg1)) (m ((c : Thread nD τ).loc main_arg2)) (m ((c : Thread nD τ).loc main_arg3)) (m ((c : Thread nD τ).loc main_arg4)),
    fun c => dxG (m ((c : Thread nD τ).loc main_arg0)) (m ((c : Thread nD τ).loc main_arg1)) (m ((c : Thread nD τ).loc main_arg2)) (m ((c : Thread nD τ).loc main_arg3)) (m ((c : Thread nD τ).loc main_arg4)),
    fun c => dgG (m ((c : Thread nD τ).loc main_arg0)) (m ((c : Thread nD τ).loc main_arg1)) (m ((c : Thread nD τ).loc main_arg2)),
    run_value m g, (θ_run _ _ _).mono (fun _ h c => ?_) (Cert.Reference2Ideal.Value.run m' g')⟩
  obtain ⟨e0, e1, e2, e3, e4, e5⟩ := hargs c
  obtain ⟨h0, h1, h2, h3⟩ := h c
  refine ⟨h0.trans ?_, h1.trans ?_, h2.trans ?_, h3⟩
  · dsimp only; rw [← e0, ← e1, ← e2, ← e3, ← e4]; exact ref_dx m' c
  · dsimp only; rw [← e0, ← e1, ← e2, ← e3, ← e4]; exact ref_dx m' c
  · dsimp only; rw [← e0, ← e1, ← e2]
    refine (Ref.dg_ref _ _).trans ?_
    rw [Ref.dh_ref]
    rfl

end Cert.Proof.UpNorm
-- ==== Proof.InNorm.lean ====
module

public import proofs.«01_k».proof.Proof.Gen.KernelIdeal.Frame
public import proofs.«01_k».proof.Proof.NormGrad
public import Idealize.ShloMosaic.Lib.Pipeline.Value
public import Idealize.ShloMosaic.Lib.Pointwise

@[expose] public section

set_option maxRecDepth 16384

noncomputable section

/-!
  The fused call that takes the mixer's gradient back through its input product and the first norm
  (`_in_norm1_bwd`): what one grid point leaves, as a function of its blocks.
-/

namespace Cert.Proof.InNorm

open Idealize.ShloMosaic Idealize.ShloMosaic.TcCoe Idealize.SL.Sem
open Idealize.ShloMosaic.Pipeline (Dat)
open Cert.KernelIdeal Cert.KernelIdeal.Gen
open Cert.Proof.NormGrad (var row)

theorem hz2 : (![0, 0] : Fin 2 → Nat) = fun _ => 0 := funext fun a => by fin_cases a <;> rfl

/-- The gradient of the normed rows, for one block of rows: seven sections' products, the cotangent's section against
    the weight's that belongs to it. -/
def dh (x0 : Vec Ideal S7x512x1024 .bf16) (x1 : Vec Ideal S7x1024x1024 .bf16) (r : Fin 512) (l : Fin 1024) : EReal :=
  (∑ k : Fin 1024, x0 (ix3 0 r k) * x1 (ix3 0 k l)) + (∑ k : Fin 1024, x0 (ix3 1 r k) * x1 (ix3 1 k l)) + (∑ k : Fin 1024, x0 (ix3 2 r k) * x1 (ix3 5 k l)) + (∑ k : Fin 1024, x0 (ix3 3 r k) * x1 (ix3 6 k l)) + (∑ k : Fin 1024, x0 (ix3 4 r k) * x1 (ix3 2 k l)) + (∑ k : Fin 1024, x0 (ix3 5 r k) * x1 (ix3 3 k l)) + (∑ k : Fin 1024, x0 (ix3 6 r k) * x1 (ix3 4 k l))

/-- The block of the gradient of the norm's input, with the residual's. -/
def b5 (x0 : Vec Ideal S7x512x1024 .bf16) (x1 : Vec Ideal S7x1024x1024 .bf16) (x2 : Vec Ideal S512x1024 .f32) (x3 : Vec Ideal S512x1024 .f32) (x4 : Vec Ideal S1x1024 .f32) : Vec Ideal S512x1024 .f32 := fun j =>
  row (fun k => x2 (ix2 (j 0) k)) (x3 j) (x2 j) (dh x0 x1 (j 0) (j 1) * x4 (ix2 0 (j 1))) (fun k => dh x0 x1 (j 0) k * x4 (ix2 0 k))

/-- The block's part of the gradient of the norm's scale: the rows `s`, `8 + s`, … summed. -/
def b6 (x0 : Vec Ideal S7x512x1024 .bf16) (x1 : Vec Ideal S7x1024x1024 .bf16) (x2 : Vec Ideal S512x1024 .f32) (j : S8x1024.Idx) : EReal :=
  ∑ q : Fin 64, dh x0 x1 (⟨q.val * 8 + (j 0).val, by have : (j 0).val < 8 := (j 0).isLt; omega⟩ : Fin 512) (j 1)
    * (x2 (ix2 (⟨q.val * 8 + (j 0).val, by have : (j 0).val < 8 := (j 0).isLt; omega⟩ : Fin 512) (j 1))
      * Ideal.rsqrt (var fun k => x2 (ix2 (⟨q.val * 8 + (j 0).val, by have : (j 0).val < 8 := (j 0).isLt; omega⟩ : Fin 512) k)))

theorem b5_eq (x0 : Vec Ideal S7x512x1024 .bf16) (x1 : Vec Ideal S7x1024x1024 .bf16) (x2 : Vec Ideal S512x1024 .f32) (x3 : Vec Ideal S512x1024 .f32) (x4 : Vec Ideal S1x1024 .f32) (j : S512x1024.Idx) :
    k0_pay1 (k0_pay7 x2) (k0_pay8 x2) x3
      (k0_pay9 (k0_pay4 (View.ld x0 (Rect.unit ![0, 0, 0] S1x512x1024.size inb_S7x512x1024_S1x512x1024_0_0_0)) (View.ld x1 (Rect.unit ![0, 0, 0] S1x1024x1024.size inb_S7x1024x1024_S1x1024x1024_0_0_0)) (View.ld x0 (Rect.unit ![1, 0, 0] S1x512x1024.size inb_S7x512x1024_S1x512x1024_1_0_0)) (View.ld x1 (Rect.unit ![1, 0, 0] S1x1024x1024.size inb_S7x1024x1024_S1x1024x1024_1_0_0)) (View.ld x0 (Rect.unit ![2, 0, 0] S1x512x1024.size inb_S7x512x1024_S1x512x1024_2_0_0)) (View.ld x1 (Rect.unit ![5, 0, 0] S1x1024x1024.size inb_S7x1024x1024_S1x1024x1024_5_0_0)) (View.ld x0 (Rect.unit ![3, 0, 0] S1x512x1024.size inb_S7x512x1024_S1x512x1024_3_0_0)) (View.ld x1 (Rect.unit ![6, 0, 0] S1x1024x1024.size inb_S7x1024x1024_S1x1024x1024_6_0_0)))
        (k0_pay5 (View.ld x0 (Rect.unit ![4, 0, 0] S1x512x1024.size inb_S7x512x1024_S1x512x1024_4_0_0))) (View.ld x1 (Rect.unit ![2, 0, 0] S1x1024x1024.size inb_S7x1024x1024_S1x1024x1024_2_0_0)) (View.ld x0 (Rect.unit ![5, 0, 0] S1x512x1024.size inb_S7x512x1024_S1x512x1024_5_0_0)) (View.ld x1 (Rect.unit ![3, 0, 0] S1x1024x1024.size inb_S7x1024x1024_S1x1024x1024_3_0_0)) (View.ld x0 (Rect.unit ![6, 0, 0] S1x512x1024.size inb_S7x512x1024_S1x512x1024_6_0_0)) (View.ld x1 (Rect.unit ![4, 0, 0] S1x1024x1024.size inb_S7x1024x1024_S1x1024x1024_4_0_0)) x4)
      (k0_pay10 (k0_pay4 (View.ld x0 (Rect.unit ![0, 0, 0] S1x512x1024.size inb_S7x512x1024_S1x512x1024_0_0_0)) (View.ld x1 (Rect.unit ![0, 0, 0] S1x1024x1024.size inb_S7x1024x1024_S1x1024x1024_0_0_0)) (View.ld x0 (Rect.unit ![1, 0, 0] S1x512x1024.size inb_S7x512x1024_S1x512x1024_1_0_0)) (View.ld x1 (Rect.unit ![1, 0, 0] S1x1024x1024.size inb_S7x1024x1024_S1x1024x1024_1_0_0)) (View.ld x0 (Rect.unit ![2, 0, 0] S1x512x1024.size inb_S7x512x1024_S1x512x1024_2_0_0)) (View.ld x1 (Rect.unit ![5, 0, 0] S1x1024x1024.size inb_S7x1024x1024_S1x1024x1024_5_0_0)) (View.ld x0 (Rect.unit ![3, 0, 0] S1x512x1024.size inb_S7x512x1024_S1x512x1024_3_0_0)) (View.ld x1 (Rect.unit ![6, 0, 0] S1x1024x1024.size inb_S7x1024x1024_S1x1024x1024_6_0_0)))
        (k0_pay5 (View.ld x0 (Rect.unit ![4, 0, 0] S1x512x1024.size inb_S7x512x1024_S1x512x1024_4_0_0))) (View.ld x1 (Rect.unit ![2, 0, 0] S1x1024x1024.size inb_S7x1024x1024_S1x1024x1024_2_0_0)) (View.ld x0 (Rect.unit ![5, 0, 0] S1x512x1024.size inb_S7x512x1024_S1x512x1024_5_0_0)) (View.ld x1 (Rect.unit ![3, 0, 0] S1x1024x1024.size inb_S7x1024x1024_S1x1024x1024_3_0_0)) (View.ld x0 (Rect.unit ![6, 0, 0] S1x512x1024.size inb_S7x512x1024_S1x512x1024_6_0_0)) (View.ld x1 (Rect.unit ![4, 0, 0] S1x1024x1024.size inb_S7x1024x1024_S1x1024x1024_4_0_0)) x2 x4) (Scalar.ofBits .f32 0x44800000#32) j
      = b5 x0 x1 x2 x3 x4 j := by
  pointwise [k0_pay1, k0_pay10, k0_pay9, k0_pay8, k0_pay7, k0_pay6, k0_pay5, k0_pay4, b5, row, var, dh]

theorem b6_eq (x0 : Vec Ideal S7x512x1024 .bf16) (x1 : Vec Ideal S7x1024x1024 .bf16) (x2 : Vec Ideal S512x1024 .f32) (xo6 : Vec Ideal S8x1024 .f32) (j : S8x1024.Idx) :
    k0_pay3 (k0_pay6 (k0_pay4 (View.ld x0 (Rect.unit ![0, 0, 0] S1x512x1024.size inb_S7x512x1024_S1x512x1024_0_0_0)) (View.ld x1 (Rect.unit ![0, 0, 0] S1x1024x1024.size inb_S7x1024x1024_S1x1024x1024_0_0_0)) (View.ld x0 (Rect.unit ![1, 0, 0] S1x512x1024.size inb_S7x512x1024_S1x512x1024_1_0_0)) (View.ld x1 (Rect.unit ![1, 0, 0] S1x1024x1024.size inb_S7x1024x1024_S1x1024x1024_1_0_0)) (View.ld x0 (Rect.unit ![2, 0, 0] S1x512x1024.size inb_S7x512x1024_S1x512x1024_2_0_0)) (View.ld x1 (Rect.unit ![5, 0, 0] S1x1024x1024.size inb_S7x1024x1024_S1x1024x1024_5_0_0)) (View.ld x0 (Rect.unit ![3, 0, 0] S1x512x1024.size inb_S7x512x1024_S1x512x1024_3_0_0)) (View.ld x1 (Rect.unit ![6, 0, 0] S1x1024x1024.size inb_S7x1024x1024_S1x1024x1024_6_0_0)))
        (k0_pay5 (View.ld x0 (Rect.unit ![4, 0, 0] S1x512x1024.size inb_S7x512x1024_S1x512x1024_4_0_0))) (View.ld x1 (Rect.unit ![2, 0, 0] S1x1024x1024.size inb_S7x1024x1024_S1x1024x1024_2_0_0)) (View.ld x0 (Rect.unit ![5, 0, 0] S1x512x1024.size inb_S7x512x1024_S1x512x1024_5_0_0)) (View.ld x1 (Rect.unit ![3, 0, 0] S1x1024x1024.size inb_S7x1024x1024_S1x1024x1024_3_0_0)) (View.ld x0 (Rect.unit ![6, 0, 0] S1x512x1024.size inb_S7x512x1024_S1x512x1024_6_0_0)) (View.ld x1 (Rect.unit ![4, 0, 0] S1x1024x1024.size inb_S7x1024x1024_S1x1024x1024_4_0_0))) (k0_pay8 x2) xo6 j
      = xo6 j + b6 x0 x1 x2 j := by
  pointwise [k0_pay3, k0_pay8, k0_pay7, k0_pay6, k0_pay5, k0_pay4, b6, var, dh]

theorem b6_eq_zero (x0 : Vec Ideal S7x512x1024 .bf16) (x1 : Vec Ideal S7x1024x1024 .bf16) (x2 : Vec Ideal S512x1024 .f32) (j : S8x1024.Idx) :
    k0_pay3 (k0_pay6 (k0_pay4 (View.ld x0 (Rect.unit ![0, 0, 0] S1x512x1024.size inb_S7x512x1024_S1x512x1024_0_0_0)) (View.ld x1 (Rect.unit ![0, 0, 0] S1x1024x1024.size inb_S7x1024x1024_S1x1024x1024_0_0_0)) (View.ld x0 (Rect.unit ![1, 0, 0] S1x512x1024.size inb_S7x512x1024_S1x512x1024_1_0_0)) (View.ld x1 (Rect.unit ![1, 0, 0] S1x1024x1024.size inb_S7x1024x1024_S1x1024x1024_1_0_0)) (View.ld x0 (Rect.unit ![2, 0, 0] S1x512x1024.size inb_S7x512x1024_S1x512x1024_2_0_0)) (View.ld x1 (Rect.unit ![5, 0, 0] S1x1024x1024.size inb_S7x1024x1024_S1x1024x1024_5_0_0)) (View.ld x0 (Rect.unit ![3, 0, 0] S1x512x1024.size inb_S7x512x1024_S1x512x1024_3_0_0)) (View.ld x1 (Rect.unit ![6, 0, 0] S1x1024x1024.size inb_S7x1024x1024_S1x1024x1024_6_0_0)))
        (k0_pay5 (View.ld x0 (Rect.unit ![4, 0, 0] S1x512x1024.size inb_S7x512x1024_S1x512x1024_4_0_0))) (View.ld x1 (Rect.unit ![2, 0, 0] S1x1024x1024.size inb_S7x1024x1024_S1x1024x1024_2_0_0)) (View.ld x0 (Rect.unit ![5, 0, 0] S1x512x1024.size inb_S7x512x1024_S1x512x1024_5_0_0)) (View.ld x1 (Rect.unit ![3, 0, 0] S1x1024x1024.size inb_S7x1024x1024_S1x1024x1024_3_0_0)) (View.ld x0 (Rect.unit ![6, 0, 0] S1x512x1024.size inb_S7x512x1024_S1x512x1024_6_0_0)) (View.ld x1 (Rect.unit ![4, 0, 0] S1x1024x1024.size inb_S7x1024x1024_S1x1024x1024_4_0_0))) (k0_pay8 x2) (k0_pay2 (F := Ideal)) j
      = b6 x0 x1 x2 j := by
  rw [b6_eq]
  have h : (k0_pay2 (F := Ideal) : Vec Ideal S8x1024 .f32) j = 0 := by pointwise [k0_pay2]
  rw [h, zero_add]

theorem out_A5 (c : Dev nD) (i : grid0.Coords) (a1 : Memref sig .tc .vmem S7x512x1024 .bf16) (h1 : a1.IsWhole) (a2 : Memref sig .tc .vmem S7x1024x1024 .bf16) (h2 : a2.IsWhole) (a3 : Memref sig .tc .vmem S512x1024 .f32) (h3 : a3.IsWhole) (a4 : Memref sig .tc .vmem S512x1024 .f32) (h4 : a4.IsWhole) (a5 : Memref sig .tc .vmem S1x1024 .f32) (h5 : a5.IsWhole) (a7 : Memref sig .tc .vmem S512x1024 .f32) (h7 : a7.IsWhole) (a8 : Memref sig .tc .vmem S8x1024 .f32) (h8 : a8.IsWhole) (hc : cond0_0 i)
    (x0 : Vec Ideal S7x512x1024 .bf16) (x1 : Vec Ideal S7x1024x1024 .bf16) (x2 : Vec Ideal S512x1024 .f32) (x3 : Vec Ideal S512x1024 .f32) (x4 : Vec Ideal S1x1024 .f32) :
    out0_A_5 c i a1 h1 a2 h2 a3 h3 a4 h4 a5 h5 a7 h7 a8 h8 hc x0 x1 x2 x3 x4 = b5 x0 x1 x2 x3 x4 := by
  funext j
  unfold out0_A_5
  rw [View.read_writes_eq_canon _ _ _ (cover0_A_5 c i a1 h1 a2 h2 a3 h3 a4 h4 a5 h5 a7 h7 a8 h8 hc x0 x1 x2 x3 x4)]
  unfold kernelRun0_A
  dsimp only
  sl_unfold_words
  rw [View.canon_unit_zero hz2]
  simp only [View.readAt_eq_ld, h1.read_unread, h2.read_unread, h3.read_unread, h4.read_unread, h5.read_unread, h8.read_unread, View.ld_unit_zero (S := S512x1024) hz2, View.ld_unit_zero (S := S1x1024) hz2, View.ld_unit_zero (S := S8x1024) hz2]
  exact b5_eq x0 x1 x2 x3 x4 j

theorem out_A6 (c : Dev nD) (i : grid0.Coords) (a1 : Memref sig .tc .vmem S7x512x1024 .bf16) (h1 : a1.IsWhole) (a2 : Memref sig .tc .vmem S7x1024x1024 .bf16) (h2 : a2.IsWhole) (a3 : Memref sig .tc .vmem S512x1024 .f32) (h3 : a3.IsWhole) (a4 : Memref sig .tc .vmem S512x1024 .f32) (h4 : a4.IsWhole) (a5 : Memref sig .tc .vmem S1x1024 .f32) (h5 : a5.IsWhole) (a7 : Memref sig .tc .vmem S512x1024 .f32) (h7 : a7.IsWhole) (a8 : Memref sig .tc .vmem S8x1024 .f32) (h8 : a8.IsWhole) (hc : cond0_0 i)
    (x0 : Vec Ideal S7x512x1024 .bf16) (x1 : Vec Ideal S7x1024x1024 .bf16) (x2 : Vec Ideal S512x1024 .f32) (x3 : Vec Ideal S512x1024 .f32) (x4 : Vec Ideal S1x1024 .f32) :
    out0_A_6 c i a1 h1 a2 h2 a3 h3 a4 h4 a5 h5 a7 h7 a8 h8 hc x0 x1 x2 x3 x4 = fun j => b6 x0 x1 x2 j := by
  funext j
  unfold out0_A_6
  rw [View.read_writes_eq_canon _ _ _ (cover0_A_6 c i a1 h1 a2 h2 a3 h3 a4 h4 a5 h5 a7 h7 a8 h8 hc x0 x1 x2 x3 x4)]
  unfold kernelRun0_A
  dsimp only
  sl_unfold_words
  rw [View.canon_cons_unit_zero (S := S8x1024) hz2, View.readCov_unit_zero _ hz2]
  simp only [View.readAt_eq_ld, h1.read_unread, h2.read_unread, h3.read_unread, h4.read_unread, h5.read_unread, h8.read_unread, View.ld_unit_zero (S := S512x1024) hz2, View.ld_unit_zero (S := S1x1024) hz2, View.ld_unit_zero (S := S8x1024) hz2]
  exact b6_eq_zero x0 x1 x2 j

theorem out_B5 (c : Dev nD) (i : grid0.Coords) (a1 : Memref sig .tc .vmem S7x512x1024 .bf16) (h1 : a1.IsWhole) (a2 : Memref sig .tc .vmem S7x1024x1024 .bf16) (h2 : a2.IsWhole) (a3 : Memref sig .tc .vmem S512x1024 .f32) (h3 : a3.IsWhole) (a4 : Memref sig .tc .vmem S512x1024 .f32) (h4 : a4.IsWhole) (a5 : Memref sig .tc .vmem S1x1024 .f32) (h5 : a5.IsWhole) (a7 : Memref sig .tc .vmem S512x1024 .f32) (h7 : a7.IsWhole) (a8 : Memref sig .tc .vmem S8x1024 .f32) (h8 : a8.IsWhole) (hc : ¬cond0_0 i)
    (x0 : Vec Ideal S7x512x1024 .bf16) (x1 : Vec Ideal S7x1024x1024 .bf16) (x2 : Vec Ideal S512x1024 .f32) (x3 : Vec Ideal S512x1024 .f32) (x4 : Vec Ideal S1x1024 .f32) (xo6 : Vec Ideal S8x1024 .f32) :
    out0_B_5 c i a1 h1 a2 h2 a3 h3 a4 h4 a5 h5 a7 h7 a8 h8 hc x0 x1 x2 x3 x4 xo6 = b5 x0 x1 x2 x3 x4 := by
  funext j
  unfold out0_B_5
  rw [View.read_writes_eq_canon _ _ _ (cover0_B_5 c i a1 h1 a2 h2 a3 h3 a4 h4 a5 h5 a7 h7 a8 h8 hc x0 x1 x2 x3 x4 xo6)]
  unfold kernelRun0_B
  dsimp only
  sl_unfold_words
  rw [View.canon_unit_zero hz2]
  simp only [View.readAt_eq_ld, h1.read_unread, h2.read_unread, h3.read_unread, h4.read_unread, h5.read_unread, h8.read_unread, View.ld_unit_zero (S := S512x1024) hz2, View.ld_unit_zero (S := S1x1024) hz2, View.ld_unit_zero (S := S8x1024) hz2]
  exact b5_eq x0 x1 x2 x3 x4 j

theorem out_B6 (c : Dev nD) (i : grid0.Coords) (a1 : Memref sig .tc .vmem S7x512x1024 .bf16) (h1 : a1.IsWhole) (a2 : Memref sig .tc .vmem S7x1024x1024 .bf16) (h2 : a2.IsWhole) (a3 : Memref sig .tc .vmem S512x1024 .f32) (h3 : a3.IsWhole) (a4 : Memref sig .tc .vmem S512x1024 .f32) (h4 : a4.IsWhole) (a5 : Memref sig .tc .vmem S1x1024 .f32) (h5 : a5.IsWhole) (a7 : Memref sig .tc .vmem S512x1024 .f32) (h7 : a7.IsWhole) (a8 : Memref sig .tc .vmem S8x1024 .f32) (h8 : a8.IsWhole) (hc : ¬cond0_0 i)
    (x0 : Vec Ideal S7x512x1024 .bf16) (x1 : Vec Ideal S7x1024x1024 .bf16) (x2 : Vec Ideal S512x1024 .f32) (x3 : Vec Ideal S512x1024 .f32) (x4 : Vec Ideal S1x1024 .f32) (xo6 : Vec Ideal S8x1024 .f32) :
    out0_B_6 c i a1 h1 a2 h2 a3 h3 a4 h4 a5 h5 a7 h7 a8 h8 hc x0 x1 x2 x3 x4 xo6 = fun j => xo6 j + b6 x0 x1 x2 j := by
  funext j
  unfold out0_B_6
  rw [View.read_writes_eq_canon _ _ _ (cover0_B_6 c i a1 h1 a2 h2 a3 h3 a4 h4 a5 h5 a7 h7 a8 h8 hc x0 x1 x2 x3 x4 xo6)]
  unfold kernelRun0_B
  dsimp only
  sl_unfold_words
  rw [View.canon_unit_zero hz2]
  simp only [View.readAt_eq_ld, h1.read_unread, h2.read_unread, h3.read_unread, h4.read_unread, h5.read_unread, h8.read_unread, View.ld_unit_zero (S := S512x1024) hz2, View.ld_unit_zero (S := S1x1024) hz2, View.ld_unit_zero (S := S8x1024) hz2]
  exact b6_eq x0 x1 x2 xo6 j

variable (m : (ℓ : Loc nD τ sig) → Buf (Elt Ideal) ℓ) (ρ : Dev nD → PrngReg)

theorem idx_in (t : Fin cfg0.N) : win0_0.index t 0 = 0 ∧ win0_0.index t 1 = t.val ∧ win0_0.index t 2 = 0
    ∧ win0_1.index t 0 = 0 ∧ win0_1.index t 1 = 0 ∧ win0_1.index t 2 = 0 ∧ win0_2.index t 0 = t.val ∧ win0_2.index t 1 = 0
    ∧ win0_3.index t 0 = t.val ∧ win0_3.index t 1 = 0 ∧ win0_4.index t 0 = 0 ∧ win0_4.index t 1 = 0 := by
  rcases fin_N0 t with rfl | rfl | rfl | rfl | rfl | rfl | rfl | rfl <;> decide

theorem idx_out (t : Fin cfg0.N) : win0_5.index t 0 = t.val ∧ win0_5.index t 1 = 0 ∧ win0_6.index t 0 = 0 ∧ win0_6.index t 1 = 0 := by
  rcases fin_N0 t with rfl | rfl | rfl | rfl | rfl | rfl | rfl | rfl <;> decide

theorem V_w (c : Dev nD) : V m c main_v0 = shapeCast S7x1024x1024 (m ((c : Thread nD τ).loc main_arg1) : Vec Ideal S7168x1024 .bf16) shapeCasts_S7168x1024_S7x1024x1024 := by
  rfl

theorem blk0 (c : Dev nD) (t : Fin cfg0.N) (s : Fin 7) (s' : Fin 8) (hs : s'.val = s.val) (r : Fin 512) (k : Fin 1024) :
    X0_0 m c t (ix3 s r k) = m ((c : Thread nD τ).loc main_arg0) (ix3 s' (⟨512 * t.val + r.val, by have : t.val < 8 := t.isLt; omega⟩ : Fin 4096) k) := by
  obtain ⟨h0, h1, h2, -⟩ := idx_in t
  unfold X0_0 Pipeline.Window.fill
  rw [dif_pos (moved0_0 t _)]
  unfold iblk
  rw [View.read_apply]
  show V m c main_arg0 _ = _
  rw [V_main_arg0]
  congr 1
  funext a
  apply Fin.ext
  match a with
  | ⟨0, _⟩ => show win0_0.index t 0 * 7 + 1 * s.val = s'.val; rw [h0, hs]; omega
  | ⟨1, _⟩ => show win0_0.index t 1 * 512 + 1 * r.val = 512 * t.val + r.val; rw [h1]; omega
  | ⟨2, _⟩ => show win0_0.index t 2 * 1024 + 1 * k.val = k.val; rw [h2]; omega

theorem w_at (w : Vec Ideal S7168x1024 .bf16) (s : Fin 7) (k : Fin 1024) (l : Fin 1024) :
    shapeCast S7x1024x1024 w shapeCasts_S7168x1024_S7x1024x1024 (ix3 s k l) = w (ix2 (⟨s.val * 1024 + k.val, by omega⟩ : Fin 7168) l) := by
  pointwise []

theorem blk1 (c : Dev nD) (t : Fin cfg0.N) (s : Fin 7) (k : Fin 1024) (l : Fin 1024) (q : Fin 7168) (hq : q.val = s.val * 1024 + k.val) :
    iblk m c 1 t (ix3 s k l) = m ((c : Thread nD τ).loc main_arg1) (ix2 q l) := by
  obtain ⟨-, -, -, h0, h1, h2, -⟩ := idx_in t
  unfold iblk
  rw [View.read_apply]
  have e : ((cfg0.win 1).blk t).view.emb (ix3 s k l) = ix3 s k l := by
    funext a
    apply Fin.ext
    match a with
    | ⟨0, _⟩ => show win0_1.index t 0 * 7 + 1 * s.val = s.val; rw [h0]; omega
    | ⟨1, _⟩ => show win0_1.index t 1 * 1024 + 1 * k.val = k.val; rw [h1]; omega
    | ⟨2, _⟩ => show win0_1.index t 2 * 1024 + 1 * l.val = l.val; rw [h2]; omega
  rw [e]
  show V m c main_v0 _ = _
  rw [V_w]
  refine (w_at _ s k l).trans ?_
  have e' : (⟨s.val * 1024 + k.val, by omega⟩ : Fin 7168) = q := Fin.ext hq.symm
  rw [e']

theorem blk2 (c : Dev nD) (t : Fin cfg0.N) (r : Fin 512) (l : Fin 1024) :
    iblk m c 2 t (ix2 r l) = m ((c : Thread nD τ).loc main_arg2) (ix2 (⟨512 * t.val + r.val, by have : t.val < 8 := t.isLt; omega⟩ : Fin 4096) l) := by
  obtain ⟨-, -, -, -, -, -, h0, h1, -⟩ := idx_in t
  unfold iblk
  rw [View.read_apply]
  show V m c main_arg2 _ = _
  rw [V_main_arg2]
  congr 1
  funext a
  apply Fin.ext
  match a with
  | ⟨0, _⟩ => show win0_2.index t 0 * 512 + 1 * r.val = 512 * t.val + r.val; rw [h0]; omega
  | ⟨1, _⟩ => show win0_2.index t 1 * 1024 + 1 * l.val = l.val; rw [h1]; omega

theorem blk3 (c : Dev nD) (t : Fin cfg0.N) (r : Fin 512) (l : Fin 1024) :
    iblk m c 3 t (ix2 r l) = m ((c : Thread nD τ).loc main_arg3) (ix2 (⟨512 * t.val + r.val, by have : t.val < 8 := t.isLt; omega⟩ : Fin 4096) l) := by
  obtain ⟨-, -, -, -, -, -, -, -, h0, h1, -⟩ := idx_in t
  unfold iblk
  rw [View.read_apply]
  show V m c main_arg3 _ = _
  rw [V_main_arg3]
  congr 1
  funext a
  apply Fin.ext
  match a with
  | ⟨0, _⟩ => show win0_3.index t 0 * 512 + 1 * r.val = 512 * t.val + r.val; rw [h0]; omega
  | ⟨1, _⟩ => show win0_3.index t 1 * 1024 + 1 * l.val = l.val; rw [h1]; omega

theorem blk4 (c : Dev nD) (t : Fin cfg0.N) (l : Fin 1024) :
    iblk m c 4 t (ix2 0 l) = m ((c : Thread nD τ).loc main_arg4) (ix2 0 l) := by
  obtain ⟨-, -, -, -, -, -, -, -, -, -, h0, h1⟩ := idx_in t
  unfold iblk
  rw [View.read_apply]
  show V m c main_arg4 _ = _
  rw [V_main_arg4]
  congr 1
  funext a
  apply Fin.ext
  match a with
  | ⟨0, _⟩ => show win0_4.index t 0 * 1 + 1 * 0 = 0; rw [h0]
  | ⟨1, _⟩ => show win0_4.index t 1 * 1024 + 1 * l.val = l.val; rw [h1]; omega

/-! ## The whole arrays -/

/-- The gradient of the normed rows. -/
def dhG (dz : Vec Ideal S8x4096x1024 .bf16) (w : Vec Ideal S7168x1024 .bf16) (r : Fin 4096) (l : Fin 1024) : EReal :=
  (∑ k : Fin 1024, dz (ix3 0 r k) * w (ix2 (⟨k.val, by omega⟩ : Fin 7168) l)) + (∑ k : Fin 1024, dz (ix3 1 r k) * w (ix2 (⟨1024 + k.val, by omega⟩ : Fin 7168) l)) + (∑ k : Fin 1024, dz (ix3 2 r k) * w (ix2 (⟨5120 + k.val, by omega⟩ : Fin 7168) l)) + (∑ k : Fin 1024, dz (ix3 3 r k) * w (ix2 (⟨6144 + k.val, by omega⟩ : Fin 7168) l)) + (∑ k : Fin 1024, dz (ix3 4 r k) * w (ix2 (⟨2048 + k.val, by omega⟩ : Fin 7168) l)) + (∑ k : Fin 1024, dz (ix3 5 r k) * w (ix2 (⟨3072 + k.val, by omega⟩ : Fin 7168) l)) + (∑ k : Fin 1024, dz (ix3 6 r k) * w (ix2 (⟨4096 + k.val, by omega⟩ : Fin 7168) l))

/-- The gradient of the norm's input. -/
def dxG (du : Vec Ideal S8x4096x1024 .bf16) (w : Vec Ideal S7168x1024 .bf16) (x y : Vec Ideal S4096x1024 .f32) (g : Vec Ideal S1x1024 .f32) :
    Vec Ideal S4096x1024 .f32 := fun i =>
  row (fun k => x (ix2 (i 0) k)) (y i) (x i) (dhG du w (i 0) (i 1) * g (ix2 0 (i 1))) (fun k => dhG du w (i 0) k * g (ix2 0 k))

/-- One token's part of the gradient of the norm's scale. -/
def dgT (du : Vec Ideal S8x4096x1024 .bf16) (w : Vec Ideal S7168x1024 .bf16) (x : Vec Ideal S4096x1024 .f32) (r : Fin 4096) (l : Fin 1024) : EReal :=
  dhG du w r l * (x (ix2 r l) * Ideal.rsqrt (var fun k => x (ix2 r k)))

/-- What the call leaves of it: eight rows, each the sum over every eighth token. -/
def dg8 (du : Vec Ideal S8x4096x1024 .bf16) (w : Vec Ideal S7168x1024 .bf16) (x : Vec Ideal S4096x1024 .f32) : Vec Ideal S8x1024 .f32 := fun i =>
  ∑ t : Fin 8, ∑ q : Fin 64, dgT du w x (⟨512 * t.val + (q.val * 8 + (i 0).val), by have : (i 0).val < 8 := (i 0).isLt; omega⟩ : Fin 4096) (i 1)

theorem dh_blk (c : Dev nD) (t : Fin cfg0.N) (r : Fin 512) (l : Fin 1024) : dh (X0_0 m c t) (iblk m c 1 t) r l
    = dhG (m ((c : Thread nD τ).loc main_arg0)) (m ((c : Thread nD τ).loc main_arg1)) (⟨512 * t.val + r.val, by have : t.val < 8 := t.isLt; omega⟩ : Fin 4096) l := by
  unfold dh dhG
  exact congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (Finset.sum_congr rfl fun k _ => congrArg₂ (fun a b : EReal => a * b) (blk0 m c t 0 0 rfl r k) (blk1 m c t 0 k l (⟨k.val, by omega⟩ : Fin 7168) (by show k.val = 0 * 1024 + k.val; omega)))
    (Finset.sum_congr rfl fun k _ => congrArg₂ (fun a b : EReal => a * b) (blk0 m c t 1 1 rfl r k) (blk1 m c t 1 k l (⟨1024 + k.val, by omega⟩ : Fin 7168) rfl)))
    (Finset.sum_congr rfl fun k _ => congrArg₂ (fun a b : EReal => a * b) (blk0 m c t 2 2 rfl r k) (blk1 m c t 5 k l (⟨5120 + k.val, by omega⟩ : Fin 7168) rfl)))
    (Finset.sum_congr rfl fun k _ => congrArg₂ (fun a b : EReal => a * b) (blk0 m c t 3 3 rfl r k) (blk1 m c t 6 k l (⟨6144 + k.val, by omega⟩ : Fin 7168) rfl)))
    (Finset.sum_congr rfl fun k _ => congrArg₂ (fun a b : EReal => a * b) (blk0 m c t 4 4 rfl r k) (blk1 m c t 2 k l (⟨2048 + k.val, by omega⟩ : Fin 7168) rfl)))
    (Finset.sum_congr rfl fun k _ => congrArg₂ (fun a b : EReal => a * b) (blk0 m c t 5 5 rfl r k) (blk1 m c t 3 k l (⟨3072 + k.val, by omega⟩ : Fin 7168) rfl)))
    (Finset.sum_congr rfl fun k _ => congrArg₂ (fun a b : EReal => a * b) (blk0 m c t 6 6 rfl r k) (blk1 m c t 4 k l (⟨4096 + k.val, by omega⟩ : Fin 7168) rfl))

theorem b5_congr (x0 : Vec Ideal S7x512x1024 .bf16) (x1 : Vec Ideal S7x1024x1024 .bf16) (x2 : Vec Ideal S512x1024 .f32) (x3 : Vec Ideal S512x1024 .f32) (x4 : Vec Ideal S1x1024 .f32)
    (du : Vec Ideal S8x4096x1024 .bf16) (w : Vec Ideal S7168x1024 .bf16) (x y : Vec Ideal S4096x1024 .f32) (g : Vec Ideal S1x1024 .f32) (R : Fin 4096) (j : S512x1024.Idx)
    (hd : ∀ k, dh x0 x1 (j 0) k = dhG du w R k) (h2 : ∀ k : Fin 1024, x2 (ix2 (j 0 : Fin 512) k) = x (ix2 R k)) (h2' : x2 j = x (ix2 R (j 1)))
    (h3 : x3 j = y (ix2 R (j 1))) (h4 : ∀ k : Fin 1024, x4 (ix2 0 k) = g (ix2 0 k)) :
    b5 x0 x1 x2 x3 x4 j = dxG du w x y g (ix2 R (j 1)) := by
  unfold b5 dxG
  rw [h2', h3, hd (j 1), h4 (j 1)]
  simp only [hd, h4, h2]
  rfl

theorem b5_blk (c : Dev nD) (t : Fin cfg0.N) (j : S512x1024.Idx) : b5 (X0_0 m c t) (iblk m c 1 t) (iblk m c 2 t) (iblk m c 3 t) (iblk m c 4 t) j
    = dxG (m ((c : Thread nD τ).loc main_arg0)) (m ((c : Thread nD τ).loc main_arg1)) (m ((c : Thread nD τ).loc main_arg2))
        (m ((c : Thread nD τ).loc main_arg3)) (m ((c : Thread nD τ).loc main_arg4))
        (ix2 (⟨512 * t.val + (j 0).val, by have : t.val < 8 := t.isLt; have : (j 0).val < 512 := (j 0).isLt; omega⟩ : Fin 4096) (j 1)) := by
  have e : j = ix2 (j 0 : Fin 512) (j 1 : Fin 1024) := by funext a; match a with | ⟨0, _⟩ => rfl | ⟨1, _⟩ => rfl
  have h2 : ∀ k : Fin 1024, iblk m c 2 t (ix2 (j 0 : Fin 512) k) = _ := fun k => blk2 m c t (j 0) k
  have h3 := (congrArg (iblk m c 3 t) e).trans (blk3 m c t (j 0) (j 1))
  have h4 : ∀ k : Fin 1024, iblk m c 4 t (ix2 0 k) = _ := fun k => blk4 m c t k
  have hd : ∀ k : Fin 1024, dh (X0_0 m c t) (iblk m c 1 t) (j 0) k = _ := fun k => dh_blk m c t (j 0) k
  have h2' := (congrArg (iblk m c 2 t) e).trans (blk2 m c t (j 0) (j 1))
  exact b5_congr (X0_0 m c t) (iblk m c 1 t) (iblk m c 2 t) (iblk m c 3 t) (iblk m c 4 t) _ _ _ _ _ _ j hd h2 h2' h3 h4

theorem b6_blk (c : Dev nD) (t : Fin cfg0.N) (j : S8x1024.Idx) : b6 (X0_0 m c t) (iblk m c 1 t) (iblk m c 2 t) j
    = ∑ q : Fin 64, dgT (m ((c : Thread nD τ).loc main_arg0)) (m ((c : Thread nD τ).loc main_arg1)) (m ((c : Thread nD τ).loc main_arg2))
        (⟨512 * t.val + (q.val * 8 + (j 0).val), by have : t.val < 8 := t.isLt; have : (j 0).val < 8 := (j 0).isLt; omega⟩ : Fin 4096) (j 1) := by
  unfold b6 dgT
  refine Finset.sum_congr rfl fun q _ => ?_
  have hq : q.val * 8 + (j 0).val < 512 := by have : (j 0).val < 8 := (j 0).isLt; omega
  have h2 : ∀ k : Fin 1024, iblk m c 2 t (ix2 (⟨q.val * 8 + (j 0).val, hq⟩ : Fin 512) k) = _ := fun k => blk2 m c t ⟨q.val * 8 + (j 0).val, hq⟩ k
  have hd := dh_blk m c t ⟨q.val * 8 + (j 0).val, hq⟩ (j 1)
  rw [hd]
  congr 1
  refine congrArg₂ (fun a b => a * Ideal.rsqrt (var b)) (h2 (j 1)) (funext fun k => h2 k)

theorem out5 (c : Dev nD) (t : Fin cfg0.N) : (outsAt0 m c t.val t.isLt).1 = b5 (X0_0 m c t) (iblk m c 1 t) (iblk m c 2 t) (iblk m c 3 t) (iblk m c 4 t) := by
  by_cases h0 : t.val % 8 = 0
  · rw [outsAt0_A m c t h0]; dsimp only; rw [out_A5]
  · rw [outsAt0_B m c t h0]; dsimp only; rw [out_B5]

theorem out6 (c : Dev nD) : ∀ (n : ℕ) (hn : n < cfg0.N), (outsAt0 m c n hn).2 = fun j => ∑ t : Fin (n + 1),
    b6 (X0_0 m c ⟨t.val, Nat.lt_of_le_of_lt (Nat.le_of_lt_succ t.isLt) hn⟩) (iblk m c 1 ⟨t.val, Nat.lt_of_le_of_lt (Nat.le_of_lt_succ t.isLt) hn⟩)
      (iblk m c 2 ⟨t.val, Nat.lt_of_le_of_lt (Nat.le_of_lt_succ t.isLt) hn⟩) j
  | 0, hn => by
    have h := outsAt0_A m c ⟨0, hn⟩ rfl
    dsimp only at h
    rw [h]
    dsimp only
    rw [out_A6]
    funext j
    rw [Fin.sum_univ_one]
    rfl
  | n + 1, hn => by
    have h8 : n + 1 < 8 := hn
    have h := outsAt0_B m c ⟨n + 1, hn⟩ (by show ¬(n + 1) % 8 = 0; omega)
    dsimp only at h
    rw [h]
    dsimp only
    rw [out_B6]
    funext j
    have ih := out6 c n (Nat.lt_of_succ_lt hn)
    rw [Fin.sum_univ_castSucc]
    refine congrArg (· + _) ?_
    exact congrFun ih j

theorem flushed5 (c : Dev nD) (t : Fin cfg0.N) (_ : (cfg0.win 5).flush t = true) :
    (dats m 0 c).flushed 5 t = ((cfg0.win 5).blk t).view.read (Elt Ideal)
      (dxG (m ((c : Thread nD τ).loc main_arg0)) (m ((c : Thread nD τ).loc main_arg1)) (m ((c : Thread nD τ).loc main_arg2))
        (m ((c : Thread nD τ).loc main_arg3)) (m ((c : Thread nD τ).loc main_arg4))) := by
  obtain ⟨h0, h1, -⟩ := idx_out t
  show (dats m 0 c).after 5 t = _
  rw [after0_5, out5]
  funext j
  rw [View.read_apply, b5_blk]
  congr 1
  funext a
  apply Fin.ext
  match a with
  | ⟨0, _⟩ => show 512 * t.val + (j 0).val = win0_5.index t 0 * 512 + 1 * (j 0).val; rw [h0]; omega
  | ⟨1, _⟩ => show (j 1).val = win0_5.index t 1 * 1024 + 1 * (j 1).val; rw [h1]; omega

theorem final5 (c : Dev nD) : (dats m 0 c).arrAt 5 cfg0.N
    = dxG (m ((c : Thread nD τ).loc main_arg0)) (m ((c : Thread nD τ).loc main_arg1)) (m ((c : Thread nD τ).loc main_arg2))
        (m ((c : Thread nD τ).loc main_arg3)) (m ((c : Thread nD τ).loc main_arg4)) :=
  (dats m 0 c).arrAt_eq_of_cover 5 _ (flushed5 m c) fun i => by
    have h0 : (i 0 : Nat) < 4096 := (i 0).isLt
    have h1 : (i 1 : Nat) < 1024 := (i 1).isLt
    have hN : (i 0).val / 512 < cfg0.N := by show _ < 8; omega
    refine ⟨⟨(i 0).val / 512, hN⟩, flush0_5 _, ?_⟩
    obtain ⟨h20, h21, -⟩ := idx_out ⟨(i 0).val / 512, hN⟩
    show i ∈ ((View.whole main_v1_0).slice (win0_5.rect ⟨(i 0).val / 512, hN⟩)).set
    rw [View.set_slice_whole, Rect.mem_set_unit]
    intro a
    match a with
    | ⟨0, _⟩ => show win0_5.index _ 0 * 512 ≤ (i 0 : Nat) ∧ (i 0 : Nat) < win0_5.index _ 0 * 512 + 512; rw [h20]; dsimp only; omega
    | ⟨1, _⟩ => show win0_5.index _ 1 * 1024 ≤ (i 1 : Nat) ∧ (i 1 : Nat) < win0_5.index _ 1 * 1024 + 1024; rw [h21]; omega

theorem flushed6 (c : Dev nD) (t : Fin cfg0.N) (ht : (cfg0.win 6).flush t = true) :
    (dats m 0 c).flushed 6 t = ((cfg0.win 6).blk t).view.read (Elt Ideal)
      (dg8 (m ((c : Thread nD τ).loc main_arg0)) (m ((c : Thread nD τ).loc main_arg1)) (m ((c : Thread nD τ).loc main_arg2))) := by
  have h8 : t.val < 8 := t.isLt
  have ht7 : t.val = 7 := by have := (flush0_6 t).mp ht; omega
  obtain ⟨-, -, h0, h1⟩ := idx_out t
  show (dats m 0 c).after 6 t = _
  rw [after0_6, out6]
  obtain ⟨n, hn⟩ := t
  obtain rfl : n = 7 := ht7
  funext j
  rw [View.read_apply]
  have e : ((cfg0.win 6).blk ⟨7, hn⟩).view.emb j = j := by
    funext a
    apply Fin.ext
    match a with
    | ⟨0, _⟩ => show win0_6.index ⟨7, hn⟩ 0 * 8 + 1 * (j 0).val = (j 0).val; rw [h0]; omega
    | ⟨1, _⟩ => show win0_6.index ⟨7, hn⟩ 1 * 1024 + 1 * (j 1).val = (j 1).val; rw [h1]; omega
  rw [e]
  unfold dg8
  exact Finset.sum_congr rfl fun t _ => b6_blk m c ⟨t.val, t.isLt⟩ j

theorem final6 (c : Dev nD) : (dats m 0 c).arrAt 6 cfg0.N
    = dg8 (m ((c : Thread nD τ).loc main_arg0)) (m ((c : Thread nD τ).loc main_arg1)) (m ((c : Thread nD τ).loc main_arg2)) :=
  (dats m 0 c).arrAt_eq_of_cover 6 _ (flushed6 m c) fun i => by
    have h0 : (i 0 : Nat) < 8 := (i 0).isLt
    have h1 : (i 1 : Nat) < 1024 := (i 1).isLt
    have hN : 7 < cfg0.N := by show _ < 8; omega
    refine ⟨⟨7, hN⟩, (flush0_6 _).mpr rfl, ?_⟩
    obtain ⟨-, -, h20, h21⟩ := idx_out ⟨7, hN⟩
    show i ∈ ((View.whole main_v1_1).slice (win0_6.rect ⟨7, hN⟩)).set
    rw [View.set_slice_whole, Rect.mem_set_unit]
    intro a
    match a with
    | ⟨0, _⟩ => show win0_6.index _ 0 * 8 ≤ (i 0 : Nat) ∧ (i 0 : Nat) < win0_6.index _ 0 * 8 + 8; rw [h20]; omega
    | ⟨1, _⟩ => show win0_6.index _ 1 * 1024 ≤ (i 1 : Nat) ∧ (i 1 : Nat) < win0_6.index _ 1 * 1024 + 1024; rw [h21]; omega

end Cert.Proof.InNorm
-- ==== Proof.InNormRef.lean ====
module

public import proofs.«01_k».proof.Proof.InNorm
public import proofs.«01_k».proof.Proof.Gen.ReferenceIdeal.Run
public import Idealize.ShloMosaic.Lib.Pointwise

@[expose] public section

set_option maxRecDepth 16384

noncomputable section

/-!
  What the host's chain rule computes for the mixer's input product and the first norm: the same sums and the same
  gradient of the norm as the fused call's.
-/

namespace Cert.Proof.InNorm.Ref

open Idealize.ShloMosaic Idealize.ShloMosaic.TcCoe Idealize.SL.Sem
open Cert.ReferenceIdeal Cert.ReferenceIdeal.Gen
open Cert.Proof.NormGrad (var row row_eq)
open Cert.Proof.InNorm (dhG dxG dgT)

/-- A sum over the seven joined sections is the sections' sums. -/
theorem sum_secs (f : Fin 7168 → EReal) : ∑ k, f k = (∑ k : Fin 1024, f ⟨k.val, by omega⟩) + (∑ k : Fin 1024, f ⟨1024 + k.val, by omega⟩) + (∑ k : Fin 1024, f ⟨2048 + k.val, by omega⟩) + (∑ k : Fin 1024, f ⟨3072 + k.val, by omega⟩) + (∑ k : Fin 1024, f ⟨4096 + k.val, by omega⟩) + (∑ k : Fin 1024, f ⟨5120 + k.val, by omega⟩) + (∑ k : Fin 1024, f ⟨6144 + k.val, by omega⟩) := by
  rw [Fin.sum_univ_add (a := 6144) (b := 1024) f,
    Fin.sum_univ_add (a := 5120) (b := 1024) fun k => f (Fin.castAdd 1024 k),
    Fin.sum_univ_add (a := 4096) (b := 1024) fun k => f (Fin.castAdd 1024 (Fin.castAdd 1024 k)),
    Fin.sum_univ_add (a := 3072) (b := 1024) fun k => f (Fin.castAdd 1024 (Fin.castAdd 1024 (Fin.castAdd 1024 k))),
    Fin.sum_univ_add (a := 2048) (b := 1024) fun k => f (Fin.castAdd 1024 (Fin.castAdd 1024 (Fin.castAdd 1024 (Fin.castAdd 1024 k)))),
    Fin.sum_univ_add (a := 1024) (b := 1024) fun k => f (Fin.castAdd 1024 (Fin.castAdd 1024 (Fin.castAdd 1024 (Fin.castAdd 1024 (Fin.castAdd 1024 k)))))]
  rfl

theorem order7 (a b c d e f g : EReal) : a + b + c + d + e + f + g = a + b + f + g + c + d + e := by ac_rfl

/-- The product with the transposed weight: the sections in the weight's order, the kernel's in the cotangent's. -/
theorem dh_ref (dz : FVec Ideal S8x4096x1024 .bf16) (w : FVec Ideal S7168x1024 .bf16) :
    ((Host.dotGeneral (φ₁ := .f32) (φ₂ := .f32) dot_S4096x7168_S1024x7168_S4096x1024_1_1_0_0_n_n none ((concatenate S4096x7168 1 [⟨S4096x1024, ((extf .f32 (shapeCast _ (extractStridedSlice S1x4096x1024 ![0, 0, 0] dz slices_S8x4096x1024_S1x4096x1024_0_0_0) shapeCasts_S1x4096x1024_S4096x1024) bitsLt_bf16_f32) : (⟨S4096x1024, .f32⟩ : BufTy).Contents (Elt Ideal))⟩, ⟨S4096x1024, ((extf .f32 (shapeCast _ (extractStridedSlice S1x4096x1024 ![1, 0, 0] dz slices_S8x4096x1024_S1x4096x1024_1_0_0) shapeCasts_S1x4096x1024_S4096x1024) bitsLt_bf16_f32) : (⟨S4096x1024, .f32⟩ : BufTy).Contents (Elt Ideal))⟩, ⟨S4096x1024, ((extf .f32 (shapeCast _ (extractStridedSlice S1x4096x1024 ![4, 0, 0] dz slices_S8x4096x1024_S1x4096x1024_4_0_0) shapeCasts_S1x4096x1024_S4096x1024) bitsLt_bf16_f32) : (⟨S4096x1024, .f32⟩ : BufTy).Contents (Elt Ideal))⟩, ⟨S4096x1024, ((extf .f32 (shapeCast _ (extractStridedSlice S1x4096x1024 ![5, 0, 0] dz slices_S8x4096x1024_S1x4096x1024_5_0_0) shapeCasts_S1x4096x1024_S4096x1024) bitsLt_bf16_f32) : (⟨S4096x1024, .f32⟩ : BufTy).Contents (Elt Ideal))⟩, ⟨S4096x1024, ((extf .f32 (shapeCast _ (extractStridedSlice S1x4096x1024 ![6, 0, 0] dz slices_S8x4096x1024_S1x4096x1024_6_0_0) shapeCasts_S1x4096x1024_S4096x1024) bitsLt_bf16_f32) : (⟨S4096x1024, .f32⟩ : BufTy).Contents (Elt Ideal))⟩, ⟨S4096x1024, ((extf .f32 (shapeCast _ (extractStridedSlice S1x4096x1024 ![2, 0, 0] dz slices_S8x4096x1024_S1x4096x1024_2_0_0) shapeCasts_S1x4096x1024_S4096x1024) bitsLt_bf16_f32) : (⟨S4096x1024, .f32⟩ : BufTy).Contents (Elt Ideal))⟩, ⟨S4096x1024, ((extf .f32 (shapeCast _ (extractStridedSlice S1x4096x1024 ![3, 0, 0] dz slices_S8x4096x1024_S1x4096x1024_3_0_0) shapeCasts_S1x4096x1024_S4096x1024) bitsLt_bf16_f32) : (⟨S4096x1024, .f32⟩ : BufTy).Contents (Elt Ideal))⟩] concatenates_S4096x1024_S4096x1024_S4096x1024_S4096x1024_S4096x1024_S4096x1024_S4096x1024_S4096x7168_d1 : (⟨S4096x7168, .f32⟩ : BufTy).Contents (Elt Ideal))) (transpose S1024x7168 [1, 0] (extf .f32 w bitsLt_bf16_f32) transposes_S7168x1024_S1024x7168_1_0)) : FVec Ideal S4096x1024 .f32)
      = fun i => dhG dz w (i 0) (i 1) := by
  funext j
  pointwise [dhG]
  let F : Fin 7168 → EReal := fun x => (if h : x.val < 1024 then dz (ix3 0 (j 0) ⟨x.val, h⟩) else if h : x.val - 1024 < 1024 then dz (ix3 1 (j 0) ⟨x.val - 1024, h⟩) else if h : x.val - 1024 - 1024 < 1024 then dz (ix3 4 (j 0) ⟨x.val - 1024 - 1024, h⟩) else if h : x.val - 1024 - 1024 - 1024 < 1024 then dz (ix3 5 (j 0) ⟨x.val - 1024 - 1024 - 1024, h⟩) else if h : x.val - 1024 - 1024 - 1024 - 1024 < 1024 then dz (ix3 6 (j 0) ⟨x.val - 1024 - 1024 - 1024 - 1024, h⟩) else if h : x.val - 1024 - 1024 - 1024 - 1024 - 1024 < 1024 then dz (ix3 2 (j 0) ⟨x.val - 1024 - 1024 - 1024 - 1024 - 1024, h⟩) else dz (ix3 3 (j 0) ⟨x.val - 1024 - 1024 - 1024 - 1024 - 1024 - 1024, by omega⟩)) * w (ix2 x (j 1))
  refine (sum_secs F).trans ((order7 _ _ _ _ _ _ _).trans ?_)
  have t0 : ∀ k : Fin 1024, F ⟨k.val, by omega⟩ = dz (ix3 0 (j 0) k) * w (ix2 (⟨k.val, by omega⟩ : Fin 7168) (j 1)) := fun k => by
    show (dite _ _ _) * _ = _
    rw [dif_pos (by show k.val < 1024; omega)];
  have t1 : ∀ k : Fin 1024, F ⟨1024 + k.val, by omega⟩ = dz (ix3 1 (j 0) k) * w (ix2 (⟨1024 + k.val, by omega⟩ : Fin 7168) (j 1)) := fun k => by
    show (dite _ _ _) * _ = _
    rw [dif_neg (by show ¬(1024 + k.val < 1024); omega)]; rw [dif_pos (by show 1024 + k.val - 1024 < 1024; omega)];
    refine congrArg (fun i : Fin 1024 => dz (ix3 1 (j 0) i) * w (ix2 (⟨1024 + k.val, by omega⟩ : Fin 7168) (j 1))) ?_
    exact Fin.ext (by show 1024 + k.val - 1024 = k.val; omega)
  have t2 : ∀ k : Fin 1024, F ⟨5120 + k.val, by omega⟩ = dz (ix3 2 (j 0) k) * w (ix2 (⟨5120 + k.val, by omega⟩ : Fin 7168) (j 1)) := fun k => by
    show (dite _ _ _) * _ = _
    rw [dif_neg (by show ¬(5120 + k.val < 1024); omega)]; rw [dif_neg (by show ¬(5120 + k.val - 1024 < 1024); omega)]; rw [dif_neg (by show ¬(5120 + k.val - 1024 - 1024 < 1024); omega)]; rw [dif_neg (by show ¬(5120 + k.val - 1024 - 1024 - 1024 < 1024); omega)]; rw [dif_neg (by show ¬(5120 + k.val - 1024 - 1024 - 1024 - 1024 < 1024); omega)]; rw [dif_pos (by show 5120 + k.val - 1024 - 1024 - 1024 - 1024 - 1024 < 1024; omega)];
    refine congrArg (fun i : Fin 1024 => dz (ix3 2 (j 0) i) * w (ix2 (⟨5120 + k.val, by omega⟩ : Fin 7168) (j 1))) ?_
    exact Fin.ext (by show 5120 + k.val - 1024 - 1024 - 1024 - 1024 - 1024 = k.val; omega)
  have t3 : ∀ k : Fin 1024, F ⟨6144 + k.val, by omega⟩ = dz (ix3 3 (j 0) k) * w (ix2 (⟨6144 + k.val, by omega⟩ : Fin 7168) (j 1)) := fun k => by
    show (dite _ _ _) * _ = _
    rw [dif_neg (by show ¬(6144 + k.val < 1024); omega)]; rw [dif_neg (by show ¬(6144 + k.val - 1024 < 1024); omega)]; rw [dif_neg (by show ¬(6144 + k.val - 1024 - 1024 < 1024); omega)]; rw [dif_neg (by show ¬(6144 + k.val - 1024 - 1024 - 1024 < 1024); omega)]; rw [dif_neg (by show ¬(6144 + k.val - 1024 - 1024 - 1024 - 1024 < 1024); omega)]; rw [dif_neg (by show ¬(6144 + k.val - 1024 - 1024 - 1024 - 1024 - 1024 < 1024); omega)];
    refine congrArg (fun i : Fin 1024 => dz (ix3 3 (j 0) i) * w (ix2 (⟨6144 + k.val, by omega⟩ : Fin 7168) (j 1))) ?_
    exact Fin.ext (by show 6144 + k.val - 1024 - 1024 - 1024 - 1024 - 1024 - 1024 = k.val; omega)
  have t4 : ∀ k : Fin 1024, F ⟨2048 + k.val, by omega⟩ = dz (ix3 4 (j 0) k) * w (ix2 (⟨2048 + k.val, by omega⟩ : Fin 7168) (j 1)) := fun k => by
    show (dite _ _ _) * _ = _
    rw [dif_neg (by show ¬(2048 + k.val < 1024); omega)]; rw [dif_neg (by show ¬(2048 + k.val - 1024 < 1024); omega)]; rw [dif_pos (by show 2048 + k.val - 1024 - 1024 < 1024; omega)];
    refine congrArg (fun i : Fin 1024 => dz (ix3 4 (j 0) i) * w (ix2 (⟨2048 + k.val, by omega⟩ : Fin 7168) (j 1))) ?_
    exact Fin.ext (by show 2048 + k.val - 1024 - 1024 = k.val; omega)
  have t5 : ∀ k : Fin 1024, F ⟨3072 + k.val, by omega⟩ = dz (ix3 5 (j 0) k) * w (ix2 (⟨3072 + k.val, by omega⟩ : Fin 7168) (j 1)) := fun k => by
    show (dite _ _ _) * _ = _
    rw [dif_neg (by show ¬(3072 + k.val < 1024); omega)]; rw [dif_neg (by show ¬(3072 + k.val - 1024 < 1024); omega)]; rw [dif_neg (by show ¬(3072 + k.val - 1024 - 1024 < 1024); omega)]; rw [dif_pos (by show 3072 + k.val - 1024 - 1024 - 1024 < 1024; omega)];
    refine congrArg (fun i : Fin 1024 => dz (ix3 5 (j 0) i) * w (ix2 (⟨3072 + k.val, by omega⟩ : Fin 7168) (j 1))) ?_
    exact Fin.ext (by show 3072 + k.val - 1024 - 1024 - 1024 = k.val; omega)
  have t6 : ∀ k : Fin 1024, F ⟨4096 + k.val, by omega⟩ = dz (ix3 6 (j 0) k) * w (ix2 (⟨4096 + k.val, by omega⟩ : Fin 7168) (j 1)) := fun k => by
    show (dite _ _ _) * _ = _
    rw [dif_neg (by show ¬(4096 + k.val < 1024); omega)]; rw [dif_neg (by show ¬(4096 + k.val - 1024 < 1024); omega)]; rw [dif_neg (by show ¬(4096 + k.val - 1024 - 1024 < 1024); omega)]; rw [dif_neg (by show ¬(4096 + k.val - 1024 - 1024 - 1024 < 1024); omega)]; rw [dif_pos (by show 4096 + k.val - 1024 - 1024 - 1024 - 1024 < 1024; omega)];
    refine congrArg (fun i : Fin 1024 => dz (ix3 6 (j 0) i) * w (ix2 (⟨4096 + k.val, by omega⟩ : Fin 7168) (j 1))) ?_
    exact Fin.ext (by show 4096 + k.val - 1024 - 1024 - 1024 - 1024 = k.val; omega)
  exact congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (Finset.sum_congr rfl fun k _ => t0 k) (Finset.sum_congr rfl fun k _ => t1 k)) (Finset.sum_congr rfl fun k _ => t2 k)) (Finset.sum_congr rfl fun k _ => t3 k)) (Finset.sum_congr rfl fun k _ => t4 k)) (Finset.sum_congr rfl fun k _ => t5 k)) (Finset.sum_congr rfl fun k _ => t6 k)

/-- The chain rule through the norm, for any gradient `H` of the normed rows. -/
theorem dx_ref (H x y : FVec Ideal S4096x1024 .f32) (g : FVec Ideal S1x1024 .f32) :
    (addf (addf (addf y (mulf (mulf H (broadcastInDim S4096x1024 ![0, 1] bcast_S1x1024_S4096x1024_0_1 (broadcastInDim S1x1024 ![1] bcast_S1024_S1x1024_1 (shapeCast _ g shapeCasts_S1x1024_S1024)))) (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))))))) (mulf x (broadcastInDim S4096x1024 ![0] bcast_S4096_S4096x1024_0 (Host.reduceAdd (Host.divf (mulf (shapeCast _ (Host.reduceAdd (mulf x (mulf H (broadcastInDim S4096x1024 ![0, 1] bcast_S1x1024_S4096x1024_0_1 (broadcastInDim S1x1024 ![1] bcast_S1024_S1x1024_1 (shapeCast _ g shapeCasts_S1x1024_S1024))))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)))) (mulf (broadcastInDim S4096x1024 ![0] bcast_S4096_S4096x1024_0 (Host.reduceAdd (Host.divf (mulf (shapeCast _ (Host.reduceAdd (mulf x (mulf H (broadcastInDim S4096x1024 ![0, 1] bcast_S1x1024_S4096x1024_0_1 (broadcastInDim S1x1024 ![1] bcast_S1024_S1x1024_1 (shapeCast _ g shapeCasts_S1x1024_S1024))))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)) x) : FVec Ideal S4096x1024 .f32)
      = fun i => row (fun k => x (ix2 (i 0) k)) (y i) (x i) (H i * g (ix2 0 (i 1))) (fun k => H (ix2 (i 0) k) * g (ix2 0 k)) := by
  funext j
  rw [row_eq]
  pointwise [var]
  simp only [Fin.sum_univ_one]

/-- The gradient of the scale, summed over the tokens. -/
theorem dg_ref (H x : FVec Ideal S4096x1024 .f32) :
    (broadcastInDim S1x1024 ![1] bcast_S1024_S1x1024_1 (Host.reduceAdd (shapeCast _ (Host.reduceAdd (mulf (mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) H) (constant S_ .f32 0x00000000#32) reducesTo_S4096x1024_S1024_d0 h_S_) shapeCasts_S1024_S1x1024) (constant S_ .f32 0x00000000#32) reducesTo_S1x1024_S1024_d0 h_S_) : FVec Ideal S1x1024 .f32)
      = fun i => ∑ r : Fin 4096, H (ix2 r (i 1)) * (x (ix2 r (i 1)) * Ideal.rsqrt (var fun k => x (ix2 r k))) := by
  funext j
  pointwise [var]
  simp only [Fin.sum_univ_one]
  exact Finset.sum_congr rfl fun r _ => mul_comm _ _

end Cert.Proof.InNorm.Ref
-- ==== Proof.InNormRun.lean ====
module

public import proofs.«01_k».proof.Proof.InNormRef
public import proofs.«01_k».proof.Defs

@[expose] public section

set_option maxRecDepth 16384

noncomputable section

/-!
  The call with the host's sum of its eight rows, against the chain rule of the forward lines.
-/

namespace Cert.Proof.InNorm

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- Every token is in one of the eight rows of one of the blocks. -/
theorem sum_rows (f : Fin 4096 → EReal) : ∑ s : Fin 8, ∑ t : Fin 8, ∑ q : Fin 64, f ⟨512 * t.val + (q.val * 8 + s.val), by omega⟩ = ∑ r, f r := by
  have h : ∑ p : Fin 8 × Fin 8 × Fin 64, f ⟨512 * p.2.1.val + (p.2.2.val * 8 + p.1.val), by omega⟩ = ∑ r, f r := by
    refine Fintype.sum_bijective (fun p : Fin 8 × Fin 8 × Fin 64 => (⟨512 * p.2.1.val + (p.2.2.val * 8 + p.1.val), by omega⟩ : Fin 4096)) ?_ _ _ fun _ => rfl
    refine (Fintype.bijective_iff_injective_and_card _).mpr ⟨?_, by simp⟩
    rintro ⟨s, t, q⟩ ⟨s', t', q'⟩ e
    have e' : 512 * t.val + (q.val * 8 + s.val) = 512 * t'.val + (q'.val * 8 + s'.val) := congrArg Fin.val e
    have := t.isLt; have := t'.isLt; have := q.isLt; have := q'.isLt; have := s.isLt; have := s'.isLt
    refine Prod.ext (Fin.ext ?_) (Prod.ext (Fin.ext ?_) (Fin.ext ?_)) <;> dsimp only <;> omega
  rw [← h]
  simp only [Fintype.sum_prod_type]

/-- The gradient of the norm's scale. -/
def dgG (dz : Vec Ideal S8x4096x1024 .bf16) (w : Vec Ideal S7168x1024 .bf16) (x : Vec Ideal S4096x1024 .f32) : Vec Ideal S1x1024 .f32 := fun i =>
  ∑ r : Fin 4096, dgT dz w x r (i 1)

theorem tail_eq (a : FVec Ideal S8x1024 .f32) : (broadcastInDim S1x1024 ![1] bcast_S1024_S1x1024_1
      (Host.reduceAdd a (constant S_ .f32 0x00000000#32) reducesTo_S8x1024_S1024_d0 h_S_) : FVec Ideal S1x1024 .f32)
    = fun i => ∑ s : Fin 8, a (ix2 s (i 1)) := by
  funext j
  pointwise []

theorem dg_eq (dz : Vec Ideal S8x4096x1024 .bf16) (w : Vec Ideal S7168x1024 .bf16) (x : Vec Ideal S4096x1024 .f32) :
    (broadcastInDim S1x1024 ![1] bcast_S1024_S1x1024_1
      (Host.reduceAdd (dg8 dz w x : FVec Ideal S8x1024 .f32) (constant S_ .f32 0x00000000#32) reducesTo_S8x1024_S1024_d0 h_S_) : FVec Ideal S1x1024 .f32)
    = dgG dz w x := by
  rw [tail_eq]
  funext i
  exact sum_rows fun r => dgT dz w x r (i 1)

theorem tail_v3 (c : Dev nD) : Pipeline.afterTail₀ cfgs (dats m) 0 (V0 m) [hostOps1] c main_v3
    = dgG (m ((c : Thread nD τ).loc main_arg0)) (m ((c : Thread nD τ).loc main_arg1)) (m ((c : Thread nD τ).loc main_arg2)) := by
  unfold Pipeline.afterTail₀
  simp only [hostOps1, List.flatten_cons, List.flatten_nil, List.append_nil]
  after_results_simp

  have h : Pipeline.withArrays (cfgs 0).spec c (V0 m c) (fun w => (dats m 0 c).arrAt w (cfgs 0).N) (Proc.tc.devRef main_v1_1)
      = dg8 (m ((c : Thread nD τ).loc main_arg0)) (m ((c : Thread nD τ).loc main_arg1)) (m ((c : Thread nD τ).loc main_arg2)) :=
    (Pipeline.withArrays_arr (cfgs 0).spec winFacts0.arr_inj c (V0 m c) (fun w => (dats m 0 c).arrAt w (cfgs 0).N) 6).trans (final6 m c)
  rw [h]
  exact dg_eq _ _ _

/-- What the whole program leaves: the two gradients, and the arguments as they were. -/
theorem run_value : θ_run defs (onTc (τ := τ) (main (F := Ideal))) ⟨m, fun _ => 0, ρ⟩ (fun r => ∀ c : Dev nD,
      r.2.mem ((c.tc : Thread nD τ).loc main_v1_0) = dxG (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_v3) = dgG (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 5).trans (final5 m c),
      ((h c).2 main_v3 (Pipeline.mem_restRefs_of main_v3 (by decide) (by decide))).trans (tail_v3 m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      (((h c).2 main_arg5 (Pipeline.mem_restRefs_of main_arg5 (by decide) (by decide))).trans (W_main_arg5 m (dats m) c))⟩)
    (run_main m ρ)

/-- The host's first result is the gradient of the norm's input. -/
theorem ref_dx (m' : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v63 m' c = dxG (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) := by
  unfold Cert.ReferenceIdeal.Value.res_main_v63
  refine (Ref.dx_ref _ _ _ _).trans ?_
  rw [Ref.dh_ref]
  rfl

theorem claim1 : Cert.algebraic_KernelIdeal_ReferenceIdeal := by
  intro m g m' g' _ hargs
  refine ⟨fun c => dxG (m ((c : Thread nD τ).loc main_arg0)) (m ((c : Thread nD τ).loc main_arg1)) (m ((c : Thread nD τ).loc main_arg2)) (m ((c : Thread nD τ).loc main_arg3)) (m ((c : Thread nD τ).loc main_arg4)),
    fun c => dgG (m ((c : Thread nD τ).loc main_arg0)) (m ((c : Thread nD τ).loc main_arg1)) (m ((c : Thread nD τ).loc main_arg2)),
    run_value m g, (θ_run _ _ _).mono (fun _ h c => ?_) (Cert.ReferenceIdeal.Value.run m' g')⟩
  obtain ⟨e0, e1, e2, e3, e4, e5⟩ := hargs c
  obtain ⟨h0, h1, h2⟩ := h c
  refine ⟨h0.trans ?_, h1.trans ?_, h2⟩
  · dsimp only; rw [← e0, ← e1, ← e2, ← e3, ← e4]; exact ref_dx m' c
  · dsimp only; rw [← e0, ← e1, ← e2]
    refine (Ref.dg_ref _ _).trans ?_
    rw [Ref.dh_ref]
    rfl

end Cert.Proof.InNorm
-- ==== Proof.Df.lean ====
module

public import proofs.«01_k».proof.Proof.Gen.Kernel5Ideal.Value
public import proofs.«01_k».proof.Proof.Gen.Reference5Ideal.Run
public import Idealize.ShloMosaic.Lib.Pointwise
public import Idealize.ShloMosaic.Lib.Tactic

@[expose] public section

set_option maxRecDepth 16384

noncomputable section

/-!
  The gradient of the down product's input (`mm_df`): entry `(t, l)` is the sum over the model's columns of
  `dy[t, k] · w[l, k]`.
-/

namespace Cert.Proof.Df

open Idealize.ShloMosaic Idealize.ShloMosaic.TcCoe Idealize.SL.Sem
open Idealize.ShloMosaic.Pipeline (Dat)
open Cert.Kernel5Ideal Cert.Kernel5Ideal.Gen

/-- The gradient, entry by entry. -/
def G (dy : Vec Ideal S4096x1024 .bf16) (w : Vec Ideal S2816x1024 .bf16) : Vec Ideal S4096x2816 .f32 := fun i =>
  ∑ k : Fin 1024, dy (ix2 (i 0) k) * w (ix2 (i 1) k)

theorem hz2 : (![0, 0] : Fin 2 → Nat) = fun _ => 0 := funext fun a => by fin_cases a <;> rfl

theorem out_apply (x0 : Vec Ideal S1024x1024 .bf16) (x1 : Vec Ideal S1408x1024 .bf16) (j : S1024x1408.Idx) :
    out0_2 x0 x1 j = ∑ k : Fin 1024, x0 (ix2 (j 0) k) * x1 (ix2 (j 1) k) := by
  unfold out0_2
  rw [View.canon_unit_zero hz2, View.ld_unit_zero hz2, View.ld_unit_zero hz2]
  pointwise [k0_pay1]

variable (m : (ℓ : Loc nD τ sig) → Buf (Elt Ideal) ℓ) (ρ : Dev nD → PrngReg)

theorem idx_in : ∀ t : Fin cfg0.N, win0_0.index t 0 = t.val / 2 ∧ win0_0.index t 1 = 0
    ∧ win0_1.index t 0 = t.val % 2 ∧ win0_1.index t 1 = 0 ∧ win0_2.index t 0 = t.val / 2 ∧ win0_2.index t 1 = t.val % 2 :=
  (by decide +kernel : ∀ t : Fin grid0.N, win0_0.index t 0 = t.val / 2 ∧ win0_0.index t 1 = 0
    ∧ win0_1.index t 0 = t.val % 2 ∧ win0_1.index t 1 = 0 ∧ win0_2.index t 0 = t.val / 2 ∧ win0_2.index t 1 = t.val % 2)

theorem flushed_eq (c : Dev nD) (t : Fin cfg0.N) (_ : (cfg0.win 2).flush t = true) :
    (dats m 0 c).flushed 2 t = ((cfg0.win 2).blk t).view.read (Elt Ideal)
      (G (m ((c : Thread nD τ).loc main_arg0)) (m ((c : Thread nD τ).loc main_arg1))) := by
  obtain ⟨h00, h01, h10, h11, h20, h21⟩ := idx_in t
  rw [Value.flushed2]
  show out0_2 (iblk m c 0 t) (iblk m c 1 t) = _
  funext j
  rw [View.read_apply]
  refine (out_apply _ _ j).trans ?_
  unfold G
  refine Finset.sum_congr rfl fun k _ => ?_
  unfold iblk
  rw [View.read_apply, View.read_apply]
  show HMul.hMul (α := EReal) (β := EReal) (γ := EReal) (m ((c : Thread nD τ).loc main_arg0) _) (m ((c : Thread nD τ).loc main_arg1) _) = _
  congr 2
  · funext a
    apply Fin.ext
    match a with
    | ⟨0, _⟩ => show win0_0.index t 0 * 1024 + 1 * (j 0).val = win0_2.index t 0 * 1024 + 1 * (j 0).val; rw [h00, h20]
    | ⟨1, _⟩ => show win0_0.index t 1 * 1024 + 1 * k.val = k.val; rw [h01]; omega
  · funext a
    apply Fin.ext
    match a with
    | ⟨0, _⟩ => show win0_1.index t 0 * 1408 + 1 * (j 1).val = win0_2.index t 1 * 1408 + 1 * (j 1).val; rw [h10, h21]
    | ⟨1, _⟩ => show win0_1.index t 1 * 1024 + 1 * k.val = k.val; rw [h11]; omega

theorem final (c : Dev nD) : (dats m 0 c).arrAt 2 cfg0.N
    = G (m ((c : Thread nD τ).loc main_arg0)) (m ((c : Thread nD τ).loc main_arg1)) :=
  (dats m 0 c).arrAt_eq_of_cover 2 _ (flushed_eq m c) fun i => by
    have h0 : (i 0 : Nat) < 4096 := (i 0).isLt
    have h1 : (i 1 : Nat) < 2816 := (i 1).isLt
    have hN : (i 0).val / 1024 * 2 + (i 1).val / 1408 < cfg0.N := by show _ < 8; omega
    refine ⟨⟨_, hN⟩, flush0_2 _, ?_⟩
    obtain ⟨-, -, -, -, h20, h21⟩ := idx_in ⟨_, hN⟩
    show i ∈ ((View.whole main_v0).slice (win0_2.rect ⟨_, hN⟩)).set
    rw [View.set_slice_whole, Rect.mem_set_unit]
    intro a
    match a with
    | ⟨0, _⟩ => show win0_2.index _ 0 * 1024 ≤ (i 0 : Nat) ∧ (i 0 : Nat) < win0_2.index _ 0 * 1024 + 1024; rw [h20]; dsimp only; omega
    | ⟨1, _⟩ => show win0_2.index _ 1 * 1408 ≤ (i 1 : Nat) ∧ (i 1 : Nat) < win0_2.index _ 1 * 1408 + 1408; rw [h21]; dsimp only; omega

end Cert.Proof.Df

namespace Cert.Proof.Df.Ref

open Idealize.ShloMosaic Idealize.ShloMosaic.TcCoe Idealize.SL.Sem
open Cert.Reference5Ideal Cert.Reference5Ideal.Gen

theorem ref_eq (dy : FVec Ideal S4096x1024 .bf16) (w : FVec Ideal S2816x1024 .bf16) :
    (Host.dotGeneral dot_S4096x1024_S2816x1024_S4096x2816_1_1_0_0_n_n none (extf .f32 dy bitsLt_bf16_f32) (extf .f32 w bitsLt_bf16_f32) : FVec Ideal S4096x2816 .f32)
      = G dy w := by
  funext j
  pointwise [G]

end Cert.Proof.Df.Ref
-- ==== Proof.Dwdn.lean ====
module

public import proofs.«01_k».proof.Proof.Gen.Kernel6Ideal.Value
public import proofs.«01_k».proof.Proof.Gen.Reference6Ideal.Run
public import Idealize.ShloMosaic.Lib.Pointwise
public import Idealize.ShloMosaic.Lib.Tactic

@[expose] public section

set_option maxRecDepth 16384

noncomputable section

/-!
  The gradient of the down product's weight (`mm_dwdn`): entry `(r, l)` is the sum over the tokens of
  `f[t, r] · dy[t, l]`.
-/

namespace Cert.Proof.Dwdn

open Idealize.ShloMosaic Idealize.ShloMosaic.TcCoe Idealize.SL.Sem
open Idealize.ShloMosaic.Pipeline (Dat)
open Cert.Kernel6Ideal Cert.Kernel6Ideal.Gen

/-- The gradient, entry by entry. -/
def G (a : Vec Ideal S4096x2816 .bf16) (dy : Vec Ideal S4096x1024 .bf16) : Vec Ideal S2816x1024 .bf16 := fun i =>
  ∑ t : Fin 4096, a (ix2 t (i 0)) * dy (ix2 t (i 1))

theorem hz2 : (![0, 0] : Fin 2 → Nat) = fun _ => 0 := funext fun a => by fin_cases a <;> rfl

theorem out_apply (x0 : Vec Ideal S4096x1408 .bf16) (x1 : Vec Ideal S4096x1024 .bf16) (j : S1408x1024.Idx) :
    out0_2 x0 x1 j = ∑ t : Fin 4096, x0 (ix2 t (j 0)) * x1 (ix2 t (j 1)) := by
  unfold out0_2
  rw [View.canon_unit_zero hz2, View.ld_unit_zero hz2, View.ld_unit_zero hz2]
  pointwise [k0_pay1]

variable (m : (ℓ : Loc nD τ sig) → Buf (Elt Ideal) ℓ) (ρ : Dev nD → PrngReg)

theorem idx_in : ∀ t : Fin cfg0.N, win0_0.index t 0 = 0 ∧ win0_0.index t 1 = t.val
    ∧ win0_1.index t 0 = 0 ∧ win0_1.index t 1 = 0 ∧ win0_2.index t 0 = t.val ∧ win0_2.index t 1 = 0 :=
  (by decide +kernel : ∀ t : Fin grid0.N, win0_0.index t 0 = 0 ∧ win0_0.index t 1 = t.val
    ∧ win0_1.index t 0 = 0 ∧ win0_1.index t 1 = 0 ∧ win0_2.index t 0 = t.val ∧ win0_2.index t 1 = 0)

theorem flushed_eq (c : Dev nD) (t : Fin cfg0.N) (_ : (cfg0.win 2).flush t = true) :
    (dats m 0 c).flushed 2 t = ((cfg0.win 2).blk t).view.read (Elt Ideal)
      (G (m ((c : Thread nD τ).loc main_arg0)) (m ((c : Thread nD τ).loc main_arg1))) := by
  obtain ⟨h00, h01, h10, h11, h20, h21⟩ := idx_in t
  rw [Value.flushed2]
  show out0_2 (iblk m c 0 t) (iblk m c 1 t) = _
  funext j
  rw [View.read_apply]
  refine (out_apply _ _ j).trans ?_
  unfold G
  refine Finset.sum_congr rfl fun s _ => ?_
  unfold iblk
  rw [View.read_apply, View.read_apply]
  show HMul.hMul (α := EReal) (β := EReal) (γ := EReal) (m ((c : Thread nD τ).loc main_arg0) _) (m ((c : Thread nD τ).loc main_arg1) _) = _
  congr 2
  · funext a
    apply Fin.ext
    match a with
    | ⟨0, _⟩ => show win0_0.index t 0 * 4096 + 1 * s.val = s.val; rw [h00]; omega
    | ⟨1, _⟩ => show win0_0.index t 1 * 1408 + 1 * (j 0).val = win0_2.index t 0 * 1408 + 1 * (j 0).val; rw [h01, h20]
  · funext a
    apply Fin.ext
    match a with
    | ⟨0, _⟩ => show win0_1.index t 0 * 4096 + 1 * s.val = s.val; rw [h10]; omega
    | ⟨1, _⟩ => show win0_1.index t 1 * 1024 + 1 * (j 1).val = win0_2.index t 1 * 1024 + 1 * (j 1).val; rw [h11, h21]

theorem final (c : Dev nD) : (dats m 0 c).arrAt 2 cfg0.N
    = G (m ((c : Thread nD τ).loc main_arg0)) (m ((c : Thread nD τ).loc main_arg1)) :=
  (dats m 0 c).arrAt_eq_of_cover 2 _ (flushed_eq m c) fun i => by
    have h0 : (i 0 : Nat) < 2816 := (i 0).isLt
    have h1 : (i 1 : Nat) < 1024 := (i 1).isLt
    have hN : (i 0).val / 1408 < cfg0.N := by show _ < 2; omega
    refine ⟨⟨_, hN⟩, flush0_2 _, ?_⟩
    obtain ⟨-, -, -, -, h20, h21⟩ := idx_in ⟨_, hN⟩
    show i ∈ ((View.whole main_v0).slice (win0_2.rect ⟨_, hN⟩)).set
    rw [View.set_slice_whole, Rect.mem_set_unit]
    intro a
    match a with
    | ⟨0, _⟩ => show win0_2.index _ 0 * 1408 ≤ (i 0 : Nat) ∧ (i 0 : Nat) < win0_2.index _ 0 * 1408 + 1408; rw [h20]; dsimp only; omega
    | ⟨1, _⟩ => show win0_2.index _ 1 * 1024 ≤ (i 1 : Nat) ∧ (i 1 : Nat) < win0_2.index _ 1 * 1024 + 1024; rw [h21]; omega

end Cert.Proof.Dwdn

namespace Cert.Proof.Dwdn.Ref

open Idealize.ShloMosaic Idealize.ShloMosaic.TcCoe Idealize.SL.Sem
open Cert.Reference6Ideal Cert.Reference6Ideal.Gen

theorem ref_eq (a : FVec Ideal S4096x2816 .bf16) (dy : FVec Ideal S4096x1024 .bf16) :
    (truncf .bf16 (transpose S2816x1024 [1, 0] (Host.dotGeneral dot_S4096x1024_S4096x2816_S1024x2816_0_0_1_1_n_n none (extf .f32 dy bitsLt_bf16_f32) (extf .f32 a bitsLt_bf16_f32)) transposes_S1024x2816_S2816x1024_1_0) bitsLt_bf16_f32 : FVec Ideal S2816x1024 .bf16)
      = G a dy := by
  funext j
  pointwise [G]
  exact Finset.sum_congr rfl fun t _ => mul_comm _ _

end Cert.Proof.Dwdn.Ref
-- ==== Proof.Dwo.lean ====
module

public import proofs.«01_k».proof.Proof.Gen.Kernel7Ideal.Value
public import proofs.«01_k».proof.Proof.Gen.Reference7Ideal.Run
public import Idealize.ShloMosaic.Lib.Pointwise
public import Idealize.ShloMosaic.Lib.Tactic

@[expose] public section

set_option maxRecDepth 16384

noncomputable section

/-!
  The gradient of a square weight (`mm_dwo`, `mm_dwco`, `mm_dwao`): entry `(r, l)` is the sum over the tokens of
  `a[t, r] · dy[t, l]`.
-/

namespace Cert.Proof.Dwo

open Idealize.ShloMosaic Idealize.ShloMosaic.TcCoe Idealize.SL.Sem
open Idealize.ShloMosaic.Pipeline (Dat)
open Cert.Kernel7Ideal Cert.Kernel7Ideal.Gen

/-- The gradient, entry by entry. -/
def G (a : Vec Ideal S4096x1024 .bf16) (dy : Vec Ideal S4096x1024 .bf16) : Vec Ideal S1024x1024 .bf16 := fun i =>
  ∑ t : Fin 4096, a (ix2 t (i 0)) * dy (ix2 t (i 1))

theorem hz2 : (![0, 0] : Fin 2 → Nat) = fun _ => 0 := funext fun a => by fin_cases a <;> rfl

theorem out_apply (x0 : Vec Ideal S4096x512 .bf16) (x1 : Vec Ideal S4096x1024 .bf16) (j : S512x1024.Idx) :
    out0_2 x0 x1 j = ∑ t : Fin 4096, x0 (ix2 t (j 0)) * x1 (ix2 t (j 1)) := by
  unfold out0_2
  rw [View.canon_unit_zero hz2, View.ld_unit_zero hz2, View.ld_unit_zero hz2]
  pointwise [k0_pay1]

variable (m : (ℓ : Loc nD τ sig) → Buf (Elt Ideal) ℓ) (ρ : Dev nD → PrngReg)

theorem idx_in : ∀ t : Fin cfg0.N, win0_0.index t 0 = 0 ∧ win0_0.index t 1 = t.val
    ∧ win0_1.index t 0 = 0 ∧ win0_1.index t 1 = 0 ∧ win0_2.index t 0 = t.val ∧ win0_2.index t 1 = 0 :=
  (by decide +kernel : ∀ t : Fin grid0.N, win0_0.index t 0 = 0 ∧ win0_0.index t 1 = t.val
    ∧ win0_1.index t 0 = 0 ∧ win0_1.index t 1 = 0 ∧ win0_2.index t 0 = t.val ∧ win0_2.index t 1 = 0)

theorem flushed_eq (c : Dev nD) (t : Fin cfg0.N) (_ : (cfg0.win 2).flush t = true) :
    (dats m 0 c).flushed 2 t = ((cfg0.win 2).blk t).view.read (Elt Ideal)
      (G (m ((c : Thread nD τ).loc main_arg0)) (m ((c : Thread nD τ).loc main_arg1))) := by
  obtain ⟨h00, h01, h10, h11, h20, h21⟩ := idx_in t
  rw [Value.flushed2]
  show out0_2 (iblk m c 0 t) (iblk m c 1 t) = _
  funext j
  rw [View.read_apply]
  refine (out_apply _ _ j).trans ?_
  unfold G
  refine Finset.sum_congr rfl fun s _ => ?_
  unfold iblk
  rw [View.read_apply, View.read_apply]
  show HMul.hMul (α := EReal) (β := EReal) (γ := EReal) (m ((c : Thread nD τ).loc main_arg0) _) (m ((c : Thread nD τ).loc main_arg1) _) = _
  congr 2
  · funext a
    apply Fin.ext
    match a with
    | ⟨0, _⟩ => show win0_0.index t 0 * 4096 + 1 * s.val = s.val; rw [h00]; omega
    | ⟨1, _⟩ => show win0_0.index t 1 * 512 + 1 * (j 0).val = win0_2.index t 0 * 512 + 1 * (j 0).val; rw [h01, h20]
  · funext a
    apply Fin.ext
    match a with
    | ⟨0, _⟩ => show win0_1.index t 0 * 4096 + 1 * s.val = s.val; rw [h10]; omega
    | ⟨1, _⟩ => show win0_1.index t 1 * 1024 + 1 * (j 1).val = win0_2.index t 1 * 1024 + 1 * (j 1).val; rw [h11, h21]

theorem final (c : Dev nD) : (dats m 0 c).arrAt 2 cfg0.N
    = G (m ((c : Thread nD τ).loc main_arg0)) (m ((c : Thread nD τ).loc main_arg1)) :=
  (dats m 0 c).arrAt_eq_of_cover 2 _ (flushed_eq m c) fun i => by
    have h0 : (i 0 : Nat) < 1024 := (i 0).isLt
    have h1 : (i 1 : Nat) < 1024 := (i 1).isLt
    have hN : (i 0).val / 512 < cfg0.N := by show _ < 2; omega
    refine ⟨⟨_, hN⟩, flush0_2 _, ?_⟩
    obtain ⟨-, -, -, -, h20, h21⟩ := idx_in ⟨_, hN⟩
    show i ∈ ((View.whole main_v0).slice (win0_2.rect ⟨_, hN⟩)).set
    rw [View.set_slice_whole, Rect.mem_set_unit]
    intro a
    match a with
    | ⟨0, _⟩ => show win0_2.index _ 0 * 512 ≤ (i 0 : Nat) ∧ (i 0 : Nat) < win0_2.index _ 0 * 512 + 512; rw [h20]; dsimp only; omega
    | ⟨1, _⟩ => show win0_2.index _ 1 * 1024 ≤ (i 1 : Nat) ∧ (i 1 : Nat) < win0_2.index _ 1 * 1024 + 1024; rw [h21]; omega

end Cert.Proof.Dwo

namespace Cert.Proof.Dwo.Ref

open Idealize.ShloMosaic Idealize.ShloMosaic.TcCoe Idealize.SL.Sem
open Cert.Reference7Ideal Cert.Reference7Ideal.Gen

theorem ref_eq (a : FVec Ideal S4096x1024 .bf16) (dy : FVec Ideal S4096x1024 .bf16) :
    (truncf .bf16 (transpose S1024x1024 [1, 0] (Host.dotGeneral dot_S4096x1024_S4096x1024_S1024x1024_0_0_1_1_n_n none (extf .f32 dy bitsLt_bf16_f32) (extf .f32 a bitsLt_bf16_f32)) transposes_S1024x1024_S1024x1024_1_0) bitsLt_bf16_f32 : FVec Ideal S1024x1024 .bf16)
      = G a dy := by
  funext j
  pointwise [G]
  exact Finset.sum_congr rfl fun t _ => mul_comm _ _

end Cert.Proof.Dwo.Ref
-- ==== Proof.DoProj.lean ====
module

public import proofs.«01_k».proof.Proof.Gen.Kernel8Ideal.Value
public import proofs.«01_k».proof.Proof.Gen.Reference8Ideal.Run
public import Idealize.ShloMosaic.Lib.Pointwise
public import Idealize.ShloMosaic.Lib.Tactic

@[expose] public section

set_option maxRecDepth 16384

noncomputable section

/-!
  The gradient of the attention's output product's input (`mm_do`): entry `(t, l)` is the sum over the model's
  columns of `dy[t, k] · w[l, k]`. The call's last operand orders it after the exchange and is not read.
-/

namespace Cert.Proof.DoProj

open Idealize.ShloMosaic Idealize.ShloMosaic.TcCoe Idealize.SL.Sem
open Idealize.ShloMosaic.Pipeline (Dat)
open Cert.Kernel8Ideal Cert.Kernel8Ideal.Gen

/-- The gradient, entry by entry. -/
def G (dy : Vec Ideal S4096x1024 .bf16) (w : Vec Ideal S1024x1024 .bf16) : Vec Ideal S4096x1024 .f32 := fun i =>
  ∑ k : Fin 1024, dy (ix2 (i 0) k) * w (ix2 (i 1) k)

theorem hz2 : (![0, 0] : Fin 2 → Nat) = fun _ => 0 := funext fun a => by fin_cases a <;> rfl

theorem pay_apply (x0 x1 : Vec Ideal S1024x1024 .bf16) (j : S1024x1024.Idx) :
    k0_pay1 x0 x1 j = ∑ k : Fin 1024, x0 (ix2 (j 0) k) * x1 (ix2 (j 1) k) := by
  pointwise [k0_pay1]

theorem out_apply (c : Dev nD) (i : grid0.Coords) (a3 : Memref sig .tc .vmem S1024x1024 .bf16) (h3 : a3.IsWhole) (a4 : Memref sig .tc .vmem S1024x1024 .bf16) (h4 : a4.IsWhole) (a6 : Memref sig .tc .vmem S1024x1024 .f32) (h6 : a6.IsWhole)
    (x0 x1 : Vec Ideal S1024x1024 .bf16) (j : S1024x1024.Idx) :
    out0_A_2 c i a3 h3 a4 h4 a6 h6 x0 x1 j = ∑ k : Fin 1024, x0 (ix2 (j 0) k) * x1 (ix2 (j 1) k) := by
  unfold out0_A_2
  rw [View.read_writes_eq_canon _ _ _ (cover0_A_2 c i a3 h3 a4 h4 a6 h6 x0 x1)]
  unfold kernelRun0_A
  dsimp only
  sl_unfold_words
  rw [View.canon_unit_zero hz2]
  simp only [View.readAt_eq_ld, h3.read_unread, h4.read_unread, View.ld_unit_zero (S := S1024x1024) hz2]
  exact pay_apply x0 x1 j

variable (m : (ℓ : Loc nD τ sig) → Buf (Elt Ideal) ℓ) (ρ : Dev nD → PrngReg)

theorem idx_in : ∀ t : Fin cfg0.N, win0_0.index t 0 = t.val ∧ win0_0.index t 1 = 0
    ∧ win0_1.index t 0 = 0 ∧ win0_1.index t 1 = 0 ∧ win0_2.index t 0 = t.val ∧ win0_2.index t 1 = 0 :=
  (by decide +kernel : ∀ t : Fin grid0.N, win0_0.index t 0 = t.val ∧ win0_0.index t 1 = 0
    ∧ win0_1.index t 0 = 0 ∧ win0_1.index t 1 = 0 ∧ win0_2.index t 0 = t.val ∧ win0_2.index t 1 = 0)

theorem flushed_eq (c : Dev nD) (t : Fin cfg0.N) (_ : (cfg0.win 2).flush t = true) :
    (dats m 0 c).flushed 2 t = ((cfg0.win 2).blk t).view.read (Elt Ideal)
      (G (m ((c : Thread nD τ).loc main_arg0)) (m ((c : Thread nD τ).loc main_arg1))) := by
  obtain ⟨h00, h01, h10, h11, h20, h21⟩ := idx_in t
  rw [Value.flushed2_A]
  show out0_A_2 _ _ _ _ _ _ _ _ (iblk m c 0 t) (iblk m c 1 t) = _
  funext j
  rw [View.read_apply]
  refine (out_apply _ _ _ _ _ _ _ _ _ _ j).trans ?_
  unfold G
  refine Finset.sum_congr rfl fun k _ => ?_
  unfold iblk
  rw [View.read_apply, View.read_apply]
  show HMul.hMul (α := EReal) (β := EReal) (γ := EReal) (m ((c : Thread nD τ).loc main_arg0) _) (m ((c : Thread nD τ).loc main_arg1) _) = _
  congr 2
  · funext a
    apply Fin.ext
    match a with
    | ⟨0, _⟩ => show win0_0.index t 0 * 1024 + 1 * (j 0).val = win0_2.index t 0 * 1024 + 1 * (j 0).val; rw [h00, h20]
    | ⟨1, _⟩ => show win0_0.index t 1 * 1024 + 1 * k.val = k.val; rw [h01]; omega
  · funext a
    apply Fin.ext
    match a with
    | ⟨0, _⟩ => show win0_1.index t 0 * 1024 + 1 * (j 1).val = win0_2.index t 1 * 1024 + 1 * (j 1).val; rw [h10, h21]
    | ⟨1, _⟩ => show win0_1.index t 1 * 1024 + 1 * k.val = k.val; rw [h11]; omega

theorem final (c : Dev nD) : (dats m 0 c).arrAt 2 cfg0.N
    = G (m ((c : Thread nD τ).loc main_arg0)) (m ((c : Thread nD τ).loc main_arg1)) :=
  (dats m 0 c).arrAt_eq_of_cover 2 _ (flushed_eq m c) fun i => by
    have h0 : (i 0 : Nat) < 4096 := (i 0).isLt
    have h1 : (i 1 : Nat) < 1024 := (i 1).isLt
    have hN : (i 0).val / 1024 < cfg0.N := by show _ < 4; omega
    refine ⟨⟨_, hN⟩, flush0_2 _, ?_⟩
    obtain ⟨-, -, -, -, h20, h21⟩ := idx_in ⟨_, hN⟩
    show i ∈ ((View.whole main_v0).slice (win0_2.rect ⟨_, hN⟩)).set
    rw [View.set_slice_whole, Rect.mem_set_unit]
    intro a
    match a with
    | ⟨0, _⟩ => show win0_2.index _ 0 * 1024 ≤ (i 0 : Nat) ∧ (i 0 : Nat) < win0_2.index _ 0 * 1024 + 1024; rw [h20]; dsimp only; omega
    | ⟨1, _⟩ => show win0_2.index _ 1 * 1024 ≤ (i 1 : Nat) ∧ (i 1 : Nat) < win0_2.index _ 1 * 1024 + 1024; rw [h21]; omega

end Cert.Proof.DoProj

namespace Cert.Proof.DoProj.Ref

open Idealize.ShloMosaic Idealize.ShloMosaic.TcCoe Idealize.SL.Sem
open Cert.Reference8Ideal Cert.Reference8Ideal.Gen

theorem ref_eq (dy : FVec Ideal S4096x1024 .bf16) (w : FVec Ideal S1024x1024 .bf16) :
    (Host.dotGeneral dot_S4096x1024_S1024x1024_S4096x1024_1_1_0_0_n_n none (extf .f32 dy bitsLt_bf16_f32) (extf .f32 w bitsLt_bf16_f32) : FVec Ideal S4096x1024 .f32)
      = G dy w := by
  funext j
  pointwise [G]

end Cert.Proof.DoProj.Ref
-- ==== Proof.Up.lean ====
module

public import proofs.«01_k».proof.Proof.Gen.Kernel11Ideal.Value
public import proofs.«01_k».proof.Proof.Gen.Reference11Ideal.Run
public import Idealize.ShloMosaic.Lib.Pointwise
public import Idealize.ShloMosaic.Lib.Tactic

@[expose] public section

set_option maxRecDepth 16384

noncomputable section

/-!
  The feed-forward block's first product (`mm_u`): half `p`, entry `(t, l)` is the sum over the model's columns of
  `h[t, k] · w[2816 p + l, k]`.
-/

namespace Cert.Proof.Up

open Idealize.ShloMosaic Idealize.ShloMosaic.TcCoe Idealize.SL.Sem
open Idealize.ShloMosaic.Pipeline (Dat)
open Cert.Kernel11Ideal Cert.Kernel11Ideal.Gen

/-- The product, entry by entry. -/
def G (h : Vec Ideal S4096x1024 .bf16) (w : Vec Ideal S5632x1024 .bf16) : Vec Ideal S2x4096x2816 .f32 := fun i =>
  ∑ k : Fin 1024, h (ix2 (i 1) k) * w (ix2 (⟨(i 0).val * 2816 + (i 2).val, by
    have h0 : (i 0).val < 2 := (i 0).isLt
    have h2 : (i 2).val < 2816 := (i 2).isLt
    omega⟩ : Fin 5632) k)

theorem hz2 : (![0, 0] : Fin 2 → Nat) = fun _ => 0 := funext fun a => by fin_cases a <;> rfl
theorem hz3 : (![0, 0, 0] : Fin 3 → Nat) = fun _ => 0 := funext fun a => by fin_cases a <;> rfl

theorem out_apply (x0 : Vec Ideal S1024x1024 .bf16) (x1 : Vec Ideal S1408x1024 .bf16) (j : S1x1024x1408.Idx) :
    out0_2 x0 x1 j = ∑ k : Fin 1024, x0 (ix2 (j 1) k) * x1 (ix2 (j 2) k) := by
  unfold out0_2
  rw [View.canon_unit_zero hz3, View.ld_unit_zero hz2, View.ld_unit_zero hz2]
  pointwise [k0_pay1]

variable (m : (ℓ : Loc nD τ sig) → Buf (Elt Ideal) ℓ) (ρ : Dev nD → PrngReg)

theorem idx_in : ∀ t : Fin cfg0.N, win0_0.index t 0 = t.val / 4 ∧ win0_0.index t 1 = 0 ∧ win0_1.index t 0 = t.val % 4
    ∧ win0_1.index t 1 = 0 ∧ win0_2.index t 0 = t.val % 4 / 2 ∧ win0_2.index t 1 = t.val / 4 ∧ win0_2.index t 2 = t.val % 2 :=
  (by decide +kernel : ∀ t : Fin grid0.N, win0_0.index t 0 = t.val / 4 ∧ win0_0.index t 1 = 0 ∧ win0_1.index t 0 = t.val % 4
    ∧ win0_1.index t 1 = 0 ∧ win0_2.index t 0 = t.val % 4 / 2 ∧ win0_2.index t 1 = t.val / 4 ∧ win0_2.index t 2 = t.val % 2)

theorem flushed_eq (c : Dev nD) (t : Fin cfg0.N) (_ : (cfg0.win 2).flush t = true) :
    (dats m 0 c).flushed 2 t = ((cfg0.win 2).blk t).view.read (Elt Ideal)
      (G (m ((c : Thread nD τ).loc main_arg0)) (m ((c : Thread nD τ).loc main_arg1))) := by
  obtain ⟨h00, h01, h10, h11, h20, h21, h22⟩ := idx_in t
  rw [Value.flushed2]
  show out0_2 (iblk m c 0 t) (iblk m c 1 t) = _
  funext j
  rw [View.read_apply]
  refine (out_apply _ _ j).trans ?_
  have hj : (j 0).val < 1 := (j 0).isLt
  unfold G
  refine Finset.sum_congr rfl fun k _ => ?_
  unfold iblk
  rw [View.read_apply, View.read_apply]
  show HMul.hMul (α := EReal) (β := EReal) (γ := EReal) (m ((c : Thread nD τ).loc main_arg0) _) (m ((c : Thread nD τ).loc main_arg1) _) = _
  congr 2
  · funext a
    apply Fin.ext
    match a with
    | ⟨0, _⟩ => show win0_0.index t 0 * 1024 + 1 * (j 1).val = win0_2.index t 1 * 1024 + 1 * (j 1).val; rw [h00, h21]
    | ⟨1, _⟩ => show win0_0.index t 1 * 1024 + 1 * k.val = k.val; rw [h01]; omega
  · funext a
    apply Fin.ext
    match a with
    | ⟨0, _⟩ =>
      show win0_1.index t 0 * 1408 + 1 * (j 2).val
        = (win0_2.index t 0 * 1 + 1 * (j 0).val) * 2816 + (win0_2.index t 2 * 1408 + 1 * (j 2).val)
      rw [h10, h20, h22]; omega
    | ⟨1, _⟩ => show win0_1.index t 1 * 1024 + 1 * k.val = k.val; rw [h11]; omega

theorem final (c : Dev nD) : (dats m 0 c).arrAt 2 cfg0.N
    = G (m ((c : Thread nD τ).loc main_arg0)) (m ((c : Thread nD τ).loc main_arg1)) :=
  (dats m 0 c).arrAt_eq_of_cover 2 _ (flushed_eq m c) fun i => by
    have h0 : (i 0 : Nat) < 2 := (i 0).isLt
    have h1 : (i 1 : Nat) < 4096 := (i 1).isLt
    have h2 : (i 2 : Nat) < 2816 := (i 2).isLt
    have hN : (i 1).val / 1024 * 4 + ((i 0).val * 2 + (i 2).val / 1408) < cfg0.N := by show _ < 16; omega
    refine ⟨⟨_, hN⟩, flush0_2 _, ?_⟩
    obtain ⟨-, -, -, -, h20, h21, h22⟩ := idx_in ⟨_, hN⟩
    show i ∈ ((View.whole main_v0).slice (win0_2.rect ⟨_, hN⟩)).set
    rw [View.set_slice_whole, Rect.mem_set_unit]
    intro a
    match a with
    | ⟨0, _⟩ => show win0_2.index _ 0 * 1 ≤ (i 0 : Nat) ∧ (i 0 : Nat) < win0_2.index _ 0 * 1 + 1; rw [h20]; dsimp only; omega
    | ⟨1, _⟩ => show win0_2.index _ 1 * 1024 ≤ (i 1 : Nat) ∧ (i 1 : Nat) < win0_2.index _ 1 * 1024 + 1024; rw [h21]; dsimp only; omega
    | ⟨2, _⟩ => show win0_2.index _ 2 * 1408 ≤ (i 2 : Nat) ∧ (i 2 : Nat) < win0_2.index _ 2 * 1408 + 1408; rw [h22]; dsimp only; omega

end Cert.Proof.Up

namespace Cert.Proof.Up.Ref

open Idealize.ShloMosaic Idealize.ShloMosaic.TcCoe Idealize.SL.Sem
open Cert.Reference11Ideal Cert.Reference11Ideal.Gen

theorem ref_eq (h : FVec Ideal S4096x1024 .bf16) (w : FVec Ideal S5632x1024 .bf16) :
    (concatenate S2x4096x2816 0 [⟨S1x4096x2816, (broadcastInDim S1x4096x2816 ![1, 2] bcast_S4096x2816_S1x4096x2816_1_2 (extractStridedSlice S4096x2816 ![0, 0] (Host.dotGeneral dot_S4096x1024_S1024x5632_S4096x5632_1_0_0_1_n_n none (extf .f32 h bitsLt_bf16_f32) (transpose S1024x5632 [1, 0] (extf .f32 w bitsLt_bf16_f32) transposes_S5632x1024_S1024x5632_1_0)) slices_S4096x5632_S4096x2816_0_0))⟩, ⟨S1x4096x2816, (broadcastInDim S1x4096x2816 ![1, 2] bcast_S4096x2816_S1x4096x2816_1_2 (extractStridedSlice S4096x2816 ![0, 2816] (Host.dotGeneral dot_S4096x1024_S1024x5632_S4096x5632_1_0_0_1_n_n none (extf .f32 h bitsLt_bf16_f32) (transpose S1024x5632 [1, 0] (extf .f32 w bitsLt_bf16_f32) transposes_S5632x1024_S1024x5632_1_0)) slices_S4096x5632_S4096x2816_0_2816))⟩] concatenates_S1x4096x2816_S1x4096x2816_S2x4096x2816_d0 : FVec Ideal S2x4096x2816 .f32)
      = G h w := by
  funext j
  pointwise [G]
  have hj : (j 0).val < 2 := (j 0).isLt
  split
  · next hlt =>
    refine Finset.sum_congr rfl fun k _ => congrArg (fun a => h (ix2 (j 1) k) * w (ix2 a k)) (Fin.ext ?_)
    show (j 2).val = (j 0).val * 2816 + (j 2).val
    omega
  · next hge =>
    refine Finset.sum_congr rfl fun k _ => congrArg (fun a => h (ix2 (j 1) k) * w (ix2 a k)) (Fin.ext ?_)
    show 2816 + (j 2).val = (j 0).val * 2816 + (j 2).val
    omega

end Cert.Proof.Up.Ref
-- ==== Proof.ProductsRun.lean ====
module

public import proofs.«01_k».proof.Proof.Df
public import proofs.«01_k».proof.Proof.Dwdn
public import proofs.«01_k».proof.Proof.Dwo
public import proofs.«01_k».proof.Proof.DoProj
public import proofs.«01_k».proof.Proof.Up
public import proofs.«01_k».proof.Defs

@[expose] public section

set_option maxRecDepth 16384

noncomputable section

/-!
  The plain products of the step, each call against the host's product.
-/

open Idealize.ShloMosaic Idealize.ShloMosaic.TcCoe Idealize.SL.Sem

namespace Cert.Proof.Df

open Cert.Kernel5Ideal Cert.Kernel5Ideal.Gen

/-- The gradient of the feed-forward block's inner rows. -/
theorem claim5 : Cert.algebraic_Kernel5Ideal_Reference5Ideal := by
  intro m g m' g' _ hargs
  refine ⟨fun c => G (m ((c : Thread nD τ).loc main_arg0)) (m ((c : Thread nD τ).loc main_arg1)),
    (θ_run _ _ _).mono (fun _ h c => ⟨(h c).1.trans (final m c), (h c).2⟩) (Cert.Kernel5Ideal.Value.run_blocks m g),
    (θ_run _ _ _).mono (fun _ h c => ⟨(h c).1.trans ?_, (h c).2⟩) (Cert.Reference5Ideal.Value.run m' g')⟩
  obtain ⟨e0, e1⟩ := hargs c
  dsimp only
  rw [← e0, ← e1]
  exact Ref.ref_eq _ _

end Cert.Proof.Df

namespace Cert.Proof.Dwdn

open Cert.Kernel6Ideal Cert.Kernel6Ideal.Gen

/-- The gradient of the feed-forward block's second weight. -/
theorem claim6 : Cert.algebraic_Kernel6Ideal_Reference6Ideal := by
  intro m g m' g' _ hargs
  refine ⟨fun c => G (m ((c : Thread nD τ).loc main_arg0)) (m ((c : Thread nD τ).loc main_arg1)),
    (θ_run _ _ _).mono (fun _ h c => ⟨(h c).1.trans (final m c), (h c).2⟩) (Cert.Kernel6Ideal.Value.run_blocks m g),
    (θ_run _ _ _).mono (fun _ h c => ⟨(h c).1.trans ?_, (h c).2⟩) (Cert.Reference6Ideal.Value.run m' g')⟩
  obtain ⟨e0, e1⟩ := hargs c
  dsimp only
  rw [← e0, ← e1]
  exact Ref.ref_eq _ _

end Cert.Proof.Dwdn

namespace Cert.Proof.Dwo

open Cert.Kernel7Ideal Cert.Kernel7Ideal.Gen

/-- The gradient of a square output weight. -/
theorem claim7 : Cert.algebraic_Kernel7Ideal_Reference7Ideal := by
  intro m g m' g' _ hargs
  refine ⟨fun c => G (m ((c : Thread nD τ).loc main_arg0)) (m ((c : Thread nD τ).loc main_arg1)),
    (θ_run _ _ _).mono (fun _ h c => ⟨(h c).1.trans (final m c), (h c).2⟩) (Cert.Kernel7Ideal.Value.run_blocks m g),
    (θ_run _ _ _).mono (fun _ h c => ⟨(h c).1.trans ?_, (h c).2⟩) (Cert.Reference7Ideal.Value.run m' g')⟩
  obtain ⟨e0, e1⟩ := hargs c
  dsimp only
  rw [← e0, ← e1]
  exact Ref.ref_eq _ _

end Cert.Proof.Dwo

namespace Cert.Proof.DoProj

open Cert.Kernel8Ideal Cert.Kernel8Ideal.Gen

/-- The gradient of the attention's output rows. -/
theorem claim8 : Cert.algebraic_Kernel8Ideal_Reference8Ideal := by
  intro m g m' g' _ hargs
  refine ⟨fun c => G (m ((c : Thread nD τ).loc main_arg0)) (m ((c : Thread nD τ).loc main_arg1)),
    (θ_run _ _ _).mono (fun _ h c => ⟨(h c).1.trans (final m c), (h c).2⟩) (Cert.Kernel8Ideal.Value.run_blocks m g),
    (θ_run _ _ _).mono (fun _ h c => ⟨(h c).1.trans ?_, (h c).2⟩) (Cert.Reference8Ideal.Value.run m' g')⟩
  obtain ⟨e0, e1, e2⟩ := hargs c
  dsimp only
  rw [← e0, ← e1]
  exact Ref.ref_eq _ _

end Cert.Proof.DoProj

namespace Cert.Proof.Up

open Cert.Kernel11Ideal Cert.Kernel11Ideal.Gen

/-- The feed-forward block's first product. -/
theorem claim11 : Cert.algebraic_Kernel11Ideal_Reference11Ideal := by
  intro m g m' g' _ hargs
  refine ⟨fun c => G (m ((c : Thread nD τ).loc main_arg0)) (m ((c : Thread nD τ).loc main_arg1)),
    (θ_run _ _ _).mono (fun _ h c => ⟨(h c).1.trans (final m c), (h c).2⟩) (Cert.Kernel11Ideal.Value.run_blocks m g),
    (θ_run _ _ _).mono (fun _ h c => ⟨(h c).1.trans ?_, (h c).2⟩) (Cert.Reference11Ideal.Value.run m' g')⟩
  obtain ⟨e0, e1⟩ := hargs c
  dsimp only
  rw [← e0, ← e1]
  exact Ref.ref_eq _ _

end Cert.Proof.Up
-- ==== Proof.OutNorm.lean ====
module

public import proofs.«01_k».proof.Proof.Gen.Kernel13Ideal.Value
public import proofs.«01_k».proof.Proof.Gen.Reference13Ideal.Run
public import proofs.«01_k».proof.Proof.NormGrad
public import proofs.«01_k».proof.Defs
public import Idealize.ShloMosaic.Lib.Pipeline.Value
public import Idealize.ShloMosaic.Lib.Pointwise

@[expose] public section

set_option maxRecDepth 16384

noncomputable section

/-!
  The block's first output with the residual and the norm that follows (`_out_norm2_fwd`).
-/

namespace Cert.Proof.OutNorm

open Idealize.ShloMosaic Idealize.ShloMosaic.TcCoe Idealize.SL.Sem
open Idealize.ShloMosaic.Pipeline (Dat)
open Cert.Kernel13Ideal Cert.Kernel13Ideal.Gen
open Cert.Proof.NormGrad (var)

theorem hz2 : (![0, 0] : Fin 2 → Nat) = fun _ => 0 := funext fun a => by fin_cases a <;> rfl
theorem hz3 : (![0, 0, 0] : Fin 3 → Nat) = fun _ => 0 := funext fun a => by fin_cases a <;> rfl

/-- The residual's rows with the product added, for one block. -/
def acc (x0 : Vec Ideal S1x512x1024 .bf16) (x1 : Vec Ideal S1x1024x1024 .bf16) (x2 : Vec Ideal S512x1024 .f32) (r : Fin 512) (l : Fin 1024) : EReal :=
  x2 (ix2 r l) + ∑ k : Fin 1024, x0 (ix3 0 r k) * x1 (ix3 0 k l)

/-- The same, for the whole array. -/
def G1 (a : Vec Ideal S4096x1024 .bf16) (w : Vec Ideal S1024x1024 .bf16) (x : Vec Ideal S4096x1024 .f32) : Vec Ideal S4096x1024 .f32 := fun i =>
  x i + ∑ k : Fin 1024, a (ix2 (i 0) k) * w (ix2 k (i 1))

/-- The rows over their root mean square, scaled. -/
def G2 (a : Vec Ideal S4096x1024 .bf16) (w : Vec Ideal S1024x1024 .bf16) (x : Vec Ideal S4096x1024 .f32) (g : Vec Ideal S1x1024 .f32) : Vec Ideal S4096x1024 .bf16 := fun i =>
  G1 a w x i * Ideal.rsqrt (var fun k => G1 a w x (ix2 (i 0) k)) * g (ix2 0 (i 1))

theorem out4_apply (x0 : Vec Ideal S1x512x1024 .bf16) (x1 : Vec Ideal S1x1024x1024 .bf16) (x2 : Vec Ideal S512x1024 .f32) (x3 : Vec Ideal S1x1024 .f32) (j : S512x1024.Idx) :
    out0_4 x0 x1 x2 x3 j = acc x0 x1 x2 (j 0) (j 1) := by
  unfold out0_4
  rw [View.canon_unit_zero hz2, View.ld_unit_zero hz3, View.ld_unit_zero hz3, View.ld_unit_zero hz2]
  pointwise [k0_pay1, acc]

theorem out5_apply (x0 : Vec Ideal S1x512x1024 .bf16) (x1 : Vec Ideal S1x1024x1024 .bf16) (x2 : Vec Ideal S512x1024 .f32) (x3 : Vec Ideal S1x1024 .f32) (j : S512x1024.Idx) :
    out0_5 x0 x1 x2 x3 j = acc x0 x1 x2 (j 0) (j 1) * Ideal.rsqrt (var fun k => acc x0 x1 x2 (j 0) k) * x3 (ix2 0 (j 1)) := by
  unfold out0_5
  rw [View.canon_unit_zero hz2, View.ld_unit_zero hz3, View.ld_unit_zero hz3, View.ld_unit_zero hz2, View.ld_unit_zero hz2]
  pointwise [k0_pay2, k0_pay1, acc, var]

variable (m : (ℓ : Loc nD τ sig) → Buf (Elt Ideal) ℓ) (ρ : Dev nD → PrngReg)

theorem idx_in (t : Fin cfg0.N) : win0_0.index t 0 = 0 ∧ win0_0.index t 1 = t.val ∧ win0_0.index t 2 = 0 ∧ win0_1.index t 0 = 0 ∧ win0_1.index t 1 = 0 ∧ win0_1.index t 2 = 0 ∧ win0_2.index t 0 = t.val ∧ win0_2.index t 1 = 0 ∧ win0_3.index t 0 = 0 ∧ win0_3.index t 1 = 0 ∧ win0_4.index t 0 = t.val ∧ win0_4.index t 1 = 0 ∧ win0_5.index t 0 = t.val ∧ win0_5.index t 1 = 0 := by
  rcases fin_N0 t with rfl | rfl | rfl | rfl | rfl | rfl | rfl | rfl <;> decide

theorem V_main_v0 (c : Dev nD) : V m c main_v0 = (broadcastInDim S1x4096x1024 ![1, 2] bcast_S4096x1024_S1x4096x1024_1_2 (m ((c : Thread nD τ).loc main_arg0) : Vec Ideal S4096x1024 .bf16) : Vec Ideal S1x4096x1024 .bf16) := by
  rfl

theorem slab_main_v0 (a : Vec Ideal S4096x1024 .bf16) (r : Fin 4096) (l : Fin 1024) :
    (broadcastInDim S1x4096x1024 ![1, 2] bcast_S4096x1024_S1x4096x1024_1_2 a : Vec Ideal S1x4096x1024 .bf16) (ix3 0 r l) = a (ix2 r l) := by
  pointwise []

theorem blk0 (c : Dev nD) (t : Fin cfg0.N) (r : Fin 512) (l : Fin 1024) :
    iblk m c 0 t (ix3 0 r l) = m ((c : Thread nD τ).loc main_arg0) (ix2 (⟨512 * t.val + r.val, by have : t.val < 8 := t.isLt; omega⟩ : Fin 4096) l) := by
  obtain ⟨h0, h1, h2, -⟩ := idx_in t
  unfold iblk
  rw [View.read_apply]
  have e : ((cfg0.win 0).blk t).view.emb (ix3 0 r l) = ix3 0 (⟨512 * t.val + r.val, by have : t.val < 8 := t.isLt; omega⟩ : Fin 4096) l := by
    funext a
    apply Fin.ext
    match a with
    | ⟨0, _⟩ => show win0_0.index t 0 * 1 + 1 * 0 = 0; rw [h0]
    | ⟨1, _⟩ => show win0_0.index t 1 * 512 + 1 * r.val = 512 * t.val + r.val; rw [h1]; omega
    | ⟨2, _⟩ => show win0_0.index t 2 * 1024 + 1 * l.val = l.val; rw [h2]; omega
  rw [e]
  show V m c main_v0 _ = _
  rw [V_main_v0]
  exact slab_main_v0 _ _ _

theorem V_main_v1 (c : Dev nD) : V m c main_v1 = (broadcastInDim S1x1024x1024 ![1, 2] bcast_S1024x1024_S1x1024x1024_1_2 (m ((c : Thread nD τ).loc main_arg1) : Vec Ideal S1024x1024 .bf16) : Vec Ideal S1x1024x1024 .bf16) := by
  rfl

theorem slab_main_v1 (a : Vec Ideal S1024x1024 .bf16) (r : Fin 1024) (l : Fin 1024) :
    (broadcastInDim S1x1024x1024 ![1, 2] bcast_S1024x1024_S1x1024x1024_1_2 a : Vec Ideal S1x1024x1024 .bf16) (ix3 0 r l) = a (ix2 r l) := by
  pointwise []

theorem blk1 (c : Dev nD) (t : Fin cfg0.N) (r : Fin 1024) (l : Fin 1024) :
    iblk m c 1 t (ix3 0 r l) = m ((c : Thread nD τ).loc main_arg1) (ix2 r l) := by
  obtain ⟨-, -, -, h0, h1, h2, -⟩ := idx_in t
  unfold iblk
  rw [View.read_apply]
  have e : ((cfg0.win 1).blk t).view.emb (ix3 0 r l) = ix3 0 r l := by
    funext a
    apply Fin.ext
    match a with
    | ⟨0, _⟩ => show win0_1.index t 0 * 1 + 1 * 0 = 0; rw [h0]
    | ⟨1, _⟩ => show win0_1.index t 1 * 1024 + 1 * r.val = r.val; rw [h1]; omega
    | ⟨2, _⟩ => show win0_1.index t 2 * 1024 + 1 * l.val = l.val; rw [h2]; omega
  rw [e]
  show V m c main_v1 _ = _
  rw [V_main_v1]
  exact slab_main_v1 _ _ _

theorem blk2 (c : Dev nD) (t : Fin cfg0.N) (r : Fin 512) (l : Fin 1024) :
    iblk m c 2 t (ix2 r l) = m ((c : Thread nD τ).loc main_arg2) (ix2 (⟨512 * t.val + r.val, by have : t.val < 8 := t.isLt; omega⟩ : Fin 4096) l) := by
  obtain ⟨-, -, -, -, -, -, h0, h1, -⟩ := idx_in t
  unfold iblk
  rw [View.read_apply]
  show V m c main_arg2 _ = _
  rw [V_main_arg2]
  congr 1
  funext a
  apply Fin.ext
  match a with
  | ⟨0, _⟩ => show win0_2.index t 0 * 512 + 1 * r.val = 512 * t.val + r.val; rw [h0]; omega
  | ⟨1, _⟩ => show win0_2.index t 1 * 1024 + 1 * l.val = l.val; rw [h1]; omega

theorem blk3 (c : Dev nD) (t : Fin cfg0.N) (l : Fin 1024) :
    iblk m c 3 t (ix2 0 l) = m ((c : Thread nD τ).loc main_arg3) (ix2 0 l) := by
  obtain ⟨-, -, -, -, -, -, -, -, h0, h1, -⟩ := idx_in t
  unfold iblk
  rw [View.read_apply]
  show V m c main_arg3 _ = _
  rw [V_main_arg3]
  congr 1
  funext a
  apply Fin.ext
  match a with
  | ⟨0, _⟩ => show win0_3.index t 0 * 1 + 1 * 0 = 0; rw [h0]
  | ⟨1, _⟩ => show win0_3.index t 1 * 1024 + 1 * l.val = l.val; rw [h1]; omega

theorem acc_blk (c : Dev nD) (t : Fin cfg0.N) (r : Fin 512) (l : Fin 1024) : acc (iblk m c 0 t) (iblk m c 1 t) (iblk m c 2 t) r l
    = G1 (m ((c : Thread nD τ).loc main_arg0)) (m ((c : Thread nD τ).loc main_arg1)) (m ((c : Thread nD τ).loc main_arg2)) (ix2 (⟨512 * t.val + r.val, by have : t.val < 8 := t.isLt; omega⟩ : Fin 4096) l) := by
  unfold acc G1
  rw [blk2]
  congr 1
  exact Finset.sum_congr rfl fun k _ => by rw [blk0, blk1]; rfl

theorem emb4 (t : Fin cfg0.N) (j : S512x1024.Idx) : ((cfg0.win 4).blk t).view.emb j
    = ix2 (⟨512 * t.val + (j 0).val, by have : t.val < 8 := t.isLt; have : (j 0).val < 512 := (j 0).isLt; omega⟩ : Fin 4096) (j 1) := by
  obtain ⟨-, -, -, -, -, -, -, -, -, -, h0, h1, -⟩ := idx_in t
  funext a
  apply Fin.ext
  match a with
  | ⟨0, _⟩ => show win0_4.index t 0 * 512 + 1 * (j 0).val = 512 * t.val + (j 0).val; rw [h0]; omega
  | ⟨1, _⟩ => show win0_4.index t 1 * 1024 + 1 * (j 1).val = (j 1).val; rw [h1]; omega

theorem flushed4 (c : Dev nD) (t : Fin cfg0.N) (_ : (cfg0.win 4).flush t = true) :
    (dats m 0 c).flushed 4 t = ((cfg0.win 4).blk t).view.read (Elt Ideal) (G1 (m ((c : Thread nD τ).loc main_arg0)) (m ((c : Thread nD τ).loc main_arg1)) (m ((c : Thread nD τ).loc main_arg2))) := by
  rw [Value.flushed4]
  show out0_4 (iblk m c 0 t) (iblk m c 1 t) (iblk m c 2 t) (iblk m c 3 t) = _
  funext j
  rw [View.read_apply, emb4]
  refine (out4_apply _ _ _ _ j).trans ?_
  exact acc_blk m c t (j 0) (j 1)

theorem final4 (c : Dev nD) : (dats m 0 c).arrAt 4 cfg0.N = (G1 (m ((c : Thread nD τ).loc main_arg0)) (m ((c : Thread nD τ).loc main_arg1)) (m ((c : Thread nD τ).loc main_arg2))) :=
  (dats m 0 c).arrAt_eq_of_cover 4 _ (flushed4 m c) fun i => by
    have hi : (i 0 : Nat) < 4096 := (i 0).isLt
    have hl : (i 1 : Nat) < 1024 := (i 1).isLt
    have hN : (i 0).val / 512 < cfg0.N := by show _ < 8; omega
    refine ⟨⟨_, hN⟩, flush0_4 _, ?_⟩
    obtain ⟨-, -, -, -, -, -, -, -, -, -, h0, h1, -⟩ := idx_in ⟨_, hN⟩
    show i ∈ ((View.whole main_v2_0).slice (win0_4.rect ⟨_, hN⟩)).set
    rw [View.set_slice_whole, Rect.mem_set_unit]
    intro a
    match a with
    | ⟨0, _⟩ => show win0_4.index _ 0 * 512 ≤ (i 0 : Nat) ∧ (i 0 : Nat) < win0_4.index _ 0 * 512 + 512; rw [h0]; dsimp only; omega
    | ⟨1, _⟩ => show win0_4.index _ 1 * 1024 ≤ (i 1 : Nat) ∧ (i 1 : Nat) < win0_4.index _ 1 * 1024 + 1024; rw [h1]; omega

theorem emb5 (t : Fin cfg0.N) (j : S512x1024.Idx) : ((cfg0.win 5).blk t).view.emb j
    = ix2 (⟨512 * t.val + (j 0).val, by have : t.val < 8 := t.isLt; have : (j 0).val < 512 := (j 0).isLt; omega⟩ : Fin 4096) (j 1) := by
  obtain ⟨-, -, -, -, -, -, -, -, -, -, -, -, h0, h1⟩ := idx_in t
  funext a
  apply Fin.ext
  match a with
  | ⟨0, _⟩ => show win0_5.index t 0 * 512 + 1 * (j 0).val = 512 * t.val + (j 0).val; rw [h0]; omega
  | ⟨1, _⟩ => show win0_5.index t 1 * 1024 + 1 * (j 1).val = (j 1).val; rw [h1]; omega

theorem flushed5 (c : Dev nD) (t : Fin cfg0.N) (_ : (cfg0.win 5).flush t = true) :
    (dats m 0 c).flushed 5 t = ((cfg0.win 5).blk t).view.read (Elt Ideal) (G2 (m ((c : Thread nD τ).loc main_arg0)) (m ((c : Thread nD τ).loc main_arg1)) (m ((c : Thread nD τ).loc main_arg2)) (m ((c : Thread nD τ).loc main_arg3))) := by
  rw [Value.flushed5]
  show out0_5 (iblk m c 0 t) (iblk m c 1 t) (iblk m c 2 t) (iblk m c 3 t) = _
  funext j
  rw [View.read_apply, emb5]
  refine (out5_apply _ _ _ _ j).trans ?_
  unfold G2
  exact congrArg₂ (fun a b : EReal => a * b) (congrArg₂ (fun (a : EReal) (b : Fin 1024 → EReal) => a * Ideal.rsqrt (var b)) (acc_blk m c t (j 0) (j 1)) (funext fun k => acc_blk m c t (j 0) k)) (blk3 m c t (j 1))

theorem final5 (c : Dev nD) : (dats m 0 c).arrAt 5 cfg0.N = (G2 (m ((c : Thread nD τ).loc main_arg0)) (m ((c : Thread nD τ).loc main_arg1)) (m ((c : Thread nD τ).loc main_arg2)) (m ((c : Thread nD τ).loc main_arg3))) :=
  (dats m 0 c).arrAt_eq_of_cover 5 _ (flushed5 m c) fun i => by
    have hi : (i 0 : Nat) < 4096 := (i 0).isLt
    have hl : (i 1 : Nat) < 1024 := (i 1).isLt
    have hN : (i 0).val / 512 < cfg0.N := by show _ < 8; omega
    refine ⟨⟨_, hN⟩, flush0_5 _, ?_⟩
    obtain ⟨-, -, -, -, -, -, -, -, -, -, -, -, h0, h1⟩ := idx_in ⟨_, hN⟩
    show i ∈ ((View.whole main_v2_1).slice (win0_5.rect ⟨_, hN⟩)).set
    rw [View.set_slice_whole, Rect.mem_set_unit]
    intro a
    match a with
    | ⟨0, _⟩ => show win0_5.index _ 0 * 512 ≤ (i 0 : Nat) ∧ (i 0 : Nat) < win0_5.index _ 0 * 512 + 512; rw [h0]; dsimp only; omega
    | ⟨1, _⟩ => show win0_5.index _ 1 * 1024 ≤ (i 1 : Nat) ∧ (i 1 : Nat) < win0_5.index _ 1 * 1024 + 1024; rw [h1]; omega

end Cert.Proof.OutNorm

namespace Cert.Proof.OutNorm.Ref

open Idealize.ShloMosaic Idealize.ShloMosaic.TcCoe Idealize.SL.Sem
open Cert.Reference13Ideal Cert.Reference13Ideal.Gen
open Cert.Proof.NormGrad (var)

theorem ref1 (a : FVec Ideal S4096x1024 .bf16) (w : FVec Ideal S1024x1024 .bf16) (x : FVec Ideal S4096x1024 .f32) :
    (addf x (Host.dotGeneral dot_S4096x1024_S1024x1024_S4096x1024_1_0_0_1_n_n none (extf .f32 a bitsLt_bf16_f32) (extf .f32 w bitsLt_bf16_f32)) : FVec Ideal S4096x1024 .f32) = G1 a w x := by
  funext j
  pointwise [G1]

theorem ref2 (y : FVec Ideal S4096x1024 .f32) (g : FVec Ideal S1x1024 .f32) :
    (truncf .bf16 (mulf (mulf y (broadcastInDim S4096x1024 ![0, 1] bcast_S4096x1_S4096x1024_0_1 (Host.rsqrt (addf (Host.divf (broadcastInDim S4096x1 ![0] bcast_S4096_S4096x1_0 (Host.reduceAdd (mulf y y) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 (shapeCast _ g shapeCasts_S1x1024_S1024)))) bitsLt_bf16_f32 : FVec Ideal S4096x1024 .bf16) = fun i => y i * Ideal.rsqrt (var fun k => y (ix2 (i 0) k)) * g (ix2 0 (i 1)) := by
  funext j
  pointwise [var]

end Cert.Proof.OutNorm.Ref

namespace Cert.Proof.OutNorm

open Idealize.ShloMosaic Idealize.ShloMosaic.TcCoe Idealize.SL.Sem
open Cert.Kernel13Ideal Cert.Kernel13Ideal.Gen

theorem claim13 : Cert.algebraic_Kernel13Ideal_Reference13Ideal := by
  intro m g m' g' _ hargs
  refine ⟨fun c => G1 (m ((c : Thread nD τ).loc main_arg0)) (m ((c : Thread nD τ).loc main_arg1)) (m ((c : Thread nD τ).loc main_arg2)), fun c => G2 (m ((c : Thread nD τ).loc main_arg0)) (m ((c : Thread nD τ).loc main_arg1)) (m ((c : Thread nD τ).loc main_arg2)) (m ((c : Thread nD τ).loc main_arg3)),
    (θ_run _ _ _).mono (fun _ h c => ⟨(h c).1.trans (final4 m c), (h c).2.1.trans (final5 m c), (h c).2.2⟩) (Cert.Kernel13Ideal.Value.run_blocks m g),
    (θ_run _ _ _).mono (fun _ h c => ⟨(h c).1.trans ?_, (h c).2.1.trans ?_, (h c).2.2⟩) (Cert.Reference13Ideal.Value.run m' g')⟩
  all_goals obtain ⟨e0, e1, e2, e3⟩ := hargs c
  · dsimp only
    rw [← e0, ← e1, ← e2]
    exact Ref.ref1 _ _ _
  · dsimp only
    rw [← e0, ← e1, ← e2, ← e3, Ref.ref1]
    exact Ref.ref2 _ _

end Cert.Proof.OutNorm
-- ==== Proof.Rows.lean ====
module

public import Idealize.ShloMosaic.Lib.Pointwise
public import Idealize.ShloMosaic.Lib.Tactic

@[expose] public section

noncomputable section

/-!
  The rows of an accumulated column sum: eight rows, each the sum over every eighth row of each of eight blocks.
-/

namespace Cert.Proof.Rows

/-- Every token is in one of the eight rows of one of the blocks. -/
theorem sum_rows (f : Fin 4096 → EReal) : ∑ s : Fin 8, ∑ t : Fin 8, ∑ q : Fin 64, f ⟨512 * t.val + (q.val * 8 + s.val), by omega⟩ = ∑ r, f r := by
  have h : ∑ p : Fin 8 × Fin 8 × Fin 64, f ⟨512 * p.2.1.val + (p.2.2.val * 8 + p.1.val), by omega⟩ = ∑ r, f r := by
    refine Fintype.sum_bijective (fun p : Fin 8 × Fin 8 × Fin 64 => (⟨512 * p.2.1.val + (p.2.2.val * 8 + p.1.val), by omega⟩ : Fin 4096)) ?_ _ _ fun _ => rfl
    refine (Fintype.bijective_iff_injective_and_card _).mpr ⟨?_, by simp⟩
    rintro ⟨s, t, q⟩ ⟨s', t', q'⟩ e
    have e' : 512 * t.val + (q.val * 8 + s.val) = 512 * t'.val + (q'.val * 8 + s'.val) := congrArg Fin.val e
    have := t.isLt; have := t'.isLt; have := q.isLt; have := q'.isLt; have := s.isLt; have := s'.isLt
    refine Prod.ext (Fin.ext ?_) (Prod.ext (Fin.ext ?_) (Fin.ext ?_)) <;> dsimp only <;> omega
  rw [← h]
  simp only [Fintype.sum_prod_type]

end Cert.Proof.Rows
-- ==== Proof.DownLoss.lean ====
module

public import proofs.«01_k».proof.Proof.Gen.Kernel12Ideal.Frame
public import proofs.«01_k».proof.Proof.Rows
public import Idealize.ShloMosaic.Lib.Pipeline.Value
public import Idealize.ShloMosaic.Lib.Pointwise

@[expose] public section

set_option maxRecDepth 16384

noncomputable section

/-!
  The feed-forward block's second product with the residual, the loss and its gradient (`_down_loss_fwd`): the call.
-/

namespace Cert.Proof.DownLoss

open Idealize.ShloMosaic Idealize.ShloMosaic.TcCoe Idealize.SL.Sem
open Idealize.ShloMosaic.Pipeline (Dat)
open Cert.Kernel12Ideal Cert.Kernel12Ideal.Gen

theorem hz2 : (![0, 0] : Fin 2 → Nat) = fun _ => 0 := funext fun a => by fin_cases a <;> rfl
theorem hz3 : (![0, 0, 0] : Fin 3 → Nat) = fun _ => 0 := funext fun a => by fin_cases a <;> rfl

/-- One block of the step's output less the target. -/
def diff (x0 : Vec Ideal S1x512x2816 .bf16) (x1 : Vec Ideal S1x2816x1024 .bf16) (x2 x3 : Vec Ideal S512x1024 .f32) (r : Fin 512) (l : Fin 1024) : EReal :=
  x2 (ix2 r l) + (∑ k : Fin 2816, x0 (ix3 0 r k) * x1 (ix3 0 k l)) - x3 (ix2 r l)

/-- The block's part of the squared error: the rows `s`, `8 + s`, … summed. -/
def b6 (x0 : Vec Ideal S1x512x2816 .bf16) (x1 : Vec Ideal S1x2816x1024 .bf16) (x2 x3 : Vec Ideal S512x1024 .f32) (j : S8x1024.Idx) : EReal :=
  ∑ q : Fin 64, diff x0 x1 x2 x3 (⟨q.val * 8 + (j 0).val, by have : (j 0).val < 8 := (j 0).isLt; omega⟩ : Fin 512) (j 1) * diff x0 x1 x2 x3 (⟨q.val * 8 + (j 0).val, by have : (j 0).val < 8 := (j 0).isLt; omega⟩ : Fin 512) (j 1)

theorem b4_eq (x0 : Vec Ideal S1x512x2816 .bf16) (x1 : Vec Ideal S1x2816x1024 .bf16) (x2 x3 : Vec Ideal S512x1024 .f32) (j : S512x1024.Idx) : k0_pay2 x0 x1 x2 x3 j = diff x0 x1 x2 x3 (j 0) (j 1) * Ideal.ofBits .f32 0x3A800000#32 := by
  pointwise [k0_pay2, k0_pay1, diff]

theorem b5_eq (x0 : Vec Ideal S1x512x2816 .bf16) (x1 : Vec Ideal S1x2816x1024 .bf16) (x2 x3 : Vec Ideal S512x1024 .f32) (j : S512x1024.Idx) : k0_pay3 x0 x1 x2 x3 j = diff x0 x1 x2 x3 (j 0) (j 1) * Ideal.ofBits .f32 0x3A800000#32 :=
  b4_eq x0 x1 x2 x3 j

theorem b6_eq (x0 : Vec Ideal S1x512x2816 .bf16) (x1 : Vec Ideal S1x2816x1024 .bf16) (x2 x3 : Vec Ideal S512x1024 .f32) (xo6 : Vec Ideal S8x1024 .f32) (j : S8x1024.Idx) : k0_pay5 x0 x1 x2 x3 xo6 j = xo6 j + b6 x0 x1 x2 x3 j := by
  pointwise [k0_pay5, k0_pay1, diff, b6]

theorem b6_zero (x0 : Vec Ideal S1x512x2816 .bf16) (x1 : Vec Ideal S1x2816x1024 .bf16) (x2 x3 : Vec Ideal S512x1024 .f32) (j : S8x1024.Idx) : k0_pay5 x0 x1 x2 x3 (k0_pay4 (F := Ideal)) j = b6 x0 x1 x2 x3 j := by
  rw [b6_eq]
  have h : (k0_pay4 (F := Ideal) : Vec Ideal S8x1024 .f32) j = 0 := by pointwise [k0_pay4]
  rw [h, zero_add]

theorem out_A4 (c : Dev nD) (i : grid0.Coords) (a1 : Memref sig .tc .vmem S1x512x2816 .bf16) (h1 : a1.IsWhole) (a2 : Memref sig .tc .vmem S1x2816x1024 .bf16) (h2 : a2.IsWhole) (a3 : Memref sig .tc .vmem S512x1024 .f32) (h3 : a3.IsWhole) (a4 : Memref sig .tc .vmem S512x1024 .f32) (h4 : a4.IsWhole) (a5 : Memref sig .tc .vmem S512x1024 .f32) (h5 : a5.IsWhole) (a6 : Memref sig .tc .vmem S512x1024 .bf16) (h6 : a6.IsWhole) (a7 : Memref sig .tc .vmem S8x1024 .f32) (h7 : a7.IsWhole) (hc0 : cond0_0 i)
    (x0 : Vec Ideal S1x512x2816 .bf16) (x1 : Vec Ideal S1x2816x1024 .bf16) (x2 : Vec Ideal S512x1024 .f32) (x3 : Vec Ideal S512x1024 .f32) :
    out0_A_4 c i a1 h1 a2 h2 a3 h3 a4 h4 a5 h5 a6 h6 a7 h7 hc0 x0 x1 x2 x3 = fun j => diff x0 x1 x2 x3 (j 0) (j 1) * Ideal.ofBits .f32 0x3A800000#32 := by
  funext j
  unfold out0_A_4
  rw [View.read_writes_eq_canon _ _ _ (cover0_A_4 c i a1 h1 a2 h2 a3 h3 a4 h4 a5 h5 a6 h6 a7 h7 hc0 x0 x1 x2 x3)]
  unfold kernelRun0_A
  dsimp only
  sl_unfold_words
  rw [View.canon_unit_zero hz2]
  simp only [View.readAt_eq_ld, h1.read_unread, h2.read_unread, h3.read_unread, h4.read_unread, h5.read_unread, h6.read_unread, h7.read_unread, View.ld_unit_zero (S := S1x512x2816) hz3, View.ld_unit_zero (S := S1x2816x1024) hz3, View.ld_unit_zero (S := S512x1024) hz2, View.ld_unit_zero (S := S8x1024) hz2]
  exact b4_eq x0 x1 x2 x3 j

theorem out_A5 (c : Dev nD) (i : grid0.Coords) (a1 : Memref sig .tc .vmem S1x512x2816 .bf16) (h1 : a1.IsWhole) (a2 : Memref sig .tc .vmem S1x2816x1024 .bf16) (h2 : a2.IsWhole) (a3 : Memref sig .tc .vmem S512x1024 .f32) (h3 : a3.IsWhole) (a4 : Memref sig .tc .vmem S512x1024 .f32) (h4 : a4.IsWhole) (a5 : Memref sig .tc .vmem S512x1024 .f32) (h5 : a5.IsWhole) (a6 : Memref sig .tc .vmem S512x1024 .bf16) (h6 : a6.IsWhole) (a7 : Memref sig .tc .vmem S8x1024 .f32) (h7 : a7.IsWhole) (hc0 : cond0_0 i)
    (x0 : Vec Ideal S1x512x2816 .bf16) (x1 : Vec Ideal S1x2816x1024 .bf16) (x2 : Vec Ideal S512x1024 .f32) (x3 : Vec Ideal S512x1024 .f32) :
    out0_A_5 c i a1 h1 a2 h2 a3 h3 a4 h4 a5 h5 a6 h6 a7 h7 hc0 x0 x1 x2 x3 = fun j => diff x0 x1 x2 x3 (j 0) (j 1) * Ideal.ofBits .f32 0x3A800000#32 := by
  funext j
  unfold out0_A_5
  rw [View.read_writes_eq_canon _ _ _ (cover0_A_5 c i a1 h1 a2 h2 a3 h3 a4 h4 a5 h5 a6 h6 a7 h7 hc0 x0 x1 x2 x3)]
  unfold kernelRun0_A
  dsimp only
  sl_unfold_words
  rw [View.canon_unit_zero hz2]
  simp only [View.readAt_eq_ld, h1.read_unread, h2.read_unread, h3.read_unread, h4.read_unread, h5.read_unread, h6.read_unread, h7.read_unread, View.ld_unit_zero (S := S1x512x2816) hz3, View.ld_unit_zero (S := S1x2816x1024) hz3, View.ld_unit_zero (S := S512x1024) hz2, View.ld_unit_zero (S := S8x1024) hz2]
  exact b5_eq x0 x1 x2 x3 j

theorem out_B4 (c : Dev nD) (i : grid0.Coords) (a1 : Memref sig .tc .vmem S1x512x2816 .bf16) (h1 : a1.IsWhole) (a2 : Memref sig .tc .vmem S1x2816x1024 .bf16) (h2 : a2.IsWhole) (a3 : Memref sig .tc .vmem S512x1024 .f32) (h3 : a3.IsWhole) (a4 : Memref sig .tc .vmem S512x1024 .f32) (h4 : a4.IsWhole) (a5 : Memref sig .tc .vmem S512x1024 .f32) (h5 : a5.IsWhole) (a6 : Memref sig .tc .vmem S512x1024 .bf16) (h6 : a6.IsWhole) (a7 : Memref sig .tc .vmem S8x1024 .f32) (h7 : a7.IsWhole) (hc0 : ¬cond0_0 i)
    (x0 : Vec Ideal S1x512x2816 .bf16) (x1 : Vec Ideal S1x2816x1024 .bf16) (x2 : Vec Ideal S512x1024 .f32) (x3 : Vec Ideal S512x1024 .f32) (xo6 : Vec Ideal S8x1024 .f32) :
    out0_B_4 c i a1 h1 a2 h2 a3 h3 a4 h4 a5 h5 a6 h6 a7 h7 hc0 x0 x1 x2 x3 xo6 = fun j => diff x0 x1 x2 x3 (j 0) (j 1) * Ideal.ofBits .f32 0x3A800000#32 := by
  funext j
  unfold out0_B_4
  rw [View.read_writes_eq_canon _ _ _ (cover0_B_4 c i a1 h1 a2 h2 a3 h3 a4 h4 a5 h5 a6 h6 a7 h7 hc0 x0 x1 x2 x3 xo6)]
  unfold kernelRun0_B
  dsimp only
  sl_unfold_words
  rw [View.canon_unit_zero hz2]
  simp only [View.readAt_eq_ld, h1.read_unread, h2.read_unread, h3.read_unread, h4.read_unread, h5.read_unread, h6.read_unread, h7.read_unread, View.ld_unit_zero (S := S1x512x2816) hz3, View.ld_unit_zero (S := S1x2816x1024) hz3, View.ld_unit_zero (S := S512x1024) hz2, View.ld_unit_zero (S := S8x1024) hz2]
  exact b4_eq x0 x1 x2 x3 j

theorem out_B5 (c : Dev nD) (i : grid0.Coords) (a1 : Memref sig .tc .vmem S1x512x2816 .bf16) (h1 : a1.IsWhole) (a2 : Memref sig .tc .vmem S1x2816x1024 .bf16) (h2 : a2.IsWhole) (a3 : Memref sig .tc .vmem S512x1024 .f32) (h3 : a3.IsWhole) (a4 : Memref sig .tc .vmem S512x1024 .f32) (h4 : a4.IsWhole) (a5 : Memref sig .tc .vmem S512x1024 .f32) (h5 : a5.IsWhole) (a6 : Memref sig .tc .vmem S512x1024 .bf16) (h6 : a6.IsWhole) (a7 : Memref sig .tc .vmem S8x1024 .f32) (h7 : a7.IsWhole) (hc0 : ¬cond0_0 i)
    (x0 : Vec Ideal S1x512x2816 .bf16) (x1 : Vec Ideal S1x2816x1024 .bf16) (x2 : Vec Ideal S512x1024 .f32) (x3 : Vec Ideal S512x1024 .f32) (xo6 : Vec Ideal S8x1024 .f32) :
    out0_B_5 c i a1 h1 a2 h2 a3 h3 a4 h4 a5 h5 a6 h6 a7 h7 hc0 x0 x1 x2 x3 xo6 = fun j => diff x0 x1 x2 x3 (j 0) (j 1) * Ideal.ofBits .f32 0x3A800000#32 := by
  funext j
  unfold out0_B_5
  rw [View.read_writes_eq_canon _ _ _ (cover0_B_5 c i a1 h1 a2 h2 a3 h3 a4 h4 a5 h5 a6 h6 a7 h7 hc0 x0 x1 x2 x3 xo6)]
  unfold kernelRun0_B
  dsimp only
  sl_unfold_words
  rw [View.canon_unit_zero hz2]
  simp only [View.readAt_eq_ld, h1.read_unread, h2.read_unread, h3.read_unread, h4.read_unread, h5.read_unread, h6.read_unread, h7.read_unread, View.ld_unit_zero (S := S1x512x2816) hz3, View.ld_unit_zero (S := S1x2816x1024) hz3, View.ld_unit_zero (S := S512x1024) hz2, View.ld_unit_zero (S := S8x1024) hz2]
  exact b5_eq x0 x1 x2 x3 j

theorem out_A6 (c : Dev nD) (i : grid0.Coords) (a1 : Memref sig .tc .vmem S1x512x2816 .bf16) (h1 : a1.IsWhole) (a2 : Memref sig .tc .vmem S1x2816x1024 .bf16) (h2 : a2.IsWhole) (a3 : Memref sig .tc .vmem S512x1024 .f32) (h3 : a3.IsWhole) (a4 : Memref sig .tc .vmem S512x1024 .f32) (h4 : a4.IsWhole) (a5 : Memref sig .tc .vmem S512x1024 .f32) (h5 : a5.IsWhole) (a6 : Memref sig .tc .vmem S512x1024 .bf16) (h6 : a6.IsWhole) (a7 : Memref sig .tc .vmem S8x1024 .f32) (h7 : a7.IsWhole) (hc0 : cond0_0 i)
    (x0 : Vec Ideal S1x512x2816 .bf16) (x1 : Vec Ideal S1x2816x1024 .bf16) (x2 : Vec Ideal S512x1024 .f32) (x3 : Vec Ideal S512x1024 .f32) :
    out0_A_6 c i a1 h1 a2 h2 a3 h3 a4 h4 a5 h5 a6 h6 a7 h7 hc0 x0 x1 x2 x3 = fun j => b6 x0 x1 x2 x3 j := by
  funext j
  unfold out0_A_6
  rw [View.read_writes_eq_canon _ _ _ (cover0_A_6 c i a1 h1 a2 h2 a3 h3 a4 h4 a5 h5 a6 h6 a7 h7 hc0 x0 x1 x2 x3)]
  unfold kernelRun0_A
  dsimp only
  sl_unfold_words
  rw [View.canon_cons_unit_zero (S := S8x1024) hz2, View.readCov_unit_zero _ hz2]
  simp only [View.readAt_eq_ld, h1.read_unread, h2.read_unread, h3.read_unread, h4.read_unread, h5.read_unread, h6.read_unread, h7.read_unread, View.ld_unit_zero (S := S1x512x2816) hz3, View.ld_unit_zero (S := S1x2816x1024) hz3, View.ld_unit_zero (S := S512x1024) hz2, View.ld_unit_zero (S := S8x1024) hz2]
  exact b6_zero x0 x1 x2 x3 j

theorem out_B6 (c : Dev nD) (i : grid0.Coords) (a1 : Memref sig .tc .vmem S1x512x2816 .bf16) (h1 : a1.IsWhole) (a2 : Memref sig .tc .vmem S1x2816x1024 .bf16) (h2 : a2.IsWhole) (a3 : Memref sig .tc .vmem S512x1024 .f32) (h3 : a3.IsWhole) (a4 : Memref sig .tc .vmem S512x1024 .f32) (h4 : a4.IsWhole) (a5 : Memref sig .tc .vmem S512x1024 .f32) (h5 : a5.IsWhole) (a6 : Memref sig .tc .vmem S512x1024 .bf16) (h6 : a6.IsWhole) (a7 : Memref sig .tc .vmem S8x1024 .f32) (h7 : a7.IsWhole) (hc0 : ¬cond0_0 i)
    (x0 : Vec Ideal S1x512x2816 .bf16) (x1 : Vec Ideal S1x2816x1024 .bf16) (x2 : Vec Ideal S512x1024 .f32) (x3 : Vec Ideal S512x1024 .f32) (xo6 : Vec Ideal S8x1024 .f32) :
    out0_B_6 c i a1 h1 a2 h2 a3 h3 a4 h4 a5 h5 a6 h6 a7 h7 hc0 x0 x1 x2 x3 xo6 = fun j => xo6 j + b6 x0 x1 x2 x3 j := by
  funext j
  unfold out0_B_6
  rw [View.read_writes_eq_canon _ _ _ (cover0_B_6 c i a1 h1 a2 h2 a3 h3 a4 h4 a5 h5 a6 h6 a7 h7 hc0 x0 x1 x2 x3 xo6)]
  unfold kernelRun0_B
  dsimp only
  sl_unfold_words
  rw [View.canon_unit_zero hz2]
  simp only [View.readAt_eq_ld, h1.read_unread, h2.read_unread, h3.read_unread, h4.read_unread, h5.read_unread, h6.read_unread, h7.read_unread, View.ld_unit_zero (S := S1x512x2816) hz3, View.ld_unit_zero (S := S1x2816x1024) hz3, View.ld_unit_zero (S := S512x1024) hz2, View.ld_unit_zero (S := S8x1024) hz2]
  exact b6_eq x0 x1 x2 x3 xo6 j

variable (m : (ℓ : Loc nD τ sig) → Buf (Elt Ideal) ℓ) (ρ : Dev nD → PrngReg)

theorem idx_in (t : Fin cfg0.N) : win0_0.index t 0 = 0 ∧ win0_0.index t 1 = t.val ∧ win0_0.index t 2 = 0 ∧ win0_1.index t 0 = 0 ∧ win0_1.index t 1 = 0 ∧ win0_1.index t 2 = 0 ∧ win0_2.index t 0 = t.val ∧ win0_2.index t 1 = 0 ∧ win0_3.index t 0 = t.val ∧ win0_3.index t 1 = 0 ∧ win0_4.index t 0 = t.val ∧ win0_4.index t 1 = 0 ∧ win0_5.index t 0 = t.val ∧ win0_5.index t 1 = 0 ∧ win0_6.index t 0 = 0 ∧ win0_6.index t 1 = 0 := by
  rcases fin_N0 t with rfl | rfl | rfl | rfl | rfl | rfl | rfl | rfl <;> decide

theorem V_main_v0 (c : Dev nD) : V m c main_v0 = (broadcastInDim S1x4096x2816 ![1, 2] bcast_S4096x2816_S1x4096x2816_1_2 (m ((c : Thread nD τ).loc main_arg0) : Vec Ideal S4096x2816 .bf16) : Vec Ideal S1x4096x2816 .bf16) := by
  rfl

theorem slab_main_v0 (a : Vec Ideal S4096x2816 .bf16) (r : Fin 4096) (l : Fin 2816) :
    (broadcastInDim S1x4096x2816 ![1, 2] bcast_S4096x2816_S1x4096x2816_1_2 a : Vec Ideal S1x4096x2816 .bf16) (ix3 0 r l) = a (ix2 r l) := by
  pointwise []

theorem blk0 (c : Dev nD) (t : Fin cfg0.N) (r : Fin 512) (l : Fin 2816) :
    iblk m c 0 t (ix3 0 r l) = m ((c : Thread nD τ).loc main_arg0) (ix2 (⟨512 * t.val + r.val, by have : t.val < 8 := t.isLt; omega⟩ : Fin 4096) l) := by
  obtain ⟨h0, h1, h2, -⟩ := idx_in t
  unfold iblk
  rw [View.read_apply]
  have e : ((cfg0.win 0).blk t).view.emb (ix3 0 r l) = ix3 0 (⟨512 * t.val + r.val, by have : t.val < 8 := t.isLt; omega⟩ : Fin 4096) l := by
    funext a
    apply Fin.ext
    match a with
    | ⟨0, _⟩ => show win0_0.index t 0 * 1 + 1 * 0 = 0; rw [h0]
    | ⟨1, _⟩ => show win0_0.index t 1 * 512 + 1 * r.val = 512 * t.val + r.val; rw [h1]; omega
    | ⟨2, _⟩ => show win0_0.index t 2 * 2816 + 1 * l.val = l.val; rw [h2]; omega
  rw [e]
  show V m c main_v0 _ = _
  rw [V_main_v0]
  exact slab_main_v0 _ _ _

theorem V_main_v1 (c : Dev nD) : V m c main_v1 = (broadcastInDim S1x2816x1024 ![1, 2] bcast_S2816x1024_S1x2816x1024_1_2 (m ((c : Thread nD τ).loc main_arg1) : Vec Ideal S2816x1024 .bf16) : Vec Ideal S1x2816x1024 .bf16) := by
  rfl

theorem slab_main_v1 (a : Vec Ideal S2816x1024 .bf16) (r : Fin 2816) (l : Fin 1024) :
    (broadcastInDim S1x2816x1024 ![1, 2] bcast_S2816x1024_S1x2816x1024_1_2 a : Vec Ideal S1x2816x1024 .bf16) (ix3 0 r l) = a (ix2 r l) := by
  pointwise []

theorem blk1 (c : Dev nD) (t : Fin cfg0.N) (r : Fin 2816) (l : Fin 1024) :
    iblk m c 1 t (ix3 0 r l) = m ((c : Thread nD τ).loc main_arg1) (ix2 r l) := by
  obtain ⟨-, -, -, h0, h1, h2, -⟩ := idx_in t
  unfold iblk
  rw [View.read_apply]
  have e : ((cfg0.win 1).blk t).view.emb (ix3 0 r l) = ix3 0 r l := by
    funext a
    apply Fin.ext
    match a with
    | ⟨0, _⟩ => show win0_1.index t 0 * 1 + 1 * 0 = 0; rw [h0]
    | ⟨1, _⟩ => show win0_1.index t 1 * 2816 + 1 * r.val = r.val; rw [h1]; omega
    | ⟨2, _⟩ => show win0_1.index t 2 * 1024 + 1 * l.val = l.val; rw [h2]; omega
  rw [e]
  show V m c main_v1 _ = _
  rw [V_main_v1]
  exact slab_main_v1 _ _ _

theorem blk2 (c : Dev nD) (t : Fin cfg0.N) (r : Fin 512) (l : Fin 1024) :
    iblk m c 2 t (ix2 r l) = m ((c : Thread nD τ).loc main_arg2) (ix2 (⟨512 * t.val + r.val, by have : t.val < 8 := t.isLt; omega⟩ : Fin 4096) l) := by
  obtain ⟨-, -, -, -, -, -, h0, h1, -⟩ := idx_in t
  unfold iblk
  rw [View.read_apply]
  show V m c main_arg2 _ = _
  rw [V_main_arg2]
  congr 1
  funext a
  apply Fin.ext
  match a with
  | ⟨0, _⟩ => show win0_2.index t 0 * 512 + 1 * r.val = 512 * t.val + r.val; rw [h0]; omega
  | ⟨1, _⟩ => show win0_2.index t 1 * 1024 + 1 * l.val = l.val; rw [h1]; omega

theorem blk3 (c : Dev nD) (t : Fin cfg0.N) (r : Fin 512) (l : Fin 1024) :
    iblk m c 3 t (ix2 r l) = m ((c : Thread nD τ).loc main_arg3) (ix2 (⟨512 * t.val + r.val, by have : t.val < 8 := t.isLt; omega⟩ : Fin 4096) l) := by
  obtain ⟨-, -, -, -, -, -, -, -, h0, h1, -⟩ := idx_in t
  unfold iblk
  rw [View.read_apply]
  show V m c main_arg3 _ = _
  rw [V_main_arg3]
  congr 1
  funext a
  apply Fin.ext
  match a with
  | ⟨0, _⟩ => show win0_3.index t 0 * 512 + 1 * r.val = 512 * t.val + r.val; rw [h0]; omega
  | ⟨1, _⟩ => show win0_3.index t 1 * 1024 + 1 * l.val = l.val; rw [h1]; omega

/-! ## The whole arrays -/

/-- The step's output less the target. -/
def D (a : Vec Ideal S4096x2816 .bf16) (w : Vec Ideal S2816x1024 .bf16) (x y : Vec Ideal S4096x1024 .f32) (r : Fin 4096) (l : Fin 1024) : EReal :=
  x (ix2 r l) + (∑ k : Fin 2816, a (ix2 r k) * w (ix2 k l)) - y (ix2 r l)

/-- The gradient of the loss. -/
def dyG (a : Vec Ideal S4096x2816 .bf16) (w : Vec Ideal S2816x1024 .bf16) (x y : Vec Ideal S4096x1024 .f32) : Vec Ideal S4096x1024 .f32 := fun i => D a w x y (i 0) (i 1) * Ideal.ofBits .f32 0x3A800000#32

/-- Eight rows, each the sum of the squares over every eighth token. -/
def sq8 (a : Vec Ideal S4096x2816 .bf16) (w : Vec Ideal S2816x1024 .bf16) (x y : Vec Ideal S4096x1024 .f32) : Vec Ideal S8x1024 .f32 := fun i =>
  ∑ t : Fin 8, ∑ q : Fin 64, D a w x y (⟨512 * t.val + (q.val * 8 + (i 0).val), by have : (i 0).val < 8 := (i 0).isLt; omega⟩ : Fin 4096) (i 1) * D a w x y (⟨512 * t.val + (q.val * 8 + (i 0).val), by have : (i 0).val < 8 := (i 0).isLt; omega⟩ : Fin 4096) (i 1)

theorem diff_blk (c : Dev nD) (t : Fin cfg0.N) (r : Fin 512) (l : Fin 1024) : diff (iblk m c 0 t) (iblk m c 1 t) (iblk m c 2 t) (iblk m c 3 t) r l
    = D (m ((c : Thread nD τ).loc main_arg0)) (m ((c : Thread nD τ).loc main_arg1)) (m ((c : Thread nD τ).loc main_arg2)) (m ((c : Thread nD τ).loc main_arg3)) (⟨512 * t.val + r.val, by have : t.val < 8 := t.isLt; omega⟩ : Fin 4096) l := by
  unfold diff D
  rw [blk2, blk3]
  congr 2
  exact Finset.sum_congr rfl fun k _ => by rw [blk0, blk1]

theorem b6_blk (c : Dev nD) (t : Fin cfg0.N) (j : S8x1024.Idx) : b6 (iblk m c 0 t) (iblk m c 1 t) (iblk m c 2 t) (iblk m c 3 t) j
    = ∑ q : Fin 64, D (m ((c : Thread nD τ).loc main_arg0)) (m ((c : Thread nD τ).loc main_arg1)) (m ((c : Thread nD τ).loc main_arg2)) (m ((c : Thread nD τ).loc main_arg3)) (⟨512 * t.val + (q.val * 8 + (j 0).val), by have : t.val < 8 := t.isLt; have : (j 0).val < 8 := (j 0).isLt; omega⟩ : Fin 4096) (j 1)
        * D (m ((c : Thread nD τ).loc main_arg0)) (m ((c : Thread nD τ).loc main_arg1)) (m ((c : Thread nD τ).loc main_arg2)) (m ((c : Thread nD τ).loc main_arg3)) (⟨512 * t.val + (q.val * 8 + (j 0).val), by have : t.val < 8 := t.isLt; have : (j 0).val < 8 := (j 0).isLt; omega⟩ : Fin 4096) (j 1) := by
  unfold b6
  refine Finset.sum_congr rfl fun q _ => ?_
  have hd := diff_blk m c t ⟨q.val * 8 + (j 0).val, by have : (j 0).val < 8 := (j 0).isLt; omega⟩ (j 1)
  exact congrArg₂ (fun a b : EReal => a * b) hd hd

theorem out4 (c : Dev nD) (t : Fin cfg0.N) : (outsAt0 m c t.val t.isLt).1 = fun j => diff (iblk m c 0 t) (iblk m c 1 t) (iblk m c 2 t) (iblk m c 3 t) (j 0) (j 1) * Ideal.ofBits .f32 0x3A800000#32 := by
  by_cases h0 : t.val % 8 = 0
  · rw [outsAt0_A m c t h0]; dsimp only; rw [out_A4]
  · rw [outsAt0_B m c t h0]; dsimp only; rw [out_B4]

theorem emb4 (t : Fin cfg0.N) (j : S512x1024.Idx) : ((cfg0.win 4).blk t).view.emb j
    = ix2 (⟨512 * t.val + (j 0).val, by have : t.val < 8 := t.isLt; have : (j 0).val < 512 := (j 0).isLt; omega⟩ : Fin 4096) (j 1) := by
  obtain ⟨-, -, -, -, -, -, -, -, -, -, h0, h1, -⟩ := idx_in t
  funext a
  apply Fin.ext
  match a with
  | ⟨0, _⟩ => show win0_4.index t 0 * 512 + 1 * (j 0).val = 512 * t.val + (j 0).val; rw [h0]; omega
  | ⟨1, _⟩ => show win0_4.index t 1 * 1024 + 1 * (j 1).val = (j 1).val; rw [h1]; omega

theorem flushed4 (c : Dev nD) (t : Fin cfg0.N) (_ : (cfg0.win 4).flush t = true) :
    (dats m 0 c).flushed 4 t = ((cfg0.win 4).blk t).view.read (Elt Ideal) (dyG (m ((c : Thread nD τ).loc main_arg0)) (m ((c : Thread nD τ).loc main_arg1)) (m ((c : Thread nD τ).loc main_arg2)) (m ((c : Thread nD τ).loc main_arg3))) := by
  show (dats m 0 c).after 4 t = _
  rw [after0_4, out4]
  funext j
  rw [View.read_apply, emb4]
  exact congrArg (fun a : EReal => a * Ideal.ofBits .f32 0x3A800000#32) (diff_blk m c t (j 0) (j 1))

theorem final4 (c : Dev nD) : (dats m 0 c).arrAt 4 cfg0.N = (dyG (m ((c : Thread nD τ).loc main_arg0)) (m ((c : Thread nD τ).loc main_arg1)) (m ((c : Thread nD τ).loc main_arg2)) (m ((c : Thread nD τ).loc main_arg3))) :=
  (dats m 0 c).arrAt_eq_of_cover 4 _ (flushed4 m c) fun i => by
    have hi : (i 0 : Nat) < 4096 := (i 0).isLt
    have hl : (i 1 : Nat) < 1024 := (i 1).isLt
    have hN : (i 0).val / 512 < cfg0.N := by show _ < 8; omega
    refine ⟨⟨_, hN⟩, flush0_4 _, ?_⟩
    obtain ⟨-, -, -, -, -, -, -, -, -, -, h0, h1, -⟩ := idx_in ⟨_, hN⟩
    show i ∈ ((View.whole main_v2_0).slice (win0_4.rect ⟨_, hN⟩)).set
    rw [View.set_slice_whole, Rect.mem_set_unit]
    intro a
    match a with
    | ⟨0, _⟩ => show win0_4.index _ 0 * 512 ≤ (i 0 : Nat) ∧ (i 0 : Nat) < win0_4.index _ 0 * 512 + 512; rw [h0]; dsimp only; omega
    | ⟨1, _⟩ => show win0_4.index _ 1 * 1024 ≤ (i 1 : Nat) ∧ (i 1 : Nat) < win0_4.index _ 1 * 1024 + 1024; rw [h1]; omega

theorem out5 (c : Dev nD) (t : Fin cfg0.N) : (outsAt0 m c t.val t.isLt).2.1 = fun j => diff (iblk m c 0 t) (iblk m c 1 t) (iblk m c 2 t) (iblk m c 3 t) (j 0) (j 1) * Ideal.ofBits .f32 0x3A800000#32 := by
  by_cases h0 : t.val % 8 = 0
  · rw [outsAt0_A m c t h0]; dsimp only; rw [out_A5]
  · rw [outsAt0_B m c t h0]; dsimp only; rw [out_B5]

theorem emb5 (t : Fin cfg0.N) (j : S512x1024.Idx) : ((cfg0.win 5).blk t).view.emb j
    = ix2 (⟨512 * t.val + (j 0).val, by have : t.val < 8 := t.isLt; have : (j 0).val < 512 := (j 0).isLt; omega⟩ : Fin 4096) (j 1) := by
  obtain ⟨-, -, -, -, -, -, -, -, -, -, -, -, h0, h1, -⟩ := idx_in t
  funext a
  apply Fin.ext
  match a with
  | ⟨0, _⟩ => show win0_5.index t 0 * 512 + 1 * (j 0).val = 512 * t.val + (j 0).val; rw [h0]; omega
  | ⟨1, _⟩ => show win0_5.index t 1 * 1024 + 1 * (j 1).val = (j 1).val; rw [h1]; omega

theorem flushed5 (c : Dev nD) (t : Fin cfg0.N) (_ : (cfg0.win 5).flush t = true) :
    (dats m 0 c).flushed 5 t = ((cfg0.win 5).blk t).view.read (Elt Ideal) (dyG (m ((c : Thread nD τ).loc main_arg0)) (m ((c : Thread nD τ).loc main_arg1)) (m ((c : Thread nD τ).loc main_arg2)) (m ((c : Thread nD τ).loc main_arg3)) : Vec Ideal S4096x1024 .bf16) := by
  show (dats m 0 c).after 5 t = _
  rw [after0_5, out5]
  funext j
  rw [View.read_apply, emb5]
  exact congrArg (fun a : EReal => a * Ideal.ofBits .f32 0x3A800000#32) (diff_blk m c t (j 0) (j 1))

theorem final5 (c : Dev nD) : (dats m 0 c).arrAt 5 cfg0.N = (dyG (m ((c : Thread nD τ).loc main_arg0)) (m ((c : Thread nD τ).loc main_arg1)) (m ((c : Thread nD τ).loc main_arg2)) (m ((c : Thread nD τ).loc main_arg3)) : Vec Ideal S4096x1024 .bf16) :=
  (dats m 0 c).arrAt_eq_of_cover 5 _ (flushed5 m c) fun i => by
    have hi : (i 0 : Nat) < 4096 := (i 0).isLt
    have hl : (i 1 : Nat) < 1024 := (i 1).isLt
    have hN : (i 0).val / 512 < cfg0.N := by show _ < 8; omega
    refine ⟨⟨_, hN⟩, flush0_5 _, ?_⟩
    obtain ⟨-, -, -, -, -, -, -, -, -, -, -, -, h0, h1, -⟩ := idx_in ⟨_, hN⟩
    show i ∈ ((View.whole main_v2_1).slice (win0_5.rect ⟨_, hN⟩)).set
    rw [View.set_slice_whole, Rect.mem_set_unit]
    intro a
    match a with
    | ⟨0, _⟩ => show win0_5.index _ 0 * 512 ≤ (i 0 : Nat) ∧ (i 0 : Nat) < win0_5.index _ 0 * 512 + 512; rw [h0]; dsimp only; omega
    | ⟨1, _⟩ => show win0_5.index _ 1 * 1024 ≤ (i 1 : Nat) ∧ (i 1 : Nat) < win0_5.index _ 1 * 1024 + 1024; rw [h1]; omega

theorem out6 (c : Dev nD) : ∀ (n : ℕ) (hn : n < cfg0.N), (outsAt0 m c n hn).2.2 = fun j => ∑ t : Fin (n + 1),
    b6 (iblk m c 0 ⟨t.val, Nat.lt_of_le_of_lt (Nat.le_of_lt_succ t.isLt) hn⟩) (iblk m c 1 ⟨t.val, Nat.lt_of_le_of_lt (Nat.le_of_lt_succ t.isLt) hn⟩) (iblk m c 2 ⟨t.val, Nat.lt_of_le_of_lt (Nat.le_of_lt_succ t.isLt) hn⟩) (iblk m c 3 ⟨t.val, Nat.lt_of_le_of_lt (Nat.le_of_lt_succ t.isLt) hn⟩) j
  | 0, hn => by
    have h := outsAt0_A m c ⟨0, hn⟩ rfl
    dsimp only at h
    rw [h]
    dsimp only
    rw [out_A6]
    funext j
    rw [Fin.sum_univ_one]
    rfl
  | n + 1, hn => by
    have h8 : n + 1 < 8 := hn
    have h := outsAt0_B m c ⟨n + 1, hn⟩ (by show ¬(n + 1) % 8 = 0; omega)
    dsimp only at h
    rw [h]
    dsimp only
    rw [out_B6]
    funext j
    have ih := out6 c n (Nat.lt_of_succ_lt hn)
    rw [Fin.sum_univ_castSucc]
    refine congrArg (· + _) ?_
    exact congrFun ih j

theorem flushed6 (c : Dev nD) (t : Fin cfg0.N) (ht : (cfg0.win 6).flush t = true) :
    (dats m 0 c).flushed 6 t = ((cfg0.win 6).blk t).view.read (Elt Ideal) (sq8 (m ((c : Thread nD τ).loc main_arg0)) (m ((c : Thread nD τ).loc main_arg1)) (m ((c : Thread nD τ).loc main_arg2)) (m ((c : Thread nD τ).loc main_arg3))) := by
  have h8 : t.val < 8 := t.isLt
  have ht7 : t.val = 7 := by have := (flush0_6 t).mp ht; omega
  obtain ⟨-, -, -, -, -, -, -, -, -, -, -, -, -, -, h0, h1⟩ := idx_in t
  show (dats m 0 c).after 6 t = _
  rw [after0_6, out6]
  obtain ⟨n, hn⟩ := t
  obtain rfl : n = 7 := ht7
  funext j
  rw [View.read_apply]
  have e : ((cfg0.win 6).blk ⟨7, hn⟩).view.emb j = j := by
    funext a
    apply Fin.ext
    match a with
    | ⟨0, _⟩ => show win0_6.index ⟨7, hn⟩ 0 * 8 + 1 * (j 0).val = (j 0).val; rw [h0]; omega
    | ⟨1, _⟩ => show win0_6.index ⟨7, hn⟩ 1 * 1024 + 1 * (j 1).val = (j 1).val; rw [h1]; omega
  rw [e]
  unfold sq8
  exact Finset.sum_congr rfl fun t _ => b6_blk m c ⟨t.val, t.isLt⟩ j

theorem final6 (c : Dev nD) : (dats m 0 c).arrAt 6 cfg0.N = (sq8 (m ((c : Thread nD τ).loc main_arg0)) (m ((c : Thread nD τ).loc main_arg1)) (m ((c : Thread nD τ).loc main_arg2)) (m ((c : Thread nD τ).loc main_arg3))) :=
  (dats m 0 c).arrAt_eq_of_cover 6 _ (flushed6 m c) fun i => by
    have hi : (i 0 : Nat) < 8 := (i 0).isLt
    have hl : (i 1 : Nat) < 1024 := (i 1).isLt
    have hN : 7 < cfg0.N := by show _ < 8; omega
    refine ⟨⟨7, hN⟩, (flush0_6 _).mpr rfl, ?_⟩
    obtain ⟨-, -, -, -, -, -, -, -, -, -, -, -, -, -, h0, h1⟩ := idx_in ⟨7, hN⟩
    show i ∈ ((View.whole main_v2_2).slice (win0_6.rect ⟨7, hN⟩)).set
    rw [View.set_slice_whole, Rect.mem_set_unit]
    intro a
    match a with
    | ⟨0, _⟩ => show win0_6.index _ 0 * 8 ≤ (i 0 : Nat) ∧ (i 0 : Nat) < win0_6.index _ 0 * 8 + 8; rw [h0]; omega
    | ⟨1, _⟩ => show win0_6.index _ 1 * 1024 ≤ (i 1 : Nat) ∧ (i 1 : Nat) < win0_6.index _ 1 * 1024 + 1024; rw [h1]; omega

end Cert.Proof.DownLoss
-- ==== Proof.DownLossRun.lean ====
module

public import proofs.«01_k».proof.Proof.DownLoss
public import proofs.«01_k».proof.Proof.NormGrad
public import proofs.«01_k».proof.Proof.Gen.Reference12Ideal.Run
public import proofs.«01_k».proof.Defs
public import Idealize.ShloMosaic.Lib.Pointwise

@[expose] public section

set_option maxRecDepth 16384

noncomputable section

/-!
  The loss and its gradient: the call with the host's sum of its rows, against the gradient of the forward lines.
-/

namespace Cert.Proof.DownLoss

open Idealize.ShloMosaic Idealize.ShloMosaic.TcCoe Idealize.SL.Sem
open Idealize.ShloMosaic.Pipeline (Dat)
open Cert.Kernel12Ideal Cert.Kernel12Ideal.Gen

theorem const_half : Ideal.ofBits .f32 0x3F000000#32 = ((1 / 2 : ℝ) : EReal) := by
  simp [Ideal.ofBits, Ideal.ieee]
  rw [← EReal.coe_mul]
  norm_num

theorem const_two : Ideal.ofBits .f32 0x40000000#32 = ((2 : ℝ) : EReal) := by
  simp [Ideal.ofBits, Ideal.ieee]
  rw [← EReal.coe_mul]
  norm_num

theorem const_inv_1024 : Ideal.ofBits .f32 0x3A800000#32 = ((1 / 1024 : ℝ) : EReal) := by
  simp [Ideal.ofBits, Ideal.ieee]
  rw [← EReal.coe_mul]
  norm_num

theorem const_inv_2048 : Ideal.ofBits .f32 0x3A000000#32 = ((1 / 2048 : ℝ) : EReal) := by
  simp [Ideal.ofBits, Ideal.ieee]
  rw [← EReal.coe_mul]
  norm_num

/-- The chain rule's factor is the call's. -/
theorem scale_eq (d : EReal) : Ideal.div (Ideal.ofBits .f32 0x3F000000#32) (Ideal.ofBits .f32 0x44800000#32)
    * (Ideal.ofBits .f32 0x40000000#32 * d) = d * Ideal.ofBits .f32 0x3A800000#32 := by
  rw [const_half, const_two, const_inv_1024, Cert.Proof.NormGrad.const_1024, Ideal.div_coe (by norm_num), ← mul_assoc,
    ← EReal.coe_mul, ← EReal.coe_mul, mul_comm]
  norm_num

/-- The mean over the columns and the half come out of the sum. -/
theorem loss_eq (f : Fin 4096 → Fin 1024 → EReal) :
    Ideal.ofBits .f32 0x3F000000#32 * ∑ r, Ideal.div (∑ l, f r l) (Ideal.ofBits .f32 0x44800000#32)
      = Ideal.ofBits .f32 0x3A000000#32 * ∑ r, ∑ l, f r l := by
  have h : ∀ r, Ideal.div (∑ l, f r l) ((1024 : ℝ) : EReal) = (∑ l, f r l) * ((1 / 1024 : ℝ) : EReal) := fun r => Ideal.div_coe (by norm_num) _
  rw [const_half, const_inv_2048, Cert.Proof.NormGrad.const_1024]
  simp only [h]
  rw [Cert.Proof.NormGrad.sum_mul_coe _ (by norm_num), mul_comm (∑ r, ∑ l, f r l), ← mul_assoc, ← EReal.coe_mul]
  norm_num

/-- The squared error over all tokens and columns, halved and averaged over the columns. -/
def lossG (a : Vec Ideal S4096x2816 .bf16) (w : Vec Ideal S2816x1024 .bf16) (x y : Vec Ideal S4096x1024 .f32) : Vec Ideal S_ .f32 := fun _ =>
  Ideal.ofBits .f32 0x3A000000#32 * ∑ r : Fin 4096, ∑ l : Fin 1024, D a w x y r l * D a w x y r l

theorem tail_eq (z : FVec Ideal S8x1024 .f32) : (mulf (constant S_ .f32 0x3A000000#32) (Host.reduceAdd z (constant S_ .f32 0x00000000#32) reducesTo_S8x1024_S_d0_1 h_S_) : FVec Ideal S_ .f32)
    = fun _ => Ideal.ofBits .f32 0x3A000000#32 * ∑ s : Fin 8, ∑ l : Fin 1024, z (ix2 s l) := by
  funext j
  pointwise []

theorem sq_eq (a : Vec Ideal S4096x2816 .bf16) (w : Vec Ideal S2816x1024 .bf16) (x y : Vec Ideal S4096x1024 .f32) : (mulf (constant S_ .f32 0x3A000000#32) (Host.reduceAdd (sq8 a w x y : FVec Ideal S8x1024 .f32) (constant S_ .f32 0x00000000#32) reducesTo_S8x1024_S_d0_1 h_S_) : FVec Ideal S_ .f32)
    = lossG a w x y := by
  rw [tail_eq]
  funext _
  unfold lossG
  congr 1
  rw [Finset.sum_comm, Finset.sum_comm (s := (Finset.univ : Finset (Fin 4096)))]
  exact Finset.sum_congr rfl fun l _ => Cert.Proof.Rows.sum_rows fun r => D a w x y r l * D a w x y r l

variable (m : (ℓ : Loc nD τ sig) → Buf (Elt Ideal) ℓ) (ρ : Dev nD → PrngReg)

theorem tail_v4 (c : Dev nD) : Pipeline.afterTail₀ cfgs (dats m) 0 (V0 m) [hostOps1] c main_v4 = lossG (m ((c : Thread nD τ).loc main_arg0)) (m ((c : Thread nD τ).loc main_arg1)) (m ((c : Thread nD τ).loc main_arg2)) (m ((c : Thread nD τ).loc main_arg3)) := by
  unfold Pipeline.afterTail₀
  simp only [hostOps1, List.flatten_cons, List.flatten_nil, List.append_nil]
  after_results_simp

  have h : Pipeline.withArrays (cfgs 0).spec c (V0 m c) (fun w => (dats m 0 c).arrAt w (cfgs 0).N) (Proc.tc.devRef main_v2_2) = sq8 (m ((c : Thread nD τ).loc main_arg0)) (m ((c : Thread nD τ).loc main_arg1)) (m ((c : Thread nD τ).loc main_arg2)) (m ((c : Thread nD τ).loc main_arg3)) :=
    (Pipeline.withArrays_arr (cfgs 0).spec winFacts0.arr_inj c (V0 m c) (fun w => (dats m 0 c).arrAt w (cfgs 0).N) 6).trans (final6 m c)
  rw [h]
  exact sq_eq _ _ _ _

/-- What the whole program leaves: the gradient, the loss, and the arguments as they were. -/
theorem run_value : θ_run defs (onTc (τ := τ) (main (F := Ideal))) ⟨m, fun _ => 0, ρ⟩ (fun r => ∀ c : Dev nD,
      r.2.mem ((c.tc : Thread nD τ).loc main_v2_0) = dyG (m ((c : Thread nD τ).loc main_arg0)) (m ((c : Thread nD τ).loc main_arg1)) (m ((c : Thread nD τ).loc main_arg2)) (m ((c : Thread nD τ).loc main_arg3))
      ∧ r.2.mem ((c.tc : Thread nD τ).loc main_v2_1) = (dyG (m ((c : Thread nD τ).loc main_arg0)) (m ((c : Thread nD τ).loc main_arg1)) (m ((c : Thread nD τ).loc main_arg2)) (m ((c : Thread nD τ).loc main_arg3)) : Vec Ideal S4096x1024 .bf16)
      ∧ r.2.mem ((c.tc : Thread nD τ).loc main_v4) = lossG (m ((c : Thread nD τ).loc main_arg0)) (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 4).trans (final4 m c), ((h c).1 5).trans (final5 m c),
      ((h c).2 main_v4 (Pipeline.mem_restRefs_of main_v4 (by decide) (by decide))).trans (tail_v4 m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.Proof.DownLoss

namespace Cert.Proof.DownLoss.Ref

open Idealize.ShloMosaic Idealize.ShloMosaic.TcCoe Idealize.SL.Sem
open Cert.Reference12Ideal Cert.Reference12Ideal.Gen
open Cert.Proof.DownLoss (D dyG lossG)

theorem d_ref (a : FVec Ideal S4096x2816 .bf16) (w : FVec Ideal S2816x1024 .bf16) (x y : FVec Ideal S4096x1024 .f32) :
    ((subf (addf x (Host.dotGeneral dot_S4096x2816_S2816x1024_S4096x1024_1_0_0_1_n_n none (extf .f32 a bitsLt_bf16_f32) (extf .f32 w bitsLt_bf16_f32))) y) : FVec Ideal S4096x1024 .f32) = fun i => D a w x y (i 0) (i 1) := by
  funext j
  pointwise [D]

theorem dy_ref (d : FVec Ideal S4096x1024 .f32) :
    (mulf (broadcastInDim S4096x1024 ![0] bcast_S4096_S4096x1024_0 (Host.divf (broadcastInDim S4096 ![] bcast_S_S4096 (mulf (constant S_ .f32 0x3F000000#32) (constant S_ .f32 0x3F800000#32))) (broadcastInDim S4096 ![] bcast_S_S4096 (constant S_ .f32 0x44800000#32)))) (mulf (broadcastInDim S4096x1024 ![] bcast_S_S4096x1024 (constant S_ .f32 0x40000000#32)) d) : FVec Ideal S4096x1024 .f32) = fun i => d i * Ideal.ofBits .f32 0x3A800000#32 := by
  funext j
  pointwise []
  exact Cert.Proof.DownLoss.scale_eq _

theorem loss_ref (d : FVec Ideal S4096x1024 .f32) :
    (mulf (constant S_ .f32 0x3F000000#32) (Host.reduceAdd (Host.divf (Host.reduceAdd (mulf d d) (constant S_ .f32 0x00000000#32) reducesTo_S4096x1024_S4096_d1 h_S_) (broadcastInDim S4096 ![] bcast_S_S4096 (constant S_ .f32 0x44800000#32))) (constant S_ .f32 0x00000000#32) reducesTo_S4096_S_d0 h_S_) : FVec Ideal S_ .f32) = fun _ => Ideal.ofBits .f32 0x3A000000#32 * ∑ r : Fin 4096, ∑ l : Fin 1024, d (ix2 r l) * d (ix2 r l) := by
  funext j
  pointwise []
  exact Cert.Proof.DownLoss.loss_eq fun r l => d (ix2 r l) * d (ix2 r l)

end Cert.Proof.DownLoss.Ref

namespace Cert.Proof.DownLoss

open Idealize.ShloMosaic Idealize.ShloMosaic.TcCoe Idealize.SL.Sem
open Cert.Kernel12Ideal Cert.Kernel12Ideal.Gen

theorem claim12 : Cert.algebraic_Kernel12Ideal_Reference12Ideal := by
  intro m g m' g' _ hargs
  refine ⟨fun c => dyG (m ((c : Thread nD τ).loc main_arg0)) (m ((c : Thread nD τ).loc main_arg1)) (m ((c : Thread nD τ).loc main_arg2)) (m ((c : Thread nD τ).loc main_arg3)), fun c => dyG (m ((c : Thread nD τ).loc main_arg0)) (m ((c : Thread nD τ).loc main_arg1)) (m ((c : Thread nD τ).loc main_arg2)) (m ((c : Thread nD τ).loc main_arg3)), fun c => lossG (m ((c : Thread nD τ).loc main_arg0)) (m ((c : Thread nD τ).loc main_arg1)) (m ((c : Thread nD τ).loc main_arg2)) (m ((c : Thread nD τ).loc main_arg3)),
    run_value m g, (θ_run _ _ _).mono (fun _ h c => ?_) (Cert.Reference12Ideal.Value.run m' g')⟩
  obtain ⟨e0, e1, e2, e3⟩ := hargs c
  obtain ⟨h0, h1, h2, h3⟩ := h c
  refine ⟨h0.trans ?_, h1.trans ?_, h2.trans ?_, h3⟩
  all_goals dsimp only; rw [← e0, ← e1, ← e2, ← e3]
  · exact (Ref.dy_ref _).trans (by rw [Ref.d_ref]; rfl)
  · exact (Ref.dy_ref _).trans (by rw [Ref.d_ref]; rfl)
  · exact (Ref.loss_ref _).trans (by rw [Ref.d_ref]; rfl)

end Cert.Proof.DownLoss
-- ==== Proof.Gate.lean ====
module

public import proofs.«01_k».proof.Proof.NormGrad

@[expose] public section

noncomputable section

/-!
  The logistic function as the kernels write it, and the normed, gated row of the convolution's branch.
-/

namespace Cert.Proof.Gate

open Idealize.ShloMosaic
open Cert.Proof.NormGrad (var)

/-- The logistic function. -/
def sigm (z : EReal) : EReal := Ideal.div 1 (1 + Ideal.exp (-z))

/-- One entry of the row `x` over its root mean square, scaled by `g`. -/
def normed (x g : Fin 1024 → EReal) (l : Fin 1024) : EReal := x l * Ideal.rsqrt (var x) * g l

/-- The same through `z · sigm z`. -/
def act (x g : Fin 1024 → EReal) (l : Fin 1024) : EReal := normed x g l * sigm (normed x g l)

end Cert.Proof.Gate
-- ==== Proof.Branches.lean ====
module

public import proofs.«01_k».proof.Proof.Gen.Kernel14Ideal.Value
public import proofs.«01_k».proof.Proof.Gen.Reference14Ideal.Run
public import proofs.«01_k».proof.Proof.Gate
public import proofs.«01_k».proof.Defs
public import Idealize.ShloMosaic.Lib.Pipeline.Value
public import Idealize.ShloMosaic.Lib.Pointwise

@[expose] public section

set_option maxRecDepth 16384

noncomputable section

/-!
  The two branches and their gates (`_branches_fwd`).
-/

namespace Cert.Proof.Branches

open Idealize.ShloMosaic Idealize.ShloMosaic.TcCoe Idealize.SL.Sem
open Idealize.ShloMosaic.Pipeline (Dat)
open Cert.Kernel14Ideal Cert.Kernel14Ideal.Gen
open Cert.Proof.Gate (sigm normed act)
open Cert.Proof.NormGrad (var)

theorem hz2 : (![0, 0] : Fin 2 → Nat) = fun _ => 0 := funext fun a => by fin_cases a <;> rfl
theorem hz3 : (![0, 0, 0] : Fin 3 → Nat) = fun _ => 0 := funext fun a => by fin_cases a <;> rfl

/-- One entry of the convolution's branch: the row through norm and gate, times one column. -/
def ya (x g w : Fin 1024 → EReal) : EReal := ∑ k : Fin 1024, act x g k * w k

/-- One entry of the attention's branch. -/
def yb (o w : Fin 1024 → EReal) : EReal := ∑ k : Fin 1024, o k * w k

/-- The two branches, gated and added. -/
def mix (za ba a zb bb b : EReal) : EReal := sigm (za + ba) * a + sigm (zb + bb) * b

/-- Left and right half of the two gates' bias. -/
def left (l : Fin 1024) : Fin 2048 := ⟨l.val, by omega⟩
def right (l : Fin 1024) : Fin 2048 := ⟨1024 + l.val, by omega⟩

/-- The convolution's row after norm and gate, for the whole array. -/
def GS (x : Vec Ideal S4096x1024 .f32) (g : Vec Ideal S1x1024 .f32) : Vec Ideal S4096x1024 .bf16 := fun i =>
  act (fun l => x (ix2 (i 0) l)) (fun l => g (ix2 0 l)) (i 1)

def GA (x : Vec Ideal S4096x1024 .f32) (g : Vec Ideal S1x1024 .f32) (w : Vec Ideal S1024x1024 .bf16) : Vec Ideal S4096x1024 .f32 := fun i =>
  ya (fun l => x (ix2 (i 0) l)) (fun l => g (ix2 0 l)) (fun k => w (ix2 k (i 1)))

def GB (o : Vec Ideal S4096x1024 .bf16) (w : Vec Ideal S1024x1024 .bf16) : Vec Ideal S4096x1024 .f32 := fun i =>
  yb (fun k => o (ix2 (i 0) k)) (fun k => w (ix2 k (i 1)))

def GM (z : Vec Ideal S8x4096x1024 .f32) (b : Vec Ideal S1x2048 .f32) (a b' : Vec Ideal S4096x1024 .f32) : Vec Ideal S4096x1024 .bf16 := fun i =>
  mix (z (ix3 2 (i 0) (i 1))) (b (ix2 0 (left (i 1)))) (a i) (z (ix3 3 (i 0) (i 1))) (b (ix2 0 (right (i 1)))) (b' i)

theorem act_apply (x : Vec Ideal S512x1024 .f32) (g : Vec Ideal S1x1024 .f32) (r : Fin 512) (l : Fin 1024) :
    k0_pay3 x g (ix2 r l) = act (fun l => x (ix2 r l)) (fun l => g (ix2 0 l)) l := by
  pointwise [k0_pay3, act, normed, sigm, var]
  simp only [zero_sub]

theorem ya_apply (x : Vec Ideal S512x1024 .f32) (g : Vec Ideal S1x1024 .f32) (w : Vec Ideal S1024x1024 .bf16) (r : Fin 512) (l : Fin 1024) :
    k0_pay4 x g w (ix2 r l) = ya (fun l => x (ix2 r l)) (fun l => g (ix2 0 l)) (fun k => w (ix2 k l)) := by
  unfold k0_pay4
  generalize hs : k0_pay3 x g = s
  have e : ∀ k, s (ix2 r k) = act (fun l => x (ix2 r l)) (fun l => g (ix2 0 l)) k := fun k => by rw [← hs]; exact act_apply x g r k
  unfold ya
  rw [← funext e]
  pointwise []

theorem yb_apply (x0 : Vec Ideal S1x512x1024 .bf16) (x1 : Vec Ideal S1x1024x1024 .bf16) (r : Fin 512) (l : Fin 1024) :
    k0_pay2 x0 x1 (ix2 r l) = yb (fun k => x0 (ix3 0 r k)) (fun k => x1 (ix3 0 k l)) := by
  pointwise [k0_pay2, yb]

theorem mix_apply (x3 x4 : Vec Ideal S1x512x1024 .f32) (ba bb : Vec Ideal S1x1024 .f32) (a b : FVec Ideal S512x1024 .f32) (r : Fin 512) (l : Fin 1024) :
    k0_pay1 b a (k0_pay5 x3) (k0_pay6 ba) x4 bb (ix2 r l)
      = mix (x3 (ix3 0 r l)) (ba (ix2 0 l)) (a (ix2 r l)) (x4 (ix3 0 r l)) (bb (ix2 0 l)) (b (ix2 r l)) := by
  pointwise [k0_pay1, k0_pay5, k0_pay6, mix, sigm]
  simp only [zero_sub]

theorem out8_eq (x0 : Vec Ideal S1x512x1024 .bf16) (x1 : Vec Ideal S1x1024x1024 .bf16) (x2 : Vec Ideal S512x1024 .f32) (x3 x4 : Vec Ideal S1x512x1024 .f32) (x5 : Vec Ideal S1x1024 .f32) (x6 : Vec Ideal S1x2048 .f32) (x7 : Vec Ideal S1024x1024 .bf16) : out0_8 x0 x1 x2 x3 x4 x5 x6 x7 = k0_pay3 x2 x5 := by
  unfold out0_8
  rw [View.canon_unit_zero hz2]
  rw [View.ld_unit_zero hz2, View.ld_unit_zero hz2]

theorem out9_eq (x0 : Vec Ideal S1x512x1024 .bf16) (x1 : Vec Ideal S1x1024x1024 .bf16) (x2 : Vec Ideal S512x1024 .f32) (x3 x4 : Vec Ideal S1x512x1024 .f32) (x5 : Vec Ideal S1x1024 .f32) (x6 : Vec Ideal S1x2048 .f32) (x7 : Vec Ideal S1024x1024 .bf16) : out0_9 x0 x1 x2 x3 x4 x5 x6 x7 = k0_pay4 x2 x5 x7 := by
  unfold out0_9
  rw [View.canon_unit_zero hz2]
  unfold k0_pay8
  rw [View.ld_unit_zero hz2, View.ld_unit_zero hz2, View.ld_unit_zero hz2]

theorem out10_eq (x0 : Vec Ideal S1x512x1024 .bf16) (x1 : Vec Ideal S1x1024x1024 .bf16) (x2 : Vec Ideal S512x1024 .f32) (x3 x4 : Vec Ideal S1x512x1024 .f32) (x5 : Vec Ideal S1x1024 .f32) (x6 : Vec Ideal S1x2048 .f32) (x7 : Vec Ideal S1024x1024 .bf16) : out0_10 x0 x1 x2 x3 x4 x5 x6 x7 = k0_pay2 x0 x1 := by
  unfold out0_10
  rw [View.canon_unit_zero hz2]
  unfold k0_pay7
  rw [View.ld_unit_zero hz3, View.ld_unit_zero hz3]

theorem out11_eq (x0 : Vec Ideal S1x512x1024 .bf16) (x1 : Vec Ideal S1x1024x1024 .bf16) (x2 : Vec Ideal S512x1024 .f32) (x3 x4 : Vec Ideal S1x512x1024 .f32) (x5 : Vec Ideal S1x1024 .f32) (x6 : Vec Ideal S1x2048 .f32) (x7 : Vec Ideal S1024x1024 .bf16) : out0_11 x0 x1 x2 x3 x4 x5 x6 x7
    = k0_pay1 (k0_pay2 x0 x1) (k0_pay4 x2 x5 x7) (k0_pay5 x3) (k0_pay6 (View.ld x6 r0_5)) x4 (View.ld x6 r0_6) := by
  unfold out0_11
  rw [View.canon_unit_zero hz2]
  unfold k0_pay7 k0_pay8
  rw [View.ld_unit_zero hz3, View.ld_unit_zero hz3, View.ld_unit_zero hz2, View.ld_unit_zero hz2, View.ld_unit_zero hz2, View.ld_unit_zero hz3, View.ld_unit_zero hz3]

theorem bias_left (x6 : Vec Ideal S1x2048 .f32) (l : Fin 1024) : View.ld x6 r0_5 (ix2 0 l) = x6 (ix2 0 (left l)) := by
  unfold View.ld
  congr 1
  funext a
  apply Fin.ext
  match a with
  | ⟨0, _⟩ => rfl
  | ⟨1, _⟩ => show 0 + 1 * l.val = l.val; omega

theorem bias_right (x6 : Vec Ideal S1x2048 .f32) (l : Fin 1024) : View.ld x6 r0_6 (ix2 0 l) = x6 (ix2 0 (right l)) := by
  unfold View.ld
  congr 1
  funext a
  apply Fin.ext
  match a with
  | ⟨0, _⟩ => rfl
  | ⟨1, _⟩ => show 1024 + 1 * l.val = 1024 + l.val; omega

variable (m : (ℓ : Loc nD τ sig) → Buf (Elt Ideal) ℓ) (ρ : Dev nD → PrngReg)

theorem idx_in (t : Fin cfg0.N) : win0_0.index t 0 = 0 ∧ win0_0.index t 1 = t.val ∧ win0_0.index t 2 = 0 ∧ win0_1.index t 0 = 0 ∧ win0_1.index t 1 = 0 ∧ win0_1.index t 2 = 0 ∧ win0_2.index t 0 = t.val ∧ win0_2.index t 1 = 0 ∧ win0_3.index t 0 = 2 ∧ win0_3.index t 1 = t.val ∧ win0_3.index t 2 = 0 ∧ win0_4.index t 0 = 3 ∧ win0_4.index t 1 = t.val ∧ win0_4.index t 2 = 0 ∧ win0_5.index t 0 = 0 ∧ win0_5.index t 1 = 0 ∧ win0_6.index t 0 = 0 ∧ win0_6.index t 1 = 0 ∧ win0_7.index t 0 = 0 ∧ win0_7.index t 1 = 0 ∧ win0_8.index t 0 = t.val ∧ win0_8.index t 1 = 0 ∧ win0_9.index t 0 = t.val ∧ win0_9.index t 1 = 0 ∧ win0_10.index t 0 = t.val ∧ win0_10.index t 1 = 0 ∧ win0_11.index t 0 = t.val ∧ win0_11.index t 1 = 0 := by
  rcases fin_N0 t with rfl | rfl | rfl | rfl | rfl | rfl | rfl | rfl <;> decide

theorem V_main_v0 (c : Dev nD) : V m c main_v0 = (broadcastInDim S1x4096x1024 ![1, 2] bcast_S4096x1024_S1x4096x1024_1_2 (m ((c : Thread nD τ).loc main_arg1) : Vec Ideal S4096x1024 .bf16) : Vec Ideal S1x4096x1024 .bf16) := by
  rfl

theorem slab_main_v0 (a : Vec Ideal S4096x1024 .bf16) (r : Fin 4096) (l : Fin 1024) :
    (broadcastInDim S1x4096x1024 ![1, 2] bcast_S4096x1024_S1x4096x1024_1_2 a : Vec Ideal S1x4096x1024 .bf16) (ix3 0 r l) = a (ix2 r l) := by
  pointwise []

theorem blk0 (c : Dev nD) (t : Fin cfg0.N) (r : Fin 512) (l : Fin 1024) :
    iblk m c 0 t (ix3 0 r l) = m ((c : Thread nD τ).loc main_arg1) (ix2 (⟨512 * t.val + r.val, by have : t.val < 8 := t.isLt; omega⟩ : Fin 4096) l) := by
  obtain ⟨h0, h1, h2, -⟩ := idx_in t
  unfold iblk
  rw [View.read_apply]
  have e : ((cfg0.win 0).blk t).view.emb (ix3 0 r l) = ix3 0 (⟨512 * t.val + r.val, by have : t.val < 8 := t.isLt; omega⟩ : Fin 4096) l := by
    funext a
    apply Fin.ext
    match a with
    | ⟨0, _⟩ => show win0_0.index t 0 * 1 + 1 * 0 = 0; rw [h0]
    | ⟨1, _⟩ => show win0_0.index t 1 * 512 + 1 * r.val = 512 * t.val + r.val; rw [h1]; omega
    | ⟨2, _⟩ => show win0_0.index t 2 * 1024 + 1 * l.val = l.val; rw [h2]; omega
  rw [e]
  show V m c main_v0 _ = _
  rw [V_main_v0]
  exact slab_main_v0 _ _ _

theorem V_main_v1 (c : Dev nD) : V m c main_v1 = (broadcastInDim S1x1024x1024 ![1, 2] bcast_S1024x1024_S1x1024x1024_1_2 (m ((c : Thread nD τ).loc main_arg6) : Vec Ideal S1024x1024 .bf16) : Vec Ideal S1x1024x1024 .bf16) := by
  rfl

theorem slab_main_v1 (a : Vec Ideal S1024x1024 .bf16) (r : Fin 1024) (l : Fin 1024) :
    (broadcastInDim S1x1024x1024 ![1, 2] bcast_S1024x1024_S1x1024x1024_1_2 a : Vec Ideal S1x1024x1024 .bf16) (ix3 0 r l) = a (ix2 r l) := by
  pointwise []

theorem blk1 (c : Dev nD) (t : Fin cfg0.N) (r : Fin 1024) (l : Fin 1024) :
    iblk m c 1 t (ix3 0 r l) = m ((c : Thread nD τ).loc main_arg6) (ix2 r l) := by
  obtain ⟨-, -, -, h0, h1, h2, -⟩ := idx_in t
  unfold iblk
  rw [View.read_apply]
  have e : ((cfg0.win 1).blk t).view.emb (ix3 0 r l) = ix3 0 r l := by
    funext a
    apply Fin.ext
    match a with
    | ⟨0, _⟩ => show win0_1.index t 0 * 1 + 1 * 0 = 0; rw [h0]
    | ⟨1, _⟩ => show win0_1.index t 1 * 1024 + 1 * r.val = r.val; rw [h1]; omega
    | ⟨2, _⟩ => show win0_1.index t 2 * 1024 + 1 * l.val = l.val; rw [h2]; omega
  rw [e]
  show V m c main_v1 _ = _
  rw [V_main_v1]
  exact slab_main_v1 _ _ _

theorem blk2 (c : Dev nD) (t : Fin cfg0.N) (r : Fin 512) (l : Fin 1024) :
    iblk m c 2 t (ix2 r l) = m ((c : Thread nD τ).loc main_arg0) (ix2 (⟨512 * t.val + r.val, by have : t.val < 8 := t.isLt; omega⟩ : Fin 4096) l) := by
  obtain ⟨-, -, -, -, -, -, h0, h1, -⟩ := idx_in t
  unfold iblk
  rw [View.read_apply]
  show V m c main_arg0 _ = _
  rw [V_main_arg0]
  congr 1
  funext a
  apply Fin.ext
  match a with
  | ⟨0, _⟩ => show win0_2.index t 0 * 512 + 1 * r.val = 512 * t.val + r.val; rw [h0]; omega
  | ⟨1, _⟩ => show win0_2.index t 1 * 1024 + 1 * l.val = l.val; rw [h1]; omega

theorem blk3 (c : Dev nD) (t : Fin cfg0.N) (r : Fin 512) (l : Fin 1024) :
    iblk m c 3 t (ix3 0 r l) = m ((c : Thread nD τ).loc main_arg2) (ix3 2 (⟨512 * t.val + r.val, by have : t.val < 8 := t.isLt; omega⟩ : Fin 4096) l) := by
  obtain ⟨-, -, -, -, -, -, -, -, h0, h1, h2, -⟩ := idx_in t
  unfold iblk
  rw [View.read_apply]
  show V m c main_arg2 _ = _
  rw [V_main_arg2]
  congr 1
  funext a
  apply Fin.ext
  match a with
  | ⟨0, _⟩ => show win0_3.index t 0 * 1 + 1 * 0 = 2; rw [h0]
  | ⟨1, _⟩ => show win0_3.index t 1 * 512 + 1 * r.val = 512 * t.val + r.val; rw [h1]; omega
  | ⟨2, _⟩ => show win0_3.index t 2 * 1024 + 1 * l.val = l.val; rw [h2]; omega

theorem blk4 (c : Dev nD) (t : Fin cfg0.N) (r : Fin 512) (l : Fin 1024) :
    iblk m c 4 t (ix3 0 r l) = m ((c : Thread nD τ).loc main_arg2) (ix3 3 (⟨512 * t.val + r.val, by have : t.val < 8 := t.isLt; omega⟩ : Fin 4096) l) := by
  obtain ⟨-, -, -, -, -, -, -, -, -, -, -, h0, h1, h2, -⟩ := idx_in t
  unfold iblk
  rw [View.read_apply]
  show V m c main_arg2 _ = _
  rw [V_main_arg2]
  congr 1
  funext a
  apply Fin.ext
  match a with
  | ⟨0, _⟩ => show win0_4.index t 0 * 1 + 1 * 0 = 3; rw [h0]
  | ⟨1, _⟩ => show win0_4.index t 1 * 512 + 1 * r.val = 512 * t.val + r.val; rw [h1]; omega
  | ⟨2, _⟩ => show win0_4.index t 2 * 1024 + 1 * l.val = l.val; rw [h2]; omega

theorem blk5 (c : Dev nD) (t : Fin cfg0.N) (l : Fin 1024) :
    iblk m c 5 t (ix2 0 l) = m ((c : Thread nD τ).loc main_arg3) (ix2 0 l) := by
  obtain ⟨-, -, -, -, -, -, -, -, -, -, -, -, -, -, h0, h1, -⟩ := idx_in t
  unfold iblk
  rw [View.read_apply]
  show V m c main_arg3 _ = _
  rw [V_main_arg3]
  congr 1
  funext a
  apply Fin.ext
  match a with
  | ⟨0, _⟩ => show win0_5.index t 0 * 1 + 1 * 0 = 0; rw [h0]
  | ⟨1, _⟩ => show win0_5.index t 1 * 1024 + 1 * l.val = l.val; rw [h1]; omega

theorem blk6 (c : Dev nD) (t : Fin cfg0.N) (l : Fin 2048) :
    iblk m c 6 t (ix2 0 l) = m ((c : Thread nD τ).loc main_arg4) (ix2 0 l) := by
  obtain ⟨-, -, -, -, -, -, -, -, -, -, -, -, -, -, -, -, h0, h1, -⟩ := idx_in t
  unfold iblk
  rw [View.read_apply]
  show V m c main_arg4 _ = _
  rw [V_main_arg4]
  congr 1
  funext a
  apply Fin.ext
  match a with
  | ⟨0, _⟩ => show win0_6.index t 0 * 1 + 1 * 0 = 0; rw [h0]
  | ⟨1, _⟩ => show win0_6.index t 1 * 2048 + 1 * l.val = l.val; rw [h1]; omega

theorem blk7 (c : Dev nD) (t : Fin cfg0.N) (k : Fin 1024) (l : Fin 1024) :
    iblk m c 7 t (ix2 k l) = m ((c : Thread nD τ).loc main_arg5) (ix2 k l) := by
  obtain ⟨-, -, -, -, -, -, -, -, -, -, -, -, -, -, -, -, -, -, h0, h1, -⟩ := idx_in t
  unfold iblk
  rw [View.read_apply]
  show V m c main_arg5 _ = _
  rw [V_main_arg5]
  congr 1
  funext a
  apply Fin.ext
  match a with
  | ⟨0, _⟩ => show win0_7.index t 0 * 1024 + 1 * k.val = k.val; rw [h0]; omega
  | ⟨1, _⟩ => show win0_7.index t 1 * 1024 + 1 * l.val = l.val; rw [h1]; omega

theorem s_blk (c : Dev nD) (t : Fin cfg0.N) (r : Fin 512) (l : Fin 1024) :
    k0_pay3 (iblk m c 2 t) (iblk m c 5 t) (ix2 r l) = GS (m ((c : Thread nD τ).loc main_arg0)) (m ((c : Thread nD τ).loc main_arg3)) (ix2 (⟨512 * t.val + r.val, by have : t.val < 8 := t.isLt; omega⟩ : Fin 4096) l) :=
  (act_apply _ _ r l).trans (congrArg₂ (fun a b : Fin 1024 → EReal => act a b l) (funext fun k => blk2 m c t r k) (funext fun k => blk5 m c t k))

theorem ya_blk (c : Dev nD) (t : Fin cfg0.N) (r : Fin 512) (l : Fin 1024) :
    k0_pay4 (iblk m c 2 t) (iblk m c 5 t) (iblk m c 7 t) (ix2 r l) = GA (m ((c : Thread nD τ).loc main_arg0)) (m ((c : Thread nD τ).loc main_arg3)) (m ((c : Thread nD τ).loc main_arg5)) (ix2 (⟨512 * t.val + r.val, by have : t.val < 8 := t.isLt; omega⟩ : Fin 4096) l) :=
  (ya_apply _ _ _ r l).trans (by
    unfold GA
    refine congr (congrArg₂ (fun a b : Fin 1024 → EReal => ya a b) (funext fun k => blk2 m c t r k) (funext fun k => blk5 m c t k)) (funext fun k => blk7 m c t k l))

theorem yb_blk (c : Dev nD) (t : Fin cfg0.N) (r : Fin 512) (l : Fin 1024) :
    k0_pay2 (iblk m c 0 t) (iblk m c 1 t) (ix2 r l) = GB (m ((c : Thread nD τ).loc main_arg1)) (m ((c : Thread nD τ).loc main_arg6)) (ix2 (⟨512 * t.val + r.val, by have : t.val < 8 := t.isLt; omega⟩ : Fin 4096) l) :=
  (yb_apply _ _ r l).trans (congrArg₂ yb (funext fun k => blk0 m c t r k) (funext fun k => blk1 m c t k l))

theorem mix_blk (c : Dev nD) (t : Fin cfg0.N) (r : Fin 512) (l : Fin 1024) :
    k0_pay1 (k0_pay2 (iblk m c 0 t) (iblk m c 1 t)) (k0_pay4 (iblk m c 2 t) (iblk m c 5 t) (iblk m c 7 t)) (k0_pay5 (iblk m c 3 t)) (k0_pay6 (View.ld (iblk m c 6 t) r0_5)) (iblk m c 4 t) (View.ld (iblk m c 6 t) r0_6) (ix2 r l)
      = GM (m ((c : Thread nD τ).loc main_arg2)) (m ((c : Thread nD τ).loc main_arg4)) (GA (m ((c : Thread nD τ).loc main_arg0)) (m ((c : Thread nD τ).loc main_arg3)) (m ((c : Thread nD τ).loc main_arg5))) (GB (m ((c : Thread nD τ).loc main_arg1)) (m ((c : Thread nD τ).loc main_arg6))) (ix2 (⟨512 * t.val + r.val, by have : t.val < 8 := t.isLt; omega⟩ : Fin 4096) l) := by
  refine (mix_apply _ _ _ _ _ _ r l).trans ?_
  have e1 := blk3 m c t r l
  have e2 := (bias_left (iblk m c 6 t) l).trans (blk6 m c t (left l))
  have e3 := ya_blk m c t r l
  have e4 := blk4 m c t r l
  have e5 := (bias_right (iblk m c 6 t) l).trans (blk6 m c t (right l))
  have e6 := yb_blk m c t r l
  unfold GM mix
  exact congrArg₂ (fun a b : EReal => a + b) (congrArg₂ (fun a b : EReal => a * b) (congrArg sigm (congrArg₂ (fun a b : EReal => a + b) e1 e2)) e3)
    (congrArg₂ (fun a b : EReal => a * b) (congrArg sigm (congrArg₂ (fun a b : EReal => a + b) e4 e5)) e6)

theorem emb8 (t : Fin cfg0.N) (j : S512x1024.Idx) : ((cfg0.win 8).blk t).view.emb j
    = ix2 (⟨512 * t.val + (j 0).val, by have : t.val < 8 := t.isLt; have : (j 0).val < 512 := (j 0).isLt; omega⟩ : Fin 4096) (j 1) := by
  obtain ⟨-, -, -, -, -, -, -, -, -, -, -, -, -, -, -, -, -, -, -, -, h0, h1, -⟩ := idx_in t
  funext a
  apply Fin.ext
  match a with
  | ⟨0, _⟩ => show win0_8.index t 0 * 512 + 1 * (j 0).val = 512 * t.val + (j 0).val; rw [h0]; omega
  | ⟨1, _⟩ => show win0_8.index t 1 * 1024 + 1 * (j 1).val = (j 1).val; rw [h1]; omega

theorem flushed8 (c : Dev nD) (t : Fin cfg0.N) (_ : (cfg0.win 8).flush t = true) :
    (dats m 0 c).flushed 8 t = ((cfg0.win 8).blk t).view.read (Elt Ideal) (GS (m ((c : Thread nD τ).loc main_arg0)) (m ((c : Thread nD τ).loc main_arg3))) := by
  rw [Value.flushed8]
  refine (out8_eq (iblk m c 0 t) (iblk m c 1 t) (iblk m c 2 t) (iblk m c 3 t) (iblk m c 4 t) (iblk m c 5 t) (iblk m c 6 t) (iblk m c 7 t)).trans ?_
  funext j
  rw [View.read_apply, emb8]
  obtain ⟨r, l, rfl⟩ : ∃ r l, j = ix2 r l := ⟨j 0, j 1, by funext a; match a with | ⟨0, _⟩ => rfl | ⟨1, _⟩ => rfl⟩
  exact s_blk m c t r l

theorem final8 (c : Dev nD) : (dats m 0 c).arrAt 8 cfg0.N = (GS (m ((c : Thread nD τ).loc main_arg0)) (m ((c : Thread nD τ).loc main_arg3))) :=
  (dats m 0 c).arrAt_eq_of_cover 8 _ (flushed8 m c) fun i => by
    have hi : (i 0 : Nat) < 4096 := (i 0).isLt
    have hl : (i 1 : Nat) < 1024 := (i 1).isLt
    have hN : (i 0).val / 512 < cfg0.N := by show _ < 8; omega
    refine ⟨⟨_, hN⟩, flush0_8 _, ?_⟩
    obtain ⟨-, -, -, -, -, -, -, -, -, -, -, -, -, -, -, -, -, -, -, -, h0, h1, -⟩ := idx_in ⟨_, hN⟩
    show i ∈ ((View.whole main_v2_0).slice (win0_8.rect ⟨_, hN⟩)).set
    rw [View.set_slice_whole, Rect.mem_set_unit]
    intro a
    match a with
    | ⟨0, _⟩ => show win0_8.index _ 0 * 512 ≤ (i 0 : Nat) ∧ (i 0 : Nat) < win0_8.index _ 0 * 512 + 512; rw [h0]; dsimp only; omega
    | ⟨1, _⟩ => show win0_8.index _ 1 * 1024 ≤ (i 1 : Nat) ∧ (i 1 : Nat) < win0_8.index _ 1 * 1024 + 1024; rw [h1]; omega

theorem emb9 (t : Fin cfg0.N) (j : S512x1024.Idx) : ((cfg0.win 9).blk t).view.emb j
    = ix2 (⟨512 * t.val + (j 0).val, by have : t.val < 8 := t.isLt; have : (j 0).val < 512 := (j 0).isLt; omega⟩ : Fin 4096) (j 1) := by
  obtain ⟨-, -, -, -, -, -, -, -, -, -, -, -, -, -, -, -, -, -, -, -, -, -, h0, h1, -⟩ := idx_in t
  funext a
  apply Fin.ext
  match a with
  | ⟨0, _⟩ => show win0_9.index t 0 * 512 + 1 * (j 0).val = 512 * t.val + (j 0).val; rw [h0]; omega
  | ⟨1, _⟩ => show win0_9.index t 1 * 1024 + 1 * (j 1).val = (j 1).val; rw [h1]; omega

theorem flushed9 (c : Dev nD) (t : Fin cfg0.N) (_ : (cfg0.win 9).flush t = true) :
    (dats m 0 c).flushed 9 t = ((cfg0.win 9).blk t).view.read (Elt Ideal) (GA (m ((c : Thread nD τ).loc main_arg0)) (m ((c : Thread nD τ).loc main_arg3)) (m ((c : Thread nD τ).loc main_arg5))) := by
  rw [Value.flushed9]
  refine (out9_eq (iblk m c 0 t) (iblk m c 1 t) (iblk m c 2 t) (iblk m c 3 t) (iblk m c 4 t) (iblk m c 5 t) (iblk m c 6 t) (iblk m c 7 t)).trans ?_
  funext j
  rw [View.read_apply, emb9]
  obtain ⟨r, l, rfl⟩ : ∃ r l, j = ix2 r l := ⟨j 0, j 1, by funext a; match a with | ⟨0, _⟩ => rfl | ⟨1, _⟩ => rfl⟩
  exact ya_blk m c t r l

theorem final9 (c : Dev nD) : (dats m 0 c).arrAt 9 cfg0.N = (GA (m ((c : Thread nD τ).loc main_arg0)) (m ((c : Thread nD τ).loc main_arg3)) (m ((c : Thread nD τ).loc main_arg5))) :=
  (dats m 0 c).arrAt_eq_of_cover 9 _ (flushed9 m c) fun i => by
    have hi : (i 0 : Nat) < 4096 := (i 0).isLt
    have hl : (i 1 : Nat) < 1024 := (i 1).isLt
    have hN : (i 0).val / 512 < cfg0.N := by show _ < 8; omega
    refine ⟨⟨_, hN⟩, flush0_9 _, ?_⟩
    obtain ⟨-, -, -, -, -, -, -, -, -, -, -, -, -, -, -, -, -, -, -, -, -, -, h0, h1, -⟩ := idx_in ⟨_, hN⟩
    show i ∈ ((View.whole main_v2_1).slice (win0_9.rect ⟨_, hN⟩)).set
    rw [View.set_slice_whole, Rect.mem_set_unit]
    intro a
    match a with
    | ⟨0, _⟩ => show win0_9.index _ 0 * 512 ≤ (i 0 : Nat) ∧ (i 0 : Nat) < win0_9.index _ 0 * 512 + 512; rw [h0]; dsimp only; omega
    | ⟨1, _⟩ => show win0_9.index _ 1 * 1024 ≤ (i 1 : Nat) ∧ (i 1 : Nat) < win0_9.index _ 1 * 1024 + 1024; rw [h1]; omega

theorem emb10 (t : Fin cfg0.N) (j : S512x1024.Idx) : ((cfg0.win 10).blk t).view.emb j
    = ix2 (⟨512 * t.val + (j 0).val, by have : t.val < 8 := t.isLt; have : (j 0).val < 512 := (j 0).isLt; omega⟩ : Fin 4096) (j 1) := by
  obtain ⟨-, -, -, -, -, -, -, -, -, -, -, -, -, -, -, -, -, -, -, -, -, -, -, -, h0, h1, -⟩ := idx_in t
  funext a
  apply Fin.ext
  match a with
  | ⟨0, _⟩ => show win0_10.index t 0 * 512 + 1 * (j 0).val = 512 * t.val + (j 0).val; rw [h0]; omega
  | ⟨1, _⟩ => show win0_10.index t 1 * 1024 + 1 * (j 1).val = (j 1).val; rw [h1]; omega

theorem flushed10 (c : Dev nD) (t : Fin cfg0.N) (_ : (cfg0.win 10).flush t = true) :
    (dats m 0 c).flushed 10 t = ((cfg0.win 10).blk t).view.read (Elt Ideal) (GB (m ((c : Thread nD τ).loc main_arg1)) (m ((c : Thread nD τ).loc main_arg6))) := by
  rw [Value.flushed10]
  refine (out10_eq (iblk m c 0 t) (iblk m c 1 t) (iblk m c 2 t) (iblk m c 3 t) (iblk m c 4 t) (iblk m c 5 t) (iblk m c 6 t) (iblk m c 7 t)).trans ?_
  funext j
  rw [View.read_apply, emb10]
  obtain ⟨r, l, rfl⟩ : ∃ r l, j = ix2 r l := ⟨j 0, j 1, by funext a; match a with | ⟨0, _⟩ => rfl | ⟨1, _⟩ => rfl⟩
  exact yb_blk m c t r l

theorem final10 (c : Dev nD) : (dats m 0 c).arrAt 10 cfg0.N = (GB (m ((c : Thread nD τ).loc main_arg1)) (m ((c : Thread nD τ).loc main_arg6))) :=
  (dats m 0 c).arrAt_eq_of_cover 10 _ (flushed10 m c) fun i => by
    have hi : (i 0 : Nat) < 4096 := (i 0).isLt
    have hl : (i 1 : Nat) < 1024 := (i 1).isLt
    have hN : (i 0).val / 512 < cfg0.N := by show _ < 8; omega
    refine ⟨⟨_, hN⟩, flush0_10 _, ?_⟩
    obtain ⟨-, -, -, -, -, -, -, -, -, -, -, -, -, -, -, -, -, -, -, -, -, -, -, -, h0, h1, -⟩ := idx_in ⟨_, hN⟩
    show i ∈ ((View.whole main_v2_2).slice (win0_10.rect ⟨_, hN⟩)).set
    rw [View.set_slice_whole, Rect.mem_set_unit]
    intro a
    match a with
    | ⟨0, _⟩ => show win0_10.index _ 0 * 512 ≤ (i 0 : Nat) ∧ (i 0 : Nat) < win0_10.index _ 0 * 512 + 512; rw [h0]; dsimp only; omega
    | ⟨1, _⟩ => show win0_10.index _ 1 * 1024 ≤ (i 1 : Nat) ∧ (i 1 : Nat) < win0_10.index _ 1 * 1024 + 1024; rw [h1]; omega

theorem emb11 (t : Fin cfg0.N) (j : S512x1024.Idx) : ((cfg0.win 11).blk t).view.emb j
    = ix2 (⟨512 * t.val + (j 0).val, by have : t.val < 8 := t.isLt; have : (j 0).val < 512 := (j 0).isLt; omega⟩ : Fin 4096) (j 1) := by
  obtain ⟨-, -, -, -, -, -, -, -, -, -, -, -, -, -, -, -, -, -, -, -, -, -, -, -, -, -, h0, h1⟩ := idx_in t
  funext a
  apply Fin.ext
  match a with
  | ⟨0, _⟩ => show win0_11.index t 0 * 512 + 1 * (j 0).val = 512 * t.val + (j 0).val; rw [h0]; omega
  | ⟨1, _⟩ => show win0_11.index t 1 * 1024 + 1 * (j 1).val = (j 1).val; rw [h1]; omega

theorem flushed11 (c : Dev nD) (t : Fin cfg0.N) (_ : (cfg0.win 11).flush t = true) :
    (dats m 0 c).flushed 11 t = ((cfg0.win 11).blk t).view.read (Elt Ideal) (GM (m ((c : Thread nD τ).loc main_arg2)) (m ((c : Thread nD τ).loc main_arg4)) (GA (m ((c : Thread nD τ).loc main_arg0)) (m ((c : Thread nD τ).loc main_arg3)) (m ((c : Thread nD τ).loc main_arg5))) (GB (m ((c : Thread nD τ).loc main_arg1)) (m ((c : Thread nD τ).loc main_arg6)))) := by
  rw [Value.flushed11]
  refine (out11_eq (iblk m c 0 t) (iblk m c 1 t) (iblk m c 2 t) (iblk m c 3 t) (iblk m c 4 t) (iblk m c 5 t) (iblk m c 6 t) (iblk m c 7 t)).trans ?_
  funext j
  rw [View.read_apply, emb11]
  obtain ⟨r, l, rfl⟩ : ∃ r l, j = ix2 r l := ⟨j 0, j 1, by funext a; match a with | ⟨0, _⟩ => rfl | ⟨1, _⟩ => rfl⟩
  exact mix_blk m c t r l

theorem final11 (c : Dev nD) : (dats m 0 c).arrAt 11 cfg0.N = (GM (m ((c : Thread nD τ).loc main_arg2)) (m ((c : Thread nD τ).loc main_arg4)) (GA (m ((c : Thread nD τ).loc main_arg0)) (m ((c : Thread nD τ).loc main_arg3)) (m ((c : Thread nD τ).loc main_arg5))) (GB (m ((c : Thread nD τ).loc main_arg1)) (m ((c : Thread nD τ).loc main_arg6)))) :=
  (dats m 0 c).arrAt_eq_of_cover 11 _ (flushed11 m c) fun i => by
    have hi : (i 0 : Nat) < 4096 := (i 0).isLt
    have hl : (i 1 : Nat) < 1024 := (i 1).isLt
    have hN : (i 0).val / 512 < cfg0.N := by show _ < 8; omega
    refine ⟨⟨_, hN⟩, flush0_11 _, ?_⟩
    obtain ⟨-, -, -, -, -, -, -, -, -, -, -, -, -, -, -, -, -, -, -, -, -, -, -, -, -, -, h0, h1⟩ := idx_in ⟨_, hN⟩
    show i ∈ ((View.whole main_v2_3).slice (win0_11.rect ⟨_, hN⟩)).set
    rw [View.set_slice_whole, Rect.mem_set_unit]
    intro a
    match a with
    | ⟨0, _⟩ => show win0_11.index _ 0 * 512 ≤ (i 0 : Nat) ∧ (i 0 : Nat) < win0_11.index _ 0 * 512 + 512; rw [h0]; dsimp only; omega
    | ⟨1, _⟩ => show win0_11.index _ 1 * 1024 ≤ (i 1 : Nat) ∧ (i 1 : Nat) < win0_11.index _ 1 * 1024 + 1024; rw [h1]; omega

end Cert.Proof.Branches

namespace Cert.Proof.Branches.Ref

open Idealize.ShloMosaic Idealize.ShloMosaic.TcCoe Idealize.SL.Sem
open Cert.Reference14Ideal Cert.Reference14Ideal.Gen
open Cert.Proof.Gate (sigm normed act)
open Cert.Proof.NormGrad (var)

theorem refS (x : FVec Ideal S4096x1024 .f32) (g : FVec Ideal S1x1024 .f32) :
    (truncf .bf16 (mulf (mulf (mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 (shapeCast _ g shapeCasts_S1x1024_S1024)))) (Host.divf (broadcastInDim S4096x1024 ![] bcast_S_S4096x1024 (constant S_ .f32 0x3F800000#32)) (addf (broadcastInDim S4096x1024 ![] bcast_S_S4096x1024 (constant S_ .f32 0x3F800000#32)) (Host.exp (Host.negf (mulf (mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 (shapeCast _ g shapeCasts_S1x1024_S1024))))))))) bitsLt_bf16_f32 : FVec Ideal S4096x1024 .bf16) = GS x g := by
  funext j
  pointwise [GS, act, normed, sigm, var]

theorem refA (x : FVec Ideal S4096x1024 .f32) (g : FVec Ideal S1x1024 .f32) (w : FVec Ideal S1024x1024 .bf16) (s : FVec Ideal S4096x1024 .bf16) (hs : s = GS x g) :
    (Host.dotGeneral dot_S4096x1024_S1024x1024_S4096x1024_1_0_0_1_n_n none (extf .f32 (s) bitsLt_bf16_f32) (extf .f32 w bitsLt_bf16_f32) : FVec Ideal S4096x1024 .f32) = GA x g w := by
  funext j
  have e : ∀ k : Fin 1024, s (ix2 (j 0) k) = act (fun l => x (ix2 (j 0) l)) (fun l => g (ix2 0 l)) k := fun k => by rw [hs]; rfl
  unfold GA ya
  rw [← funext e]
  pointwise []

theorem refB (o : FVec Ideal S4096x1024 .bf16) (v : FVec Ideal S1024x1024 .bf16) :
    (Host.dotGeneral dot_S4096x1024_S1024x1024_S4096x1024_1_0_0_1_n_n none (extf .f32 o bitsLt_bf16_f32) (extf .f32 v bitsLt_bf16_f32) : FVec Ideal S4096x1024 .f32) = GB o v := by
  funext j
  pointwise [GB, yb]

theorem refM (z : FVec Ideal S8x4096x1024 .f32) (b : FVec Ideal S1x2048 .f32) (ya yb : FVec Ideal S4096x1024 .f32) :
    (truncf .bf16 (addf (mulf (extractStridedSlice S4096x1024 ![0, 0] (Host.divf (broadcastInDim S4096x2048 ![] bcast_S_S4096x2048 (constant S_ .f32 0x3F800000#32)) (addf (broadcastInDim S4096x2048 ![] bcast_S_S4096x2048 (constant S_ .f32 0x3F800000#32)) (Host.exp (Host.negf (addf (concatenate S4096x2048 1 [⟨S4096x1024, (shapeCast _ (extractStridedSlice S1x4096x1024 ![2, 0, 0] z slices_S8x4096x1024_S1x4096x1024_2_0_0) shapeCasts_S1x4096x1024_S4096x1024)⟩, ⟨S4096x1024, (shapeCast _ (extractStridedSlice S1x4096x1024 ![3, 0, 0] z slices_S8x4096x1024_S1x4096x1024_3_0_0) shapeCasts_S1x4096x1024_S4096x1024)⟩] concatenates_S4096x1024_S4096x1024_S4096x2048_d1) (broadcastInDim S4096x2048 ![0, 1] bcast_S1x2048_S4096x2048_0_1 b)))))) slices_S4096x2048_S4096x1024_0_0) ya) (mulf (extractStridedSlice S4096x1024 ![0, 1024] (Host.divf (broadcastInDim S4096x2048 ![] bcast_S_S4096x2048 (constant S_ .f32 0x3F800000#32)) (addf (broadcastInDim S4096x2048 ![] bcast_S_S4096x2048 (constant S_ .f32 0x3F800000#32)) (Host.exp (Host.negf (addf (concatenate S4096x2048 1 [⟨S4096x1024, (shapeCast _ (extractStridedSlice S1x4096x1024 ![2, 0, 0] z slices_S8x4096x1024_S1x4096x1024_2_0_0) shapeCasts_S1x4096x1024_S4096x1024)⟩, ⟨S4096x1024, (shapeCast _ (extractStridedSlice S1x4096x1024 ![3, 0, 0] z slices_S8x4096x1024_S1x4096x1024_3_0_0) shapeCasts_S1x4096x1024_S4096x1024)⟩] concatenates_S4096x1024_S4096x1024_S4096x2048_d1) (broadcastInDim S4096x2048 ![0, 1] bcast_S1x2048_S4096x2048_0_1 b)))))) slices_S4096x2048_S4096x1024_0_1024) yb)) bitsLt_bf16_f32 : FVec Ideal S4096x1024 .bf16) = GM z b ya yb := by
  funext j
  pointwise [GM, mix, sigm]
  rfl

end Cert.Proof.Branches.Ref

namespace Cert.Proof.Branches

open Idealize.ShloMosaic Idealize.ShloMosaic.TcCoe Idealize.SL.Sem
open Cert.Kernel14Ideal Cert.Kernel14Ideal.Gen

theorem claim14 : Cert.algebraic_Kernel14Ideal_Reference14Ideal := by
  intro m g m' g' _ hargs
  refine ⟨fun c => (GS (m ((c : Thread nD τ).loc main_arg0)) (m ((c : Thread nD τ).loc main_arg3))), fun c => (GA (m ((c : Thread nD τ).loc main_arg0)) (m ((c : Thread nD τ).loc main_arg3)) (m ((c : Thread nD τ).loc main_arg5))), fun c => (GB (m ((c : Thread nD τ).loc main_arg1)) (m ((c : Thread nD τ).loc main_arg6))), fun c => (GM (m ((c : Thread nD τ).loc main_arg2)) (m ((c : Thread nD τ).loc main_arg4)) (GA (m ((c : Thread nD τ).loc main_arg0)) (m ((c : Thread nD τ).loc main_arg3)) (m ((c : Thread nD τ).loc main_arg5))) (GB (m ((c : Thread nD τ).loc main_arg1)) (m ((c : Thread nD τ).loc main_arg6)))),
    (θ_run _ _ _).mono (fun _ h c => ⟨(h c).1.trans (final8 m c), (h c).2.1.trans (final9 m c), (h c).2.2.1.trans (final10 m c), (h c).2.2.2.1.trans (final11 m c), (h c).2.2.2.2⟩) (Cert.Kernel14Ideal.Value.run_blocks m g),
    (θ_run _ _ _).mono (fun _ h c => ⟨(h c).1.trans ?_, (h c).2.1.trans ?_, (h c).2.2.1.trans ?_, (h c).2.2.2.1.trans ?_, (h c).2.2.2.2⟩) (Cert.Reference14Ideal.Value.run m' g')⟩
  all_goals obtain ⟨e0, e1, e2, e3, e4, e5, e6⟩ := hargs c
  all_goals dsimp only
  · rw [← e0, ← e3]
    exact Ref.refS _ _
  · rw [← e0, ← e3, ← e5]
    exact Ref.refA _ _ _ _ (Ref.refS _ _)
  · rw [← e1, ← e6]
    exact Ref.refB _ _
  · rw [← e0, ← e1, ← e2, ← e3, ← e4, ← e5, ← e6, ← Ref.refA _ _ _ _ (Ref.refS _ _), ← Ref.refB]
    exact Ref.refM _ _ _ _

end Cert.Proof.Branches
-- ==== Proof.OutGate.lean ====
module

public import proofs.«01_k».proof.Proof.Gen.Kernel10Ideal.Frame
public import proofs.«01_k».proof.Proof.Gate
public import Idealize.ShloMosaic.Lib.Pipeline.Value
public import Idealize.ShloMosaic.Lib.Pointwise

@[expose] public section

set_option maxRecDepth 16384

noncomputable section

/-!
  The call that takes the gradient back through the output product and the two gates (`_out_gate_bwd`): what one
  grid point leaves, as a function of its blocks, and what the whole call leaves.
-/

namespace Cert.Proof.OutGate

open Idealize.ShloMosaic Idealize.ShloMosaic.TcCoe Idealize.SL.Sem
open Idealize.ShloMosaic.Pipeline (Dat)
open Cert.Kernel10Ideal Cert.Kernel10Ideal.Gen
open Cert.Proof.Gate (sigm)

theorem hz2 : (![0, 0] : Fin 2 → Nat) = fun _ => 0 := funext fun a => by fin_cases a <;> rfl
theorem hz3 : (![0, 0, 0] : Fin 3 → Nat) = fun _ => 0 := funext fun a => by fin_cases a <;> rfl

/-- The gradient of a gate's logit: `d` the gradient of the mixed row, `g` the gate, `y` what it gates. -/
def dl (d g y : EReal) : EReal := d * y * g * (1 - g)

/-- A row of 2048 columns from its two halves. -/
def halves (a b : Fin 1024 → EReal) (l : Fin 2048) : EReal :=
  if h : l.val < 1024 then a ⟨l.val, h⟩ else b ⟨l.val - 1024, by omega⟩

/-- The gradient of the mixed row, for one block of rows. -/
def dm (x0 : Vec Ideal S1x512x1024 .bf16) (x1 : Vec Ideal S1x1024x1024 .bf16) (r : Fin 512) (l : Fin 1024) : EReal :=
  ∑ k : Fin 1024, x0 (ix3 0 r k) * x1 (ix3 0 l k)

/-- The first gate of the block, and the second. -/
def gA (x2 : Vec Ideal S1x512x1024 .f32) (x6 : Vec Ideal S1x2048 .f32) (r : Fin 512) (l : Fin 1024) : EReal :=
  sigm (x2 (ix3 0 r l) + x6 (ix2 0 (⟨l.val, by omega⟩ : Fin 2048)))
def gB (x3 : Vec Ideal S1x512x1024 .f32) (x6 : Vec Ideal S1x2048 .f32) (r : Fin 512) (l : Fin 1024) : EReal :=
  sigm (x3 (ix3 0 r l) + x6 (ix2 0 (⟨1024 + l.val, by omega⟩ : Fin 2048)))

/-- The gradients of their logits. -/
def lA (x0 : Vec Ideal S1x512x1024 .bf16) (x1 : Vec Ideal S1x1024x1024 .bf16) (x2 : Vec Ideal S1x512x1024 .f32) (x4 : Vec Ideal S512x1024 .f32) (x6 : Vec Ideal S1x2048 .f32) (r : Fin 512) (l : Fin 1024) : EReal :=
  dl (dm x0 x1 r l) (gA x2 x6 r l) (x4 (ix2 r l))
def lB (x0 : Vec Ideal S1x512x1024 .bf16) (x1 : Vec Ideal S1x1024x1024 .bf16) (x3 : Vec Ideal S1x512x1024 .f32) (x5 : Vec Ideal S512x1024 .f32) (x6 : Vec Ideal S1x2048 .f32) (r : Fin 512) (l : Fin 1024) : EReal :=
  dl (dm x0 x1 r l) (gB x3 x6 r l) (x5 (ix2 r l))

/-- The blocks of the gradients of the two gated rows. -/
def b7 (x0 : Vec Ideal S1x512x1024 .bf16) (x1 : Vec Ideal S1x1024x1024 .bf16) (x2 : Vec Ideal S1x512x1024 .f32) (x6 : Vec Ideal S1x2048 .f32) : Vec Ideal S512x1024 .bf16 := fun j =>
  dm x0 x1 (j 0) (j 1) * gA x2 x6 (j 0) (j 1)
def b8 (x0 : Vec Ideal S1x512x1024 .bf16) (x1 : Vec Ideal S1x1024x1024 .bf16) (x3 : Vec Ideal S1x512x1024 .f32) (x6 : Vec Ideal S1x2048 .f32) : Vec Ideal S512x1024 .bf16 := fun j =>
  dm x0 x1 (j 0) (j 1) * gB x3 x6 (j 0) (j 1)

/-- The two sections of logit gradients. -/
def b9 (x0 : Vec Ideal S1x512x1024 .bf16) (x1 : Vec Ideal S1x1024x1024 .bf16) (x2 x3 : Vec Ideal S1x512x1024 .f32) (x4 x5 : Vec Ideal S512x1024 .f32) (x6 : Vec Ideal S1x2048 .f32) : Vec Ideal S2x512x1024 .bf16 := fun j =>
  if (j 0).val = 0 then lA x0 x1 x2 x4 x6 (j 1) (j 2) else lB x0 x1 x3 x5 x6 (j 1) (j 2)

/-- The block's part of the bias's gradient: the rows `s`, `8 + s`, … summed. -/
def b10 (x0 : Vec Ideal S1x512x1024 .bf16) (x1 : Vec Ideal S1x1024x1024 .bf16) (x2 x3 : Vec Ideal S1x512x1024 .f32) (x4 x5 : Vec Ideal S512x1024 .f32) (x6 : Vec Ideal S1x2048 .f32) : Vec Ideal S8x2048 .f32 := fun j =>
  ∑ q : Fin 64, halves (lA x0 x1 x2 x4 x6 ⟨q.val * 8 + (j 0).val, by have : (j 0).val < 8 := (j 0).isLt; omega⟩) (lB x0 x1 x3 x5 x6 ⟨q.val * 8 + (j 0).val, by have : (j 0).val < 8 := (j 0).isLt; omega⟩) (j 1)

/-- The two halves of a `1×2048` row, as the body loads them. -/
abbrev biasA (x6 : Vec Ideal S1x2048 .f32) : Vec Ideal S1x1024 .f32 := View.ld x6 (Rect.unit ![0, 0] S1x1024.size inb_S1x2048_S1x1024_0_0)
abbrev biasB (x6 : Vec Ideal S1x2048 .f32) : Vec Ideal S1x1024 .f32 := View.ld x6 (Rect.unit ![0, 1024] S1x1024.size inb_S1x2048_S1x1024_0_1024)

theorem pay3_eq (x0 : Vec Ideal S1x512x1024 .bf16) (x1 : Vec Ideal S1x1024x1024 .bf16) (r : Fin 512) (l : Fin 1024) : k0_pay3 x0 x1 (ix2 r l) = dm x0 x1 r l := by
  pointwise [k0_pay3, dm]

theorem biasA_at (x6 : Vec Ideal S1x2048 .f32) (l : Fin 1024) : biasA x6 (ix2 0 l) = x6 (ix2 0 (⟨l.val, by omega⟩ : Fin 2048)) := by
  refine congrArg x6 (funext fun x => Fin.ext ?_)
  match x with
  | ⟨0, _⟩ => rfl
  | ⟨1, _⟩ => show 0 + 1 * l.val = l.val; omega

theorem biasB_at (x6 : Vec Ideal S1x2048 .f32) (l : Fin 1024) : biasB x6 (ix2 0 l) = x6 (ix2 0 (⟨1024 + l.val, by omega⟩ : Fin 2048)) := by
  refine congrArg x6 (funext fun x => Fin.ext ?_)
  match x with
  | ⟨0, _⟩ => rfl
  | ⟨1, _⟩ => show 1024 + 1 * l.val = 1024 + l.val; omega

theorem pay4_eq (x2 : Vec Ideal S1x512x1024 .f32) (x6 : Vec Ideal S1x2048 .f32) (r : Fin 512) (l : Fin 1024) : k0_pay4 x2 (biasA x6) (ix2 r l) = gA x2 x6 r l := by
  pointwise [k0_pay4, gA, sigm]
  rw [biasA_at, zero_sub]

theorem pay5_eq (x3 : Vec Ideal S1x512x1024 .f32) (x6 : Vec Ideal S1x2048 .f32) (r : Fin 512) (l : Fin 1024) : k0_pay5 x3 (biasB x6) (ix2 r l) = gB x3 x6 r l := by
  pointwise [k0_pay5, gB, sigm]
  rw [biasB_at, zero_sub]

theorem b7_eq (x0 : Vec Ideal S1x512x1024 .bf16) (x1 : Vec Ideal S1x1024x1024 .bf16) (x2 : Vec Ideal S1x512x1024 .f32) (x6 : Vec Ideal S1x2048 .f32) (j : S512x1024.Idx) :
    k0_pay6 x0 x1 x2 (biasA x6) j = b7 x0 x1 x2 x6 j := by
  obtain ⟨r, l, rfl⟩ : ∃ (r : Fin 512) (l : Fin 1024), j = ix2 r l := ⟨j 0, j 1, by funext a; match a with | ⟨0, _⟩ => rfl | ⟨1, _⟩ => rfl⟩
  exact congrArg₂ (· * ·) (pay3_eq x0 x1 r l) (pay4_eq x2 x6 r l)

theorem b8_eq (x0 : Vec Ideal S1x512x1024 .bf16) (x1 : Vec Ideal S1x1024x1024 .bf16) (x3 : Vec Ideal S1x512x1024 .f32) (x6 : Vec Ideal S1x2048 .f32) (j : S512x1024.Idx) :
    k0_pay8 (k0_pay7 x0 x1 x3 (biasB x6)) j = b8 x0 x1 x3 x6 j := by
  obtain ⟨r, l, rfl⟩ : ∃ (r : Fin 512) (l : Fin 1024), j = ix2 r l := ⟨j 0, j 1, by funext a; match a with | ⟨0, _⟩ => rfl | ⟨1, _⟩ => rfl⟩
  exact congrArg₂ (· * ·) (pay3_eq x0 x1 r l) (pay5_eq x3 x6 r l)

theorem pay9_at (v4 v16 y : FVec Ideal S512x1024 .f32) (r : Fin 512) (l : Fin 1024) : k0_pay9 v4 v16 y (ix2 r l) = dl (v4 (ix2 r l)) (v16 (ix2 r l)) (y (ix2 r l)) := by
  pointwise [k0_pay9, dl]

theorem pay10_at (v4 v28 y : FVec Ideal S512x1024 .f32) (r : Fin 512) (l : Fin 1024) : k0_pay10 v4 v28 y (ix2 r l) = dl (v4 (ix2 r l)) (v28 (ix2 r l)) (y (ix2 r l)) := by
  pointwise [k0_pay10, dl]

theorem pay9_eq (x0 : Vec Ideal S1x512x1024 .bf16) (x1 : Vec Ideal S1x1024x1024 .bf16) (x2 : Vec Ideal S1x512x1024 .f32) (x4 : Vec Ideal S512x1024 .f32) (x6 : Vec Ideal S1x2048 .f32) (r : Fin 512) (l : Fin 1024) :
    k0_pay9 (k0_pay3 x0 x1) (k0_pay4 x2 (biasA x6)) x4 (ix2 r l) = lA x0 x1 x2 x4 x6 r l := by
  rw [pay9_at, pay3_eq, pay4_eq]; rfl

theorem pay10_eq (x0 : Vec Ideal S1x512x1024 .bf16) (x1 : Vec Ideal S1x1024x1024 .bf16) (x3 : Vec Ideal S1x512x1024 .f32) (x5 : Vec Ideal S512x1024 .f32) (x6 : Vec Ideal S1x2048 .f32) (r : Fin 512) (l : Fin 1024) :
    k0_pay10 (k0_pay3 x0 x1) (k0_pay5 x3 (biasB x6)) x5 (ix2 r l) = lB x0 x1 x3 x5 x6 r l := by
  rw [pay10_at, pay3_eq, pay5_eq]; rfl

theorem pay11_at (v4 v16 y : FVec Ideal S512x1024 .f32) (r : Fin 512) (l : Fin 1024) : k0_pay11 v4 v16 y (ix3 0 r l) = k0_pay9 v4 v16 y (ix2 r l) := by
  unfold k0_pay11
  generalize k0_pay9 v4 v16 y = z
  pointwise []

theorem pay12_at (v4 v28 y : FVec Ideal S512x1024 .f32) (r : Fin 512) (l : Fin 1024) : k0_pay12 v4 v28 y (ix3 0 r l) = k0_pay10 v4 v28 y (ix2 r l) := by
  unfold k0_pay12
  generalize k0_pay10 v4 v28 y = z
  pointwise []

theorem pay14_at (v4 v16 y : FVec Ideal S512x1024 .f32) (o : Vec Ideal S8x1024 .f32) (s : Fin 8) (l : Fin 1024) :
    k0_pay14 v4 v16 y o (ix2 s l) = o (ix2 s l) + ∑ q : Fin 64, k0_pay9 v4 v16 y (ix2 (⟨q.val * 8 + s.val, by omega⟩ : Fin 512) l) := by
  unfold k0_pay14
  generalize k0_pay9 v4 v16 y = z
  pointwise []

theorem pay2_at (z : FVec Ideal S512x1024 .f32) (o : Vec Ideal S8x1024 .f32) (s : Fin 8) (l : Fin 1024) :
    k0_pay2 z o (ix2 s l) = o (ix2 s l) + ∑ q : Fin 64, z (ix2 (⟨q.val * 8 + s.val, by omega⟩ : Fin 512) l) := by
  pointwise [k0_pay2]

theorem pay13_at (s : Fin 8) (l : Fin 1024) : (k0_pay13 (F := Ideal) : Vec Ideal S8x1024 .f32) (ix2 s l) = 0 := by pointwise [k0_pay13]
theorem pay1_at (s : Fin 8) (l : Fin 1024) : (k0_pay1 (F := Ideal) : Vec Ideal S8x1024 .f32) (ix2 s l) = 0 := by pointwise [k0_pay1]

/-! ## The stores -/

abbrev rP : Rect S2x512x1024 := Rect.unit ![0, 0, 0] S1x512x1024.size inb_S2x512x1024_S1x512x1024_0_0_0
abbrev rQ : Rect S2x512x1024 := Rect.unit ![1, 0, 0] S1x512x1024.size inb_S2x512x1024_S1x512x1024_1_0_0

theorem not_rQ (r : Fin 512) (l : Fin 1024) : (ix3 0 r l : S2x512x1024.Idx) ∉ rQ.set := by
  rw [Rect.mem_set_unit]; intro hm; have h1 : 1 ≤ 0 := (hm 0).1; omega

theorem rP_emb (r : Fin 512) (l : Fin 1024) : rP.emb (ix3 0 r l : S1x512x1024.Idx) = (ix3 0 r l : S2x512x1024.Idx) := by
  funext x; apply Fin.ext
  match x with
  | ⟨0, _⟩ => rfl
  | ⟨1, _⟩ => show 0 + 1 * r.val = r.val; omega
  | ⟨2, _⟩ => show 0 + 1 * l.val = l.val; omega

theorem rQ_emb (r : Fin 512) (l : Fin 1024) : rQ.emb (ix3 0 r l : S1x512x1024.Idx) = (ix3 1 r l : S2x512x1024.Idx) := by
  funext x; apply Fin.ext
  match x with
  | ⟨0, _⟩ => rfl
  | ⟨1, _⟩ => show 0 + 1 * r.val = r.val; omega
  | ⟨2, _⟩ => show 0 + 1 * l.val = l.val; omega

/-- The two stores of the logit gradients fill the block. -/
theorem canon2 (a b : Vec Ideal S1x512x1024 .bf16) (s : Fin 2) (r : Fin 512) (l : Fin 1024) :
    View.canon (Val := Elt Ideal) (s := S2x512x1024) (e := .bf16) [⟨rQ, b⟩, ⟨rP, a⟩] (ix3 s r l)
      = if s.val = 0 then a (ix3 0 r l) else b (ix3 0 r l) := by
  match s with
  | ⟨0, _⟩ =>
    refine (View.canon_cons_of_not_mem (Val := Elt Ideal) (e := .bf16) ⟨rQ, b⟩ [⟨rP, a⟩] (not_rQ r l)).trans ?_
    have h := View.canon_cons_emb (Val := Elt Ideal) (e := .bf16) rP a [] (ix3 0 r l : S1x512x1024.Idx)
    rw [rP_emb] at h
    exact h
  | ⟨1, _⟩ =>
    have h := View.canon_cons_emb (Val := Elt Ideal) (e := .bf16) rQ b [⟨rP, a⟩] (ix3 0 r l : S1x512x1024.Idx)
    rw [rQ_emb] at h
    exact h

abbrev rA : Rect S8x2048 := Rect.unit ![0, 0] S8x1024.size inb_S8x2048_S8x1024_0_0
abbrev rB : Rect S8x2048 := Rect.unit ![0, 1024] S8x1024.size inb_S8x2048_S8x1024_0_1024

theorem rA_emb (s : Fin 8) (l : Fin 1024) : rA.emb (ix2 s l : S8x1024.Idx) = (ix2 s (⟨l.val, by omega⟩ : Fin 2048) : S8x2048.Idx) := by
  funext x; apply Fin.ext
  match x with
  | ⟨0, _⟩ => show 0 + 1 * s.val = s.val; omega
  | ⟨1, _⟩ => show 0 + 1 * l.val = l.val; omega

theorem rB_emb (s : Fin 8) (l : Fin 1024) : rB.emb (ix2 s l : S8x1024.Idx) = (ix2 s (⟨1024 + l.val, by omega⟩ : Fin 2048) : S8x2048.Idx) := by
  funext x; apply Fin.ext
  match x with
  | ⟨0, _⟩ => show 0 + 1 * s.val = s.val; omega
  | ⟨1, _⟩ => show 1024 + 1 * l.val = 1024 + l.val; omega

/-- A column is in the first half, or in the second. -/
theorem halves_cases {P : Fin 2048 → Prop} (hA : ∀ l : Fin 1024, P ⟨l.val, by omega⟩) (hB : ∀ l : Fin 1024, P ⟨1024 + l.val, by omega⟩) (l : Fin 2048) : P l := by
  by_cases h : l.val < 1024
  · exact hA ⟨l.val, h⟩
  · have e : l = ⟨1024 + (⟨l.val - 1024, by omega⟩ : Fin 1024).val, by show 1024 + (l.val - 1024) < 2048; omega⟩ := Fin.ext (by show l.val = 1024 + (l.val - 1024); omega)
    rw [e]; exact hB _

theorem halves_A (a b : Fin 1024 → EReal) (l : Fin 1024) : halves a b ⟨l.val, by omega⟩ = a l := dif_pos l.isLt
theorem halves_B (a b : Fin 1024 → EReal) (l : Fin 1024) : halves a b ⟨1024 + l.val, by omega⟩ = b l := by
  unfold halves
  rw [dif_neg (by show ¬1024 + l.val < 1024; omega)]
  exact congrArg b (Fin.ext (by show 1024 + l.val - 1024 = l.val; omega))

theorem not_rB (s : Fin 8) (l : Fin 1024) : (ix2 s (⟨l.val, by omega⟩ : Fin 2048) : S8x2048.Idx) ∉ rB.set := by
  rw [Rect.mem_set_unit]; intro hm; have h1 : 1024 ≤ l.val := (hm 1).1; omega

/-- The last store of each half is what it holds. -/
theorem canon_A (a : Vec Ideal S8x1024 .f32) (L : List (View.Piece (Elt Ideal) S8x2048 .f32)) (s : Fin 8) (l : Fin 1024) :
    View.canon (⟨rA, a⟩ :: L) (ix2 s (⟨l.val, by omega⟩ : Fin 2048) : S8x2048.Idx) = a (ix2 s l) := by
  have h := View.canon_cons_emb (Val := Elt Ideal) (e := .f32) rA a L (ix2 s l : S8x1024.Idx)
  rw [rA_emb] at h
  exact h

theorem canon_B (b : Vec Ideal S8x1024 .f32) (L : List (View.Piece (Elt Ideal) S8x2048 .f32)) (s : Fin 8) (l : Fin 1024) :
    View.canon (⟨rB, b⟩ :: L) (ix2 s (⟨1024 + l.val, by omega⟩ : Fin 2048) : S8x2048.Idx) = b (ix2 s l) := by
  have h := View.canon_cons_emb (Val := Elt Ideal) (e := .f32) rB b L (ix2 s l : S8x1024.Idx)
  rw [rB_emb] at h
  exact h

theorem canon_skip (b : Vec Ideal S8x1024 .f32) (L : List (View.Piece (Elt Ideal) S8x2048 .f32)) (s : Fin 8) (l : Fin 1024) :
    View.canon (⟨rB, b⟩ :: L) (ix2 s (⟨l.val, by omega⟩ : Fin 2048) : S8x2048.Idx) = View.canon L (ix2 s (⟨l.val, by omega⟩ : Fin 2048) : S8x2048.Idx) :=
  View.canon_cons_of_not_mem (Val := Elt Ideal) (e := .f32) ⟨rB, b⟩ L (not_rB s l)

theorem canon_first (a b za zb : Vec Ideal S8x1024 .f32) (s : Fin 8) (l : Fin 2048) :
    View.canon (Val := Elt Ideal) (s := S8x2048) (e := .f32) [⟨rB, b⟩, ⟨rB, zb⟩, ⟨rA, a⟩, ⟨rA, za⟩] (ix2 s l) = halves (fun k => a (ix2 s k)) (fun k => b (ix2 s k)) l := by
  revert l
  refine halves_cases (fun l => ?_) (fun l => ?_)
  · exact (canon_skip b _ s l).trans ((canon_skip zb _ s l).trans ((canon_A a _ s l).trans (halves_A (fun k => a (ix2 s k)) _ l).symm))
  · exact (canon_B b _ s l).trans (halves_B (fun k => a (ix2 s k)) (fun k => b (ix2 s k)) l).symm

theorem canon_next (a b : Vec Ideal S8x1024 .f32) (s : Fin 8) (l : Fin 2048) :
    View.canon (Val := Elt Ideal) (s := S8x2048) (e := .f32) [⟨rB, b⟩, ⟨rA, a⟩] (ix2 s l) = halves (fun k => a (ix2 s k)) (fun k => b (ix2 s k)) l := by
  revert l
  refine halves_cases (fun l => ?_) (fun l => ?_)
  · exact (canon_skip b _ s l).trans ((canon_A a _ s l).trans (halves_A (fun k => a (ix2 s k)) _ l).symm)
  · exact (canon_B b _ s l).trans (halves_B (fun k => a (ix2 s k)) (fun k => b (ix2 s k)) l).symm

variable (c : Dev nD) (i : grid0.Coords) (a1 : Memref sig .tc .vmem S1x512x1024 .bf16) (h1 : a1.IsWhole) (a2 : Memref sig .tc .vmem S1x1024x1024 .bf16) (h2 : a2.IsWhole) (a3 : Memref sig .tc .vmem S1x512x1024 .f32) (h3 : a3.IsWhole) (a4 : Memref sig .tc .vmem S1x512x1024 .f32) (h4 : a4.IsWhole) (a5 : Memref sig .tc .vmem S512x1024 .f32) (h5 : a5.IsWhole) (a6 : Memref sig .tc .vmem S512x1024 .f32) (h6 : a6.IsWhole) (a7 : Memref sig .tc .vmem S1x2048 .f32) (h7 : a7.IsWhole) (a9 : Memref sig .tc .vmem S512x1024 .bf16) (h9 : a9.IsWhole) (a10 : Memref sig .tc .vmem S512x1024 .bf16) (h10 : a10.IsWhole) (a11 : Memref sig .tc .vmem S2x512x1024 .bf16) (h11 : a11.IsWhole) (a12 : Memref sig .tc .vmem S8x2048 .f32) (h12 : a12.IsWhole)
    (x0 : Vec Ideal S1x512x1024 .bf16) (x1 : Vec Ideal S1x1024x1024 .bf16) (x2 x3 : Vec Ideal S1x512x1024 .f32) (x4 x5 : Vec Ideal S512x1024 .f32) (x6 : Vec Ideal S1x2048 .f32) (xo : Vec Ideal S8x2048 .f32)

theorem out_A7 (hc : cond0_0 i) (hd : cond0_1 i) : out0_A_7 c i a1 h1 a2 h2 a3 h3 a4 h4 a5 h5 a6 h6 a7 h7 a9 h9 a10 h10 a11 h11 a12 h12 hc hd x0 x1 x2 x3 x4 x5 x6 = b7 x0 x1 x2 x6 := by
  funext j
  unfold out0_A_7
  rw [View.read_writes_junk_eq_canon]
  unfold kernelRun0_A
  dsimp only
  sl_unfold_words
  rw [View.canon_unit_zero hz2]
  simp only [View.readAt_eq_ld, h1.read_unread, h2.read_unread, h3.read_unread, h4.read_unread, h5.read_unread, h6.read_unread, h7.read_unread, View.ld_unit_zero (S := S1x512x1024) hz3, View.ld_unit_zero (S := S1x1024x1024) hz3, View.ld_unit_zero (S := S512x1024) hz2]
  exact b7_eq x0 x1 x2 x6 j

theorem out_A8 (hc : cond0_0 i) (hd : cond0_1 i) : out0_A_8 c i a1 h1 a2 h2 a3 h3 a4 h4 a5 h5 a6 h6 a7 h7 a9 h9 a10 h10 a11 h11 a12 h12 hc hd x0 x1 x2 x3 x4 x5 x6 = b8 x0 x1 x3 x6 := by
  funext j
  unfold out0_A_8
  rw [View.read_writes_junk_eq_canon]
  unfold kernelRun0_A
  dsimp only
  sl_unfold_words
  rw [View.canon_unit_zero hz2]
  simp only [View.readAt_eq_ld, h1.read_unread, h2.read_unread, h3.read_unread, h4.read_unread, h5.read_unread, h6.read_unread, h7.read_unread, View.ld_unit_zero (S := S1x512x1024) hz3, View.ld_unit_zero (S := S1x1024x1024) hz3, View.ld_unit_zero (S := S512x1024) hz2]
  exact b8_eq x0 x1 x3 x6 j

/-- What the two stores of the logit gradients leave. -/
theorem b9_eq (j : S2x512x1024.Idx) : View.canon (Val := Elt Ideal) (s := S2x512x1024) (e := .bf16)
      [⟨rQ, k0_pay12 (k0_pay3 x0 x1) (k0_pay5 x3 (biasB x6)) x5⟩, ⟨rP, k0_pay11 (k0_pay3 x0 x1) (k0_pay4 x2 (biasA x6)) x4⟩] j
    = b9 x0 x1 x2 x3 x4 x5 x6 j := by
  obtain ⟨s, r, l, rfl⟩ : ∃ (s : Fin 2) (r : Fin 512) (l : Fin 1024), j = ix3 s r l := ⟨j 0, j 1, j 2, by funext a; match a with | ⟨0, _⟩ => rfl | ⟨1, _⟩ => rfl | ⟨2, _⟩ => rfl⟩
  rw [canon2, pay11_at, pay12_at, pay9_eq, pay10_eq]
  rfl

theorem out_A9 (hc : cond0_0 i) (hd : cond0_1 i) : out0_A_9 c i a1 h1 a2 h2 a3 h3 a4 h4 a5 h5 a6 h6 a7 h7 a9 h9 a10 h10 a11 h11 a12 h12 hc hd x0 x1 x2 x3 x4 x5 x6 = b9 x0 x1 x2 x3 x4 x5 x6 := by
  funext j
  unfold out0_A_9
  rw [View.read_writes_junk_eq_canon]
  unfold kernelRun0_A
  dsimp only
  sl_unfold_words
  simp only [View.readAt_eq_ld, h1.read_unread, h2.read_unread, h3.read_unread, h4.read_unread, h5.read_unread, h6.read_unread, h7.read_unread, View.ld_unit_zero (S := S1x512x1024) hz3, View.ld_unit_zero (S := S1x1024x1024) hz3, View.ld_unit_zero (S := S512x1024) hz2]
  exact b9_eq x0 x1 x2 x3 x4 x5 x6 j

/-- The sums a point adds, at one entry of each half. -/
theorem b10_eq (oA oB : Vec Ideal S8x1024 .f32) (s : Fin 8) (l : Fin 2048) :
    halves (fun k => k0_pay14 (k0_pay3 x0 x1) (k0_pay4 x2 (biasA x6)) x4 oA (ix2 s k)) (fun k => k0_pay2 (k0_pay10 (k0_pay3 x0 x1) (k0_pay5 x3 (biasB x6)) x5) oB (ix2 s k)) l
      = halves (fun k => oA (ix2 s k)) (fun k => oB (ix2 s k)) l + b10 x0 x1 x2 x3 x4 x5 x6 (ix2 s l) := by
  revert l
  refine halves_cases (fun l => ?_) (fun l => ?_)
  · rw [halves_A, halves_A, pay14_at]
    refine congrArg (oA (ix2 s l) + ·) (Finset.sum_congr rfl fun q _ => ?_)
    rw [pay9_eq]
    exact (halves_A _ _ l).symm
  · rw [halves_B, halves_B, pay2_at]
    refine congrArg (oB (ix2 s l) + ·) (Finset.sum_congr rfl fun q _ => ?_)
    rw [pay10_eq]
    exact (halves_B _ _ l).symm

theorem halves_zero (s : Fin 8) (l : Fin 2048) : halves (fun k => (k0_pay13 (F := Ideal) : Vec Ideal S8x1024 .f32) (ix2 s k)) (fun k => (k0_pay1 (F := Ideal) : Vec Ideal S8x1024 .f32) (ix2 s k)) l = 0 := by
  unfold halves
  split
  · exact pay13_at s _
  · exact pay1_at s _

theorem halves_ld (s : Fin 8) (l : Fin 2048) : halves (fun k => View.ld xo rA (ix2 s k : S8x1024.Idx)) (fun k => View.ld xo rB (ix2 s k : S8x1024.Idx)) l = xo (ix2 s l) := by
  revert l
  refine halves_cases (fun l => ?_) (fun l => ?_)
  · rw [halves_A]; exact congrArg xo (rA_emb s l)
  · rw [halves_B]; exact congrArg xo (rB_emb s l)

theorem out_A10 (hc : cond0_0 i) (hd : cond0_1 i) : out0_A_10 c i a1 h1 a2 h2 a3 h3 a4 h4 a5 h5 a6 h6 a7 h7 a9 h9 a10 h10 a11 h11 a12 h12 hc hd x0 x1 x2 x3 x4 x5 x6 = b10 x0 x1 x2 x3 x4 x5 x6 := by
  funext j
  obtain ⟨s, l, rfl⟩ : ∃ (s : Fin 8) (l : Fin 2048), j = ix2 s l := ⟨j 0, j 1, by funext a; match a with | ⟨0, _⟩ => rfl | ⟨1, _⟩ => rfl⟩
  unfold out0_A_10
  rw [View.read_writes_junk_eq_canon]
  unfold kernelRun0_A
  dsimp only
  sl_unfold_words
  simp only [View.readCov_cons_toLoadRect, View.readAt_eq_ld, h1.read_unread, h2.read_unread, h3.read_unread, h4.read_unread, h5.read_unread, h6.read_unread, h7.read_unread, View.ld_unit_zero (S := S1x512x1024) hz3, View.ld_unit_zero (S := S1x1024x1024) hz3, View.ld_unit_zero (S := S512x1024) hz2]
  refine (canon_first _ _ _ _ s l).trans ((b10_eq x0 x1 x2 x3 x4 x5 x6 _ _ s l).trans ?_)
  rw [halves_zero, zero_add]

theorem out_B7 (hc : ¬cond0_0 i) (hd : ¬cond0_1 i) : out0_B_7 c i a1 h1 a2 h2 a3 h3 a4 h4 a5 h5 a6 h6 a7 h7 a9 h9 a10 h10 a11 h11 a12 h12 hc hd x0 x1 x2 x3 x4 x5 x6 xo = b7 x0 x1 x2 x6 := by
  funext j
  unfold out0_B_7
  rw [View.read_writes_junk_eq_canon]
  unfold kernelRun0_B
  dsimp only
  sl_unfold_words
  rw [View.canon_unit_zero hz2]
  simp only [View.readAt_eq_ld, h1.read_unread, h2.read_unread, h3.read_unread, h4.read_unread, h5.read_unread, h6.read_unread, h7.read_unread, View.ld_unit_zero (S := S1x512x1024) hz3, View.ld_unit_zero (S := S1x1024x1024) hz3, View.ld_unit_zero (S := S512x1024) hz2]
  exact b7_eq x0 x1 x2 x6 j

theorem out_B8 (hc : ¬cond0_0 i) (hd : ¬cond0_1 i) : out0_B_8 c i a1 h1 a2 h2 a3 h3 a4 h4 a5 h5 a6 h6 a7 h7 a9 h9 a10 h10 a11 h11 a12 h12 hc hd x0 x1 x2 x3 x4 x5 x6 xo = b8 x0 x1 x3 x6 := by
  funext j
  unfold out0_B_8
  rw [View.read_writes_junk_eq_canon]
  unfold kernelRun0_B
  dsimp only
  sl_unfold_words
  rw [View.canon_unit_zero hz2]
  simp only [View.readAt_eq_ld, h1.read_unread, h2.read_unread, h3.read_unread, h4.read_unread, h5.read_unread, h6.read_unread, h7.read_unread, View.ld_unit_zero (S := S1x512x1024) hz3, View.ld_unit_zero (S := S1x1024x1024) hz3, View.ld_unit_zero (S := S512x1024) hz2]
  exact b8_eq x0 x1 x3 x6 j

theorem out_B9 (hc : ¬cond0_0 i) (hd : ¬cond0_1 i) : out0_B_9 c i a1 h1 a2 h2 a3 h3 a4 h4 a5 h5 a6 h6 a7 h7 a9 h9 a10 h10 a11 h11 a12 h12 hc hd x0 x1 x2 x3 x4 x5 x6 xo = b9 x0 x1 x2 x3 x4 x5 x6 := by
  funext j
  unfold out0_B_9
  rw [View.read_writes_junk_eq_canon]
  unfold kernelRun0_B
  dsimp only
  sl_unfold_words
  simp only [View.readAt_eq_ld, h1.read_unread, h2.read_unread, h3.read_unread, h4.read_unread, h5.read_unread, h6.read_unread, h7.read_unread, View.ld_unit_zero (S := S1x512x1024) hz3, View.ld_unit_zero (S := S1x1024x1024) hz3, View.ld_unit_zero (S := S512x1024) hz2]
  exact b9_eq x0 x1 x2 x3 x4 x5 x6 j

theorem out_B10 (hc : ¬cond0_0 i) (hd : ¬cond0_1 i) : out0_B_10 c i a1 h1 a2 h2 a3 h3 a4 h4 a5 h5 a6 h6 a7 h7 a9 h9 a10 h10 a11 h11 a12 h12 hc hd x0 x1 x2 x3 x4 x5 x6 xo = fun j => xo j + b10 x0 x1 x2 x3 x4 x5 x6 j := by
  funext j
  obtain ⟨s, l, rfl⟩ : ∃ (s : Fin 8) (l : Fin 2048), j = ix2 s l := ⟨j 0, j 1, by funext a; match a with | ⟨0, _⟩ => rfl | ⟨1, _⟩ => rfl⟩
  unfold out0_B_10
  rw [View.read_writes_junk_eq_canon]
  unfold kernelRun0_B
  dsimp only
  sl_unfold_words
  simp only [View.readAt_eq_ld, h1.read_unread, h2.read_unread, h3.read_unread, h4.read_unread, h5.read_unread, h6.read_unread, h7.read_unread, h12.read_unread, View.ld_unit_zero (S := S1x512x1024) hz3, View.ld_unit_zero (S := S1x1024x1024) hz3, View.ld_unit_zero (S := S512x1024) hz2]
  refine (canon_next _ _ s l).trans ((b10_eq x0 x1 x2 x3 x4 x5 x6 _ _ s l).trans ?_)
  rw [halves_ld]

end Cert.Proof.OutGate
-- ==== Proof.OutGateRun.lean ====
module

public import proofs.«01_k».proof.Proof.OutGate

@[expose] public section

set_option maxRecDepth 16384

noncomputable section

/-!
  What the call of `_out_gate_bwd` leaves in its four arrays.
-/

namespace Cert.Proof.OutGate

open Idealize.ShloMosaic Idealize.ShloMosaic.TcCoe Idealize.SL.Sem
open Idealize.ShloMosaic.Pipeline (Dat)
open Cert.Kernel10Ideal Cert.Kernel10Ideal.Gen
open Cert.Proof.Gate (sigm)

/-! ## The whole arrays -/

/-- The gradient of the mixed row. -/
def dmG (dx : Vec Ideal S4096x1024 .bf16) (w : Vec Ideal S1024x1024 .bf16) (r : Fin 4096) (l : Fin 1024) : EReal :=
  ∑ k : Fin 1024, dx (ix2 r k) * w (ix2 l k)

/-- The two gates. -/
def gAG (z : Vec Ideal S8x4096x1024 .f32) (gb : Vec Ideal S1x2048 .f32) (r : Fin 4096) (l : Fin 1024) : EReal :=
  sigm (z (ix3 2 r l) + gb (ix2 0 (⟨l.val, by omega⟩ : Fin 2048)))
def gBG (z : Vec Ideal S8x4096x1024 .f32) (gb : Vec Ideal S1x2048 .f32) (r : Fin 4096) (l : Fin 1024) : EReal :=
  sigm (z (ix3 3 r l) + gb (ix2 0 (⟨1024 + l.val, by omega⟩ : Fin 2048)))

/-- The gradients of their logits. -/
def lAG (dx : Vec Ideal S4096x1024 .bf16) (w : Vec Ideal S1024x1024 .bf16) (z : Vec Ideal S8x4096x1024 .f32) (gb : Vec Ideal S1x2048 .f32) (ya : Vec Ideal S4096x1024 .f32) (r : Fin 4096) (l : Fin 1024) : EReal :=
  dl (dmG dx w r l) (gAG z gb r l) (ya (ix2 r l))
def lBG (dx : Vec Ideal S4096x1024 .bf16) (w : Vec Ideal S1024x1024 .bf16) (z : Vec Ideal S8x4096x1024 .f32) (gb : Vec Ideal S1x2048 .f32) (yb : Vec Ideal S4096x1024 .f32) (r : Fin 4096) (l : Fin 1024) : EReal :=
  dl (dmG dx w r l) (gBG z gb r l) (yb (ix2 r l))

/-- The gradients of the two gated rows. -/
def dyaG (dx : Vec Ideal S4096x1024 .bf16) (w : Vec Ideal S1024x1024 .bf16) (z : Vec Ideal S8x4096x1024 .f32) (gb : Vec Ideal S1x2048 .f32) : Vec Ideal S4096x1024 .bf16 := fun i =>
  dmG dx w (i 0) (i 1) * gAG z gb (i 0) (i 1)
def dybG (dx : Vec Ideal S4096x1024 .bf16) (w : Vec Ideal S1024x1024 .bf16) (z : Vec Ideal S8x4096x1024 .f32) (gb : Vec Ideal S1x2048 .f32) : Vec Ideal S4096x1024 .bf16 := fun i =>
  dmG dx w (i 0) (i 1) * gBG z gb (i 0) (i 1)

/-- The gradient of the projected input: sections 2 and 3 are the logits', the others are kept. -/
def dzG (dx : Vec Ideal S4096x1024 .bf16) (w : Vec Ideal S1024x1024 .bf16) (z : Vec Ideal S8x4096x1024 .f32) (gb : Vec Ideal S1x2048 .f32) (ya yb : Vec Ideal S4096x1024 .f32) (dz : Vec Ideal S8x4096x1024 .bf16) : Vec Ideal S8x4096x1024 .bf16 := fun i =>
  if (i 0).val = 2 then lAG dx w z gb ya (i 1) (i 2) else if (i 0).val = 3 then lBG dx w z gb yb (i 1) (i 2) else dz i

/-- One token's part of the gradient of the bias. -/
def dbT (dx : Vec Ideal S4096x1024 .bf16) (w : Vec Ideal S1024x1024 .bf16) (z : Vec Ideal S8x4096x1024 .f32) (gb : Vec Ideal S1x2048 .f32) (ya yb : Vec Ideal S4096x1024 .f32) (r : Fin 4096) (l : Fin 2048) : EReal :=
  halves (lAG dx w z gb ya r) (lBG dx w z gb yb r) l

/-- What the call leaves of it: eight rows, each the sum over every eighth token. -/
def db8 (dx : Vec Ideal S4096x1024 .bf16) (w : Vec Ideal S1024x1024 .bf16) (z : Vec Ideal S8x4096x1024 .f32) (gb : Vec Ideal S1x2048 .f32) (ya yb : Vec Ideal S4096x1024 .f32) : Vec Ideal S8x2048 .f32 := fun i =>
  ∑ t : Fin 8, ∑ q : Fin 64, dbT dx w z gb ya yb (⟨512 * t.val + (q.val * 8 + (i 0).val), by have : (i 0).val < 8 := (i 0).isLt; omega⟩ : Fin 4096) (i 1)

/-! ## The blocks -/

variable (m : (ℓ : Loc nD τ sig) → Buf (Elt Ideal) ℓ) (ρ : Dev nD → PrngReg) (c : Dev nD) (t : Fin cfg0.N)

theorem idx_in (t : Fin cfg0.N) : win0_0.index t 0 = 0 ∧ win0_0.index t 1 = t.val ∧ win0_0.index t 2 = 0
    ∧ win0_1.index t 0 = 0 ∧ win0_1.index t 1 = 0 ∧ win0_1.index t 2 = 0
    ∧ win0_2.index t 0 = 2 ∧ win0_2.index t 1 = t.val ∧ win0_2.index t 2 = 0
    ∧ win0_3.index t 0 = 3 ∧ win0_3.index t 1 = t.val ∧ win0_3.index t 2 = 0
    ∧ win0_4.index t 0 = t.val ∧ win0_4.index t 1 = 0 ∧ win0_5.index t 0 = t.val ∧ win0_5.index t 1 = 0
    ∧ win0_6.index t 0 = 0 ∧ win0_6.index t 1 = 0 := by
  rcases fin_N0 t with rfl | rfl | rfl | rfl | rfl | rfl | rfl | rfl <;> decide

theorem idx_out (t : Fin cfg0.N) : win0_7.index t 0 = t.val ∧ win0_7.index t 1 = 0 ∧ win0_8.index t 0 = t.val ∧ win0_8.index t 1 = 0
    ∧ win0_9.index t 0 = 1 ∧ win0_9.index t 1 = t.val ∧ win0_9.index t 2 = 0 ∧ win0_10.index t 0 = 0 ∧ win0_10.index t 1 = 0 := by
  rcases fin_N0 t with rfl | rfl | rfl | rfl | rfl | rfl | rfl | rfl <;> decide

/-- The row of the whole array that row `r` of block `t` is. -/
def rowG (t : Fin cfg0.N) (r : Fin 512) : Fin 4096 := ⟨512 * t.val + r.val, by have : t.val < 8 := t.isLt; omega⟩

abbrev aA (b : Ref sig .tc) := m ((c : Thread nD τ).loc b)

theorem V_dx : V m c main_v0 = broadcastInDim S1x4096x1024 ![1, 2] bcast_S4096x1024_S1x4096x1024_1_2 (m ((c : Thread nD τ).loc main_arg0) : Vec Ideal S4096x1024 .bf16) := by
  rfl
theorem V_w : V m c main_v1 = broadcastInDim S1x1024x1024 ![1, 2] bcast_S1024x1024_S1x1024x1024_1_2 (m ((c : Thread nD τ).loc main_arg1) : Vec Ideal S1024x1024 .bf16) := by
  rfl
theorem V_dz : V m c main_v2_2 = (m ((c : Thread nD τ).loc main_arg6) : Vec Ideal S8x4096x1024 .bf16) := by
  rfl

theorem dx_at (x : Vec Ideal S4096x1024 .bf16) (r : Fin 4096) (k : Fin 1024) :
    broadcastInDim S1x4096x1024 ![1, 2] bcast_S4096x1024_S1x4096x1024_1_2 x (ix3 0 r k) = x (ix2 r k) := by
  pointwise []
theorem w_at (x : Vec Ideal S1024x1024 .bf16) (r : Fin 1024) (k : Fin 1024) :
    broadcastInDim S1x1024x1024 ![1, 2] bcast_S1024x1024_S1x1024x1024_1_2 x (ix3 0 r k) = x (ix2 r k) := by
  pointwise []

theorem blk0 (r : Fin 512) (k : Fin 1024) : iblk m c 0 t (ix3 0 r k) = m ((c : Thread nD τ).loc main_arg0) (ix2 (rowG t r) k) := by
  obtain ⟨h0, h1, h2, -⟩ := idx_in t
  unfold iblk
  rw [View.read_apply]
  have e : ((cfg0.win 0).blk t).view.emb (ix3 0 r k) = ix3 0 (rowG t r) k := by
    funext a
    apply Fin.ext
    match a with
    | ⟨0, _⟩ => show win0_0.index t 0 * 1 + 1 * 0 = 0; rw [h0]
    | ⟨1, _⟩ => show win0_0.index t 1 * 512 + 1 * r.val = 512 * t.val + r.val; rw [h1]; omega
    | ⟨2, _⟩ => show win0_0.index t 2 * 1024 + 1 * k.val = k.val; rw [h2]; omega
  rw [e]
  show V m c main_v0 _ = _
  rw [V_dx]
  exact dx_at _ _ k

theorem blk1 (l : Fin 1024) (k : Fin 1024) : iblk m c 1 t (ix3 0 l k) = m ((c : Thread nD τ).loc main_arg1) (ix2 l k) := by
  obtain ⟨-, -, -, h0, h1, h2, -⟩ := idx_in t
  unfold iblk
  rw [View.read_apply]
  have e : ((cfg0.win 1).blk t).view.emb (ix3 0 l k) = ix3 0 l k := by
    funext a
    apply Fin.ext
    match a with
    | ⟨0, _⟩ => show win0_1.index t 0 * 1 + 1 * 0 = 0; rw [h0]
    | ⟨1, _⟩ => show win0_1.index t 1 * 1024 + 1 * l.val = l.val; rw [h1]; omega
    | ⟨2, _⟩ => show win0_1.index t 2 * 1024 + 1 * k.val = k.val; rw [h2]; omega
  rw [e]
  show V m c main_v1 _ = _
  rw [V_w]
  exact w_at _ l k

theorem blk2 (r : Fin 512) (l : Fin 1024) : iblk m c 2 t (ix3 0 r l) = m ((c : Thread nD τ).loc main_arg2) (ix3 2 (rowG t r) l) := by
  obtain ⟨-, -, -, -, -, -, h0, h1, h2, -⟩ := idx_in t
  unfold iblk
  rw [View.read_apply]
  show V m c main_arg2 _ = _
  rw [V_main_arg2]
  congr 1
  funext a
  apply Fin.ext
  match a with
  | ⟨0, _⟩ => show win0_2.index t 0 * 1 + 1 * 0 = 2; rw [h0]
  | ⟨1, _⟩ => show win0_2.index t 1 * 512 + 1 * r.val = 512 * t.val + r.val; rw [h1]; omega
  | ⟨2, _⟩ => show win0_2.index t 2 * 1024 + 1 * l.val = l.val; rw [h2]; omega

theorem blk3 (r : Fin 512) (l : Fin 1024) : iblk m c 3 t (ix3 0 r l) = m ((c : Thread nD τ).loc main_arg2) (ix3 3 (rowG t r) l) := by
  obtain ⟨-, -, -, -, -, -, -, -, -, h0, h1, h2, -⟩ := idx_in t
  unfold iblk
  rw [View.read_apply]
  show V m c main_arg2 _ = _
  rw [V_main_arg2]
  congr 1
  funext a
  apply Fin.ext
  match a with
  | ⟨0, _⟩ => show win0_3.index t 0 * 1 + 1 * 0 = 3; rw [h0]
  | ⟨1, _⟩ => show win0_3.index t 1 * 512 + 1 * r.val = 512 * t.val + r.val; rw [h1]; omega
  | ⟨2, _⟩ => show win0_3.index t 2 * 1024 + 1 * l.val = l.val; rw [h2]; omega

theorem blk4 (r : Fin 512) (l : Fin 1024) : iblk m c 4 t (ix2 r l) = m ((c : Thread nD τ).loc main_arg4) (ix2 (rowG t r) l) := by
  obtain ⟨-, -, -, -, -, -, -, -, -, -, -, -, h0, h1, -⟩ := idx_in t
  unfold iblk
  rw [View.read_apply]
  show V m c main_arg4 _ = _
  rw [V_main_arg4]
  congr 1
  funext a
  apply Fin.ext
  match a with
  | ⟨0, _⟩ => show win0_4.index t 0 * 512 + 1 * r.val = 512 * t.val + r.val; rw [h0]; omega
  | ⟨1, _⟩ => show win0_4.index t 1 * 1024 + 1 * l.val = l.val; rw [h1]; omega

theorem blk5 (r : Fin 512) (l : Fin 1024) : iblk m c 5 t (ix2 r l) = m ((c : Thread nD τ).loc main_arg5) (ix2 (rowG t r) l) := by
  obtain ⟨-, -, -, -, -, -, -, -, -, -, -, -, -, -, h0, h1, -⟩ := idx_in t
  unfold iblk
  rw [View.read_apply]
  show V m c main_arg5 _ = _
  rw [V_main_arg5]
  congr 1
  funext a
  apply Fin.ext
  match a with
  | ⟨0, _⟩ => show win0_5.index t 0 * 512 + 1 * r.val = 512 * t.val + r.val; rw [h0]; omega
  | ⟨1, _⟩ => show win0_5.index t 1 * 1024 + 1 * l.val = l.val; rw [h1]; omega

theorem blk6 (l : Fin 2048) : iblk m c 6 t (ix2 0 l) = m ((c : Thread nD τ).loc main_arg3) (ix2 0 l) := by
  obtain ⟨-, -, -, -, -, -, -, -, -, -, -, -, -, -, -, -, h0, h1⟩ := idx_in t
  unfold iblk
  rw [View.read_apply]
  show V m c main_arg3 _ = _
  rw [V_main_arg3]
  congr 1
  funext a
  apply Fin.ext
  match a with
  | ⟨0, _⟩ => show win0_6.index t 0 * 1 + 1 * 0 = 0; rw [h0]
  | ⟨1, _⟩ => show win0_6.index t 1 * 2048 + 1 * l.val = l.val; rw [h1]; omega

theorem dm_blk (r : Fin 512) (l : Fin 1024) : dm (iblk m c 0 t) (iblk m c 1 t) r l
    = dmG (m ((c : Thread nD τ).loc main_arg0)) (m ((c : Thread nD τ).loc main_arg1)) (rowG t r) l := by
  unfold dm dmG
  exact Finset.sum_congr rfl fun k _ => by rw [blk0, blk1]

theorem gA_blk (r : Fin 512) (l : Fin 1024) : gA (iblk m c 2 t) (iblk m c 6 t) r l
    = gAG (m ((c : Thread nD τ).loc main_arg2)) (m ((c : Thread nD τ).loc main_arg3)) (rowG t r) l := by
  unfold gA gAG
  rw [blk2, blk6]

theorem gB_blk (r : Fin 512) (l : Fin 1024) : gB (iblk m c 3 t) (iblk m c 6 t) r l
    = gBG (m ((c : Thread nD τ).loc main_arg2)) (m ((c : Thread nD τ).loc main_arg3)) (rowG t r) l := by
  unfold gB gBG
  rw [blk3, blk6]

theorem lA_blk (r : Fin 512) (l : Fin 1024) : lA (iblk m c 0 t) (iblk m c 1 t) (iblk m c 2 t) (iblk m c 4 t) (iblk m c 6 t) r l
    = lAG (m ((c : Thread nD τ).loc main_arg0)) (m ((c : Thread nD τ).loc main_arg1)) (m ((c : Thread nD τ).loc main_arg2)) (m ((c : Thread nD τ).loc main_arg3)) (m ((c : Thread nD τ).loc main_arg4)) (rowG t r) l := by
  unfold lA lAG
  rw [dm_blk, gA_blk, blk4]

theorem lB_blk (r : Fin 512) (l : Fin 1024) : lB (iblk m c 0 t) (iblk m c 1 t) (iblk m c 3 t) (iblk m c 5 t) (iblk m c 6 t) r l
    = lBG (m ((c : Thread nD τ).loc main_arg0)) (m ((c : Thread nD τ).loc main_arg1)) (m ((c : Thread nD τ).loc main_arg2)) (m ((c : Thread nD τ).loc main_arg3)) (m ((c : Thread nD τ).loc main_arg5)) (rowG t r) l := by
  unfold lB lBG
  rw [dm_blk, gB_blk, blk5]

/-! ## The points' results -/

theorem out7 : (outsAt0 m c t.val t.isLt).1 = b7 (iblk m c 0 t) (iblk m c 1 t) (iblk m c 2 t) (iblk m c 6 t) := by
  by_cases h0 : t.val % 8 = 0
  · rw [outsAt0_A m c t h0 h0]; dsimp only; rw [out_A7]
  · rw [outsAt0_B m c t h0 h0]; dsimp only; rw [out_B7]

theorem out8 : (outsAt0 m c t.val t.isLt).2.1 = b8 (iblk m c 0 t) (iblk m c 1 t) (iblk m c 3 t) (iblk m c 6 t) := by
  by_cases h0 : t.val % 8 = 0
  · rw [outsAt0_A m c t h0 h0]; dsimp only; rw [out_A8]
  · rw [outsAt0_B m c t h0 h0]; dsimp only; rw [out_B8]

theorem out9 : (outsAt0 m c t.val t.isLt).2.2.1 = b9 (iblk m c 0 t) (iblk m c 1 t) (iblk m c 2 t) (iblk m c 3 t) (iblk m c 4 t) (iblk m c 5 t) (iblk m c 6 t) := by
  by_cases h0 : t.val % 8 = 0
  · rw [outsAt0_A m c t h0 h0]; dsimp only; rw [out_A9]
  · rw [outsAt0_B m c t h0 h0]; dsimp only; rw [out_B9]

/-- What point `t` adds to the eight rows. -/
def part (t : Fin cfg0.N) : Vec Ideal S8x2048 .f32 :=
  b10 (iblk m c 0 t) (iblk m c 1 t) (iblk m c 2 t) (iblk m c 3 t) (iblk m c 4 t) (iblk m c 5 t) (iblk m c 6 t)

theorem out10 : ∀ (n : ℕ) (hn : n < cfg0.N), (outsAt0 m c n hn).2.2.2 = fun j => ∑ t : Fin (n + 1),
    part m c ⟨t.val, Nat.lt_of_le_of_lt (Nat.le_of_lt_succ t.isLt) hn⟩ j
  | 0, hn => by
    have h := outsAt0_A m c ⟨0, hn⟩ rfl rfl
    dsimp only at h
    rw [h]
    dsimp only
    rw [out_A10]
    funext j
    rw [Fin.sum_univ_one]
    rfl
  | n + 1, hn => by
    have h8 : n + 1 < 8 := hn
    have h := outsAt0_B m c ⟨n + 1, hn⟩ (by show ¬(n + 1) % 8 = 0; omega) (by show ¬(n + 1) % 8 = 0; omega)
    dsimp only at h
    rw [h]
    dsimp only
    rw [out_B10]
    funext j
    have ih := out10 n (Nat.lt_of_succ_lt hn)
    rw [Fin.sum_univ_castSucc]
    refine congrArg (· + _) ?_
    exact congrFun ih j

theorem part_eq (j : S8x2048.Idx) : part m c t j = ∑ q : Fin 64,
    dbT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      (⟨512 * t.val + (q.val * 8 + (j 0).val), by have : t.val < 8 := t.isLt; have : (j 0).val < 8 := (j 0).isLt; omega⟩ : Fin 4096) (j 1) := by
  unfold part b10 dbT
  refine Finset.sum_congr rfl fun q _ => ?_
  exact congrArg₂ (fun a b => halves a b (j 1)) (funext fun l => lA_blk m c t _ l) (funext fun l => lB_blk m c t _ l)

/-! ## The arrays at the end -/

theorem flushed7 (_ : (cfg0.win 7).flush t = true) :
    (dats m 0 c).flushed 7 t = ((cfg0.win 7).blk t).view.read (Elt Ideal)
      (dyaG (m ((c : Thread nD τ).loc main_arg0)) (m ((c : Thread nD τ).loc main_arg1)) (m ((c : Thread nD τ).loc main_arg2)) (m ((c : Thread nD τ).loc main_arg3))) := by
  obtain ⟨h0, h1, -⟩ := idx_out t
  show (dats m 0 c).after 7 t = _
  rw [after0_7, out7]
  funext j
  rw [View.read_apply]
  have e : ((cfg0.win 7).blk t).view.emb j = ix2 (rowG t (j 0)) (j 1 : Fin 1024) := by
    funext a
    apply Fin.ext
    match a with
    | ⟨0, _⟩ => show win0_7.index t 0 * 512 + 1 * (j 0).val = 512 * t.val + (j 0).val; rw [h0]; omega
    | ⟨1, _⟩ => show win0_7.index t 1 * 1024 + 1 * (j 1).val = (j 1).val; rw [h1]; omega
  rw [e]
  exact congrArg₂ (· * ·) (dm_blk m c t (j 0) (j 1)) (gA_blk m c t (j 0) (j 1))

theorem final7 : (dats m 0 c).arrAt 7 cfg0.N
    = dyaG (m ((c : Thread nD τ).loc main_arg0)) (m ((c : Thread nD τ).loc main_arg1)) (m ((c : Thread nD τ).loc main_arg2)) (m ((c : Thread nD τ).loc main_arg3)) :=
  (dats m 0 c).arrAt_eq_of_cover 7 _ (flushed7 m c) fun i => by
    have h0 : (i 0 : Nat) < 4096 := (i 0).isLt
    have h1 : (i 1 : Nat) < 1024 := (i 1).isLt
    have hN : (i 0).val / 512 < cfg0.N := by show _ < 8; omega
    refine ⟨⟨(i 0).val / 512, hN⟩, flush0_7 _, ?_⟩
    obtain ⟨h20, h21, -⟩ := idx_out ⟨(i 0).val / 512, hN⟩
    show i ∈ ((View.whole main_v2_0).slice (win0_7.rect ⟨(i 0).val / 512, hN⟩)).set
    rw [View.set_slice_whole, Rect.mem_set_unit]
    intro a
    match a with
    | ⟨0, _⟩ => show win0_7.index _ 0 * 512 ≤ (i 0 : Nat) ∧ (i 0 : Nat) < win0_7.index _ 0 * 512 + 512; rw [h20]; dsimp only; omega
    | ⟨1, _⟩ => show win0_7.index _ 1 * 1024 ≤ (i 1 : Nat) ∧ (i 1 : Nat) < win0_7.index _ 1 * 1024 + 1024; rw [h21]; omega

theorem flushed8 (_ : (cfg0.win 8).flush t = true) :
    (dats m 0 c).flushed 8 t = ((cfg0.win 8).blk t).view.read (Elt Ideal)
      (dybG (m ((c : Thread nD τ).loc main_arg0)) (m ((c : Thread nD τ).loc main_arg1)) (m ((c : Thread nD τ).loc main_arg2)) (m ((c : Thread nD τ).loc main_arg3))) := by
  obtain ⟨-, -, h0, h1, -⟩ := idx_out t
  show (dats m 0 c).after 8 t = _
  rw [after0_8, out8]
  funext j
  rw [View.read_apply]
  have e : ((cfg0.win 8).blk t).view.emb j = ix2 (rowG t (j 0)) (j 1 : Fin 1024) := by
    funext a
    apply Fin.ext
    match a with
    | ⟨0, _⟩ => show win0_8.index t 0 * 512 + 1 * (j 0).val = 512 * t.val + (j 0).val; rw [h0]; omega
    | ⟨1, _⟩ => show win0_8.index t 1 * 1024 + 1 * (j 1).val = (j 1).val; rw [h1]; omega
  rw [e]
  exact congrArg₂ (· * ·) (dm_blk m c t (j 0) (j 1)) (gB_blk m c t (j 0) (j 1))

theorem final8 : (dats m 0 c).arrAt 8 cfg0.N
    = dybG (m ((c : Thread nD τ).loc main_arg0)) (m ((c : Thread nD τ).loc main_arg1)) (m ((c : Thread nD τ).loc main_arg2)) (m ((c : Thread nD τ).loc main_arg3)) :=
  (dats m 0 c).arrAt_eq_of_cover 8 _ (flushed8 m c) fun i => by
    have h0 : (i 0 : Nat) < 4096 := (i 0).isLt
    have h1 : (i 1 : Nat) < 1024 := (i 1).isLt
    have hN : (i 0).val / 512 < cfg0.N := by show _ < 8; omega
    refine ⟨⟨(i 0).val / 512, hN⟩, flush0_8 _, ?_⟩
    obtain ⟨-, -, h20, h21, -⟩ := idx_out ⟨(i 0).val / 512, hN⟩
    show i ∈ ((View.whole main_v2_1).slice (win0_8.rect ⟨(i 0).val / 512, hN⟩)).set
    rw [View.set_slice_whole, Rect.mem_set_unit]
    intro a
    match a with
    | ⟨0, _⟩ => show win0_8.index _ 0 * 512 ≤ (i 0 : Nat) ∧ (i 0 : Nat) < win0_8.index _ 0 * 512 + 512; rw [h20]; dsimp only; omega
    | ⟨1, _⟩ => show win0_8.index _ 1 * 1024 ≤ (i 1 : Nat) ∧ (i 1 : Nat) < win0_8.index _ 1 * 1024 + 1024; rw [h21]; omega

theorem flushed9 (_ : (cfg0.win 9).flush t = true) :
    (dats m 0 c).flushed 9 t = ((cfg0.win 9).blk t).view.read (Elt Ideal)
      (dzG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  obtain ⟨-, -, -, -, h0, h1, h2, -⟩ := idx_out t
  show (dats m 0 c).after 9 t = _
  rw [after0_9, out9]
  funext j
  rw [View.read_apply]
  have hj : (j 0).val < 2 := (j 0).isLt
  have e : ((cfg0.win 9).blk t).view.emb j = ix3 (⟨2 + (j 0).val, by omega⟩ : Fin 8) (rowG t (j 1)) (j 2 : Fin 1024) := by
    funext a
    apply Fin.ext
    match a with
    | ⟨0, _⟩ => show win0_9.index t 0 * 2 + 1 * (j 0).val = 2 + (j 0).val; rw [h0]; omega
    | ⟨1, _⟩ => show win0_9.index t 1 * 512 + 1 * (j 1).val = 512 * t.val + (j 1).val; rw [h1]; omega
    | ⟨2, _⟩ => show win0_9.index t 2 * 1024 + 1 * (j 2).val = (j 2).val; rw [h2]; omega
  rw [e]
  have hA := lA_blk m c t (j 1) (j 2)
  have hB := lB_blk m c t (j 1) (j 2)
  unfold b9 dzG
  by_cases hs : (j 0).val = 0
  · exact (if_pos hs).trans (hA.trans (if_pos (show 2 + (j 0).val = 2 by omega)).symm)
  · refine (if_neg hs).trans (hB.trans (Eq.symm ?_))
    exact (if_neg (show ¬(2 + (j 0).val = 2) by omega)).trans (if_pos (show 2 + (j 0).val = 3 by omega))

theorem final9 : (dats m 0 c).arrAt 9 cfg0.N
    = dzG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext i
  refine ((dats m 0 c).arrAt_eq_piecewise 9 _ (flushed9 m c) i).trans ?_
  split
  · rfl
  · rename_i hn
    have h0 : (i 0 : Nat) < 8 := (i 0).isLt
    have h1 : (i 1 : Nat) < 4096 := (i 1).isLt
    have h2 : (i 2 : Nat) < 1024 := (i 2).isLt
    have hi : ¬((i 0 : Nat) = 2 ∨ (i 0 : Nat) = 3) := fun hi => hn (by
      have hN : (i 1).val / 512 < cfg0.N := by show _ < 8; omega
      refine ⟨⟨(i 1).val / 512, hN⟩, flush0_9 _, ?_⟩
      obtain ⟨-, -, -, -, h20, h21, h22, -⟩ := idx_out ⟨(i 1).val / 512, hN⟩
      show i ∈ ((View.whole main_v2_2).slice (win0_9.rect ⟨(i 1).val / 512, hN⟩)).set
      rw [View.set_slice_whole, Rect.mem_set_unit]
      intro a
      match a with
      | ⟨0, _⟩ => show win0_9.index _ 0 * 2 ≤ (i 0 : Nat) ∧ (i 0 : Nat) < win0_9.index _ 0 * 2 + 2; rw [h20]; omega
      | ⟨1, _⟩ => show win0_9.index _ 1 * 512 ≤ (i 1 : Nat) ∧ (i 1 : Nat) < win0_9.index _ 1 * 512 + 512; rw [h21]; dsimp only; omega
      | ⟨2, _⟩ => show win0_9.index _ 2 * 1024 ≤ (i 2 : Nat) ∧ (i 2 : Nat) < win0_9.index _ 2 * 1024 + 1024; rw [h22]; omega)
    unfold dzG
    refine Eq.trans ?_ ((if_neg fun h => hi (Or.inl h)).trans (if_neg fun h => hi (Or.inr h))).symm
    rw [A_eq]
    exact congrFun (V_dz m c) i

theorem flushed10 (ht : (cfg0.win 10).flush t = true) :
    (dats m 0 c).flushed 10 t = ((cfg0.win 10).blk t).view.read (Elt Ideal)
      (db8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  have h8 : t.val < 8 := t.isLt
  have ht7 : t.val = 7 := by have := (flush0_10 t).mp ht; omega
  obtain ⟨-, -, -, -, -, -, -, h0, h1⟩ := idx_out t
  show (dats m 0 c).after 10 t = _
  rw [after0_10, out10]
  obtain ⟨n, hn⟩ := t
  obtain rfl : n = 7 := ht7
  funext j
  rw [View.read_apply]
  have e : ((cfg0.win 10).blk ⟨7, hn⟩).view.emb j = j := by
    funext a
    apply Fin.ext
    match a with
    | ⟨0, _⟩ => show win0_10.index ⟨7, hn⟩ 0 * 8 + 1 * (j 0).val = (j 0).val; rw [h0]; omega
    | ⟨1, _⟩ => show win0_10.index ⟨7, hn⟩ 1 * 2048 + 1 * (j 1).val = (j 1).val; rw [h1]; omega
  rw [e]
  unfold db8
  exact Finset.sum_congr rfl fun t _ => part_eq m c ⟨t.val, t.isLt⟩ j

theorem final10 : (dats m 0 c).arrAt 10 cfg0.N
    = db8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (dats m 0 c).arrAt_eq_of_cover 10 _ (flushed10 m c) fun i => by
    have h0 : (i 0 : Nat) < 8 := (i 0).isLt
    have h1 : (i 1 : Nat) < 2048 := (i 1).isLt
    have hN : 7 < cfg0.N := by show _ < 8; omega
    refine ⟨⟨7, hN⟩, (flush0_10 _).mpr rfl, ?_⟩
    obtain ⟨-, -, -, -, -, -, -, h20, h21⟩ := idx_out ⟨7, hN⟩
    show i ∈ ((View.whole main_v2_3).slice (win0_10.rect ⟨7, hN⟩)).set
    rw [View.set_slice_whole, Rect.mem_set_unit]
    intro a
    match a with
    | ⟨0, _⟩ => show win0_10.index _ 0 * 8 ≤ (i 0 : Nat) ∧ (i 0 : Nat) < win0_10.index _ 0 * 8 + 8; rw [h20]; omega
    | ⟨1, _⟩ => show win0_10.index _ 1 * 2048 ≤ (i 1 : Nat) ∧ (i 1 : Nat) < win0_10.index _ 1 * 2048 + 2048; rw [h21]; omega

end Cert.Proof.OutGate
-- ==== Proof.OutGateRef.lean ====
module

public import proofs.«01_k».proof.Proof.OutGateRun
public import proofs.«01_k».proof.Proof.Gen.Reference10Ideal.Run
public import Idealize.ShloMosaic.Lib.Pointwise

@[expose] public section

set_option maxRecDepth 16384

noncomputable section

/-!
  What the host's chain rule computes for the output product and the gates: the same products, in another order.
-/

namespace Cert.Proof.OutGate.Ref

open Idealize.ShloMosaic Idealize.ShloMosaic.TcCoe Idealize.SL.Sem
open Cert.Reference10Ideal Cert.Reference10Ideal.Gen
open Cert.Proof.Gate (sigm)
open Cert.Proof.OutGate (dl halves halves_cases halves_A halves_B dmG gAG gBG lAG lBG dyaG dybG dzG dbT)

/-- The gradient of the mixed row. -/
theorem dm_ref (dx : FVec Ideal S4096x1024 .bf16) (w : FVec Ideal S1024x1024 .bf16) :
    ((Host.dotGeneral dot_S4096x1024_S1024x1024_S4096x1024_1_1_0_0_n_n none (extf .f32 dx bitsLt_bf16_f32) (extf .f32 w bitsLt_bf16_f32)) : FVec Ideal S4096x1024 .f32) = fun i => dmG dx w (i 0) (i 1) := by
  funext j
  pointwise [dmG]

/-- The two gates side by side. -/
theorem gate_ref (z : FVec Ideal S8x4096x1024 .f32) (gb : FVec Ideal S1x2048 .f32) (r : Fin 4096) (l : Fin 2048) :
    ((Host.divf (broadcastInDim S4096x2048 ![] bcast_S_S4096x2048 (constant S_ .f32 0x3F800000#32)) (addf (broadcastInDim S4096x2048 ![] bcast_S_S4096x2048 (constant S_ .f32 0x3F800000#32)) (Host.exp (Host.negf (addf (concatenate S4096x2048 1 [⟨S4096x1024, (shapeCast _ (extractStridedSlice S1x4096x1024 ![2, 0, 0] z slices_S8x4096x1024_S1x4096x1024_2_0_0) shapeCasts_S1x4096x1024_S4096x1024)⟩, ⟨S4096x1024, (shapeCast _ (extractStridedSlice S1x4096x1024 ![3, 0, 0] z slices_S8x4096x1024_S1x4096x1024_3_0_0) shapeCasts_S1x4096x1024_S4096x1024)⟩] concatenates_S4096x1024_S4096x1024_S4096x2048_d1) (broadcastInDim S4096x2048 ![0, 1] bcast_S1x2048_S4096x2048_0_1 gb)))))) : FVec Ideal S4096x2048 .f32) (ix2 r l) = halves (gAG z gb r) (gBG z gb r) l := by
  revert l
  refine halves_cases (fun l => ?_) (fun l => ?_)
  · rw [halves_A]
    pointwise [gAG, sigm]
  · rw [halves_B]
    pointwise [gBG, sigm]

/-- The logits' gradients side by side, for any `H` and `G`. -/
theorem logit_ref (H ya yb : FVec Ideal S4096x1024 .f32) (G : FVec Ideal S4096x2048 .f32) (r : Fin 4096) (l : Fin 2048) :
    ((mulf (concatenate S4096x2048 1 [⟨S4096x1024, (mulf H ya)⟩, ⟨S4096x1024, (mulf H yb)⟩] concatenates_S4096x1024_S4096x1024_S4096x2048_d1) (mulf G (subf (broadcastInDim S4096x2048 ![] bcast_S_S4096x2048 (constant S_ .f32 0x3F800000#32)) G))) : FVec Ideal S4096x2048 .f32) (ix2 r l)
      = halves (fun k => dl (H (ix2 r k)) (G (ix2 r (⟨k.val, by omega⟩ : Fin 2048))) (ya (ix2 r k))) (fun k => dl (H (ix2 r k)) (G (ix2 r (⟨1024 + k.val, by omega⟩ : Fin 2048))) (yb (ix2 r k))) l := by
  revert l
  refine halves_cases (fun l => ?_) (fun l => ?_)
  · rw [halves_A]
    pointwise [dl]
    simp only [mul_assoc]
  · rw [halves_B]
    pointwise [dl]
    simp only [mul_assoc]

theorem dya_ref (H : FVec Ideal S4096x1024 .f32) (G : FVec Ideal S4096x2048 .f32) (r : Fin 4096) (l : Fin 1024) :
    (truncf .bf16 (mulf (extractStridedSlice S4096x1024 ![0, 0] G slices_S4096x2048_S4096x1024_0_0) H) bitsLt_bf16_f32 : FVec Ideal S4096x1024 .bf16) (ix2 r l) = H (ix2 r l) * G (ix2 r (⟨l.val, by omega⟩ : Fin 2048)) := by
  rw [mul_comm]
  pointwise []

theorem dyb_ref (H : FVec Ideal S4096x1024 .f32) (G : FVec Ideal S4096x2048 .f32) (r : Fin 4096) (l : Fin 1024) :
    (truncf .bf16 (mulf (extractStridedSlice S4096x1024 ![0, 1024] G slices_S4096x2048_S4096x1024_0_1024) H) bitsLt_bf16_f32 : FVec Ideal S4096x1024 .bf16) (ix2 r l) = H (ix2 r l) * G (ix2 r (⟨1024 + l.val, by omega⟩ : Fin 2048)) := by
  rw [mul_comm]
  pointwise []

theorem dz_ref (L : FVec Ideal S4096x2048 .f32) (dz : FVec Ideal S8x4096x1024 .bf16) (s : Fin 8) (r : Fin 4096) (l : Fin 1024) :
    ((concatenate S8x4096x1024 0 [⟨S2x4096x1024, ((extractStridedSlice S2x4096x1024 ![0, 0, 0] dz slices_S8x4096x1024_S2x4096x1024_0_0_0) : (⟨S2x4096x1024, .bf16⟩ : BufTy).Contents (Elt Ideal))⟩, ⟨S1x4096x1024, ((broadcastInDim S1x4096x1024 ![1, 2] bcast_S4096x1024_S1x4096x1024_1_2 (truncf .bf16 (extractStridedSlice S4096x1024 ![0, 0] L slices_S4096x2048_S4096x1024_0_0) bitsLt_bf16_f32)) : (⟨S1x4096x1024, .bf16⟩ : BufTy).Contents (Elt Ideal))⟩, ⟨S1x4096x1024, ((broadcastInDim S1x4096x1024 ![1, 2] bcast_S4096x1024_S1x4096x1024_1_2 (truncf .bf16 (extractStridedSlice S4096x1024 ![0, 1024] L slices_S4096x2048_S4096x1024_0_1024) bitsLt_bf16_f32)) : (⟨S1x4096x1024, .bf16⟩ : BufTy).Contents (Elt Ideal))⟩, ⟨S4x4096x1024, ((extractStridedSlice S4x4096x1024 ![4, 0, 0] dz slices_S8x4096x1024_S4x4096x1024_4_0_0) : (⟨S4x4096x1024, .bf16⟩ : BufTy).Contents (Elt Ideal))⟩] concatenates_S2x4096x1024_S1x4096x1024_S1x4096x1024_S4x4096x1024_S8x4096x1024_d0 : (⟨S8x4096x1024, .bf16⟩ : BufTy).Contents (Elt Ideal)) : FVec Ideal S8x4096x1024 .bf16) (ix3 s r l)
      = if s.val = 2 then L (ix2 r (⟨l.val, by omega⟩ : Fin 2048)) else if s.val = 3 then L (ix2 r (⟨1024 + l.val, by omega⟩ : Fin 2048)) else dz (ix3 s r l) := by
  fin_cases s <;> pointwise []

theorem db_ref (L : FVec Ideal S4096x2048 .f32) (l : Fin 2048) :
    (shapeCast _ (Host.reduceAdd L (constant S_ .f32 0x00000000#32) reducesTo_S4096x2048_S2048_d0 h_S_) shapeCasts_S2048_S1x2048 : FVec Ideal S1x2048 .f32) (ix2 0 l) = ∑ r : Fin 4096, L (ix2 r l) := by
  pointwise []

/-- The logits' gradients of the two gates, as sums over the arguments. -/
theorem logit_all (dx : FVec Ideal S4096x1024 .bf16) (w : FVec Ideal S1024x1024 .bf16) (z : FVec Ideal S8x4096x1024 .f32) (gb : FVec Ideal S1x2048 .f32) (ya yb H : FVec Ideal S4096x1024 .f32) (G : FVec Ideal S4096x2048 .f32)
    (hH : ∀ r l, H (ix2 r l) = dmG dx w r l) (hG : ∀ r l, G (ix2 r l) = halves (gAG z gb r) (gBG z gb r) l) (r : Fin 4096) (l : Fin 2048) :
    ((mulf (concatenate S4096x2048 1 [⟨S4096x1024, (mulf H ya)⟩, ⟨S4096x1024, (mulf H yb)⟩] concatenates_S4096x1024_S4096x1024_S4096x2048_d1) (mulf G (subf (broadcastInDim S4096x2048 ![] bcast_S_S4096x2048 (constant S_ .f32 0x3F800000#32)) G))) : FVec Ideal S4096x2048 .f32) (ix2 r l) = halves (lAG dx w z gb ya r) (lBG dx w z gb yb r) l := by
  rw [logit_ref]
  refine congrArg₂ (fun a b => halves a b l) (funext fun k => ?_) (funext fun k => ?_)
  · rw [hH, hG, halves_A]; rfl
  · rw [hH, hG, halves_B]; rfl

theorem dm_at (dx : FVec Ideal S4096x1024 .bf16) (w : FVec Ideal S1024x1024 .bf16) (r : Fin 4096) (l : Fin 1024) :
    ((Host.dotGeneral dot_S4096x1024_S1024x1024_S4096x1024_1_1_0_0_n_n none (extf .f32 dx bitsLt_bf16_f32) (extf .f32 w bitsLt_bf16_f32)) : FVec Ideal S4096x1024 .f32) (ix2 r l) = dmG dx w r l :=
  congrFun (dm_ref dx w) (ix2 r l)

theorem dya_all (dx : FVec Ideal S4096x1024 .bf16) (w : FVec Ideal S1024x1024 .bf16) (z : FVec Ideal S8x4096x1024 .f32) (gb : FVec Ideal S1x2048 .f32) :
    (truncf .bf16 (mulf (extractStridedSlice S4096x1024 ![0, 0] (Host.divf (broadcastInDim S4096x2048 ![] bcast_S_S4096x2048 (constant S_ .f32 0x3F800000#32)) (addf (broadcastInDim S4096x2048 ![] bcast_S_S4096x2048 (constant S_ .f32 0x3F800000#32)) (Host.exp (Host.negf (addf (concatenate S4096x2048 1 [⟨S4096x1024, (shapeCast _ (extractStridedSlice S1x4096x1024 ![2, 0, 0] z slices_S8x4096x1024_S1x4096x1024_2_0_0) shapeCasts_S1x4096x1024_S4096x1024)⟩, ⟨S4096x1024, (shapeCast _ (extractStridedSlice S1x4096x1024 ![3, 0, 0] z slices_S8x4096x1024_S1x4096x1024_3_0_0) shapeCasts_S1x4096x1024_S4096x1024)⟩] concatenates_S4096x1024_S4096x1024_S4096x2048_d1) (broadcastInDim S4096x2048 ![0, 1] bcast_S1x2048_S4096x2048_0_1 gb)))))) slices_S4096x2048_S4096x1024_0_0) (Host.dotGeneral dot_S4096x1024_S1024x1024_S4096x1024_1_1_0_0_n_n none (extf .f32 dx bitsLt_bf16_f32) (extf .f32 w bitsLt_bf16_f32))) bitsLt_bf16_f32 : FVec Ideal S4096x1024 .bf16) = dyaG dx w z gb := by
  funext j
  obtain ⟨r, l, rfl⟩ : ∃ (r : Fin 4096) (l : Fin 1024), j = ix2 r l := ⟨j 0, j 1, by funext a; match a with | ⟨0, _⟩ => rfl | ⟨1, _⟩ => rfl⟩
  refine (dya_ref _ _ r l).trans ?_
  rw [gate_ref, dm_at, halves_A]
  rfl

theorem dyb_all (dx : FVec Ideal S4096x1024 .bf16) (w : FVec Ideal S1024x1024 .bf16) (z : FVec Ideal S8x4096x1024 .f32) (gb : FVec Ideal S1x2048 .f32) :
    (truncf .bf16 (mulf (extractStridedSlice S4096x1024 ![0, 1024] (Host.divf (broadcastInDim S4096x2048 ![] bcast_S_S4096x2048 (constant S_ .f32 0x3F800000#32)) (addf (broadcastInDim S4096x2048 ![] bcast_S_S4096x2048 (constant S_ .f32 0x3F800000#32)) (Host.exp (Host.negf (addf (concatenate S4096x2048 1 [⟨S4096x1024, (shapeCast _ (extractStridedSlice S1x4096x1024 ![2, 0, 0] z slices_S8x4096x1024_S1x4096x1024_2_0_0) shapeCasts_S1x4096x1024_S4096x1024)⟩, ⟨S4096x1024, (shapeCast _ (extractStridedSlice S1x4096x1024 ![3, 0, 0] z slices_S8x4096x1024_S1x4096x1024_3_0_0) shapeCasts_S1x4096x1024_S4096x1024)⟩] concatenates_S4096x1024_S4096x1024_S4096x2048_d1) (broadcastInDim S4096x2048 ![0, 1] bcast_S1x2048_S4096x2048_0_1 gb)))))) slices_S4096x2048_S4096x1024_0_1024) (Host.dotGeneral dot_S4096x1024_S1024x1024_S4096x1024_1_1_0_0_n_n none (extf .f32 dx bitsLt_bf16_f32) (extf .f32 w bitsLt_bf16_f32))) bitsLt_bf16_f32 : FVec Ideal S4096x1024 .bf16) = dybG dx w z gb := by
  funext j
  obtain ⟨r, l, rfl⟩ : ∃ (r : Fin 4096) (l : Fin 1024), j = ix2 r l := ⟨j 0, j 1, by funext a; match a with | ⟨0, _⟩ => rfl | ⟨1, _⟩ => rfl⟩
  refine (dyb_ref _ _ r l).trans ?_
  rw [gate_ref, dm_at, halves_B]
  rfl

/-- Sections 2 and 3 of the gradient of the projected input, for the logits' gradients `L`. -/
theorem dz_of (dx : FVec Ideal S4096x1024 .bf16) (w : FVec Ideal S1024x1024 .bf16) (z : FVec Ideal S8x4096x1024 .f32) (gb : FVec Ideal S1x2048 .f32) (ya yb : FVec Ideal S4096x1024 .f32) (dz : FVec Ideal S8x4096x1024 .bf16) (L : FVec Ideal S4096x2048 .f32)
    (hL : ∀ r l, L (ix2 r l) = halves (lAG dx w z gb ya r) (lBG dx w z gb yb r) l) :
    ((concatenate S8x4096x1024 0 [⟨S2x4096x1024, ((extractStridedSlice S2x4096x1024 ![0, 0, 0] dz slices_S8x4096x1024_S2x4096x1024_0_0_0) : (⟨S2x4096x1024, .bf16⟩ : BufTy).Contents (Elt Ideal))⟩, ⟨S1x4096x1024, ((broadcastInDim S1x4096x1024 ![1, 2] bcast_S4096x1024_S1x4096x1024_1_2 (truncf .bf16 (extractStridedSlice S4096x1024 ![0, 0] L slices_S4096x2048_S4096x1024_0_0) bitsLt_bf16_f32)) : (⟨S1x4096x1024, .bf16⟩ : BufTy).Contents (Elt Ideal))⟩, ⟨S1x4096x1024, ((broadcastInDim S1x4096x1024 ![1, 2] bcast_S4096x1024_S1x4096x1024_1_2 (truncf .bf16 (extractStridedSlice S4096x1024 ![0, 1024] L slices_S4096x2048_S4096x1024_0_1024) bitsLt_bf16_f32)) : (⟨S1x4096x1024, .bf16⟩ : BufTy).Contents (Elt Ideal))⟩, ⟨S4x4096x1024, ((extractStridedSlice S4x4096x1024 ![4, 0, 0] dz slices_S8x4096x1024_S4x4096x1024_4_0_0) : (⟨S4x4096x1024, .bf16⟩ : BufTy).Contents (Elt Ideal))⟩] concatenates_S2x4096x1024_S1x4096x1024_S1x4096x1024_S4x4096x1024_S8x4096x1024_d0 : (⟨S8x4096x1024, .bf16⟩ : BufTy).Contents (Elt Ideal)) : FVec Ideal S8x4096x1024 .bf16) = dzG dx w z gb ya yb dz := by
  funext j
  obtain ⟨s, r, l, rfl⟩ : ∃ (s : Fin 8) (r : Fin 4096) (l : Fin 1024), j = ix3 s r l := ⟨j 0, j 1, j 2, by funext a; match a with | ⟨0, _⟩ => rfl | ⟨1, _⟩ => rfl | ⟨2, _⟩ => rfl⟩
  refine (dz_ref L dz s r l).trans ?_
  rw [hL, hL, halves_A, halves_B]
  rfl

/-- The gradient of the bias, for the logits' gradients `L`. -/
theorem db_of (dx : FVec Ideal S4096x1024 .bf16) (w : FVec Ideal S1024x1024 .bf16) (z : FVec Ideal S8x4096x1024 .f32) (gb : FVec Ideal S1x2048 .f32) (ya yb : FVec Ideal S4096x1024 .f32) (L : FVec Ideal S4096x2048 .f32)
    (hL : ∀ r l, L (ix2 r l) = halves (lAG dx w z gb ya r) (lBG dx w z gb yb r) l) :
    (shapeCast _ (Host.reduceAdd L (constant S_ .f32 0x00000000#32) reducesTo_S4096x2048_S2048_d0 h_S_) shapeCasts_S2048_S1x2048 : FVec Ideal S1x2048 .f32) = fun i => ∑ r : Fin 4096, dbT dx w z gb ya yb r (i 1) := by
  funext j
  obtain ⟨l, rfl⟩ : ∃ l : Fin 2048, j = ix2 0 l := ⟨j 1, by funext a; match a with | ⟨0, h⟩ => exact Subsingleton.elim (α := Fin 1) _ _ | ⟨1, _⟩ => rfl⟩
  refine (db_ref L l).trans ?_
  exact Finset.sum_congr rfl fun r _ => hL r l

end Cert.Proof.OutGate.Ref
-- ==== Proof.OutGateClaim.lean ====
module

public import proofs.«01_k».proof.Proof.OutGateRef
public import proofs.«01_k».proof.Proof.Rows
public import proofs.«01_k».proof.Defs

@[expose] public section

set_option maxRecDepth 16384

noncomputable section

/-!
  The call with the host's sum of its eight rows, against the chain rule of the forward lines.
-/

namespace Cert.Proof.OutGate

open Idealize.ShloMosaic Idealize.ShloMosaic.TcCoe Idealize.SL.Sem
open Idealize.ShloMosaic.Pipeline (Dat)
open Cert.Kernel10Ideal Cert.Kernel10Ideal.Gen
open Cert.Proof.Rows (sum_rows)

variable (m : (ℓ : Loc nD τ sig) → Buf (Elt Ideal) ℓ) (ρ : Dev nD → PrngReg)

/-- The gradient of the bias. -/
def dbG (dx : Vec Ideal S4096x1024 .bf16) (w : Vec Ideal S1024x1024 .bf16) (z : Vec Ideal S8x4096x1024 .f32) (gb : Vec Ideal S1x2048 .f32) (ya yb : Vec Ideal S4096x1024 .f32) : Vec Ideal S1x2048 .f32 := fun i =>
  ∑ r : Fin 4096, dbT dx w z gb ya yb r (i 1)

theorem tail_eq (a : FVec Ideal S8x2048 .f32) : (broadcastInDim S1x2048 ![1] bcast_S2048_S1x2048_1
      (Host.reduceAdd a (constant S_ .f32 0x00000000#32) reducesTo_S8x2048_S2048_d0 h_S_) : FVec Ideal S1x2048 .f32)
    = fun i => ∑ s : Fin 8, a (ix2 s (i 1)) := by
  funext j
  pointwise []

theorem db_eq (dx : Vec Ideal S4096x1024 .bf16) (w : Vec Ideal S1024x1024 .bf16) (z : Vec Ideal S8x4096x1024 .f32) (gb : Vec Ideal S1x2048 .f32) (ya yb : Vec Ideal S4096x1024 .f32) :
    (broadcastInDim S1x2048 ![1] bcast_S2048_S1x2048_1
      (Host.reduceAdd (db8 dx w z gb ya yb : FVec Ideal S8x2048 .f32) (constant S_ .f32 0x00000000#32) reducesTo_S8x2048_S2048_d0 h_S_) : FVec Ideal S1x2048 .f32)
    = dbG dx w z gb ya yb := by
  rw [tail_eq]
  funext i
  exact sum_rows fun r => dbT dx w z gb ya yb r (i 1)

theorem tail_v4 (c : Dev nD) : Pipeline.afterTail₀ cfgs (dats m) 0 (V0 m) [hostOps1] c main_v4 = dbG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  unfold Pipeline.afterTail₀
  simp only [hostOps1, List.flatten_cons, List.flatten_nil, List.append_nil]
  after_results_simp
  have h : Pipeline.withArrays (cfgs 0).spec c (V0 m c) (fun w => (dats m 0 c).arrAt w (cfgs 0).N) (Proc.tc.devRef main_v2_3) = db8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
    ((dats m 0 c).withArrays_arrAt sharedIn0 (V0 m c) (A_eq m c) 10).trans (final10 m c)
  rw [h]
  exact db_eq _ _ _ _ _ _

/-- What the whole program leaves: the four gradients, and the arguments as they were. -/
theorem run_value : θ_run defs (onTc (τ := τ) (main (F := Ideal))) ⟨m, fun _ => 0, ρ⟩ (fun r => ∀ c : Dev nD,
      r.2.mem ((c.tc : Thread nD τ).loc main_v2_0) = dyaG (m ((c : Thread nD τ).loc main_arg0)) (m ((c : Thread nD τ).loc main_arg1)) (m ((c : Thread nD τ).loc main_arg2)) (m ((c : Thread nD τ).loc main_arg3))
      ∧ r.2.mem ((c.tc : Thread nD τ).loc main_v2_1) = dybG (m ((c : Thread nD τ).loc main_arg0)) (m ((c : Thread nD τ).loc main_arg1)) (m ((c : Thread nD τ).loc main_arg2)) (m ((c : Thread nD τ).loc main_arg3))
      ∧ r.2.mem ((c.tc : Thread nD τ).loc main_v2_2) = dzG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_v4) = dbG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 7).trans (final7 m c), ((h c).1 8).trans (final8 m c), ((h c).1 9).trans (final9 m c),
      ((h c).2 main_v4 (Pipeline.mem_restRefs_of main_v4 (by decide) (by decide))).trans (tail_v4 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 3).trans (((dats m 0 c).arrAt_in 3 rfl _).trans ((A_eq m c 3).trans (V_main_arg2 m c))),
      ((h c).1 6).trans (((dats m 0 c).arrAt_in 6 rfl _).trans ((A_eq m c 6).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).2 main_arg6 (Pipeline.mem_restRefs_of main_arg6 (by decide) (by decide))).trans (W_main_arg6 m (dats m) c)⟩)
    (run_main m ρ)

theorem claim10 : Cert.algebraic_Kernel10Ideal_Reference10Ideal := by
  intro m g m' g' _ hargs
  refine ⟨fun c => dyaG (m ((c : Thread nD τ).loc main_arg0)) (m ((c : Thread nD τ).loc main_arg1)) (m ((c : Thread nD τ).loc main_arg2)) (m ((c : Thread nD τ).loc main_arg3)), fun c => dybG (m ((c : Thread nD τ).loc main_arg0)) (m ((c : Thread nD τ).loc main_arg1)) (m ((c : Thread nD τ).loc main_arg2)) (m ((c : Thread nD τ).loc main_arg3)), fun c => dzG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)), fun c => dbG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)),
    run_value m g, (θ_run _ _ _).mono (fun _ h c => ?_) (Cert.Reference10Ideal.Value.run m' g')⟩
  obtain ⟨e0, e1, e2, e3, e4, e5, e6⟩ := hargs c
  obtain ⟨h0, h1, h2, h3, h4⟩ := h c
  refine ⟨h0.trans ?_, h1.trans ?_, h2.trans ?_, h3.trans ?_, h4⟩
  · dsimp only; rw [← e0, ← e1, ← e2, ← e3]; exact Ref.dya_all _ _ _ _
  · dsimp only; rw [← e0, ← e1, ← e2, ← e3]; exact Ref.dyb_all _ _ _ _
  · dsimp only; rw [← e0, ← e1, ← e2, ← e3, ← e4, ← e5, ← e6]; exact Ref.dz_of _ _ _ _ _ _ _ _ (Ref.logit_all _ _ _ _ _ _ _ _ (Ref.dm_at _ _) (Ref.gate_ref _ _))
  · dsimp only; rw [← e0, ← e1, ← e2, ← e3, ← e4, ← e5]; exact Ref.db_of _ _ _ _ _ _ _ (Ref.logit_all _ _ _ _ _ _ _ _ (Ref.dm_at _ _) (Ref.gate_ref _ _))

end Cert.Proof.OutGate
-- ==== Proof.Chosen.lean ====
module

public import Idealize.ShloMosaic.Lib.Pipeline.FrameBody
public import Idealize.ShloMosaic.Lib.Tactic

@[expose] public section

noncomputable section

/-! A value chosen by a condition, one of the choices read from memory: both branches leave the memory as it was,
    so the program goes on once, from the chosen value. -/

namespace Cert.Proof.Chosen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name] {U : Type} [URA U] {Lvl : Type} [Preorder Lvl] {Λ : Labels}
variable {defs : Defs nD τ sig Val Λ} (𝒱 : Variants) (c : Thread nD τ) (bd : Option 𝒱.V) (E : Set Name)
variable {s : Shape} {e : EltTy} {cs : CoreSpace} {α β : Type} {Q : α → sProp (MT nD τ sig Ix Val Name U Lvl)}

/-- The value is `a` where the condition holds and the function of what is read where it does not. -/
theorem wp_chosen {C : Prop} [dec : Decidable C] (a : β) {m : Memref sig c.2.kind cs s e} {r : LoadRect s} {hl : m.view.LoadsAt r}
    (g : (r.shape.Idx → Val e) → β) (k : β → Prog (TpuEff nD τ sig Val Λ c.2) α)
    {S : Finset (Idx (m.view.loc c))} {q : PosShare TreeShare} {f : Buf Val (m.view.loc c)} (hS : m.view.setOn r.set ⊆ S) :
    (m.view.loc c ↦[S]{q} f : sProp (MT nD τ sig Ix Val Name U Lvl))
      ⊢ iprop(((m.view.loc c ↦[S]{q} f) -∗ wp frame (wpE defs 𝒱 c bd) E (k (if C then a else g (m.view.readAt Val r f))) Q)
        -∗ wp frame (wpE defs 𝒱 c bd) E (if C then (Pure.pure a : Prog (TpuEff nD τ sig Val Λ c.2) β) >>= k
          else (Prog.lift (.load m r hl) : Prog (TpuEff nD τ sig Val Λ c.2) _) >>= fun x => (Pure.pure (g x) : Prog (TpuEff nD τ sig Val Λ c.2) β) >>= k) Q) := by
  by_cases hc : C
  · rw [if_pos hc, if_pos hc]
    iintro H Hk
    iapply Hk $$ H
  · rw [if_neg hc, if_neg hc]
    iintro H Hk
    iapply (wp_load 𝒱 c bd E (hl := hl) (S := S) (q := q) hS) $$ H
    iintro H
    iapply Hk $$ H

end Cert.Proof.Chosen
end
-- ==== Proof.AdamOutRun.lean ====
module

public import proofs.«01_k».proof.Proof.Gen.Kernel15Ideal.Launch
public import proofs.«01_k».proof.Proof.Gen.Kernel15Ideal.Skeleton
public import proofs.«01_k».proof.Proof.Chosen
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

/-! The run of the optimiser's step on a weight's gradient, at any values: the launch, what the body leaves in each
    result's buffer at each point, and the final states. -/

namespace Cert.Kernel15Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.Chosen

variable {F : FTy → Type} [FloatOps F]

local notation "𝕄" => MT nD τ sig Unit (Elt F) ℕ (UR sig nD τ) ℕ

/-! ## The points -/

theorem flush0_5 (a : (pcfg0 (F := F)).Adm) : ∀ t : Fin (cfg0 a).N, ((cfg0 a).win 5).flush t = true :=
  (by decide +kernel : ∀ t : Fin grid0.N, Pipeline.Window.flushOf grid0 true cc0_transform_5 t = true)
theorem flush0_6 (a : (pcfg0 (F := F)).Adm) : ∀ t : Fin (cfg0 a).N, ((cfg0 a).win 6).flush t = true :=
  (by decide +kernel : ∀ t : Fin grid0.N, Pipeline.Window.flushOf grid0 true cc0_transform_6 t = true)
theorem flush0_7 (a : (pcfg0 (F := F)).Adm) : ∀ t : Fin (cfg0 a).N, ((cfg0 a).win 7).flush t = true :=
  (by decide +kernel : ∀ t : Fin grid0.N, Pipeline.Window.flushOf grid0 true cc0_transform_7 t = true)
theorem flush0_8 (a : (pcfg0 (F := F)).Adm) : ∀ t : Fin (cfg0 a).N, ((cfg0 a).win 8).flush t = true :=
  (by decide +kernel : ∀ t : Fin grid0.N, Pipeline.Window.flushOf grid0 true cc0_transform_8 t = true)

abbrev bodyAt0 (a : (pcfg0 (F := F)).Adm) (t : Fin (cfg0 a).N) : Prog (TpuEff nD τ sig (Elt F) Λ₀ .tc) PUnit :=
  cc0_adam_w_out (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8))

variable (m : (ℓ : Loc nD τ sig) → Buf (Elt F) ℓ) (ρ : Dev nD → PrngReg)

/-! ## @main up to the region -/

abbrev V (c : Dev nD) (b : Ref sig .tc) : Buf (Elt F) ((c : Thread nD τ).loc b) := m ((c : Thread nD τ).loc b)

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl

/-! ## The prefetched tables, read off the launch memory -/

def tbl : pre0.Contents (Elt F) := fun j => V m (0 : Dev nD) (pre0.ref j)
theorem V_pre (c : Dev nD) (j : Fin 1) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbM0_0 : Memref sig .tc .smem S1 .i32 := Memref.whole main_arg0
abbrev htbM0_0 : tbM0_0.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (by decide : main_arg0 ∈ Pipeline.restRefs sig spec0)).trans (V_main_arg0 m c),
      ((h c).1 0).trans (((dats 0 c).arrAt_in 0 rfl _).trans ((hA c 0).trans (V_main_arg1 m c))),
      ((h c).1 1).trans (((dats 0 c).arrAt_in 1 rfl _).trans ((hA c 1).trans (V_main_arg2 m c))),
      ((h c).1 2).trans (((dats 0 c).arrAt_in 2 rfl _).trans ((hA c 2).trans (V_main_arg3 m c))),
      ((h c).1 3).trans (((dats 0 c).arrAt_in 3 rfl _).trans ((hA c 3).trans (V_main_arg4 m c))),
      ((h c).1 4).trans (((dats 0 c).arrAt_in 4 rfl _).trans ((hA c 4).trans (V_main_arg5 m c)))⟩) h

/-! ## The kernel body on any staging memrefs: a subtype the run finds -/

abbrev VO0_5 : View sig .tc .vmem S128x1024 .f32 := (Memref.whole cc0_stg5_0 : Memref sig .tc .vmem S128x1024 .f32).view
abbrev VO0_6 : View sig .tc .vmem S128x1024 .f32 := (Memref.whole cc0_stg6_0 : Memref sig .tc .vmem S128x1024 .f32).view
abbrev VO0_7 : View sig .tc .vmem S128x1024 .f32 := (Memref.whole cc0_stg7_0 : Memref sig .tc .vmem S128x1024 .f32).view
abbrev VO0_8 : View sig .tc .vmem S128x1024 .f32 := (Memref.whole cc0_stg8_0 : Memref sig .tc .vmem S128x1024 .f32).view
abbrev ms0_0 (hO : Ok m) (t : Fin (cfgM m hO).N) : Memref sig .tc .vmem S8x128x1024 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x128x1024 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S128x1024 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S128x1024 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S128x1024 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S128x1024 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S128x1024 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S128x1024 .f32 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S128x1024 .f32 := spec0_8.stage ((cfgM m hO).slots t 8)
abbrev hs0_8 (hO : Ok m) (t : Fin (cfgM m hO).N) : (ms0_8 m hO t).IsWhole := hstage0_8 (((cfgM m hO).slots t 8).cast nbuf0_8)

section

variable (c : Dev nD) (i : grid0.Coords) (arg2 : Memref sig .tc .vmem S8x128x1024 .bf16) (harg2 : arg2.IsWhole) (arg3 : Memref sig .tc .vmem S1x128x1024 .bf16) (harg3 : arg3.IsWhole) (arg4 : Memref sig .tc .vmem S128x1024 .f32) (harg4 : arg4.IsWhole) (arg5 : Memref sig .tc .vmem S128x1024 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S128x1024 .f32) (harg10 : arg10.IsWhole)
  (x0 : Vec F S8x128x1024 .bf16) (x1 : Vec F S1x128x1024 .bf16) (x2 : Vec F S128x1024 .f32) (x3 : Vec F S128x1024 .f32) (x4 : Vec F S128x1024 .f32) (xt0 : TbBuf0 (F := F) c tbM0_0)

set_option maxHeartbeats 1000000 in
/-- What the body leaves in each result's buffer, as the pieces stored, with the run that leaves them: a share is chosen
    eight times, the device's own or the one read from its slot. -/
noncomputable def kernelRun0_A :
    Σ' (L5 : List (View.Piece (Elt F) S128x1024 .f32)), Σ' (L6 : List (View.Piece (Elt F) S128x1024 .f32)), Σ' (L7 : List (View.Piece (Elt F) S128x1024 .f32)), { L8 : List (View.Piece (Elt F) S128x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ tbPt0 c tbM0_0 xt0) -∗ K ⟨⟩))
          ⊢ wp frame (wpE (defs₀ (F := F)) Variants.none c none) E (cc0_adam_w_out i tbM0_0 htbM0_0 arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0_adam_w_out_eq_skeleton]; unfold cc0_adam_w_out_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, HT0, Hk⟩
    obtain rfl := harg2.eq_unread hf0; obtain rfl := harg3.eq_unread hf1; obtain rfl := harg4.eq_unread hf2; obtain rfl := harg5.eq_unread hf3; obtain rfl := harg6.eq_unread hf4
    sl_exec
    iapply (wp_chosen Variants.none (c : Thread nD τ) none E _ _ _ (View.setOn_subset_set _ _)) $$ H0
    iintro H0
    sl_exec
    iapply (wp_chosen Variants.none (c : Thread nD τ) none E _ _ _ (View.setOn_subset_set _ _)) $$ H0
    iintro H0
    sl_exec
    iapply (wp_chosen Variants.none (c : Thread nD τ) none E _ _ _ (View.setOn_subset_set _ _)) $$ H0
    iintro H0
    sl_exec
    iapply (wp_chosen Variants.none (c : Thread nD τ) none E _ _ _ (View.setOn_subset_set _ _)) $$ H0
    iintro H0
    sl_exec
    iapply (wp_chosen Variants.none (c : Thread nD τ) none E _ _ _ (View.setOn_subset_set _ _)) $$ H0
    iintro H0
    sl_exec
    iapply (wp_chosen Variants.none (c : Thread nD τ) none E _ _ _ (View.setOn_subset_set _ _)) $$ H0
    iintro H0
    sl_exec
    iapply (wp_chosen Variants.none (c : Thread nD τ) none E _ _ _ (View.setOn_subset_set _ _)) $$ H0
    iintro H0
    sl_exec
    iapply (wp_chosen Variants.none (c : Thread nD τ) none E _ _ _ (View.setOn_subset_set _ _)) $$ H0
    iintro H0
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    isplitl [H8]; · iexists _; iexact H8
    iexact HT0

theorem cover0_A_5  (y : S128x1024.Idx) :
    ∃ pc ∈ (kernelRun0_A c i arg2 harg2 arg3 harg3 arg4 harg4 arg5 harg5 arg6 harg6 arg7 harg7 arg8 harg8 arg9 harg9 arg10 harg10 x0 x1 x2 x3 x4 xt0).1, y ∈ pc.1.set :=
  View.cover_of_tiledL (kernelRun0_A c i arg2 harg2 arg3 harg3 arg4 harg4 arg5 harg5 arg6 harg6 arg7 harg7 arg8 harg8 arg9 harg9 arg10 harg10 x0 x1 x2 x3 x4 xt0).1 S128x1024.size (by sl_kernel_rfl) y

def out0_A_5 : Vec F S128x1024 .f32 :=
  VO0_5.read (Elt F) (VO0_5.writes (Elt F) VO0_5.junk (kernelRun0_A c i arg2 harg2 arg3 harg3 arg4 harg4 arg5 harg5 arg6 harg6 arg7 harg7 arg8 harg8 arg9 harg9 arg10 harg10 x0 x1 x2 x3 x4 xt0).1)

theorem cover0_A_6  (y : S128x1024.Idx) :
    ∃ pc ∈ (kernelRun0_A c i arg2 harg2 arg3 harg3 arg4 harg4 arg5 harg5 arg6 harg6 arg7 harg7 arg8 harg8 arg9 harg9 arg10 harg10 x0 x1 x2 x3 x4 xt0).2.1, y ∈ pc.1.set :=
  View.cover_of_tiledL (kernelRun0_A c i arg2 harg2 arg3 harg3 arg4 harg4 arg5 harg5 arg6 harg6 arg7 harg7 arg8 harg8 arg9 harg9 arg10 harg10 x0 x1 x2 x3 x4 xt0).2.1 S128x1024.size (by sl_kernel_rfl) y

def out0_A_6 : Vec F S128x1024 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 x0 x1 x2 x3 x4 xt0).2.1)

theorem cover0_A_7  (y : S128x1024.Idx) :
    ∃ pc ∈ (kernelRun0_A c i arg2 harg2 arg3 harg3 arg4 harg4 arg5 harg5 arg6 harg6 arg7 harg7 arg8 harg8 arg9 harg9 arg10 harg10 x0 x1 x2 x3 x4 xt0).2.2.1, y ∈ pc.1.set :=
  View.cover_of_tiledL (kernelRun0_A c i arg2 harg2 arg3 harg3 arg4 harg4 arg5 harg5 arg6 harg6 arg7 harg7 arg8 harg8 arg9 harg9 arg10 harg10 x0 x1 x2 x3 x4 xt0).2.2.1 S128x1024.size (by sl_kernel_rfl) y

def out0_A_7 : Vec F S128x1024 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 x0 x1 x2 x3 x4 xt0).2.2.1)

theorem cover0_A_8  (y : S128x1024.Idx) :
    ∃ pc ∈ (kernelRun0_A c i arg2 harg2 arg3 harg3 arg4 harg4 arg5 harg5 arg6 harg6 arg7 harg7 arg8 harg8 arg9 harg9 arg10 harg10 x0 x1 x2 x3 x4 xt0).2.2.2.1, y ∈ pc.1.set :=
  View.cover_of_tiledL (kernelRun0_A c i arg2 harg2 arg3 harg3 arg4 harg4 arg5 harg5 arg6 harg6 arg7 harg7 arg8 harg8 arg9 harg9 arg10 harg10 x0 x1 x2 x3 x4 xt0).2.2.2.1 S128x1024.size (by sl_kernel_rfl) y

def out0_A_8 : Vec F S128x1024 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 x0 x1 x2 x3 x4 xt0).2.2.2.1)

end

/-! ## What the outputs hold after each point -/

def outsAt0 (hO : Ok m) (c : Dev nD) (t : Fin (cfgM m hO).N) : Vec F S128x1024 .f32 × Vec F S128x1024 .f32 × Vec F S128x1024 .f32 × Vec F S128x1024 .f32 :=
  (out0_A_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0), out0_A_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0), out0_A_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0), out0_A_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0))

/-! ## The pipeline's proof data -/

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => (outsAt0 m hO c t).1
    | ⟨6, _⟩ => (outsAt0 m hO c t).2.1
    | ⟨7, _⟩ => (outsAt0 m hO c t).2.2.1
    | ⟨8, _⟩ => (outsAt0 m hO c t).2.2.2
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = (outsAt0 m hO c t).1 := by dsimp only [dats]; try rfl
theorem after0_6 (hO : Ok m) (c : Dev nD) (t : Fin (cfgM m hO).N) : (dats m hO 0 c).after 6 t = (outsAt0 m hO c t).2.1 := by dsimp only [dats]; try rfl
theorem after0_7 (hO : Ok m) (c : Dev nD) (t : Fin (cfgM m hO).N) : (dats m hO 0 c).after 7 t = (outsAt0 m hO c t).2.2.1 := by dsimp only [dats]; try rfl
theorem after0_8 (hO : Ok m) (c : Dev nD) (t : Fin (cfgM m hO).N) : (dats m hO 0 c).after 8 t = (outsAt0 m hO c t).2.2.2 := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

/-! ## The body obligation, at a generic point -/

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t))

set_option maxHeartbeats 800000 in
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7, after0_8]
  rw [show (dats m hO 0 c).Φ t.castSucc = iprop(Pipeline.ΦA spec0 c ∗ Pipeline.ΦT pre0 (tbl m) c) from rfl, PhiT0_eq]
  unfold outsAt0
  unfold out0_A_5 out0_A_6 out0_A_7 out0_A_8; (try dsimp only)
  iintro ⟨⟨HΦ, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_A c (grid0.coords t) _ _ _ _ _ _ _ _ _ _ _ _ _ _ _ _ _ _ (iblk m hO c 0 t) (iblk m hO c 1 t) (iblk m hO c 2 t) (iblk m hO c 3 t) (iblk m hO c 4 t) (tbl m 0)).2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [HT0]; · iexact HT0
  iintro ⟨H0, H1, H2, H3, H4, ⟨%e5, H5⟩, ⟨%e6, H6⟩, ⟨%e7, H7⟩, ⟨%e8, H8⟩, HT0⟩
  isplitl [HΦ HT0]
  · isplitl [HΦ]
    · iexact HΦ
    iexact HT0
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover0_A_5 c _ _ _ _ _ _ _ _ _ _ _ _ _ _ _ _ _ _ _ _ _ _ _ _ _)
  isplitl [H6]
  · unfold owns; iexists _; isplitr
    swap; · iexact H6
    ipureintro; exact View.read_writes_of_cover _ _ _ _ _ (cover0_A_6 c _ _ _ _ _ _ _ _ _ _ _ _ _ _ _ _ _ _ _ _ _ _ _ _ _)
  isplitl [H7]
  · unfold owns; iexists _; isplitr
    swap; · iexact H7
    ipureintro; exact View.read_writes_of_cover _ _ _ _ _ (cover0_A_7 c _ _ _ _ _ _ _ _ _ _ _ _ _ _ _ _ _ _ _ _ _ _ _ _ _)
  unfold owns; iexists _; isplitr
  swap; · iexact H8
  ipureintro; exact View.read_writes_of_cover _ _ _ _ _ (cover0_A_8 c _ _ _ _ _ _ _ _ _ _ _ _ _ _ _ _ _ _ _ _ _ _ _ _ _)

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run and the frame -/

set_option backward.isDefEq.respectTransparency.types false in
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (dats m hO) (A_eq m hO) (run_main m ρ hO)

theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO) ((θ_run defs _ _).mono (fun _ h => h.2) (run_main_quiescent m ρ hO))

end Cert.Kernel15Ideal.Gen

end
-- ==== Proof.AdamStep.lean ====
module

public import Idealize.ShloMosaic.Lib.Pointwise
public import Idealize.ShloMosaic.Lib.WordCmp
public import Idealize.ShloMosaic.Lib.Tactic

@[expose] public section

noncomputable section

/-!
  The optimiser's step on one entry of a weight: the eight shares of the gradient summed, the device's own among
  them, and the two moments and the change of the weight from the sum.
-/

namespace Cert.Proof.AdamStep

open Idealize.ShloMosaic

/-- The kernel's question whether the device is the `s`-th. -/
abbrev asked (w s : BitVec 32) : BitVec 1 := Scalar.cmpi .ne (Scalar.extui (Scalar.cmpi .eq w s) : BitVec 32) 0#32

/-- The share of device `s`: the own one `o` where `w` is `s`, else the one landed in the slot. -/
def pick (w : BitVec 32) (s : Fin 8) (o x : EReal) : EReal := Scalar.select (IntOp.cmpi .eq (BitVec.ofNat 32 s.val) w) o x

/-- The eight shares summed. -/
def total (w : BitVec 32) (o x : Fin 8 → EReal) : EReal := ∑ s : Fin 8, pick w s (o s) (x s)

/-- The new first moment, the new second moment and the change of the weight. -/
def mom (g m : EReal) : EReal := Ideal.ofBits .f32 0x3F666666#32 * m + Ideal.ofBits .f32 0x3DCCCCCD#32 * g
def sec (g v : EReal) : EReal := Ideal.ofBits .f32 0x3F7FBE77#32 * v + Ideal.ofBits .f32 0x3A83126F#32 * (g * g)
def change (g w m v : EReal) : EReal :=
  Ideal.ofBits .f32 0xBA83126F#32 * (Ideal.div (Ideal.div (mom g m) (Ideal.ofBits .f32 0x3F26BD02#32)) (Ideal.sqrt (Ideal.div (sec g v) (Ideal.ofBits .f32 0x3C231ACC#32)) + Ideal.ofBits .f32 0x322BCC77#32) + Ideal.ofBits .f32 0x3C23D70A#32 * w)

theorem change_congr {g g' w w' m m' v v' : EReal} (hg : g = g') (hw : w = w') (hm : m = m') (hv : v = v') : change g w m v = change g' w' m' v' := by
  rw [hg, hw, hm, hv]

theorem asked_iff (w s : BitVec 32) : asked w s = 1#1 ↔ w = s := by
  by_cases h : w = s
  · subst h
    simp [asked, Scalar.cmpi, Scalar.extui, IntOp.cmpi]
  · have h' : (w == s) = false := by simpa using h
    simp [asked, Scalar.cmpi, Scalar.extui, IntOp.cmpi, h, h']

theorem pick_eq (w : BitVec 32) (s : Fin 8) (o x : EReal) : pick w s o x = if w = BitVec.ofNat 32 s.val then o else x := by
  unfold pick
  rw [WordCmp.cmpi_eq_eq]
  by_cases h : w = BitVec.ofNat 32 s.val
  · subst h; simp [Scalar.select]
  · rw [if_neg h, decide_eq_false (fun e => h e.symm)]; rfl

theorem choose {ι : Type} (w : BitVec 32) (s : Fin 8) (A B : ι → EReal) (j : ι) :
    (if asked w (BitVec.ofNat 32 s.val) = 1#1 then A else B) j = pick w s (A j) (B j) := by
  rw [pick_eq]
  by_cases h : w = BitVec.ofNat 32 s.val
  · rw [if_pos ((asked_iff _ _).2 h), if_pos h]
  · rw [if_neg (fun e => h ((asked_iff _ _).1 e)), if_neg h]

/-- Only the own share of the device itself is asked for. -/
theorem total_own (w : BitVec 32) (k : Fin 8) (hk : w.toNat = k.val) (o x : Fin 8 → EReal) : total w (fun _ => o k) x = total w o x := by
  unfold total
  refine Finset.sum_congr rfl fun s _ => ?_
  rw [pick_eq, pick_eq]
  by_cases h : w = BitVec.ofNat 32 s.val
  · rw [if_pos h, if_pos h]
    have : k = s := Fin.ext (by rw [← hk, h, BitVec.toNat_ofNat]; have := s.isLt; omega)
    rw [this]
  · rw [if_neg h, if_neg h]

/-- A word at least zero and under eight, both signed, is one of the eight places. -/
theorem place_lt (w : BitVec 32) (h : (IntOp.cmpi .sge w 0#32 &&& IntOp.cmpi .slt w 8#32) = 1#1) : w.toNat < 8 := by
  rw [WordCmp.cmpi_sge_eq, WordCmp.cmpi_slt_eq] at h
  have h0 : (0 : Int) ≤ w.toInt ∧ w.toInt < 8 := by
    by_cases a : (0#32 : BitVec 32).toInt ≤ w.toInt
    · by_cases b : w.toInt < (8#32 : BitVec 32).toInt
      · exact ⟨a, b⟩
      · rw [decide_eq_false b] at h; simp at h
    · rw [decide_eq_false a] at h; simp at h
  have := BitVec.toInt_eq_toNat_cond w
  have := w.isLt
  split at * <;> omega

theorem hz2 : (![0, 0] : Fin 2 → Nat) = fun _ => 0 := funext fun a => by fin_cases a <;> rfl
theorem hz3 : (![0, 0, 0] : Fin 3 → Nat) = fun _ => 0 := funext fun a => by fin_cases a <;> rfl

/-! ## Whole arrays -/

/-- The gradient of a weight whose rows are sharded, and of one kept transposed. -/
def grad {n d : Nat} (w : BitVec 32) (sl own : FVec Ideal ⟨3, ![8, n, d]⟩ .bf16) : FVec Ideal ⟨2, ![n, d]⟩ .f32 := fun i =>
  total w (fun s => own (ix3 s (i 0) (i 1))) (fun s => sl (ix3 s (i 0) (i 1)))
def gradT {n d : Nat} (w : BitVec 32) (sl own : FVec Ideal ⟨3, ![8, n, d]⟩ .bf16) : FVec Ideal ⟨2, ![d, n]⟩ .f32 := fun i =>
  total w (fun s => own (ix3 s (i 1) (i 0))) (fun s => sl (ix3 s (i 1) (i 0)))

/-- The change of the weight and the two new moments, entry by entry. -/
def changeA {S : Shape} (g x m v : FVec Ideal S .f32) : FVec Ideal S .f32 := fun i => change (g i) (x i) (m i) (v i)
def momA {S : Shape} (g m : FVec Ideal S .f32) : FVec Ideal S .f32 := fun i => mom (g i) (m i)
def secA {S : Shape} (g v : FVec Ideal S .f32) : FVec Ideal S .f32 := fun i => sec (g i) (v i)

section Ref
variable {S S₀ : Shape} {b : Fin S₀.rank → Fin S.rank} (h : S₀.BroadcastsInDim S b)

theorem ref_mom (g x4 : FVec Ideal S .f32) :
    (addf (mulf (broadcastInDim S b h (constant S₀ .f32 0x3F666666#32)) x4) (mulf (broadcastInDim S b h (constant S₀ .f32 0x3DCCCCCD#32)) g) : FVec Ideal S .f32) = momA g x4 := by
  funext j
  pointwise [momA, mom]

theorem ref_sec (g x5 : FVec Ideal S .f32) :
    (addf (mulf (broadcastInDim S b h (constant S₀ .f32 0x3F7FBE77#32)) x5) (mulf (broadcastInDim S b h (constant S₀ .f32 0x3A83126F#32)) (mulf g g)) : FVec Ideal S .f32) = secA g x5 := by
  funext j
  pointwise [secA, sec]

theorem ref_change (g x3 x4 x5 : FVec Ideal S .f32) :
    (mulf (broadcastInDim S b h (constant S₀ .f32 0xBA83126F#32)) (addf (Host.divf (Host.divf (addf (mulf (broadcastInDim S b h (constant S₀ .f32 0x3F666666#32)) x4) (mulf (broadcastInDim S b h (constant S₀ .f32 0x3DCCCCCD#32)) g)) (broadcastInDim S b h (constant S₀ .f32 0x3F26BD02#32))) (addf (Host.sqrt (Host.divf (addf (mulf (broadcastInDim S b h (constant S₀ .f32 0x3F7FBE77#32)) x5) (mulf (broadcastInDim S b h (constant S₀ .f32 0x3A83126F#32)) (mulf g g))) (broadcastInDim S b h (constant S₀ .f32 0x3C231ACC#32)))) (broadcastInDim S b h (constant S₀ .f32 0x322BCC77#32)))) (mulf (broadcastInDim S b h (constant S₀ .f32 0x3C23D70A#32)) x3)) : FVec Ideal S .f32) = changeA g x3 x4 x5 := by
  funext j
  pointwise [changeA, change, mom, sec]

end Ref

/-- The sum over the devices of the shares landed in the slots, the own share in the device's own slot. -/
theorem ref_grad {n d : Nat} (h3 : (⟨3, ![8, 1, 1]⟩ : Shape).BroadcastsInDim ⟨3, ![8, n, d]⟩ ![0, 1, 2]) (h1 : (⟨1, ![8]⟩ : Shape).BroadcastsInDim ⟨3, ![8, 1, 1]⟩ ![0])
    (h0 : (⟨0, ![]⟩ : Shape).BroadcastsInDim ⟨1, ![8]⟩ ![]) (hs) (hb) (hr : (⟨3, ![8, n, d]⟩ : Shape).ReducesTo [0] ⟨2, ![n, d]⟩) (hz) (x0 : IVec ⟨1, ![1]⟩ 32) (x1 x2 : FVec Ideal ⟨3, ![8, n, d]⟩ .bf16) :
    (Host.reduceAdd (extf .f32 (select (broadcastInDim ⟨3, ![8, n, d]⟩ ![0, 1, 2] h3 (broadcastInDim ⟨3, ![8, 1, 1]⟩ ![0] h1 (cmpi .eq (iotaInDim ⟨1, ![8]⟩ 32 0) (broadcastInDim ⟨1, ![8]⟩ ![] h0 (shapeCast ⟨0, ![]⟩ x0 hs))))) x2 x1 : FVec Ideal ⟨3, ![8, n, d]⟩ .bf16) hb) (constant ⟨0, ![]⟩ .f32 0x00000000#32) hr hz : FVec Ideal ⟨2, ![n, d]⟩ .f32) = grad (x0 (ix1 0)) x1 x2 := by
  funext j
  obtain ⟨r, l, rfl⟩ : ∃ r l, j = ix2 r l := ⟨j 0, j 1, by funext a; match a with | ⟨0, _⟩ => rfl | ⟨1, _⟩ => rfl⟩
  show _ = total (x0 (ix1 0)) (fun s => x2 (ix3 s r l)) (fun s => x1 (ix3 s r l))
  pointwise [total, pick]

theorem ref_gradT {n d : Nat} {w : BitVec 32} {sl own : FVec Ideal ⟨3, ![8, n, d]⟩ .bf16} {g : FVec Ideal ⟨2, ![n, d]⟩ .f32} (hg : g = grad w sl own) (h) : (transpose ⟨2, ![d, n]⟩ [1, 0] g h : FVec Ideal ⟨2, ![d, n]⟩ .f32) = gradT w sl own := by
  subst hg
  funext j
  obtain ⟨r, l, rfl⟩ : ∃ r l, j = ix2 r l := ⟨j 0, j 1, by funext a; match a with | ⟨0, _⟩ => rfl | ⟨1, _⟩ => rfl⟩
  unfold transpose
  refine (congrArg (grad w sl own) ?_ : _ = grad w sl own (ix2 l r))
  funext a
  match a with
  | ⟨0, _⟩ => rfl
  | ⟨1, _⟩ => rfl

/-! ## The shares in a block of rows -/

section Block
variable {n d : Nat}

theorem inb_slot (s : Fin 8) : ∀ a, (![s.val, 0, 0] : Fin 3 → Nat) a + (⟨3, ![1, n, d]⟩ : Shape).size a ≤ (⟨3, ![8, n, d]⟩ : Shape).size a := fun a => by
  match a with
  | ⟨0, _⟩ => show s.val + 1 ≤ 8; omega
  | ⟨1, _⟩ => show 0 + n ≤ n; omega
  | ⟨2, _⟩ => show 0 + d ≤ d; omega

variable (cast : Vec Ideal ⟨3, ![1, n, d]⟩ .bf16 → FVec Ideal ⟨2, ![n, d]⟩ .bf16)

/-- The share of device `s` as the body chooses it, from the place's word, the slots' block and the own block; `cast`
    drops the leading axis of a block. -/
def share (w : BitVec 32) (x0 : Vec Ideal ⟨3, ![8, n, d]⟩ .bf16) (x1 : Vec Ideal ⟨3, ![1, n, d]⟩ .bf16) (s : Fin 8) : FVec Ideal ⟨2, ![n, d]⟩ .bf16 :=
  if asked w (BitVec.ofNat 32 s.val) = 1#1 then cast x1
  else cast (View.ld x0 (Rect.unit (s := ⟨3, ![8, n, d]⟩) ![s.val, 0, 0] ![1, n, d] (inb_slot s)))

theorem share_apply (hc : ∀ x (r : Fin n) (l : Fin d), cast x (ix2 r l) = x (ix3 0 r l)) (w : BitVec 32) (x0 : Vec Ideal ⟨3, ![8, n, d]⟩ .bf16) (x1 : Vec Ideal ⟨3, ![1, n, d]⟩ .bf16) (s : Fin 8) (r : Fin n) (l : Fin d) :
    share cast w x0 x1 s (ix2 r l) = pick w s (x1 (ix3 0 r l)) (x0 (ix3 s r l)) := by
  refine (choose w s _ _ (ix2 r l)).trans (congrArg₂ (pick w s) (hc x1 r l) ((hc _ r l).trans ?_))
  unfold View.ld
  congr 1
  funext a
  apply Fin.ext
  match a with
  | ⟨0, _⟩ => show s.val + 1 * 0 = s.val; omega
  | ⟨1, _⟩ => show 0 + 1 * r.val = r.val; omega
  | ⟨2, _⟩ => show 0 + 1 * l.val = l.val; omega

/-- The shares summed at an entry of a block: the total at the entry of the arrays the block was read from. -/
theorem total_share (hc : ∀ x (r : Fin n) (l : Fin d), cast x (ix2 r l) = x (ix3 0 r l)) {N : Nat} (w : BitVec 32) (k : Fin 8) (hk : w.toNat = k.val)
    (sl own : FVec Ideal ⟨3, ![8, N, d]⟩ .bf16) (x0 : Vec Ideal ⟨3, ![8, n, d]⟩ .bf16) (x1 : Vec Ideal ⟨3, ![1, n, d]⟩ .bf16) (r : Fin n) (p : Fin N) (l : Fin d) (h0 : ∀ s, x0 (ix3 s r l) = sl (ix3 s p l)) (h1 : x1 (ix3 0 r l) = own (ix3 k p l)) :
    ∑ s : Fin 8, share cast w x0 x1 s (ix2 r l) = total w (fun s => own (ix3 s p l)) (fun s => sl (ix3 s p l)) := by
  refine Eq.trans (Finset.sum_congr rfl fun s _ => (share_apply cast hc w x0 x1 s r l).trans (congrArg₂ (pick w s) h1 (h0 s))) ?_
  exact total_own w k hk (fun s => own (ix3 s p l)) _

end Block

end Cert.Proof.AdamStep

end
-- ==== Proof.AdamOut.lean ====
module

public import proofs.«01_k».proof.Proof.AdamOutRun
public import proofs.«01_k».proof.Proof.AdamStep
public import proofs.«01_k».proof.Proof.Gen.Kernel15
public import proofs.«01_k».proof.Proof.Gen.Reference15Ideal.Run
public import proofs.«01_k».proof.Proof.Gen.Pre_on_mesh15
public import proofs.«01_k».proof.Defs
public import Idealize.ShloMosaic.Lib.Pipeline.Value
public import Idealize.ShloMosaic.Lib.Pointwise

@[expose] public section

set_option maxRecDepth 16384

noncomputable section

/-!
  The optimiser's step on the square weights: the call.
-/

namespace Cert.Proof.AdamOut

open Idealize.ShloMosaic Idealize.ShloMosaic.TcCoe Idealize.SL.Sem
open Idealize.ShloMosaic.Pipeline (Dat)
open Cert.Kernel15Ideal Cert.Kernel15Ideal.Gen
open Cert.Proof.AdamStep

/-! ## The device's place: one of eight -/

section Place
variable {F : FTy → Type} [FloatOps F]

/-- A table whose word is one of the eight places admits every block the own share is read from. -/
theorem ok_of_place (pf : pre0.Contents (Elt F)) (h : (pf.at 0 (Rect.unit (s := S1) ![0] S1.size inb_S1_S1_0) numel1_S1 : BitVec 32).toNat < 8) : ok0 pf := by
  intro i
  refine ⟨fun a => ?_, .inr (Affine.block_words_dvd (of_decide_eq_true rfl) (by decide))⟩
  match a with
  | ⟨0, _⟩ => show ((pf.at 0 (Rect.unit (s := S1) ![0] S1.size inb_S1_S1_0) numel1_S1 : BitVec 32).toNat + 1) * 1 ≤ 8; omega
  | ⟨1, _⟩ => exact hinb0_0 i 1
  | ⟨2, _⟩ => exact hinb0_0 i 2

theorem word_tbl (m : (ℓ : Loc nD τ sig) → Buf (Elt F) ℓ) (c : Dev nD) :
    ((tbl m).at 0 (Rect.unit (s := S1) ![0] S1.size inb_S1_S1_0) numel1_S1 : BitVec 32) = (m ((c : Thread nD τ).loc main_arg0) : Vec F S1 .i32) (ix1 0) := by
  obtain rfl : c = 0 := Subsingleton.elim _ _
  show (m (((0 : Dev nD) : Thread nD τ).loc main_arg0) : Vec F S1 .i32) _ = _
  congr 1
  funext a
  match a with
  | ⟨0, _⟩ => rfl

theorem lt_of_pre (me : IVec S1 32) (x1 x2 : FVec F S8x128x1024 .bf16) (x3 x4 x5 : FVec F S128x1024 .f32)
    (h : Cert.Pre_on_mesh15.fn me x1 x2 x3 x4 x5 = fun _ => 1#1) : (me (ix1 0)).toNat < 8 :=
  place_lt _ (congrFun h (ix1 0))

theorem ok_of_lt (m : (ℓ : Loc nD τ sig) → Buf (Elt F) ℓ) (h : ((m ((((0 : Dev nD)) : Thread nD τ).loc main_arg0) : Vec F S1 .i32) (ix1 0) : BitVec 32).toNat < 8) : Ok m :=
  ok_of_place (tbl m) (by rw [word_tbl m 0]; exact h)

end Place

/-! ## One block -/

/-- The eight shares as the body chooses them. -/
abbrev shares (w : BitVec 32) (x0 : Vec Ideal S8x128x1024 .bf16) (x1 : Vec Ideal S1x128x1024 .bf16) : Fin 8 → FVec Ideal S128x1024 .bf16 := share k0_pay2 w x0 x1

/-- The blocks of the results, from the shares: the gradient, the change of the weight, the two moments. -/
abbrev first5 (v : Fin 8 → FVec Ideal S128x1024 .bf16) : FVec Ideal S128x1024 .f32 := k0_pay8 (v 0) (v 1) (v 2) (v 3) (v 4)
def gB (v : Fin 8 → FVec Ideal S128x1024 .bf16) : FVec Ideal S128x1024 .f32 := k0_pay12 (first5 v) (v 5) (v 6) (v 7)
def changeB (v : Fin 8 → FVec Ideal S128x1024 .bf16) (x2 x3 x4 : Vec Ideal S128x1024 .f32) : FVec Ideal S128x1024 .f32 := k0_pay1 x2 (k0_pay15 (first5 v) (v 5) (v 6) (v 7) x3 x4)
def momB (v : Fin 8 → FVec Ideal S128x1024 .bf16) (x3 : Vec Ideal S128x1024 .f32) : FVec Ideal S128x1024 .f32 := k0_pay13 (first5 v) (v 5) (v 6) (v 7) x3
def secB (v : Fin 8 → FVec Ideal S128x1024 .bf16) (x4 : Vec Ideal S128x1024 .f32) : FVec Ideal S128x1024 .f32 := k0_pay14 (first5 v) (v 5) (v 6) (v 7) x4

theorem own_apply (x : Vec Ideal S1x128x1024 .bf16) (r : Fin 128) (l : Fin 1024) : k0_pay2 x (ix2 r l) = x (ix3 0 r l) := by
  pointwise [k0_pay2]

theorem gB_apply (v : Fin 8 → FVec Ideal S128x1024 .bf16) (r : Fin 128) (l : Fin 1024) : gB v (ix2 r l) = ∑ s : Fin 8, v s (ix2 r l) := by
  rw [Fin.sum_univ_eight]
  pointwise [gB, k0_pay12, k0_pay8]

theorem momB_eq (v : Fin 8 → FVec Ideal S128x1024 .bf16) (x3 : Vec Ideal S128x1024 .f32) : momB v x3 = momA (gB v) x3 := rfl
theorem secB_eq (v : Fin 8 → FVec Ideal S128x1024 .bf16) (x4 : Vec Ideal S128x1024 .f32) : secB v x4 = secA (gB v) x4 := rfl
theorem changeB_eq (v : Fin 8 → FVec Ideal S128x1024 .bf16) (x2 x3 x4 : Vec Ideal S128x1024 .f32) : changeB v x2 x3 x4 = changeA (gB v) x2 x3 x4 := rfl

/-- The word the body reads off the table. -/
def word {c : Dev nD} (xt0 : TbBuf0 (F := Ideal) c tbM0_0) : BitVec 32 :=
  View.readAt (Elt Ideal) tbM0_0.view (Rect.unit ![0] S1.size inb_S1_S1_0).toLoadRect xt0 (Shape.Idx.first (by decide))

set_option maxHeartbeats 1000000 in
/-- What the body leaves in the results' buffers. -/
theorem outs (c : Dev nD) (i a2 h2 a3 h3 a4 h4 a5 h5 a6 h6 a7 h7 a8 h8 a9 h9 a10 h10 x0 x1 x2 x3 x4 xt0) :
    (out0_A_5 (F := Ideal) c i a2 h2 a3 h3 a4 h4 a5 h5 a6 h6 a7 h7 a8 h8 a9 h9 a10 h10 x0 x1 x2 x3 x4 xt0, out0_A_6 (F := Ideal) c i a2 h2 a3 h3 a4 h4 a5 h5 a6 h6 a7 h7 a8 h8 a9 h9 a10 h10 x0 x1 x2 x3 x4 xt0, out0_A_7 (F := Ideal) c i a2 h2 a3 h3 a4 h4 a5 h5 a6 h6 a7 h7 a8 h8 a9 h9 a10 h10 x0 x1 x2 x3 x4 xt0, out0_A_8 (F := Ideal) c i a2 h2 a3 h3 a4 h4 a5 h5 a6 h6 a7 h7 a8 h8 a9 h9 a10 h10 x0 x1 x2 x3 x4 xt0)
      = (gB (shares (word xt0) x0 x1), changeB (shares (word xt0) x0 x1) x2 x3 x4, momB (shares (word xt0) x0 x1) x3, secB (shares (word xt0) x0 x1) x4) := by
  unfold out0_A_5 out0_A_6 out0_A_7 out0_A_8
  rw [View.read_writes_eq_canon _ _ _ (cover0_A_5 c i a2 h2 a3 h3 a4 h4 a5 h5 a6 h6 a7 h7 a8 h8 a9 h9 a10 h10 x0 x1 x2 x3 x4 xt0), View.read_writes_eq_canon _ _ _ (cover0_A_6 c i a2 h2 a3 h3 a4 h4 a5 h5 a6 h6 a7 h7 a8 h8 a9 h9 a10 h10 x0 x1 x2 x3 x4 xt0),
    View.read_writes_eq_canon _ _ _ (cover0_A_7 c i a2 h2 a3 h3 a4 h4 a5 h5 a6 h6 a7 h7 a8 h8 a9 h9 a10 h10 x0 x1 x2 x3 x4 xt0), View.read_writes_eq_canon _ _ _ (cover0_A_8 c i a2 h2 a3 h3 a4 h4 a5 h5 a6 h6 a7 h7 a8 h8 a9 h9 a10 h10 x0 x1 x2 x3 x4 xt0)]
  refine Prod.ext ?_ (Prod.ext ?_ (Prod.ext ?_ ?_))
  all_goals
    unfold kernelRun0_A
    dsimp only
    sl_unfold_words
    rw [View.canon_unit_zero hz2]
    simp only [View.readAt_eq_ld, h2.read_unread, h3.read_unread, h4.read_unread, h5.read_unread, h6.read_unread, View.ld_unit_zero (S := S1x128x1024) hz3, View.ld_unit_zero (S := S128x1024) hz2]
    rfl

/-! ## The blocks -/

theorem idx0 : ∀ t : Fin grid0.N, cc0_transform_0 (grid0.coords t) 0 = 0 ∧ cc0_transform_0 (grid0.coords t) 1 = t.val ∧ cc0_transform_0 (grid0.coords t) 2 = 0 := by decide +kernel
theorem coord : ∀ t : Fin grid0.N, (BitVec.ofNat 32 (grid0.coords t 0).val).toNat = t.val := by decide +kernel
theorem idx : ∀ t : Fin grid0.N, cc0_transform_2 (grid0.coords t) 0 = t.val ∧ cc0_transform_2 (grid0.coords t) 1 = 0 := by decide +kernel

/-- The row of the arrays that a block's row is, and the entry that a block's entry is. -/
def row (t : Fin grid0.N) (r : Fin 128) : Fin 128 := ⟨128 * t.val + r.val, by have : t.val < 1 := t.isLt; omega⟩
def place (t : Fin grid0.N) (j : S128x1024.Idx) : S128x1024.Idx := ix2 (row t (j 0)) (j 1)

/-- One account of the weight's, the moments' and the results' windows: all move along the rows alike. -/
theorem at_place (t : Fin grid0.N) (j : S128x1024.Idx) (i : S128x1024.Idx) (h0 : (i 0).val = cc0_transform_2 (grid0.coords t) 0 * 128 + 1 * (j 0).val) (h1 : (i 1).val = cc0_transform_2 (grid0.coords t) 1 * 1024 + 1 * (j 1).val) : i = place t j := by
  obtain ⟨e0, e1⟩ := idx t
  funext a
  apply Fin.ext
  match a with
  | ⟨0, _⟩ => show (i 0).val = 128 * t.val + (j 0).val; rw [h0, e0]; omega
  | ⟨1, _⟩ => show (i 1).val = (j 1).val; rw [h1, e1]; omega

theorem covered (i : S128x1024.Idx) : ∃ t : Fin grid0.N, ∀ a, cc0_transform_2 (grid0.coords t) a * S128x1024.size a ≤ (i a : Nat) ∧ (i a : Nat) < cc0_transform_2 (grid0.coords t) a * S128x1024.size a + S128x1024.size a := by
  have hi : (i 0 : Nat) < 128 := (i 0).isLt
  have hl : (i 1 : Nat) < 1024 := (i 1).isLt
  have hN : (i 0).val / 128 < grid0.N := by show _ < 1; omega
  obtain ⟨h0, h1⟩ := idx ⟨_, hN⟩
  refine ⟨⟨_, hN⟩, fun a => ?_⟩
  match a with
  | ⟨0, _⟩ => show cc0_transform_2 (grid0.coords ⟨_, hN⟩) 0 * 128 ≤ (i 0 : Nat) ∧ (i 0 : Nat) < cc0_transform_2 (grid0.coords ⟨_, hN⟩) 0 * 128 + 128; rw [h0]; dsimp only; omega
  | ⟨1, _⟩ => show cc0_transform_2 (grid0.coords ⟨_, hN⟩) 1 * 1024 ≤ (i 1 : Nat) ∧ (i 1 : Nat) < cc0_transform_2 (grid0.coords ⟨_, hN⟩) 1 * 1024 + 1024; rw [h1]; omega

variable (m : (ℓ : Loc nD τ sig) → Buf (Elt Ideal) ℓ) (ρ : Dev nD → PrngReg)

/-- The device's place and the arrays the call reads. -/
abbrev meA (c : Dev nD) : Vec Ideal S1 .i32 := m ((c : Thread nD τ).loc main_arg0)
abbrev slotsA (c : Dev nD) : Vec Ideal S8x128x1024 .bf16 := m ((c : Thread nD τ).loc main_arg1)
abbrev ownA (c : Dev nD) : Vec Ideal S8x128x1024 .bf16 := m ((c : Thread nD τ).loc main_arg2)
abbrev wA (c : Dev nD) : Vec Ideal S128x1024 .f32 := m ((c : Thread nD τ).loc main_arg3)
abbrev mA (c : Dev nD) : Vec Ideal S128x1024 .f32 := m ((c : Thread nD τ).loc main_arg4)
abbrev vA (c : Dev nD) : Vec Ideal S128x1024 .f32 := m ((c : Thread nD τ).loc main_arg5)

/-- The windows' blocks at a point and the table, at their shapes. -/
def b0 (hO : Ok m) (c : Dev nD) (t : Fin grid0.N) : Vec Ideal S8x128x1024 .bf16 := iblk m hO c 0 t
def b1 (hO : Ok m) (c : Dev nD) (t : Fin grid0.N) : Vec Ideal S1x128x1024 .bf16 := iblk m hO c 1 t
def b2 (hO : Ok m) (c : Dev nD) (t : Fin grid0.N) : Vec Ideal S128x1024 .f32 := iblk m hO c 2 t
def b3 (hO : Ok m) (c : Dev nD) (t : Fin grid0.N) : Vec Ideal S128x1024 .f32 := iblk m hO c 3 t
def b4 (hO : Ok m) (c : Dev nD) (t : Fin grid0.N) : Vec Ideal S128x1024 .f32 := iblk m hO c 4 t
def tb (c : Dev nD) : TbBuf0 (F := Ideal) c tbM0_0 := tbl m 0

theorem blk0 (hO : Ok m) (c : Dev nD) (t : Fin grid0.N) (s : Fin 8) (r : Fin 128) (l : Fin 1024) :
    b0 m hO c t (ix3 s r l) = slotsA m c (ix3 s (row t r) l) := by
  obtain ⟨h0, h1, h2⟩ := idx0 t
  have e : (((cfgM m hO).win 0).blk t).view.emb (ix3 s r l) = ix3 s (row t r) l := by
    funext a
    apply Fin.ext
    match a with
    | ⟨0, _⟩ => show cc0_transform_0 (grid0.coords t) 0 * 8 + 1 * s.val = s.val; rw [h0]; omega
    | ⟨1, _⟩ => show cc0_transform_0 (grid0.coords t) 1 * 128 + 1 * r.val = 128 * t.val + r.val; rw [h1]; omega
    | ⟨2, _⟩ => show cc0_transform_0 (grid0.coords t) 2 * 1024 + 1 * l.val = l.val; rw [h2]; omega
  exact (congrArg (slotsA m c) e)

theorem blk1 (hO : Ok m) (c : Dev nD) (hp : (meA m c (ix1 0) : BitVec 32).toNat < 8) (t : Fin grid0.N) (r : Fin 128) (l : Fin 1024) :
    b1 m hO c t (ix3 0 r l) = ownA m c (ix3 ⟨(meA m c (ix1 0) : BitVec 32).toNat, hp⟩ (row t r) l) := by
  have h1 := coord t
  have e : (((cfgM m hO).win 1).blk t).view.emb (ix3 0 r l) = ix3 (⟨(meA m c (ix1 0) : BitVec 32).toNat, hp⟩ : Fin 8) (row t r) l := by
    funext a
    apply Fin.ext
    match a with
    | ⟨0, _⟩ => show ((tbl m).at 0 (Rect.unit (s := S1) ![0] S1.size inb_S1_S1_0) numel1_S1 : BitVec 32).toNat * 1 + 1 * 0 = (meA m c (ix1 0) : BitVec 32).toNat; rw [Nat.mul_one, Nat.mul_zero, Nat.add_zero]; exact congrArg BitVec.toNat (word_tbl m c)
    | ⟨1, _⟩ => show (BitVec.ofNat 32 (grid0.coords t 0).val).toNat * 128 + 1 * r.val = 128 * t.val + r.val; rw [h1]; omega
    | ⟨2, _⟩ => show 0 * 1024 + 1 * l.val = l.val; omega
  exact (congrArg (ownA m c) e)

theorem blk2 (hO : Ok m) (c : Dev nD) (t : Fin grid0.N) : b2 m hO c t = fun j => wA m c (place t j) := funext fun j => congrArg (wA m c) (at_place t j _ rfl rfl)
theorem blk3 (hO : Ok m) (c : Dev nD) (t : Fin grid0.N) : b3 m hO c t = fun j => mA m c (place t j) := funext fun j => congrArg (mA m c) (at_place t j _ rfl rfl)
theorem blk4 (hO : Ok m) (c : Dev nD) (t : Fin grid0.N) : b4 m hO c t = fun j => vA m c (place t j) := funext fun j => congrArg (vA m c) (at_place t j _ rfl rfl)

theorem word_eq (c : Dev nD) : word (tb m c) = meA m c (ix1 0) := by
  refine Eq.trans ?_ (word_tbl m c)
  rfl

/-! ## The arrays -/

/-- The gradient, the change of the weight and the two new moments, of the arrays the call reads. -/
abbrev gA (c : Dev nD) : Vec Ideal S128x1024 .f32 := grad (meA m c (ix1 0)) (slotsA m c) (ownA m c)
abbrev dA (c : Dev nD) : Vec Ideal S128x1024 .f32 := changeA (gA m c) (wA m c) (mA m c) (vA m c)
abbrev nmA (c : Dev nD) : Vec Ideal S128x1024 .f32 := momA (gA m c) (mA m c)
abbrev nvA (c : Dev nD) : Vec Ideal S128x1024 .f32 := secA (gA m c) (vA m c)

abbrev sh (hO : Ok m) (c : Dev nD) (t : Fin grid0.N) : Fin 8 → FVec Ideal S128x1024 .bf16 := shares (word (tb m c)) (b0 m hO c t) (b1 m hO c t)

/-- The gradient's block at a point. -/
theorem grad_blk (hO : Ok m) (c : Dev nD) (hp : (meA m c (ix1 0) : BitVec 32).toNat < 8) (t : Fin grid0.N) : gB (sh m hO c t) = fun j => gA m c (place t j) := by
  funext j
  obtain ⟨r, l, rfl⟩ : ∃ (r : Fin 128) (l : Fin 1024), j = ix2 r l := ⟨j 0, j 1, by funext a; match a with | ⟨0, _⟩ => rfl | ⟨1, _⟩ => rfl⟩
  refine (gB_apply _ r l).trans ?_
  rw [sh, word_eq]
  exact total_share k0_pay2 own_apply _ ⟨_, hp⟩ rfl (slotsA m c) (ownA m c) _ _ r (row t r) l (fun s => blk0 m hO c t s r l) (blk1 m hO c hp t r l)

theorem outs_at (hO : Ok m) (c : Dev nD) (t : Fin (cfgM m hO).N) :
    outsAt0 m hO c t = (gB (sh m hO c t), changeB (sh m hO c t) (b2 m hO c t) (b3 m hO c t) (b4 m hO c t), momB (sh m hO c t) (b3 m hO c t), secB (sh m hO c t) (b4 m hO c t)) :=
  outs c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0)

/-- What a point leaves in the results' buffers: the arrays' entries at the point's place. -/
theorem outs_place (hO : Ok m) (c : Dev nD) (hp : (meA m c (ix1 0) : BitVec 32).toNat < 8) (t : Fin (cfgM m hO).N) :
    outsAt0 m hO c t = ((fun j => gA m c (place t j)), (fun j => dA m c (place t j)), (fun j => nmA m c (place t j)), (fun j => nvA m c (place t j))) := by
  refine (outs_at m hO c t).trans ?_
  rw [changeB_eq, momB_eq, secB_eq, grad_blk m hO c hp t, blk2, blk3, blk4]
  rfl

theorem final5 (hO : Ok m) (c : Dev nD) (hp : (meA m c (ix1 0) : BitVec 32).toNat < 8) : (dats m hO 0 c).arrAt 5 (cfgM m hO).N = gA m c :=
  (dats m hO 0 c).arrAt_eq_of_cover 5 _ (fun t _ => by
    have e := outs_place m hO c hp t
    exact (after0_5 m hO c t).trans ((congrArg Prod.fst e).trans (funext fun (j : S128x1024.Idx) => congrArg (gA m c) (at_place t j _ rfl rfl).symm))) fun (i : S128x1024.Idx) => by
    obtain ⟨t, ht⟩ := covered i
    exact ⟨t, flush0_5 _ _, (Finset.ext_iff.mp (View.set_slice_whole main_v0_0 (((cfgM m hO).win 5).rect t)) i).mpr (Rect.mem_set_unit.mpr ht)⟩

theorem final6 (hO : Ok m) (c : Dev nD) (hp : (meA m c (ix1 0) : BitVec 32).toNat < 8) : (dats m hO 0 c).arrAt 6 (cfgM m hO).N = dA m c :=
  (dats m hO 0 c).arrAt_eq_of_cover 6 _ (fun t _ => by
    have e := outs_place m hO c hp t
    exact (after0_6 m hO c t).trans ((congrArg (fun p => p.2.1) e).trans (funext fun (j : S128x1024.Idx) => congrArg (dA m c) (at_place t j _ rfl rfl).symm))) fun (i : S128x1024.Idx) => by
    obtain ⟨t, ht⟩ := covered i
    exact ⟨t, flush0_6 _ _, (Finset.ext_iff.mp (View.set_slice_whole main_v0_1 (((cfgM m hO).win 6).rect t)) i).mpr (Rect.mem_set_unit.mpr ht)⟩

theorem final7 (hO : Ok m) (c : Dev nD) (hp : (meA m c (ix1 0) : BitVec 32).toNat < 8) : (dats m hO 0 c).arrAt 7 (cfgM m hO).N = nmA m c :=
  (dats m hO 0 c).arrAt_eq_of_cover 7 _ (fun t _ => by
    have e := outs_place m hO c hp t
    exact (after0_7 m hO c t).trans ((congrArg (fun p => p.2.2.1) e).trans (funext fun (j : S128x1024.Idx) => congrArg (nmA m c) (at_place t j _ rfl rfl).symm))) fun (i : S128x1024.Idx) => by
    obtain ⟨t, ht⟩ := covered i
    exact ⟨t, flush0_7 _ _, (Finset.ext_iff.mp (View.set_slice_whole main_v0_2 (((cfgM m hO).win 7).rect t)) i).mpr (Rect.mem_set_unit.mpr ht)⟩

theorem final8 (hO : Ok m) (c : Dev nD) (hp : (meA m c (ix1 0) : BitVec 32).toNat < 8) : (dats m hO 0 c).arrAt 8 (cfgM m hO).N = nvA m c :=
  (dats m hO 0 c).arrAt_eq_of_cover 8 _ (fun t _ => by
    have e := outs_place m hO c hp t
    exact (after0_8 m hO c t).trans ((congrArg (fun p => p.2.2.2) e).trans (funext fun (j : S128x1024.Idx) => congrArg (nvA m c) (at_place t j _ rfl rfl).symm))) fun (i : S128x1024.Idx) => by
    obtain ⟨t, ht⟩ := covered i
    exact ⟨t, flush0_8 _ _, (Finset.ext_iff.mp (View.set_slice_whole main_v0_3 (((cfgM m hO).win 8).rect t)) i).mpr (Rect.mem_set_unit.mpr ht)⟩

theorem run_value (hO : Ok m) (hp : ∀ c, (meA m c (ix1 0) : BitVec 32).toNat < 8) :
    θ_run defs (onTc (τ := τ) (main (F := Ideal))) ⟨m, fun _ => 0, ρ⟩ (fun r => ∀ c : Dev nD,
      r.2.mem ((c.tc : Thread nD τ).loc main_v0_0) = gA m c
      ∧ r.2.mem ((c.tc : Thread nD τ).loc main_v0_1) = dA m c
      ∧ r.2.mem ((c.tc : Thread nD τ).loc main_v0_2) = nmA m c
      ∧ r.2.mem ((c.tc : Thread nD τ).loc main_v0_3) = nvA m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h.1 c).1 5).trans (final5 m hO c (hp c)), ((h.1 c).1 6).trans (final6 m hO c (hp c)), ((h.1 c).1 7).trans (final7 m hO c (hp c)), ((h.1 c).1 8).trans (final8 m hO c (hp c)), h.2 c⟩)
    (θ_run_and (run_main m ρ hO) (unchanged m ρ hO))

/-! ## The claims -/

theorem body_text (i a1 h1 a2 h2 a3 h3 a4 h4 a5 h5 a6 h6 a7 h7 a8 h8 a9 h9 a10 h10) : Cert.Kernel15.cc0_adam_w_out (F := Bits) i a1 h1 a2 h2 a3 h3 a4 h4 a5 h5 a6 h6 a7 h7 a8 h8 a9 h9 a10 h10 = Cert.Kernel15Ideal.cc0_adam_w_out (F := Bits) i a1 h1 a2 h2 a3 h3 a4 h4 a5 h5 a6 h6 a7 h7 a8 h8 a9 h9 a10 h10 := rfl

theorem label_text : Cert.Kernel15.defs₀ (F := Bits) = Cert.Kernel15Ideal.defs₀ (F := Bits) := by
  unfold Cert.Kernel15.defs₀ Cert.Kernel15Ideal.defs₀
  refine congrArg (Defs.onTc (nD := nD) (τ := τ) (sig := sig) (Val := Elt Bits) (Λ := Λ₀)) ?_
  funext l x
  match l, x with
  | 0, (t, s) => exact body_text _ _ _ _ _ _ _ _ _ _ _ _ _ _ _ _ _ _ _ _ _
  | ⟨_ + 1, h⟩, _ => exact absurd h (Nat.not_lt.2 (Nat.le_add_left _ _))

/-- The two programs' body tables are one. -/
theorem defs_text : Cert.Kernel15.defs (F := Bits) = Cert.Kernel15Ideal.defs (F := Bits) :=
  congrArg (Pipeline.defs (Cert.Kernel15Ideal.pcfgs (F := Bits))) label_text

theorem at_table (D : Defs nD τ sig (Elt Bits) (Pipeline.Sig Λ₀ (Fin 1) fun p => (pcfgs (F := Bits) p).Adm)) (h : D = defs (F := Bits)) (s Q)
    (hr : θ_run (defs (F := Bits)) (onTc (τ := τ) (main (F := Bits))) s Q) : θ_run D (onTc (τ := τ) (main (F := Bits))) s Q := by
  subst h
  exact hr

theorem frame_bits : Cert.quiescent_Kernel15 := fun m ρ h =>
  at_table _ defs_text _ _ (Cert.Kernel15Ideal.Gen.frame (F := Bits) m ρ (ok_of_lt m (lt_of_pre _ _ _ _ _ _ (h 0))))

theorem frame_ideal : Cert.quiescent_Kernel15Ideal := fun m ρ h =>
  Cert.Kernel15Ideal.Gen.frame m ρ (ok_of_lt m (lt_of_pre _ _ _ _ _ _ (h 0)))

theorem claim15 : Cert.algebraic_Kernel15Ideal_Reference15Ideal := by
  intro m g m' g' hpre hargs
  have hO : Ok m := ok_of_lt m (lt_of_pre _ _ _ _ _ _ (hpre 0))
  have hp : ∀ c, (meA m c (ix1 0) : BitVec 32).toNat < 8 := fun c => lt_of_pre _ _ _ _ _ _ (hpre c)
  refine ⟨fun c => gA m c, fun c => dA m c, fun c => nmA m c, fun c => nvA m c,
    run_value m g hO hp, (θ_run _ _ _).mono (fun _ h c => ?_) (Cert.Reference15Ideal.Value.run m' g')⟩
  obtain ⟨e0, e1, e2, e3, e4, e5⟩ := hargs c
  obtain ⟨h0, h1, h2, h3, h4⟩ := h c
  refine ⟨h0.trans ?_, h1.trans ?_, h2.trans ?_, h3.trans ?_, h4⟩
  all_goals dsimp only
  · rw [e0, e1, e2]
    exact ref_grad _ _ _ _ _ _ _ _ _ _
  · rw [e0, e1, e2, e3, e4, e5]
    exact (ref_change _ _ _ _ _).trans (congrArg (fun g => changeA g (wA m c) (mA m c) (vA m c)) (ref_grad _ _ _ _ _ _ _ _ _ _))
  · rw [e0, e1, e2, e4]
    exact (ref_mom _ _ _).trans (congrArg (fun g => momA g (mA m c)) (ref_grad _ _ _ _ _ _ _ _ _ _))
  · rw [e0, e1, e2, e5]
    exact (ref_sec _ _ _).trans (congrArg (fun g => secA g (vA m c)) (ref_grad _ _ _ _ _ _ _ _ _ _))

end Cert.Proof.AdamOut

end
-- ==== Proof.AdamDownRun.lean ====
module

public import proofs.«01_k».proof.Proof.Gen.Kernel16Ideal.Launch
public import proofs.«01_k».proof.Proof.Gen.Kernel16Ideal.Skeleton
public import proofs.«01_k».proof.Proof.Chosen
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

/-! The run of the optimiser's step on a weight's gradient, at any values: the launch, what the body leaves in each
    result's buffer at each point, and the final states. -/

namespace Cert.Kernel16Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.Chosen

variable {F : FTy → Type} [FloatOps F]

local notation "𝕄" => MT nD τ sig Unit (Elt F) ℕ (UR sig nD τ) ℕ

/-! ## The points -/

theorem flush0_5 (a : (pcfg0 (F := F)).Adm) : ∀ t : Fin (cfg0 a).N, ((cfg0 a).win 5).flush t = true :=
  (fun t => (Pipeline.Window.flushOf_reads cc0_transform_5 reads0_5 hreads0_5 0 (by decide) (by decide) (Pipeline.Window.sep_of_coord cc0_transform_5 0 0 (fun _ => rfl) (by decide)) (P := 1) (m := 0) (by decide) rfl t).mpr (Nat.mod_one _) : ∀ t : Fin grid0.N, Pipeline.Window.flushOf grid0 true cc0_transform_5 t = true)
theorem flush0_6 (a : (pcfg0 (F := F)).Adm) : ∀ t : Fin (cfg0 a).N, ((cfg0 a).win 6).flush t = true :=
  (fun t => (Pipeline.Window.flushOf_reads cc0_transform_6 reads0_6 hreads0_6 0 (by decide) (by decide) (Pipeline.Window.sep_of_coord cc0_transform_6 0 0 (fun _ => rfl) (by decide)) (P := 1) (m := 0) (by decide) rfl t).mpr (Nat.mod_one _) : ∀ t : Fin grid0.N, Pipeline.Window.flushOf grid0 true cc0_transform_6 t = true)
theorem flush0_7 (a : (pcfg0 (F := F)).Adm) : ∀ t : Fin (cfg0 a).N, ((cfg0 a).win 7).flush t = true :=
  (fun t => (Pipeline.Window.flushOf_reads cc0_transform_7 reads0_7 hreads0_7 0 (by decide) (by decide) (Pipeline.Window.sep_of_coord cc0_transform_7 0 0 (fun _ => rfl) (by decide)) (P := 1) (m := 0) (by decide) rfl t).mpr (Nat.mod_one _) : ∀ t : Fin grid0.N, Pipeline.Window.flushOf grid0 true cc0_transform_7 t = true)
theorem flush0_8 (a : (pcfg0 (F := F)).Adm) : ∀ t : Fin (cfg0 a).N, ((cfg0 a).win 8).flush t = true :=
  (fun t => (Pipeline.Window.flushOf_reads cc0_transform_8 reads0_8 hreads0_8 0 (by decide) (by decide) (Pipeline.Window.sep_of_coord cc0_transform_8 0 0 (fun _ => rfl) (by decide)) (P := 1) (m := 0) (by decide) rfl t).mpr (Nat.mod_one _) : ∀ t : Fin grid0.N, Pipeline.Window.flushOf grid0 true cc0_transform_8 t = true)

abbrev bodyAt0 (a : (pcfg0 (F := F)).Adm) (t : Fin (cfg0 a).N) : Prog (TpuEff nD τ sig (Elt F) Λ₀ .tc) PUnit :=
  cc0_adam_w_down (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8))

variable (m : (ℓ : Loc nD τ sig) → Buf (Elt F) ℓ) (ρ : Dev nD → PrngReg)

/-! ## @main up to the region -/

abbrev V (c : Dev nD) (b : Ref sig .tc) : Buf (Elt F) ((c : Thread nD τ).loc b) := m ((c : Thread nD τ).loc b)

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl

/-! ## The prefetched tables, read off the launch memory -/

def tbl : pre0.Contents (Elt F) := fun j => V m (0 : Dev nD) (pre0.ref j)
theorem V_pre (c : Dev nD) (j : Fin 1) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbM0_0 : Memref sig .tc .smem S1 .i32 := Memref.whole main_arg0
abbrev htbM0_0 : tbM0_0.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (by decide : main_arg0 ∈ Pipeline.restRefs sig spec0)).trans (V_main_arg0 m c),
      ((h c).1 0).trans (((dats 0 c).arrAt_in 0 rfl _).trans ((hA c 0).trans (V_main_arg1 m c))),
      ((h c).1 1).trans (((dats 0 c).arrAt_in 1 rfl _).trans ((hA c 1).trans (V_main_arg2 m c))),
      ((h c).1 2).trans (((dats 0 c).arrAt_in 2 rfl _).trans ((hA c 2).trans (V_main_arg3 m c))),
      ((h c).1 3).trans (((dats 0 c).arrAt_in 3 rfl _).trans ((hA c 3).trans (V_main_arg4 m c))),
      ((h c).1 4).trans (((dats 0 c).arrAt_in 4 rfl _).trans ((hA c 4).trans (V_main_arg5 m c)))⟩) h

/-! ## The kernel body on any staging memrefs: a subtype the run finds -/

abbrev VO0_5 : View sig .tc .vmem S176x1024 .f32 := (Memref.whole cc0_stg5_0 : Memref sig .tc .vmem S176x1024 .f32).view
abbrev VO0_6 : View sig .tc .vmem S176x1024 .f32 := (Memref.whole cc0_stg6_0 : Memref sig .tc .vmem S176x1024 .f32).view
abbrev VO0_7 : View sig .tc .vmem S176x1024 .f32 := (Memref.whole cc0_stg7_0 : Memref sig .tc .vmem S176x1024 .f32).view
abbrev VO0_8 : View sig .tc .vmem S176x1024 .f32 := (Memref.whole cc0_stg8_0 : Memref sig .tc .vmem S176x1024 .f32).view
abbrev ms0_0 (hO : Ok m) (t : Fin (cfgM m hO).N) : Memref sig .tc .vmem S8x176x1024 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x176x1024 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S176x1024 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S176x1024 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S176x1024 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S176x1024 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S176x1024 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S176x1024 .f32 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S176x1024 .f32 := spec0_8.stage ((cfgM m hO).slots t 8)
abbrev hs0_8 (hO : Ok m) (t : Fin (cfgM m hO).N) : (ms0_8 m hO t).IsWhole := hstage0_8 (((cfgM m hO).slots t 8).cast nbuf0_8)

section

variable (c : Dev nD) (i : grid0.Coords) (arg2 : Memref sig .tc .vmem S8x176x1024 .bf16) (harg2 : arg2.IsWhole) (arg3 : Memref sig .tc .vmem S1x176x1024 .bf16) (harg3 : arg3.IsWhole) (arg4 : Memref sig .tc .vmem S176x1024 .f32) (harg4 : arg4.IsWhole) (arg5 : Memref sig .tc .vmem S176x1024 .f32) (harg5 : arg5.IsWhole) (arg6 : Memref sig .tc .vmem S176x1024 .f32) (harg6 : arg6.IsWhole) (arg7 : Memref sig .tc .vmem S176x1024 .f32) (harg7 : arg7.IsWhole) (arg8 : Memref sig .tc .vmem S176x1024 .f32) (harg8 : arg8.IsWhole) (arg9 : Memref sig .tc .vmem S176x1024 .f32) (harg9 : arg9.IsWhole) (arg10 : Memref sig .tc .vmem S176x1024 .f32) (harg10 : arg10.IsWhole)
  (x0 : Vec F S8x176x1024 .bf16) (x1 : Vec F S1x176x1024 .bf16) (x2 : Vec F S176x1024 .f32) (x3 : Vec F S176x1024 .f32) (x4 : Vec F S176x1024 .f32) (xt0 : TbBuf0 (F := F) c tbM0_0)

set_option maxHeartbeats 1000000 in
/-- What the body leaves in each result's buffer, as the pieces stored, with the run that leaves them: a share is chosen
    eight times, the device's own or the one read from its slot. -/
noncomputable def kernelRun0_A :
    Σ' (L5 : List (View.Piece (Elt F) S176x1024 .f32)), Σ' (L6 : List (View.Piece (Elt F) S176x1024 .f32)), Σ' (L7 : List (View.Piece (Elt F) S176x1024 .f32)), { L8 : List (View.Piece (Elt F) S176x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ tbPt0 c tbM0_0 xt0) -∗ K ⟨⟩))
          ⊢ wp frame (wpE (defs₀ (F := F)) Variants.none c none) E (cc0_adam_w_down i tbM0_0 htbM0_0 arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0_adam_w_down_eq_skeleton]; unfold cc0_adam_w_down_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, HT0, Hk⟩
    obtain rfl := harg2.eq_unread hf0; obtain rfl := harg3.eq_unread hf1; obtain rfl := harg4.eq_unread hf2; obtain rfl := harg5.eq_unread hf3; obtain rfl := harg6.eq_unread hf4
    sl_exec
    iapply (wp_chosen Variants.none (c : Thread nD τ) none E _ _ _ (View.setOn_subset_set _ _)) $$ H0
    iintro H0
    sl_exec
    iapply (wp_chosen Variants.none (c : Thread nD τ) none E _ _ _ (View.setOn_subset_set _ _)) $$ H0
    iintro H0
    sl_exec
    iapply (wp_chosen Variants.none (c : Thread nD τ) none E _ _ _ (View.setOn_subset_set _ _)) $$ H0
    iintro H0
    sl_exec
    iapply (wp_chosen Variants.none (c : Thread nD τ) none E _ _ _ (View.setOn_subset_set _ _)) $$ H0
    iintro H0
    sl_exec
    iapply (wp_chosen Variants.none (c : Thread nD τ) none E _ _ _ (View.setOn_subset_set _ _)) $$ H0
    iintro H0
    sl_exec
    iapply (wp_chosen Variants.none (c : Thread nD τ) none E _ _ _ (View.setOn_subset_set _ _)) $$ H0
    iintro H0
    sl_exec
    iapply (wp_chosen Variants.none (c : Thread nD τ) none E _ _ _ (View.setOn_subset_set _ _)) $$ H0
    iintro H0
    sl_exec
    iapply (wp_chosen Variants.none (c : Thread nD τ) none E _ _ _ (View.setOn_subset_set _ _)) $$ H0
    iintro H0
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    isplitl [H8]; · iexists _; iexact H8
    iexact HT0

theorem cover0_A_5  (y : S176x1024.Idx) :
    ∃ pc ∈ (kernelRun0_A c i arg2 harg2 arg3 harg3 arg4 harg4 arg5 harg5 arg6 harg6 arg7 harg7 arg8 harg8 arg9 harg9 arg10 harg10 x0 x1 x2 x3 x4 xt0).1, y ∈ pc.1.set :=
  View.cover_of_tiledL (kernelRun0_A c i arg2 harg2 arg3 harg3 arg4 harg4 arg5 harg5 arg6 harg6 arg7 harg7 arg8 harg8 arg9 harg9 arg10 harg10 x0 x1 x2 x3 x4 xt0).1 S176x1024.size (by sl_kernel_rfl) y

def out0_A_5 : Vec F S176x1024 .f32 :=
  VO0_5.read (Elt F) (VO0_5.writes (Elt F) VO0_5.junk (kernelRun0_A c i arg2 harg2 arg3 harg3 arg4 harg4 arg5 harg5 arg6 harg6 arg7 harg7 arg8 harg8 arg9 harg9 arg10 harg10 x0 x1 x2 x3 x4 xt0).1)

theorem cover0_A_6  (y : S176x1024.Idx) :
    ∃ pc ∈ (kernelRun0_A c i arg2 harg2 arg3 harg3 arg4 harg4 arg5 harg5 arg6 harg6 arg7 harg7 arg8 harg8 arg9 harg9 arg10 harg10 x0 x1 x2 x3 x4 xt0).2.1, y ∈ pc.1.set :=
  View.cover_of_tiledL (kernelRun0_A c i arg2 harg2 arg3 harg3 arg4 harg4 arg5 harg5 arg6 harg6 arg7 harg7 arg8 harg8 arg9 harg9 arg10 harg10 x0 x1 x2 x3 x4 xt0).2.1 S176x1024.size (by sl_kernel_rfl) y

def out0_A_6 : Vec F S176x1024 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 x0 x1 x2 x3 x4 xt0).2.1)

theorem cover0_A_7  (y : S176x1024.Idx) :
    ∃ pc ∈ (kernelRun0_A c i arg2 harg2 arg3 harg3 arg4 harg4 arg5 harg5 arg6 harg6 arg7 harg7 arg8 harg8 arg9 harg9 arg10 harg10 x0 x1 x2 x3 x4 xt0).2.2.1, y ∈ pc.1.set :=
  View.cover_of_tiledL (kernelRun0_A c i arg2 harg2 arg3 harg3 arg4 harg4 arg5 harg5 arg6 harg6 arg7 harg7 arg8 harg8 arg9 harg9 arg10 harg10 x0 x1 x2 x3 x4 xt0).2.2.1 S176x1024.size (by sl_kernel_rfl) y

def out0_A_7 : Vec F S176x1024 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 x0 x1 x2 x3 x4 xt0).2.2.1)

theorem cover0_A_8  (y : S176x1024.Idx) :
    ∃ pc ∈ (kernelRun0_A c i arg2 harg2 arg3 harg3 arg4 harg4 arg5 harg5 arg6 harg6 arg7 harg7 arg8 harg8 arg9 harg9 arg10 harg10 x0 x1 x2 x3 x4 xt0).2.2.2.1, y ∈ pc.1.set :=
  View.cover_of_tiledL (kernelRun0_A c i arg2 harg2 arg3 harg3 arg4 harg4 arg5 harg5 arg6 harg6 arg7 harg7 arg8 harg8 arg9 harg9 arg10 harg10 x0 x1 x2 x3 x4 xt0).2.2.2.1 S176x1024.size (by sl_kernel_rfl) y

def out0_A_8 : Vec F S176x1024 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 x0 x1 x2 x3 x4 xt0).2.2.2.1)

end

/-! ## What the outputs hold after each point -/

def outsAt0 (hO : Ok m) (c : Dev nD) (t : Fin (cfgM m hO).N) : Vec F S176x1024 .f32 × Vec F S176x1024 .f32 × Vec F S176x1024 .f32 × Vec F S176x1024 .f32 :=
  (out0_A_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0), out0_A_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0), out0_A_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0), out0_A_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0))

/-! ## The pipeline's proof data -/

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => (outsAt0 m hO c t).1
    | ⟨6, _⟩ => (outsAt0 m hO c t).2.1
    | ⟨7, _⟩ => (outsAt0 m hO c t).2.2.1
    | ⟨8, _⟩ => (outsAt0 m hO c t).2.2.2
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = (outsAt0 m hO c t).1 := by dsimp only [dats]; try rfl
theorem after0_6 (hO : Ok m) (c : Dev nD) (t : Fin (cfgM m hO).N) : (dats m hO 0 c).after 6 t = (outsAt0 m hO c t).2.1 := by dsimp only [dats]; try rfl
theorem after0_7 (hO : Ok m) (c : Dev nD) (t : Fin (cfgM m hO).N) : (dats m hO 0 c).after 7 t = (outsAt0 m hO c t).2.2.1 := by dsimp only [dats]; try rfl
theorem after0_8 (hO : Ok m) (c : Dev nD) (t : Fin (cfgM m hO).N) : (dats m hO 0 c).after 8 t = (outsAt0 m hO c t).2.2.2 := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

/-! ## The body obligation, at a generic point -/

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t))

set_option maxHeartbeats 800000 in
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7, after0_8]
  rw [show (dats m hO 0 c).Φ t.castSucc = iprop(Pipeline.ΦA spec0 c ∗ Pipeline.ΦT pre0 (tbl m) c) from rfl, PhiT0_eq]
  unfold outsAt0
  unfold out0_A_5 out0_A_6 out0_A_7 out0_A_8; (try dsimp only)
  iintro ⟨⟨HΦ, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_A c (grid0.coords t) _ _ _ _ _ _ _ _ _ _ _ _ _ _ _ _ _ _ (iblk m hO c 0 t) (iblk m hO c 1 t) (iblk m hO c 2 t) (iblk m hO c 3 t) (iblk m hO c 4 t) (tbl m 0)).2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [HT0]; · iexact HT0
  iintro ⟨H0, H1, H2, H3, H4, ⟨%e5, H5⟩, ⟨%e6, H6⟩, ⟨%e7, H7⟩, ⟨%e8, H8⟩, HT0⟩
  isplitl [HΦ HT0]
  · isplitl [HΦ]
    · iexact HΦ
    iexact HT0
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover0_A_5 c _ _ _ _ _ _ _ _ _ _ _ _ _ _ _ _ _ _ _ _ _ _ _ _ _)
  isplitl [H6]
  · unfold owns; iexists _; isplitr
    swap; · iexact H6
    ipureintro; exact View.read_writes_of_cover _ _ _ _ _ (cover0_A_6 c _ _ _ _ _ _ _ _ _ _ _ _ _ _ _ _ _ _ _ _ _ _ _ _ _)
  isplitl [H7]
  · unfold owns; iexists _; isplitr
    swap; · iexact H7
    ipureintro; exact View.read_writes_of_cover _ _ _ _ _ (cover0_A_7 c _ _ _ _ _ _ _ _ _ _ _ _ _ _ _ _ _ _ _ _ _ _ _ _ _)
  unfold owns; iexists _; isplitr
  swap; · iexact H8
  ipureintro; exact View.read_writes_of_cover _ _ _ _ _ (cover0_A_8 c _ _ _ _ _ _ _ _ _ _ _ _ _ _ _ _ _ _ _ _ _ _ _ _ _)

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run and the frame -/

set_option backward.isDefEq.respectTransparency.types false in
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (dats m hO) (A_eq m hO) (run_main m ρ hO)

theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO) ((θ_run defs _ _).mono (fun _ h => h.2) (run_main_quiescent m ρ hO))

end Cert.Kernel16Ideal.Gen

end
-- ==== Proof.AdamDown.lean ====
module

public import proofs.«01_k».proof.Proof.AdamDownRun
public import proofs.«01_k».proof.Proof.AdamStep
public import proofs.«01_k».proof.Proof.Gen.Kernel16
public import proofs.«01_k».proof.Proof.Gen.Reference16Ideal.Run
public import proofs.«01_k».proof.Proof.Gen.Pre_on_mesh16
public import proofs.«01_k».proof.Defs
public import Idealize.ShloMosaic.Lib.Pipeline.Value
public import Idealize.ShloMosaic.Lib.Pointwise

@[expose] public section

set_option maxRecDepth 16384

noncomputable section

/-!
  The optimiser's step on the weight from the inner width: the call.
-/

namespace Cert.Proof.AdamDown

open Idealize.ShloMosaic Idealize.ShloMosaic.TcCoe Idealize.SL.Sem
open Idealize.ShloMosaic.Pipeline (Dat)
open Cert.Kernel16Ideal Cert.Kernel16Ideal.Gen
open Cert.Proof.AdamStep

/-! ## The device's place: one of eight -/

section Place
variable {F : FTy → Type} [FloatOps F]

/-- A table whose word is one of the eight places admits every block the own share is read from. -/
theorem ok_of_place (pf : pre0.Contents (Elt F)) (h : (pf.at 0 (Rect.unit (s := S1) ![0] S1.size inb_S1_S1_0) numel1_S1 : BitVec 32).toNat < 8) : ok0 pf := by
  intro i
  refine ⟨fun a => ?_, .inr (Affine.block_words_dvd (of_decide_eq_true rfl) (by decide))⟩
  match a with
  | ⟨0, _⟩ => show ((pf.at 0 (Rect.unit (s := S1) ![0] S1.size inb_S1_S1_0) numel1_S1 : BitVec 32).toNat + 1) * 1 ≤ 8; omega
  | ⟨1, _⟩ => exact hinb0_0 i 1
  | ⟨2, _⟩ => exact hinb0_0 i 2

theorem word_tbl (m : (ℓ : Loc nD τ sig) → Buf (Elt F) ℓ) (c : Dev nD) :
    ((tbl m).at 0 (Rect.unit (s := S1) ![0] S1.size inb_S1_S1_0) numel1_S1 : BitVec 32) = (m ((c : Thread nD τ).loc main_arg0) : Vec F S1 .i32) (ix1 0) := by
  obtain rfl : c = 0 := Subsingleton.elim _ _
  show (m (((0 : Dev nD) : Thread nD τ).loc main_arg0) : Vec F S1 .i32) _ = _
  congr 1
  funext a
  match a with
  | ⟨0, _⟩ => rfl

theorem lt_of_pre (me : IVec S1 32) (x1 x2 : FVec F S8x352x1024 .bf16) (x3 x4 x5 : FVec F S352x1024 .f32)
    (h : Cert.Pre_on_mesh16.fn me x1 x2 x3 x4 x5 = fun _ => 1#1) : (me (ix1 0)).toNat < 8 :=
  place_lt _ (congrFun h (ix1 0))

theorem ok_of_lt (m : (ℓ : Loc nD τ sig) → Buf (Elt F) ℓ) (h : ((m ((((0 : Dev nD)) : Thread nD τ).loc main_arg0) : Vec F S1 .i32) (ix1 0) : BitVec 32).toNat < 8) : Ok m :=
  ok_of_place (tbl m) (by rw [word_tbl m 0]; exact h)

end Place

/-! ## One block -/

/-- The eight shares as the body chooses them. -/
abbrev shares (w : BitVec 32) (x0 : Vec Ideal S8x176x1024 .bf16) (x1 : Vec Ideal S1x176x1024 .bf16) : Fin 8 → FVec Ideal S176x1024 .bf16 := share k0_pay2 w x0 x1

/-- The blocks of the results, from the shares: the gradient, the change of the weight, the two moments. -/
abbrev first5 (v : Fin 8 → FVec Ideal S176x1024 .bf16) : FVec Ideal S176x1024 .f32 := k0_pay8 (v 0) (v 1) (v 2) (v 3) (v 4)
def gB (v : Fin 8 → FVec Ideal S176x1024 .bf16) : FVec Ideal S176x1024 .f32 := k0_pay12 (first5 v) (v 5) (v 6) (v 7)
def changeB (v : Fin 8 → FVec Ideal S176x1024 .bf16) (x2 x3 x4 : Vec Ideal S176x1024 .f32) : FVec Ideal S176x1024 .f32 := k0_pay1 x2 (k0_pay15 (first5 v) (v 5) (v 6) (v 7) x3 x4)
def momB (v : Fin 8 → FVec Ideal S176x1024 .bf16) (x3 : Vec Ideal S176x1024 .f32) : FVec Ideal S176x1024 .f32 := k0_pay13 (first5 v) (v 5) (v 6) (v 7) x3
def secB (v : Fin 8 → FVec Ideal S176x1024 .bf16) (x4 : Vec Ideal S176x1024 .f32) : FVec Ideal S176x1024 .f32 := k0_pay14 (first5 v) (v 5) (v 6) (v 7) x4

theorem own_apply (x : Vec Ideal S1x176x1024 .bf16) (r : Fin 176) (l : Fin 1024) : k0_pay2 x (ix2 r l) = x (ix3 0 r l) := by
  pointwise [k0_pay2]

theorem gB_apply (v : Fin 8 → FVec Ideal S176x1024 .bf16) (r : Fin 176) (l : Fin 1024) : gB v (ix2 r l) = ∑ s : Fin 8, v s (ix2 r l) := by
  rw [Fin.sum_univ_eight]
  pointwise [gB, k0_pay12, k0_pay8]

theorem momB_eq (v : Fin 8 → FVec Ideal S176x1024 .bf16) (x3 : Vec Ideal S176x1024 .f32) : momB v x3 = momA (gB v) x3 := rfl
theorem secB_eq (v : Fin 8 → FVec Ideal S176x1024 .bf16) (x4 : Vec Ideal S176x1024 .f32) : secB v x4 = secA (gB v) x4 := rfl
theorem changeB_eq (v : Fin 8 → FVec Ideal S176x1024 .bf16) (x2 x3 x4 : Vec Ideal S176x1024 .f32) : changeB v x2 x3 x4 = changeA (gB v) x2 x3 x4 := rfl

/-- The word the body reads off the table. -/
def word {c : Dev nD} (xt0 : TbBuf0 (F := Ideal) c tbM0_0) : BitVec 32 :=
  View.readAt (Elt Ideal) tbM0_0.view (Rect.unit ![0] S1.size inb_S1_S1_0).toLoadRect xt0 (Shape.Idx.first (by decide))

set_option maxHeartbeats 1000000 in
/-- What the body leaves in the results' buffers. -/
theorem outs (c : Dev nD) (i a2 h2 a3 h3 a4 h4 a5 h5 a6 h6 a7 h7 a8 h8 a9 h9 a10 h10 x0 x1 x2 x3 x4 xt0) :
    (out0_A_5 (F := Ideal) c i a2 h2 a3 h3 a4 h4 a5 h5 a6 h6 a7 h7 a8 h8 a9 h9 a10 h10 x0 x1 x2 x3 x4 xt0, out0_A_6 (F := Ideal) c i a2 h2 a3 h3 a4 h4 a5 h5 a6 h6 a7 h7 a8 h8 a9 h9 a10 h10 x0 x1 x2 x3 x4 xt0, out0_A_7 (F := Ideal) c i a2 h2 a3 h3 a4 h4 a5 h5 a6 h6 a7 h7 a8 h8 a9 h9 a10 h10 x0 x1 x2 x3 x4 xt0, out0_A_8 (F := Ideal) c i a2 h2 a3 h3 a4 h4 a5 h5 a6 h6 a7 h7 a8 h8 a9 h9 a10 h10 x0 x1 x2 x3 x4 xt0)
      = (gB (shares (word xt0) x0 x1), changeB (shares (word xt0) x0 x1) x2 x3 x4, momB (shares (word xt0) x0 x1) x3, secB (shares (word xt0) x0 x1) x4) := by
  unfold out0_A_5 out0_A_6 out0_A_7 out0_A_8
  rw [View.read_writes_eq_canon _ _ _ (cover0_A_5 c i a2 h2 a3 h3 a4 h4 a5 h5 a6 h6 a7 h7 a8 h8 a9 h9 a10 h10 x0 x1 x2 x3 x4 xt0), View.read_writes_eq_canon _ _ _ (cover0_A_6 c i a2 h2 a3 h3 a4 h4 a5 h5 a6 h6 a7 h7 a8 h8 a9 h9 a10 h10 x0 x1 x2 x3 x4 xt0),
    View.read_writes_eq_canon _ _ _ (cover0_A_7 c i a2 h2 a3 h3 a4 h4 a5 h5 a6 h6 a7 h7 a8 h8 a9 h9 a10 h10 x0 x1 x2 x3 x4 xt0), View.read_writes_eq_canon _ _ _ (cover0_A_8 c i a2 h2 a3 h3 a4 h4 a5 h5 a6 h6 a7 h7 a8 h8 a9 h9 a10 h10 x0 x1 x2 x3 x4 xt0)]
  refine Prod.ext ?_ (Prod.ext ?_ (Prod.ext ?_ ?_))
  all_goals
    unfold kernelRun0_A
    dsimp only
    sl_unfold_words
    rw [View.canon_unit_zero hz2]
    simp only [View.readAt_eq_ld, h2.read_unread, h3.read_unread, h4.read_unread, h5.read_unread, h6.read_unread, View.ld_unit_zero (S := S1x176x1024) hz3, View.ld_unit_zero (S := S176x1024) hz2]
    rfl

/-! ## The blocks -/

theorem idx0 : ∀ t : Fin grid0.N, cc0_transform_0 (grid0.coords t) 0 = 0 ∧ cc0_transform_0 (grid0.coords t) 1 = t.val ∧ cc0_transform_0 (grid0.coords t) 2 = 0 := by decide +kernel
theorem coord : ∀ t : Fin grid0.N, (BitVec.ofNat 32 (grid0.coords t 0).val).toNat = t.val := by decide +kernel
theorem idx : ∀ t : Fin grid0.N, cc0_transform_2 (grid0.coords t) 0 = t.val ∧ cc0_transform_2 (grid0.coords t) 1 = 0 := by decide +kernel

/-- The row of the arrays that a block's row is, and the entry that a block's entry is. -/
def row (t : Fin grid0.N) (r : Fin 176) : Fin 352 := ⟨176 * t.val + r.val, by have : t.val < 2 := t.isLt; omega⟩
def place (t : Fin grid0.N) (j : S176x1024.Idx) : S352x1024.Idx := ix2 (row t (j 0)) (j 1)

/-- One account of the weight's, the moments' and the results' windows: all move along the rows alike. -/
theorem at_place (t : Fin grid0.N) (j : S176x1024.Idx) (i : S352x1024.Idx) (h0 : (i 0).val = cc0_transform_2 (grid0.coords t) 0 * 176 + 1 * (j 0).val) (h1 : (i 1).val = cc0_transform_2 (grid0.coords t) 1 * 1024 + 1 * (j 1).val) : i = place t j := by
  obtain ⟨e0, e1⟩ := idx t
  funext a
  apply Fin.ext
  match a with
  | ⟨0, _⟩ => show (i 0).val = 176 * t.val + (j 0).val; rw [h0, e0]; omega
  | ⟨1, _⟩ => show (i 1).val = (j 1).val; rw [h1, e1]; omega

theorem covered (i : S352x1024.Idx) : ∃ t : Fin grid0.N, ∀ a, cc0_transform_2 (grid0.coords t) a * S176x1024.size a ≤ (i a : Nat) ∧ (i a : Nat) < cc0_transform_2 (grid0.coords t) a * S176x1024.size a + S176x1024.size a := by
  have hi : (i 0 : Nat) < 352 := (i 0).isLt
  have hl : (i 1 : Nat) < 1024 := (i 1).isLt
  have hN : (i 0).val / 176 < grid0.N := by show _ < 2; omega
  obtain ⟨h0, h1⟩ := idx ⟨_, hN⟩
  refine ⟨⟨_, hN⟩, fun a => ?_⟩
  match a with
  | ⟨0, _⟩ => show cc0_transform_2 (grid0.coords ⟨_, hN⟩) 0 * 176 ≤ (i 0 : Nat) ∧ (i 0 : Nat) < cc0_transform_2 (grid0.coords ⟨_, hN⟩) 0 * 176 + 176; rw [h0]; dsimp only; omega
  | ⟨1, _⟩ => show cc0_transform_2 (grid0.coords ⟨_, hN⟩) 1 * 1024 ≤ (i 1 : Nat) ∧ (i 1 : Nat) < cc0_transform_2 (grid0.coords ⟨_, hN⟩) 1 * 1024 + 1024; rw [h1]; omega

variable (m : (ℓ : Loc nD τ sig) → Buf (Elt Ideal) ℓ) (ρ : Dev nD → PrngReg)

/-- The device's place and the arrays the call reads. -/
abbrev meA (c : Dev nD) : Vec Ideal S1 .i32 := m ((c : Thread nD τ).loc main_arg0)
abbrev slotsA (c : Dev nD) : Vec Ideal S8x352x1024 .bf16 := m ((c : Thread nD τ).loc main_arg1)
abbrev ownA (c : Dev nD) : Vec Ideal S8x352x1024 .bf16 := m ((c : Thread nD τ).loc main_arg2)
abbrev wA (c : Dev nD) : Vec Ideal S352x1024 .f32 := m ((c : Thread nD τ).loc main_arg3)
abbrev mA (c : Dev nD) : Vec Ideal S352x1024 .f32 := m ((c : Thread nD τ).loc main_arg4)
abbrev vA (c : Dev nD) : Vec Ideal S352x1024 .f32 := m ((c : Thread nD τ).loc main_arg5)

/-- The windows' blocks at a point and the table, at their shapes. -/
def b0 (hO : Ok m) (c : Dev nD) (t : Fin grid0.N) : Vec Ideal S8x176x1024 .bf16 := iblk m hO c 0 t
def b1 (hO : Ok m) (c : Dev nD) (t : Fin grid0.N) : Vec Ideal S1x176x1024 .bf16 := iblk m hO c 1 t
def b2 (hO : Ok m) (c : Dev nD) (t : Fin grid0.N) : Vec Ideal S176x1024 .f32 := iblk m hO c 2 t
def b3 (hO : Ok m) (c : Dev nD) (t : Fin grid0.N) : Vec Ideal S176x1024 .f32 := iblk m hO c 3 t
def b4 (hO : Ok m) (c : Dev nD) (t : Fin grid0.N) : Vec Ideal S176x1024 .f32 := iblk m hO c 4 t
def tb (c : Dev nD) : TbBuf0 (F := Ideal) c tbM0_0 := tbl m 0

theorem blk0 (hO : Ok m) (c : Dev nD) (t : Fin grid0.N) (s : Fin 8) (r : Fin 176) (l : Fin 1024) :
    b0 m hO c t (ix3 s r l) = slotsA m c (ix3 s (row t r) l) := by
  obtain ⟨h0, h1, h2⟩ := idx0 t
  have e : (((cfgM m hO).win 0).blk t).view.emb (ix3 s r l) = ix3 s (row t r) l := by
    funext a
    apply Fin.ext
    match a with
    | ⟨0, _⟩ => show cc0_transform_0 (grid0.coords t) 0 * 8 + 1 * s.val = s.val; rw [h0]; omega
    | ⟨1, _⟩ => show cc0_transform_0 (grid0.coords t) 1 * 176 + 1 * r.val = 176 * t.val + r.val; rw [h1]; omega
    | ⟨2, _⟩ => show cc0_transform_0 (grid0.coords t) 2 * 1024 + 1 * l.val = l.val; rw [h2]; omega
  exact (congrArg (slotsA m c) e)

theorem blk1 (hO : Ok m) (c : Dev nD) (hp : (meA m c (ix1 0) : BitVec 32).toNat < 8) (t : Fin grid0.N) (r : Fin 176) (l : Fin 1024) :
    b1 m hO c t (ix3 0 r l) = ownA m c (ix3 ⟨(meA m c (ix1 0) : BitVec 32).toNat, hp⟩ (row t r) l) := by
  have h1 := coord t
  have e : (((cfgM m hO).win 1).blk t).view.emb (ix3 0 r l) = ix3 (⟨(meA m c (ix1 0) : BitVec 32).toNat, hp⟩ : Fin 8) (row t r) l := by
    funext a
    apply Fin.ext
    match a with
    | ⟨0, _⟩ => show ((tbl m).at 0 (Rect.unit (s := S1) ![0] S1.size inb_S1_S1_0) numel1_S1 : BitVec 32).toNat * 1 + 1 * 0 = (meA m c (ix1 0) : BitVec 32).toNat; rw [Nat.mul_one, Nat.mul_zero, Nat.add_zero]; exact congrArg BitVec.toNat (word_tbl m c)
    | ⟨1, _⟩ => show (BitVec.ofNat 32 (grid0.coords t 0).val).toNat * 176 + 1 * r.val = 176 * t.val + r.val; rw [h1]; omega
    | ⟨2, _⟩ => show 0 * 1024 + 1 * l.val = l.val; omega
  exact (congrArg (ownA m c) e)

theorem blk2 (hO : Ok m) (c : Dev nD) (t : Fin grid0.N) : b2 m hO c t = fun j => wA m c (place t j) := funext fun j => congrArg (wA m c) (at_place t j _ rfl rfl)
theorem blk3 (hO : Ok m) (c : Dev nD) (t : Fin grid0.N) : b3 m hO c t = fun j => mA m c (place t j) := funext fun j => congrArg (mA m c) (at_place t j _ rfl rfl)
theorem blk4 (hO : Ok m) (c : Dev nD) (t : Fin grid0.N) : b4 m hO c t = fun j => vA m c (place t j) := funext fun j => congrArg (vA m c) (at_place t j _ rfl rfl)

theorem word_eq (c : Dev nD) : word (tb m c) = meA m c (ix1 0) := by
  refine Eq.trans ?_ (word_tbl m c)
  rfl

/-! ## The arrays -/

/-- The gradient, the change of the weight and the two new moments, of the arrays the call reads. -/
abbrev gA (c : Dev nD) : Vec Ideal S352x1024 .f32 := grad (meA m c (ix1 0)) (slotsA m c) (ownA m c)
abbrev dA (c : Dev nD) : Vec Ideal S352x1024 .f32 := changeA (gA m c) (wA m c) (mA m c) (vA m c)
abbrev nmA (c : Dev nD) : Vec Ideal S352x1024 .f32 := momA (gA m c) (mA m c)
abbrev nvA (c : Dev nD) : Vec Ideal S352x1024 .f32 := secA (gA m c) (vA m c)

abbrev sh (hO : Ok m) (c : Dev nD) (t : Fin grid0.N) : Fin 8 → FVec Ideal S176x1024 .bf16 := shares (word (tb m c)) (b0 m hO c t) (b1 m hO c t)

/-- The gradient's block at a point. -/
theorem grad_blk (hO : Ok m) (c : Dev nD) (hp : (meA m c (ix1 0) : BitVec 32).toNat < 8) (t : Fin grid0.N) : gB (sh m hO c t) = fun j => gA m c (place t j) := by
  funext j
  obtain ⟨r, l, rfl⟩ : ∃ (r : Fin 176) (l : Fin 1024), j = ix2 r l := ⟨j 0, j 1, by funext a; match a with | ⟨0, _⟩ => rfl | ⟨1, _⟩ => rfl⟩
  refine (gB_apply _ r l).trans ?_
  rw [sh, word_eq]
  exact total_share k0_pay2 own_apply _ ⟨_, hp⟩ rfl (slotsA m c) (ownA m c) _ _ r (row t r) l (fun s => blk0 m hO c t s r l) (blk1 m hO c hp t r l)

theorem outs_at (hO : Ok m) (c : Dev nD) (t : Fin (cfgM m hO).N) :
    outsAt0 m hO c t = (gB (sh m hO c t), changeB (sh m hO c t) (b2 m hO c t) (b3 m hO c t) (b4 m hO c t), momB (sh m hO c t) (b3 m hO c t), secB (sh m hO c t) (b4 m hO c t)) :=
  outs c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0)

/-- What a point leaves in the results' buffers: the arrays' entries at the point's place. -/
theorem outs_place (hO : Ok m) (c : Dev nD) (hp : (meA m c (ix1 0) : BitVec 32).toNat < 8) (t : Fin (cfgM m hO).N) :
    outsAt0 m hO c t = ((fun j => gA m c (place t j)), (fun j => dA m c (place t j)), (fun j => nmA m c (place t j)), (fun j => nvA m c (place t j))) := by
  refine (outs_at m hO c t).trans ?_
  rw [changeB_eq, momB_eq, secB_eq, grad_blk m hO c hp t, blk2, blk3, blk4]
  rfl

theorem final5 (hO : Ok m) (c : Dev nD) (hp : (meA m c (ix1 0) : BitVec 32).toNat < 8) : (dats m hO 0 c).arrAt 5 (cfgM m hO).N = gA m c :=
  (dats m hO 0 c).arrAt_eq_of_cover 5 _ (fun t _ => by
    have e := outs_place m hO c hp t
    exact (after0_5 m hO c t).trans ((congrArg Prod.fst e).trans (funext fun (j : S176x1024.Idx) => congrArg (gA m c) (at_place t j _ rfl rfl).symm))) fun (i : S352x1024.Idx) => by
    obtain ⟨t, ht⟩ := covered i
    exact ⟨t, flush0_5 _ _, (Finset.ext_iff.mp (View.set_slice_whole main_v0_0 (((cfgM m hO).win 5).rect t)) i).mpr (Rect.mem_set_unit.mpr ht)⟩

theorem final6 (hO : Ok m) (c : Dev nD) (hp : (meA m c (ix1 0) : BitVec 32).toNat < 8) : (dats m hO 0 c).arrAt 6 (cfgM m hO).N = dA m c :=
  (dats m hO 0 c).arrAt_eq_of_cover 6 _ (fun t _ => by
    have e := outs_place m hO c hp t
    exact (after0_6 m hO c t).trans ((congrArg (fun p => p.2.1) e).trans (funext fun (j : S176x1024.Idx) => congrArg (dA m c) (at_place t j _ rfl rfl).symm))) fun (i : S352x1024.Idx) => by
    obtain ⟨t, ht⟩ := covered i
    exact ⟨t, flush0_6 _ _, (Finset.ext_iff.mp (View.set_slice_whole main_v0_1 (((cfgM m hO).win 6).rect t)) i).mpr (Rect.mem_set_unit.mpr ht)⟩

theorem final7 (hO : Ok m) (c : Dev nD) (hp : (meA m c (ix1 0) : BitVec 32).toNat < 8) : (dats m hO 0 c).arrAt 7 (cfgM m hO).N = nmA m c :=
  (dats m hO 0 c).arrAt_eq_of_cover 7 _ (fun t _ => by
    have e := outs_place m hO c hp t
    exact (after0_7 m hO c t).trans ((congrArg (fun p => p.2.2.1) e).trans (funext fun (j : S176x1024.Idx) => congrArg (nmA m c) (at_place t j _ rfl rfl).symm))) fun (i : S352x1024.Idx) => by
    obtain ⟨t, ht⟩ := covered i
    exact ⟨t, flush0_7 _ _, (Finset.ext_iff.mp (View.set_slice_whole main_v0_2 (((cfgM m hO).win 7).rect t)) i).mpr (Rect.mem_set_unit.mpr ht)⟩

theorem final8 (hO : Ok m) (c : Dev nD) (hp : (meA m c (ix1 0) : BitVec 32).toNat < 8) : (dats m hO 0 c).arrAt 8 (cfgM m hO).N = nvA m c :=
  (dats m hO 0 c).arrAt_eq_of_cover 8 _ (fun t _ => by
    have e := outs_place m hO c hp t
    exact (after0_8 m hO c t).trans ((congrArg (fun p => p.2.2.2) e).trans (funext fun (j : S176x1024.Idx) => congrArg (nvA m c) (at_place t j _ rfl rfl).symm))) fun (i : S352x1024.Idx) => by
    obtain ⟨t, ht⟩ := covered i
    exact ⟨t, flush0_8 _ _, (Finset.ext_iff.mp (View.set_slice_whole main_v0_3 (((cfgM m hO).win 8).rect t)) i).mpr (Rect.mem_set_unit.mpr ht)⟩

theorem run_value (hO : Ok m) (hp : ∀ c, (meA m c (ix1 0) : BitVec 32).toNat < 8) :
    θ_run defs (onTc (τ := τ) (main (F := Ideal))) ⟨m, fun _ => 0, ρ⟩ (fun r => ∀ c : Dev nD,
      r.2.mem ((c.tc : Thread nD τ).loc main_v0_0) = gA m c
      ∧ r.2.mem ((c.tc : Thread nD τ).loc main_v0_1) = dA m c
      ∧ r.2.mem ((c.tc : Thread nD τ).loc main_v0_2) = nmA m c
      ∧ r.2.mem ((c.tc : Thread nD τ).loc main_v0_3) = nvA m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h.1 c).1 5).trans (final5 m hO c (hp c)), ((h.1 c).1 6).trans (final6 m hO c (hp c)), ((h.1 c).1 7).trans (final7 m hO c (hp c)), ((h.1 c).1 8).trans (final8 m hO c (hp c)), h.2 c⟩)
    (θ_run_and (run_main m ρ hO) (unchanged m ρ hO))

/-! ## The claims -/

theorem body_text (i a1 h1 a2 h2 a3 h3 a4 h4 a5 h5 a6 h6 a7 h7 a8 h8 a9 h9 a10 h10) : Cert.Kernel16.cc0_adam_w_down (F := Bits) i a1 h1 a2 h2 a3 h3 a4 h4 a5 h5 a6 h6 a7 h7 a8 h8 a9 h9 a10 h10 = Cert.Kernel16Ideal.cc0_adam_w_down (F := Bits) i a1 h1 a2 h2 a3 h3 a4 h4 a5 h5 a6 h6 a7 h7 a8 h8 a9 h9 a10 h10 := rfl

theorem label_text : Cert.Kernel16.defs₀ (F := Bits) = Cert.Kernel16Ideal.defs₀ (F := Bits) := by
  unfold Cert.Kernel16.defs₀ Cert.Kernel16Ideal.defs₀
  refine congrArg (Defs.onTc (nD := nD) (τ := τ) (sig := sig) (Val := Elt Bits) (Λ := Λ₀)) ?_
  funext l x
  match l, x with
  | 0, (t, s) => exact body_text _ _ _ _ _ _ _ _ _ _ _ _ _ _ _ _ _ _ _ _ _
  | ⟨_ + 1, h⟩, _ => exact absurd h (Nat.not_lt.2 (Nat.le_add_left _ _))

/-- The two programs' body tables are one. -/
theorem defs_text : Cert.Kernel16.defs (F := Bits) = Cert.Kernel16Ideal.defs (F := Bits) :=
  congrArg (Pipeline.defs (Cert.Kernel16Ideal.pcfgs (F := Bits))) label_text

theorem at_table (D : Defs nD τ sig (Elt Bits) (Pipeline.Sig Λ₀ (Fin 1) fun p => (pcfgs (F := Bits) p).Adm)) (h : D = defs (F := Bits)) (s Q)
    (hr : θ_run (defs (F := Bits)) (onTc (τ := τ) (main (F := Bits))) s Q) : θ_run D (onTc (τ := τ) (main (F := Bits))) s Q := by
  subst h
  exact hr

theorem frame_bits : Cert.quiescent_Kernel16 := fun m ρ h =>
  at_table _ defs_text _ _ (Cert.Kernel16Ideal.Gen.frame (F := Bits) m ρ (ok_of_lt m (lt_of_pre _ _ _ _ _ _ (h 0))))

theorem frame_ideal : Cert.quiescent_Kernel16Ideal := fun m ρ h =>
  Cert.Kernel16Ideal.Gen.frame m ρ (ok_of_lt m (lt_of_pre _ _ _ _ _ _ (h 0)))

theorem claim16 : Cert.algebraic_Kernel16Ideal_Reference16Ideal := by
  intro m g m' g' hpre hargs
  have hO : Ok m := ok_of_lt m (lt_of_pre _ _ _ _ _ _ (hpre 0))
  have hp : ∀ c, (meA m c (ix1 0) : BitVec 32).toNat < 8 := fun c => lt_of_pre _ _ _ _ _ _ (hpre c)
  refine ⟨fun c => gA m c, fun c => dA m c, fun c => nmA m c, fun c => nvA m c,
    run_value m g hO hp, (θ_run _ _ _).mono (fun _ h c => ?_) (Cert.Reference16Ideal.Value.run m' g')⟩
  obtain ⟨e0, e1, e2, e3, e4, e5⟩ := hargs c
  obtain ⟨h0, h1, h2, h3, h4⟩ := h c
  refine ⟨h0.trans ?_, h1.trans ?_, h2.trans ?_, h3.trans ?_, h4⟩
  all_goals dsimp only
  · rw [e0, e1, e2]
    exact ref_grad _ _ _ _ _ _ _ _ _ _
  · rw [e0, e1, e2, e3, e4, e5]
    exact (ref_change _ _ _ _ _).trans (congrArg (fun g => changeA g (wA m c) (mA m c) (vA m c)) (ref_grad _ _ _ _ _ _ _ _ _ _))
  · rw [e0, e1, e2, e4]
    exact (ref_mom _ _ _).trans (congrArg (fun g => momA g (mA m c)) (ref_grad _ _ _ _ _ _ _ _ _ _))
  · rw [e0, e1, e2, e5]
    exact (ref_sec _ _ _).trans (congrArg (fun g => secA g (vA m c)) (ref_grad _ _ _ _ _ _ _ _ _ _))

end Cert.Proof.AdamDown

end
-- ==== Proof.AdamInRun.lean ====
module

public import proofs.«01_k».proof.Proof.Gen.Kernel17Ideal.Launch
public import proofs.«01_k».proof.Proof.Gen.Kernel17Ideal.Skeleton
public import proofs.«01_k».proof.Proof.Chosen
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

/-! The run of the optimiser's step on a weight's gradient, at any values: the launch, what the body leaves in each
    result's buffer at each point, and the final states. -/

namespace Cert.Kernel17Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.Chosen

variable {F : FTy → Type} [FloatOps F]

local notation "𝕄" => MT nD τ sig Unit (Elt F) ℕ (UR sig nD τ) ℕ

/-! ## The points -/

theorem flush0_5 (a : (pcfg0 (F := F)).Adm) : ∀ t : Fin (cfg0 a).N, ((cfg0 a).win 5).flush t = true :=
  (fun t => (Pipeline.Window.flushOf_reads cc0_transform_5 reads0_5 hreads0_5 0 (by decide) (by decide) (Pipeline.Window.sep_of_coord cc0_transform_5 0 1 (fun _ => rfl) (by decide)) (P := 1) (m := 0) (by decide) rfl t).mpr (Nat.mod_one _) : ∀ t : Fin grid0.N, Pipeline.Window.flushOf grid0 true cc0_transform_5 t = true)
theorem flush0_6 (a : (pcfg0 (F := F)).Adm) : ∀ t : Fin (cfg0 a).N, ((cfg0 a).win 6).flush t = true :=
  (fun t => (Pipeline.Window.flushOf_reads cc0_transform_6 reads0_6 hreads0_6 0 (by decide) (by decide) (Pipeline.Window.sep_of_coord cc0_transform_6 0 1 (fun _ => rfl) (by decide)) (P := 1) (m := 0) (by decide) rfl t).mpr (Nat.mod_one _) : ∀ t : Fin grid0.N, Pipeline.Window.flushOf grid0 true cc0_transform_6 t = true)
theorem flush0_7 (a : (pcfg0 (F := F)).Adm) : ∀ t : Fin (cfg0 a).N, ((cfg0 a).win 7).flush t = true :=
  (fun t => (Pipeline.Window.flushOf_reads cc0_transform_7 reads0_7 hreads0_7 0 (by decide) (by decide) (Pipeline.Window.sep_of_coord cc0_transform_7 0 1 (fun _ => rfl) (by decide)) (P := 1) (m := 0) (by decide) rfl t).mpr (Nat.mod_one _) : ∀ t : Fin grid0.N, Pipeline.Window.flushOf grid0 true cc0_transform_7 t = true)
theorem flush0_8 (a : (pcfg0 (F := F)).Adm) : ∀ t : Fin (cfg0 a).N, ((cfg0 a).win 8).flush t = true :=
  (fun t => (Pipeline.Window.flushOf_reads cc0_transform_8 reads0_8 hreads0_8 0 (by decide) (by decide) (Pipeline.Window.sep_of_coord cc0_transform_8 0 1 (fun _ => rfl) (by decide)) (P := 1) (m := 0) (by decide) rfl t).mpr (Nat.mod_one _) : ∀ t : Fin grid0.N, Pipeline.Window.flushOf grid0 true cc0_transform_8 t = true)

abbrev bodyAt0 (a : (pcfg0 (F := F)).Adm) (t : Fin (cfg0 a).N) : Prog (TpuEff nD τ sig (Elt F) Λ₀ .tc) PUnit :=
  cc0_adam_w_in (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8))

variable (m : (ℓ : Loc nD τ sig) → Buf (Elt F) ℓ) (ρ : Dev nD → PrngReg)

/-! ## @main up to the region -/

abbrev V (c : Dev nD) (b : Ref sig .tc) : Buf (Elt F) ((c : Thread nD τ).loc b) := m ((c : Thread nD τ).loc b)

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl

/-! ## The prefetched tables, read off the launch memory -/

def tbl : pre0.Contents (Elt F) := fun j => V m (0 : Dev nD) (pre0.ref j)
theorem V_pre (c : Dev nD) (j : Fin 1) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbM0_0 : Memref sig .tc .smem S1 .i32 := Memref.whole main_arg0
abbrev htbM0_0 : tbM0_0.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (by decide : main_arg0 ∈ Pipeline.restRefs sig spec0)).trans (V_main_arg0 m c),
      ((h c).1 0).trans (((dats 0 c).arrAt_in 0 rfl _).trans ((hA c 0).trans (V_main_arg1 m c))),
      ((h c).1 1).trans (((dats 0 c).arrAt_in 1 rfl _).trans ((hA c 1).trans (V_main_arg2 m c))),
      ((h c).1 2).trans (((dats 0 c).arrAt_in 2 rfl _).trans ((hA c 2).trans (V_main_arg3 m c))),
      ((h c).1 3).trans (((dats 0 c).arrAt_in 3 rfl _).trans ((hA c 3).trans (V_main_arg4 m c))),
      ((h c).1 4).trans (((dats 0 c).arrAt_in 4 rfl _).trans ((hA c 4).trans (V_main_arg5 m c)))⟩) h

/-! ## The kernel body on any staging memrefs: a subtype the run finds -/

abbrev VO0_5 : View sig .tc .vmem S1024x128 .f32 := (Memref.whole cc0_stg5_0 : Memref sig .tc .vmem S1024x128 .f32).view
abbrev VO0_6 : View sig .tc .vmem S1024x128 .f32 := (Memref.whole cc0_stg6_0 : Memref sig .tc .vmem S1024x128 .f32).view
abbrev VO0_7 : View sig .tc .vmem S1024x128 .f32 := (Memref.whole cc0_stg7_0 : Memref sig .tc .vmem S1024x128 .f32).view
abbrev VO0_8 : View sig .tc .vmem S1024x128 .f32 := (Memref.whole cc0_stg8_0 : Memref sig .tc .vmem S1024x128 .f32).view
abbrev ms0_0 (hO : Ok m) (t : Fin (cfgM m hO).N) : Memref sig .tc .vmem S8x128x1024 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x128x1024 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1024x128 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1024x128 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1024x128 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1024x128 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1024x128 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1024x128 .f32 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1024x128 .f32 := spec0_8.stage ((cfgM m hO).slots t 8)
abbrev hs0_8 (hO : Ok m) (t : Fin (cfgM m hO).N) : (ms0_8 m hO t).IsWhole := hstage0_8 (((cfgM m hO).slots t 8).cast nbuf0_8)

section

variable (c : Dev nD) (i : grid0.Coords) (arg2 : Memref sig .tc .vmem S8x128x1024 .bf16) (harg2 : arg2.IsWhole) (arg3 : Memref sig .tc .vmem S1x128x1024 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole)
  (x0 : Vec F S8x128x1024 .bf16) (x1 : Vec F S1x128x1024 .bf16) (x2 : Vec F S1024x128 .f32) (x3 : Vec F S1024x128 .f32) (x4 : Vec F S1024x128 .f32) (xt0 : TbBuf0 (F := F) c tbM0_0)

set_option maxHeartbeats 1000000 in
/-- What the body leaves in each result's buffer, as the pieces stored, with the run that leaves them: a share is chosen
    eight times, the device's own or the one read from its slot. -/
noncomputable def kernelRun0_A :
    Σ' (L5 : List (View.Piece (Elt F) S1024x128 .f32)), Σ' (L6 : List (View.Piece (Elt F) S1024x128 .f32)), Σ' (L7 : List (View.Piece (Elt F) S1024x128 .f32)), { L8 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ tbPt0 c tbM0_0 xt0) -∗ K ⟨⟩))
          ⊢ wp frame (wpE (defs₀ (F := F)) Variants.none c none) E (cc0_adam_w_in i tbM0_0 htbM0_0 arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0_adam_w_in_eq_skeleton]; unfold cc0_adam_w_in_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, HT0, Hk⟩
    obtain rfl := harg2.eq_unread hf0; obtain rfl := harg3.eq_unread hf1; obtain rfl := harg4.eq_unread hf2; obtain rfl := harg5.eq_unread hf3; obtain rfl := harg6.eq_unread hf4
    sl_exec
    iapply (wp_chosen Variants.none (c : Thread nD τ) none E _ _ _ (View.setOn_subset_set _ _)) $$ H0
    iintro H0
    sl_exec
    iapply (wp_chosen Variants.none (c : Thread nD τ) none E _ _ _ (View.setOn_subset_set _ _)) $$ H0
    iintro H0
    sl_exec
    iapply (wp_chosen Variants.none (c : Thread nD τ) none E _ _ _ (View.setOn_subset_set _ _)) $$ H0
    iintro H0
    sl_exec
    iapply (wp_chosen Variants.none (c : Thread nD τ) none E _ _ _ (View.setOn_subset_set _ _)) $$ H0
    iintro H0
    sl_exec
    iapply (wp_chosen Variants.none (c : Thread nD τ) none E _ _ _ (View.setOn_subset_set _ _)) $$ H0
    iintro H0
    sl_exec
    iapply (wp_chosen Variants.none (c : Thread nD τ) none E _ _ _ (View.setOn_subset_set _ _)) $$ H0
    iintro H0
    sl_exec
    iapply (wp_chosen Variants.none (c : Thread nD τ) none E _ _ _ (View.setOn_subset_set _ _)) $$ H0
    iintro H0
    sl_exec
    iapply (wp_chosen Variants.none (c : Thread nD τ) none E _ _ _ (View.setOn_subset_set _ _)) $$ H0
    iintro H0
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    isplitl [H8]; · iexists _; iexact H8
    iexact HT0

theorem cover0_A_5  (y : S1024x128.Idx) :
    ∃ pc ∈ (kernelRun0_A c i arg2 harg2 arg3 harg3 arg4 harg4 arg5 harg5 arg6 harg6 arg7 harg7 arg8 harg8 arg9 harg9 arg10 harg10 x0 x1 x2 x3 x4 xt0).1, y ∈ pc.1.set :=
  View.cover_of_tiledL (kernelRun0_A c i arg2 harg2 arg3 harg3 arg4 harg4 arg5 harg5 arg6 harg6 arg7 harg7 arg8 harg8 arg9 harg9 arg10 harg10 x0 x1 x2 x3 x4 xt0).1 S1024x128.size (by sl_kernel_rfl) y

def out0_A_5 : Vec F S1024x128 .f32 :=
  VO0_5.read (Elt F) (VO0_5.writes (Elt F) VO0_5.junk (kernelRun0_A c i arg2 harg2 arg3 harg3 arg4 harg4 arg5 harg5 arg6 harg6 arg7 harg7 arg8 harg8 arg9 harg9 arg10 harg10 x0 x1 x2 x3 x4 xt0).1)

theorem cover0_A_6  (y : S1024x128.Idx) :
    ∃ pc ∈ (kernelRun0_A c i arg2 harg2 arg3 harg3 arg4 harg4 arg5 harg5 arg6 harg6 arg7 harg7 arg8 harg8 arg9 harg9 arg10 harg10 x0 x1 x2 x3 x4 xt0).2.1, y ∈ pc.1.set :=
  View.cover_of_tiledL (kernelRun0_A c i arg2 harg2 arg3 harg3 arg4 harg4 arg5 harg5 arg6 harg6 arg7 harg7 arg8 harg8 arg9 harg9 arg10 harg10 x0 x1 x2 x3 x4 xt0).2.1 S1024x128.size (by sl_kernel_rfl) y

def out0_A_6 : Vec F S1024x128 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 x0 x1 x2 x3 x4 xt0).2.1)

theorem cover0_A_7  (y : S1024x128.Idx) :
    ∃ pc ∈ (kernelRun0_A c i arg2 harg2 arg3 harg3 arg4 harg4 arg5 harg5 arg6 harg6 arg7 harg7 arg8 harg8 arg9 harg9 arg10 harg10 x0 x1 x2 x3 x4 xt0).2.2.1, y ∈ pc.1.set :=
  View.cover_of_tiledL (kernelRun0_A c i arg2 harg2 arg3 harg3 arg4 harg4 arg5 harg5 arg6 harg6 arg7 harg7 arg8 harg8 arg9 harg9 arg10 harg10 x0 x1 x2 x3 x4 xt0).2.2.1 S1024x128.size (by sl_kernel_rfl) y

def out0_A_7 : Vec F S1024x128 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 x0 x1 x2 x3 x4 xt0).2.2.1)

theorem cover0_A_8  (y : S1024x128.Idx) :
    ∃ pc ∈ (kernelRun0_A c i arg2 harg2 arg3 harg3 arg4 harg4 arg5 harg5 arg6 harg6 arg7 harg7 arg8 harg8 arg9 harg9 arg10 harg10 x0 x1 x2 x3 x4 xt0).2.2.2.1, y ∈ pc.1.set :=
  View.cover_of_tiledL (kernelRun0_A c i arg2 harg2 arg3 harg3 arg4 harg4 arg5 harg5 arg6 harg6 arg7 harg7 arg8 harg8 arg9 harg9 arg10 harg10 x0 x1 x2 x3 x4 xt0).2.2.2.1 S1024x128.size (by sl_kernel_rfl) y

def out0_A_8 : Vec F S1024x128 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 x0 x1 x2 x3 x4 xt0).2.2.2.1)

end

/-! ## What the outputs hold after each point -/

def outsAt0 (hO : Ok m) (c : Dev nD) (t : Fin (cfgM m hO).N) : Vec F S1024x128 .f32 × Vec F S1024x128 .f32 × Vec F S1024x128 .f32 × Vec F S1024x128 .f32 :=
  (out0_A_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0), out0_A_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0), out0_A_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0), out0_A_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0))

/-! ## The pipeline's proof data -/

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => (outsAt0 m hO c t).1
    | ⟨6, _⟩ => (outsAt0 m hO c t).2.1
    | ⟨7, _⟩ => (outsAt0 m hO c t).2.2.1
    | ⟨8, _⟩ => (outsAt0 m hO c t).2.2.2
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = (outsAt0 m hO c t).1 := by dsimp only [dats]; try rfl
theorem after0_6 (hO : Ok m) (c : Dev nD) (t : Fin (cfgM m hO).N) : (dats m hO 0 c).after 6 t = (outsAt0 m hO c t).2.1 := by dsimp only [dats]; try rfl
theorem after0_7 (hO : Ok m) (c : Dev nD) (t : Fin (cfgM m hO).N) : (dats m hO 0 c).after 7 t = (outsAt0 m hO c t).2.2.1 := by dsimp only [dats]; try rfl
theorem after0_8 (hO : Ok m) (c : Dev nD) (t : Fin (cfgM m hO).N) : (dats m hO 0 c).after 8 t = (outsAt0 m hO c t).2.2.2 := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

/-! ## The body obligation, at a generic point -/

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t))

set_option maxHeartbeats 800000 in
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7, after0_8]
  rw [show (dats m hO 0 c).Φ t.castSucc = iprop(Pipeline.ΦA spec0 c ∗ Pipeline.ΦT pre0 (tbl m) c) from rfl, PhiT0_eq]
  unfold outsAt0
  unfold out0_A_5 out0_A_6 out0_A_7 out0_A_8; (try dsimp only)
  iintro ⟨⟨HΦ, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_A c (grid0.coords t) _ _ _ _ _ _ _ _ _ _ _ _ _ _ _ _ _ _ (iblk m hO c 0 t) (iblk m hO c 1 t) (iblk m hO c 2 t) (iblk m hO c 3 t) (iblk m hO c 4 t) (tbl m 0)).2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [HT0]; · iexact HT0
  iintro ⟨H0, H1, H2, H3, H4, ⟨%e5, H5⟩, ⟨%e6, H6⟩, ⟨%e7, H7⟩, ⟨%e8, H8⟩, HT0⟩
  isplitl [HΦ HT0]
  · isplitl [HΦ]
    · iexact HΦ
    iexact HT0
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover0_A_5 c _ _ _ _ _ _ _ _ _ _ _ _ _ _ _ _ _ _ _ _ _ _ _ _ _)
  isplitl [H6]
  · unfold owns; iexists _; isplitr
    swap; · iexact H6
    ipureintro; exact View.read_writes_of_cover _ _ _ _ _ (cover0_A_6 c _ _ _ _ _ _ _ _ _ _ _ _ _ _ _ _ _ _ _ _ _ _ _ _ _)
  isplitl [H7]
  · unfold owns; iexists _; isplitr
    swap; · iexact H7
    ipureintro; exact View.read_writes_of_cover _ _ _ _ _ (cover0_A_7 c _ _ _ _ _ _ _ _ _ _ _ _ _ _ _ _ _ _ _ _ _ _ _ _ _)
  unfold owns; iexists _; isplitr
  swap; · iexact H8
  ipureintro; exact View.read_writes_of_cover _ _ _ _ _ (cover0_A_8 c _ _ _ _ _ _ _ _ _ _ _ _ _ _ _ _ _ _ _ _ _ _ _ _ _)

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run and the frame -/

set_option backward.isDefEq.respectTransparency.types false in
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (dats m hO) (A_eq m hO) (run_main m ρ hO)

theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO) ((θ_run defs _ _).mono (fun _ h => h.2) (run_main_quiescent m ρ hO))

end Cert.Kernel17Ideal.Gen

end
-- ==== Proof.AdamIn.lean ====
module

public import proofs.«01_k».proof.Proof.AdamInRun
public import proofs.«01_k».proof.Proof.AdamStep
public import proofs.«01_k».proof.Proof.Gen.Kernel17
public import proofs.«01_k».proof.Proof.Gen.Reference17Ideal.Run
public import proofs.«01_k».proof.Proof.Gen.Pre_on_mesh17
public import proofs.«01_k».proof.Defs
public import Idealize.ShloMosaic.Lib.Pipeline.Value
public import Idealize.ShloMosaic.Lib.Pointwise

@[expose] public section

set_option maxRecDepth 16384

noncomputable section

/-!
  The optimiser's step on the input weight, kept transposed: the call.
-/

namespace Cert.Proof.AdamIn

open Idealize.ShloMosaic Idealize.ShloMosaic.TcCoe Idealize.SL.Sem
open Idealize.ShloMosaic.Pipeline (Dat)
open Cert.Kernel17Ideal Cert.Kernel17Ideal.Gen
open Cert.Proof.AdamStep

/-! ## The device's place: one of eight -/

section Place
variable {F : FTy → Type} [FloatOps F]

/-- A table whose word is one of the eight places admits every block the own share is read from. -/
theorem ok_of_place (pf : pre0.Contents (Elt F)) (h : (pf.at 0 (Rect.unit (s := S1) ![0] S1.size inb_S1_S1_0) numel1_S1 : BitVec 32).toNat < 8) : ok0 pf := by
  intro i
  refine ⟨fun a => ?_, .inr (Affine.block_words_dvd (of_decide_eq_true rfl) (by decide))⟩
  match a with
  | ⟨0, _⟩ => show ((pf.at 0 (Rect.unit (s := S1) ![0] S1.size inb_S1_S1_0) numel1_S1 : BitVec 32).toNat + 1) * 1 ≤ 8; omega
  | ⟨1, _⟩ => exact hinb0_0 i 1
  | ⟨2, _⟩ => exact hinb0_0 i 2

theorem word_tbl (m : (ℓ : Loc nD τ sig) → Buf (Elt F) ℓ) (c : Dev nD) :
    ((tbl m).at 0 (Rect.unit (s := S1) ![0] S1.size inb_S1_S1_0) numel1_S1 : BitVec 32) = (m ((c : Thread nD τ).loc main_arg0) : Vec F S1 .i32) (ix1 0) := by
  obtain rfl : c = 0 := Subsingleton.elim _ _
  show (m (((0 : Dev nD) : Thread nD τ).loc main_arg0) : Vec F S1 .i32) _ = _
  congr 1
  funext a
  match a with
  | ⟨0, _⟩ => rfl

theorem lt_of_pre (me : IVec S1 32) (x1 x2 : FVec F S8x896x1024 .bf16) (x3 x4 x5 : FVec F S1024x896 .f32)
    (h : Cert.Pre_on_mesh17.fn me x1 x2 x3 x4 x5 = fun _ => 1#1) : (me (ix1 0)).toNat < 8 :=
  place_lt _ (congrFun h (ix1 0))

theorem ok_of_lt (m : (ℓ : Loc nD τ sig) → Buf (Elt F) ℓ) (h : ((m ((((0 : Dev nD)) : Thread nD τ).loc main_arg0) : Vec F S1 .i32) (ix1 0) : BitVec 32).toNat < 8) : Ok m :=
  ok_of_place (tbl m) (by rw [word_tbl m 0]; exact h)

end Place

/-! ## One block -/

/-- The eight shares as the body chooses them. -/
abbrev shares (w : BitVec 32) (x0 : Vec Ideal S8x128x1024 .bf16) (x1 : Vec Ideal S1x128x1024 .bf16) : Fin 8 → FVec Ideal S128x1024 .bf16 := share k0_pay2 w x0 x1

/-- The blocks of the results, from the shares: the gradient, the change of the weight, the two moments. -/
abbrev first5 (v : Fin 8 → FVec Ideal S128x1024 .bf16) : FVec Ideal S128x1024 .f32 := k0_pay8 (v 0) (v 1) (v 2) (v 3) (v 4)
def gB (v : Fin 8 → FVec Ideal S128x1024 .bf16) : FVec Ideal S1024x128 .f32 := k0_pay12 (first5 v) (v 5) (v 6) (v 7)
def changeB (v : Fin 8 → FVec Ideal S128x1024 .bf16) (x2 x3 x4 : Vec Ideal S1024x128 .f32) : FVec Ideal S1024x128 .f32 := k0_pay1 x2 (k0_pay15 (first5 v) (v 5) (v 6) (v 7) x3) (k0_pay16 (first5 v) (v 5) (v 6) (v 7) x4)
def momB (v : Fin 8 → FVec Ideal S128x1024 .bf16) (x3 : Vec Ideal S1024x128 .f32) : FVec Ideal S1024x128 .f32 := k0_pay13 (first5 v) (v 5) (v 6) (v 7) x3
def secB (v : Fin 8 → FVec Ideal S128x1024 .bf16) (x4 : Vec Ideal S1024x128 .f32) : FVec Ideal S1024x128 .f32 := k0_pay14 (first5 v) (v 5) (v 6) (v 7) x4

theorem own_apply (x : Vec Ideal S1x128x1024 .bf16) (r : Fin 128) (l : Fin 1024) : k0_pay2 x (ix2 r l) = x (ix3 0 r l) := by
  pointwise [k0_pay2]

theorem gB_apply (v : Fin 8 → FVec Ideal S128x1024 .bf16) (r : Fin 128) (l : Fin 1024) : gB v (ix2 l r) = ∑ s : Fin 8, v s (ix2 r l) := by
  rw [Fin.sum_univ_eight]
  pointwise [gB, k0_pay12, k0_pay8]

theorem momB_eq (v : Fin 8 → FVec Ideal S128x1024 .bf16) (x3 : Vec Ideal S1024x128 .f32) : momB v x3 = momA (gB v) x3 := rfl
theorem secB_eq (v : Fin 8 → FVec Ideal S128x1024 .bf16) (x4 : Vec Ideal S1024x128 .f32) : secB v x4 = secA (gB v) x4 := rfl
theorem changeB_eq (v : Fin 8 → FVec Ideal S128x1024 .bf16) (x2 x3 x4 : Vec Ideal S1024x128 .f32) : changeB v x2 x3 x4 = changeA (gB v) x2 x3 x4 := rfl

/-- The word the body reads off the table. -/
def word {c : Dev nD} (xt0 : TbBuf0 (F := Ideal) c tbM0_0) : BitVec 32 :=
  View.readAt (Elt Ideal) tbM0_0.view (Rect.unit ![0] S1.size inb_S1_S1_0).toLoadRect xt0 (Shape.Idx.first (by decide))

set_option maxHeartbeats 1000000 in
/-- What the body leaves in the results' buffers. -/
theorem outs (c : Dev nD) (i a2 h2 a3 h3 a4 h4 a5 h5 a6 h6 a7 h7 a8 h8 a9 h9 a10 h10 x0 x1 x2 x3 x4 xt0) :
    (out0_A_5 (F := Ideal) c i a2 h2 a3 h3 a4 h4 a5 h5 a6 h6 a7 h7 a8 h8 a9 h9 a10 h10 x0 x1 x2 x3 x4 xt0, out0_A_6 (F := Ideal) c i a2 h2 a3 h3 a4 h4 a5 h5 a6 h6 a7 h7 a8 h8 a9 h9 a10 h10 x0 x1 x2 x3 x4 xt0, out0_A_7 (F := Ideal) c i a2 h2 a3 h3 a4 h4 a5 h5 a6 h6 a7 h7 a8 h8 a9 h9 a10 h10 x0 x1 x2 x3 x4 xt0, out0_A_8 (F := Ideal) c i a2 h2 a3 h3 a4 h4 a5 h5 a6 h6 a7 h7 a8 h8 a9 h9 a10 h10 x0 x1 x2 x3 x4 xt0)
      = (gB (shares (word xt0) x0 x1), changeB (shares (word xt0) x0 x1) x2 x3 x4, momB (shares (word xt0) x0 x1) x3, secB (shares (word xt0) x0 x1) x4) := by
  unfold out0_A_5 out0_A_6 out0_A_7 out0_A_8
  rw [View.read_writes_eq_canon _ _ _ (cover0_A_5 c i a2 h2 a3 h3 a4 h4 a5 h5 a6 h6 a7 h7 a8 h8 a9 h9 a10 h10 x0 x1 x2 x3 x4 xt0), View.read_writes_eq_canon _ _ _ (cover0_A_6 c i a2 h2 a3 h3 a4 h4 a5 h5 a6 h6 a7 h7 a8 h8 a9 h9 a10 h10 x0 x1 x2 x3 x4 xt0),
    View.read_writes_eq_canon _ _ _ (cover0_A_7 c i a2 h2 a3 h3 a4 h4 a5 h5 a6 h6 a7 h7 a8 h8 a9 h9 a10 h10 x0 x1 x2 x3 x4 xt0), View.read_writes_eq_canon _ _ _ (cover0_A_8 c i a2 h2 a3 h3 a4 h4 a5 h5 a6 h6 a7 h7 a8 h8 a9 h9 a10 h10 x0 x1 x2 x3 x4 xt0)]
  refine Prod.ext ?_ (Prod.ext ?_ (Prod.ext ?_ ?_))
  all_goals
    unfold kernelRun0_A
    dsimp only
    sl_unfold_words
    rw [View.canon_unit_zero hz2]
    simp only [View.readAt_eq_ld, h2.read_unread, h3.read_unread, h4.read_unread, h5.read_unread, h6.read_unread, View.ld_unit_zero (S := S1x128x1024) hz3, View.ld_unit_zero (S := S1024x128) hz2]
    rfl

/-! ## The blocks -/

theorem idx0 : ∀ t : Fin grid0.N, cc0_transform_0 (grid0.coords t) 0 = 0 ∧ cc0_transform_0 (grid0.coords t) 1 = t.val ∧ cc0_transform_0 (grid0.coords t) 2 = 0 := by decide +kernel
theorem coord : ∀ t : Fin grid0.N, (BitVec.ofNat 32 (grid0.coords t 0).val).toNat = t.val := by decide +kernel
theorem idx : ∀ t : Fin grid0.N, cc0_transform_2 (grid0.coords t) 0 = 0 ∧ cc0_transform_2 (grid0.coords t) 1 = t.val := by decide +kernel

/-- The row of the shares that a block's row is, a column of the arrays, and the entry that a block's entry is. -/
def row (t : Fin grid0.N) (r : Fin 128) : Fin 896 := ⟨128 * t.val + r.val, by have : t.val < 7 := t.isLt; omega⟩
def place (t : Fin grid0.N) (j : S1024x128.Idx) : S1024x896.Idx := ix2 (j 0) (row t (j 1))

/-- One account of the weight's, the moments' and the results' windows: all move along the columns alike. -/
theorem at_place (t : Fin grid0.N) (j : S1024x128.Idx) (i : S1024x896.Idx) (h0 : (i 0).val = cc0_transform_2 (grid0.coords t) 0 * 1024 + 1 * (j 0).val) (h1 : (i 1).val = cc0_transform_2 (grid0.coords t) 1 * 128 + 1 * (j 1).val) : i = place t j := by
  obtain ⟨e0, e1⟩ := idx t
  funext a
  apply Fin.ext
  match a with
  | ⟨0, _⟩ => show (i 0).val = (j 0).val; rw [h0, e0]; omega
  | ⟨1, _⟩ => show (i 1).val = 128 * t.val + (j 1).val; rw [h1, e1]; omega

theorem covered (i : S1024x896.Idx) : ∃ t : Fin grid0.N, ∀ a, cc0_transform_2 (grid0.coords t) a * S1024x128.size a ≤ (i a : Nat) ∧ (i a : Nat) < cc0_transform_2 (grid0.coords t) a * S1024x128.size a + S1024x128.size a := by
  have hi : (i 0 : Nat) < 1024 := (i 0).isLt
  have hl : (i 1 : Nat) < 896 := (i 1).isLt
  have hN : (i 1).val / 128 < grid0.N := by show _ < 7; omega
  obtain ⟨h0, h1⟩ := idx ⟨_, hN⟩
  refine ⟨⟨_, hN⟩, fun a => ?_⟩
  match a with
  | ⟨0, _⟩ => show cc0_transform_2 (grid0.coords ⟨_, hN⟩) 0 * 1024 ≤ (i 0 : Nat) ∧ (i 0 : Nat) < cc0_transform_2 (grid0.coords ⟨_, hN⟩) 0 * 1024 + 1024; rw [h0]; omega
  | ⟨1, _⟩ => show cc0_transform_2 (grid0.coords ⟨_, hN⟩) 1 * 128 ≤ (i 1 : Nat) ∧ (i 1 : Nat) < cc0_transform_2 (grid0.coords ⟨_, hN⟩) 1 * 128 + 128; rw [h1]; dsimp only; omega

variable (m : (ℓ : Loc nD τ sig) → Buf (Elt Ideal) ℓ) (ρ : Dev nD → PrngReg)

/-- The device's place and the arrays the call reads. -/
abbrev meA (c : Dev nD) : Vec Ideal S1 .i32 := m ((c : Thread nD τ).loc main_arg0)
abbrev slotsA (c : Dev nD) : Vec Ideal S8x896x1024 .bf16 := m ((c : Thread nD τ).loc main_arg1)
abbrev ownA (c : Dev nD) : Vec Ideal S8x896x1024 .bf16 := m ((c : Thread nD τ).loc main_arg2)
abbrev wA (c : Dev nD) : Vec Ideal S1024x896 .f32 := m ((c : Thread nD τ).loc main_arg3)
abbrev mA (c : Dev nD) : Vec Ideal S1024x896 .f32 := m ((c : Thread nD τ).loc main_arg4)
abbrev vA (c : Dev nD) : Vec Ideal S1024x896 .f32 := m ((c : Thread nD τ).loc main_arg5)

/-- The windows' blocks at a point and the table, at their shapes. -/
def b0 (hO : Ok m) (c : Dev nD) (t : Fin grid0.N) : Vec Ideal S8x128x1024 .bf16 := iblk m hO c 0 t
def b1 (hO : Ok m) (c : Dev nD) (t : Fin grid0.N) : Vec Ideal S1x128x1024 .bf16 := iblk m hO c 1 t
def b2 (hO : Ok m) (c : Dev nD) (t : Fin grid0.N) : Vec Ideal S1024x128 .f32 := iblk m hO c 2 t
def b3 (hO : Ok m) (c : Dev nD) (t : Fin grid0.N) : Vec Ideal S1024x128 .f32 := iblk m hO c 3 t
def b4 (hO : Ok m) (c : Dev nD) (t : Fin grid0.N) : Vec Ideal S1024x128 .f32 := iblk m hO c 4 t
def tb (c : Dev nD) : TbBuf0 (F := Ideal) c tbM0_0 := tbl m 0

theorem blk0 (hO : Ok m) (c : Dev nD) (t : Fin grid0.N) (s : Fin 8) (r : Fin 128) (l : Fin 1024) :
    b0 m hO c t (ix3 s r l) = slotsA m c (ix3 s (row t r) l) := by
  obtain ⟨h0, h1, h2⟩ := idx0 t
  have e : (((cfgM m hO).win 0).blk t).view.emb (ix3 s r l) = ix3 s (row t r) l := by
    funext a
    apply Fin.ext
    match a with
    | ⟨0, _⟩ => show cc0_transform_0 (grid0.coords t) 0 * 8 + 1 * s.val = s.val; rw [h0]; omega
    | ⟨1, _⟩ => show cc0_transform_0 (grid0.coords t) 1 * 128 + 1 * r.val = 128 * t.val + r.val; rw [h1]; omega
    | ⟨2, _⟩ => show cc0_transform_0 (grid0.coords t) 2 * 1024 + 1 * l.val = l.val; rw [h2]; omega
  exact (congrArg (slotsA m c) e)

theorem blk1 (hO : Ok m) (c : Dev nD) (hp : (meA m c (ix1 0) : BitVec 32).toNat < 8) (t : Fin grid0.N) (r : Fin 128) (l : Fin 1024) :
    b1 m hO c t (ix3 0 r l) = ownA m c (ix3 ⟨(meA m c (ix1 0) : BitVec 32).toNat, hp⟩ (row t r) l) := by
  have h1 := coord t
  have e : (((cfgM m hO).win 1).blk t).view.emb (ix3 0 r l) = ix3 (⟨(meA m c (ix1 0) : BitVec 32).toNat, hp⟩ : Fin 8) (row t r) l := by
    funext a
    apply Fin.ext
    match a with
    | ⟨0, _⟩ => show ((tbl m).at 0 (Rect.unit (s := S1) ![0] S1.size inb_S1_S1_0) numel1_S1 : BitVec 32).toNat * 1 + 1 * 0 = (meA m c (ix1 0) : BitVec 32).toNat; rw [Nat.mul_one, Nat.mul_zero, Nat.add_zero]; exact congrArg BitVec.toNat (word_tbl m c)
    | ⟨1, _⟩ => show (BitVec.ofNat 32 (grid0.coords t 0).val).toNat * 128 + 1 * r.val = 128 * t.val + r.val; rw [h1]; omega
    | ⟨2, _⟩ => show 0 * 1024 + 1 * l.val = l.val; omega
  exact (congrArg (ownA m c) e)

theorem blk2 (hO : Ok m) (c : Dev nD) (t : Fin grid0.N) : b2 m hO c t = fun j => wA m c (place t j) := funext fun j => congrArg (wA m c) (at_place t j _ rfl rfl)
theorem blk3 (hO : Ok m) (c : Dev nD) (t : Fin grid0.N) : b3 m hO c t = fun j => mA m c (place t j) := funext fun j => congrArg (mA m c) (at_place t j _ rfl rfl)
theorem blk4 (hO : Ok m) (c : Dev nD) (t : Fin grid0.N) : b4 m hO c t = fun j => vA m c (place t j) := funext fun j => congrArg (vA m c) (at_place t j _ rfl rfl)

theorem word_eq (c : Dev nD) : word (tb m c) = meA m c (ix1 0) := by
  refine Eq.trans ?_ (word_tbl m c)
  rfl

/-! ## The arrays -/

/-- The gradient, the change of the weight and the two new moments, of the arrays the call reads. -/
abbrev gA (c : Dev nD) : Vec Ideal S1024x896 .f32 := gradT (meA m c (ix1 0)) (slotsA m c) (ownA m c)
abbrev dA (c : Dev nD) : Vec Ideal S1024x896 .f32 := changeA (gA m c) (wA m c) (mA m c) (vA m c)
abbrev nmA (c : Dev nD) : Vec Ideal S1024x896 .f32 := momA (gA m c) (mA m c)
abbrev nvA (c : Dev nD) : Vec Ideal S1024x896 .f32 := secA (gA m c) (vA m c)

abbrev sh (hO : Ok m) (c : Dev nD) (t : Fin grid0.N) : Fin 8 → FVec Ideal S128x1024 .bf16 := shares (word (tb m c)) (b0 m hO c t) (b1 m hO c t)

/-- The gradient's block at a point. -/
theorem grad_blk (hO : Ok m) (c : Dev nD) (hp : (meA m c (ix1 0) : BitVec 32).toNat < 8) (t : Fin grid0.N) : gB (sh m hO c t) = fun j => gA m c (place t j) := by
  funext j
  obtain ⟨l, r, rfl⟩ : ∃ (l : Fin 1024) (r : Fin 128), j = ix2 l r := ⟨j 0, j 1, by funext a; match a with | ⟨0, _⟩ => rfl | ⟨1, _⟩ => rfl⟩
  refine (gB_apply _ r l).trans ?_
  rw [sh, word_eq]
  exact total_share k0_pay2 own_apply _ ⟨_, hp⟩ rfl (slotsA m c) (ownA m c) _ _ r (row t r) l (fun s => blk0 m hO c t s r l) (blk1 m hO c hp t r l)

theorem outs_at (hO : Ok m) (c : Dev nD) (t : Fin (cfgM m hO).N) :
    outsAt0 m hO c t = (gB (sh m hO c t), changeB (sh m hO c t) (b2 m hO c t) (b3 m hO c t) (b4 m hO c t), momB (sh m hO c t) (b3 m hO c t), secB (sh m hO c t) (b4 m hO c t)) :=
  outs c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0)

/-- What a point leaves in the results' buffers: the arrays' entries at the point's place. -/
theorem outs_place (hO : Ok m) (c : Dev nD) (hp : (meA m c (ix1 0) : BitVec 32).toNat < 8) (t : Fin (cfgM m hO).N) :
    outsAt0 m hO c t = ((fun j => gA m c (place t j)), (fun j => dA m c (place t j)), (fun j => nmA m c (place t j)), (fun j => nvA m c (place t j))) := by
  refine (outs_at m hO c t).trans ?_
  rw [changeB_eq, momB_eq, secB_eq, grad_blk m hO c hp t, blk2, blk3, blk4]
  rfl

theorem final5 (hO : Ok m) (c : Dev nD) (hp : (meA m c (ix1 0) : BitVec 32).toNat < 8) : (dats m hO 0 c).arrAt 5 (cfgM m hO).N = gA m c :=
  (dats m hO 0 c).arrAt_eq_of_cover 5 _ (fun t _ => by
    have e := outs_place m hO c hp t
    exact (after0_5 m hO c t).trans ((congrArg Prod.fst e).trans (funext fun (j : S1024x128.Idx) => congrArg (gA m c) (at_place t j _ rfl rfl).symm))) fun (i : S1024x896.Idx) => by
    obtain ⟨t, ht⟩ := covered i
    exact ⟨t, flush0_5 _ _, (Finset.ext_iff.mp (View.set_slice_whole main_v0_0 (((cfgM m hO).win 5).rect t)) i).mpr (Rect.mem_set_unit.mpr ht)⟩

theorem final6 (hO : Ok m) (c : Dev nD) (hp : (meA m c (ix1 0) : BitVec 32).toNat < 8) : (dats m hO 0 c).arrAt 6 (cfgM m hO).N = dA m c :=
  (dats m hO 0 c).arrAt_eq_of_cover 6 _ (fun t _ => by
    have e := outs_place m hO c hp t
    exact (after0_6 m hO c t).trans ((congrArg (fun p => p.2.1) e).trans (funext fun (j : S1024x128.Idx) => congrArg (dA m c) (at_place t j _ rfl rfl).symm))) fun (i : S1024x896.Idx) => by
    obtain ⟨t, ht⟩ := covered i
    exact ⟨t, flush0_6 _ _, (Finset.ext_iff.mp (View.set_slice_whole main_v0_1 (((cfgM m hO).win 6).rect t)) i).mpr (Rect.mem_set_unit.mpr ht)⟩

theorem final7 (hO : Ok m) (c : Dev nD) (hp : (meA m c (ix1 0) : BitVec 32).toNat < 8) : (dats m hO 0 c).arrAt 7 (cfgM m hO).N = nmA m c :=
  (dats m hO 0 c).arrAt_eq_of_cover 7 _ (fun t _ => by
    have e := outs_place m hO c hp t
    exact (after0_7 m hO c t).trans ((congrArg (fun p => p.2.2.1) e).trans (funext fun (j : S1024x128.Idx) => congrArg (nmA m c) (at_place t j _ rfl rfl).symm))) fun (i : S1024x896.Idx) => by
    obtain ⟨t, ht⟩ := covered i
    exact ⟨t, flush0_7 _ _, (Finset.ext_iff.mp (View.set_slice_whole main_v0_2 (((cfgM m hO).win 7).rect t)) i).mpr (Rect.mem_set_unit.mpr ht)⟩

theorem final8 (hO : Ok m) (c : Dev nD) (hp : (meA m c (ix1 0) : BitVec 32).toNat < 8) : (dats m hO 0 c).arrAt 8 (cfgM m hO).N = nvA m c :=
  (dats m hO 0 c).arrAt_eq_of_cover 8 _ (fun t _ => by
    have e := outs_place m hO c hp t
    exact (after0_8 m hO c t).trans ((congrArg (fun p => p.2.2.2) e).trans (funext fun (j : S1024x128.Idx) => congrArg (nvA m c) (at_place t j _ rfl rfl).symm))) fun (i : S1024x896.Idx) => by
    obtain ⟨t, ht⟩ := covered i
    exact ⟨t, flush0_8 _ _, (Finset.ext_iff.mp (View.set_slice_whole main_v0_3 (((cfgM m hO).win 8).rect t)) i).mpr (Rect.mem_set_unit.mpr ht)⟩

theorem run_value (hO : Ok m) (hp : ∀ c, (meA m c (ix1 0) : BitVec 32).toNat < 8) :
    θ_run defs (onTc (τ := τ) (main (F := Ideal))) ⟨m, fun _ => 0, ρ⟩ (fun r => ∀ c : Dev nD,
      r.2.mem ((c.tc : Thread nD τ).loc main_v0_0) = gA m c
      ∧ r.2.mem ((c.tc : Thread nD τ).loc main_v0_1) = dA m c
      ∧ r.2.mem ((c.tc : Thread nD τ).loc main_v0_2) = nmA m c
      ∧ r.2.mem ((c.tc : Thread nD τ).loc main_v0_3) = nvA m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h.1 c).1 5).trans (final5 m hO c (hp c)), ((h.1 c).1 6).trans (final6 m hO c (hp c)), ((h.1 c).1 7).trans (final7 m hO c (hp c)), ((h.1 c).1 8).trans (final8 m hO c (hp c)), h.2 c⟩)
    (θ_run_and (run_main m ρ hO) (unchanged m ρ hO))

/-! ## The claims -/

theorem body_text (i a1 h1 a2 h2 a3 h3 a4 h4 a5 h5 a6 h6 a7 h7 a8 h8 a9 h9 a10 h10) : Cert.Kernel17.cc0_adam_w_in (F := Bits) i a1 h1 a2 h2 a3 h3 a4 h4 a5 h5 a6 h6 a7 h7 a8 h8 a9 h9 a10 h10 = Cert.Kernel17Ideal.cc0_adam_w_in (F := Bits) i a1 h1 a2 h2 a3 h3 a4 h4 a5 h5 a6 h6 a7 h7 a8 h8 a9 h9 a10 h10 := rfl

theorem label_text : Cert.Kernel17.defs₀ (F := Bits) = Cert.Kernel17Ideal.defs₀ (F := Bits) := by
  unfold Cert.Kernel17.defs₀ Cert.Kernel17Ideal.defs₀
  refine congrArg (Defs.onTc (nD := nD) (τ := τ) (sig := sig) (Val := Elt Bits) (Λ := Λ₀)) ?_
  funext l x
  match l, x with
  | 0, (t, s) => exact body_text _ _ _ _ _ _ _ _ _ _ _ _ _ _ _ _ _ _ _ _ _
  | ⟨_ + 1, h⟩, _ => exact absurd h (Nat.not_lt.2 (Nat.le_add_left _ _))

/-- The two programs' body tables are one. -/
theorem defs_text : Cert.Kernel17.defs (F := Bits) = Cert.Kernel17Ideal.defs (F := Bits) :=
  congrArg (Pipeline.defs (Cert.Kernel17Ideal.pcfgs (F := Bits))) label_text

theorem at_table (D : Defs nD τ sig (Elt Bits) (Pipeline.Sig Λ₀ (Fin 1) fun p => (pcfgs (F := Bits) p).Adm)) (h : D = defs (F := Bits)) (s Q)
    (hr : θ_run (defs (F := Bits)) (onTc (τ := τ) (main (F := Bits))) s Q) : θ_run D (onTc (τ := τ) (main (F := Bits))) s Q := by
  subst h
  exact hr

theorem frame_bits : Cert.quiescent_Kernel17 := fun m ρ h =>
  at_table _ defs_text _ _ (Cert.Kernel17Ideal.Gen.frame (F := Bits) m ρ (ok_of_lt m (lt_of_pre _ _ _ _ _ _ (h 0))))

theorem frame_ideal : Cert.quiescent_Kernel17Ideal := fun m ρ h =>
  Cert.Kernel17Ideal.Gen.frame m ρ (ok_of_lt m (lt_of_pre _ _ _ _ _ _ (h 0)))

theorem claim17 : Cert.algebraic_Kernel17Ideal_Reference17Ideal := by
  intro m g m' g' hpre hargs
  have hO : Ok m := ok_of_lt m (lt_of_pre _ _ _ _ _ _ (hpre 0))
  have hp : ∀ c, (meA m c (ix1 0) : BitVec 32).toNat < 8 := fun c => lt_of_pre _ _ _ _ _ _ (hpre c)
  refine ⟨fun c => gA m c, fun c => dA m c, fun c => nmA m c, fun c => nvA m c,
    run_value m g hO hp, (θ_run _ _ _).mono (fun _ h c => ?_) (Cert.Reference17Ideal.Value.run m' g')⟩
  obtain ⟨e0, e1, e2, e3, e4, e5⟩ := hargs c
  obtain ⟨h0, h1, h2, h3, h4⟩ := h c
  refine ⟨h0.trans ?_, h1.trans ?_, h2.trans ?_, h3.trans ?_, h4⟩
  all_goals dsimp only
  · rw [e0, e1, e2]
    exact ref_gradT (ref_grad _ _ _ _ _ _ _ _ _ _) _
  · rw [e0, e1, e2, e3, e4, e5]
    exact (ref_change _ _ _ _ _).trans (congrArg (fun g => changeA g (wA m c) (mA m c) (vA m c)) (ref_gradT (ref_grad _ _ _ _ _ _ _ _ _ _) _))
  · rw [e0, e1, e2, e4]
    exact (ref_mom _ _ _).trans (congrArg (fun g => momA g (mA m c)) (ref_gradT (ref_grad _ _ _ _ _ _ _ _ _ _) _))
  · rw [e0, e1, e2, e5]
    exact (ref_sec _ _ _).trans (congrArg (fun g => secA g (vA m c)) (ref_gradT (ref_grad _ _ _ _ _ _ _ _ _ _) _))

end Cert.Proof.AdamIn

end
-- ==== Proof.AdamUpRun.lean ====
module

public import proofs.«01_k».proof.Proof.Gen.Kernel18Ideal.Launch
public import proofs.«01_k».proof.Proof.Gen.Kernel18Ideal.Skeleton
public import proofs.«01_k».proof.Proof.Chosen
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

/-! The run of the optimiser's step on a weight's gradient, at any values: the launch, what the body leaves in each
    result's buffer at each point, and the final states. -/

namespace Cert.Kernel18Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.Chosen

variable {F : FTy → Type} [FloatOps F]

local notation "𝕄" => MT nD τ sig Unit (Elt F) ℕ (UR sig nD τ) ℕ

/-! ## The points -/

theorem flush0_5 (a : (pcfg0 (F := F)).Adm) : ∀ t : Fin (cfg0 a).N, ((cfg0 a).win 5).flush t = true :=
  (by decide +kernel : ∀ t : Fin grid0.N, Pipeline.Window.flushOf grid0 true cc0_transform_5 t = true)
theorem flush0_6 (a : (pcfg0 (F := F)).Adm) : ∀ t : Fin (cfg0 a).N, ((cfg0 a).win 6).flush t = true :=
  (by decide +kernel : ∀ t : Fin grid0.N, Pipeline.Window.flushOf grid0 true cc0_transform_6 t = true)
theorem flush0_7 (a : (pcfg0 (F := F)).Adm) : ∀ t : Fin (cfg0 a).N, ((cfg0 a).win 7).flush t = true :=
  (by decide +kernel : ∀ t : Fin grid0.N, Pipeline.Window.flushOf grid0 true cc0_transform_7 t = true)
theorem flush0_8 (a : (pcfg0 (F := F)).Adm) : ∀ t : Fin (cfg0 a).N, ((cfg0 a).win 8).flush t = true :=
  (by decide +kernel : ∀ t : Fin grid0.N, Pipeline.Window.flushOf grid0 true cc0_transform_8 t = true)

abbrev bodyAt0 (a : (pcfg0 (F := F)).Adm) (t : Fin (cfg0 a).N) : Prog (TpuEff nD τ sig (Elt F) Λ₀ .tc) PUnit :=
  cc0_adam_w_up (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8))

variable (m : (ℓ : Loc nD τ sig) → Buf (Elt F) ℓ) (ρ : Dev nD → PrngReg)

/-! ## @main up to the region -/

abbrev V (c : Dev nD) (b : Ref sig .tc) : Buf (Elt F) ((c : Thread nD τ).loc b) := m ((c : Thread nD τ).loc b)

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl

/-! ## The prefetched tables, read off the launch memory -/

def tbl : pre0.Contents (Elt F) := fun j => V m (0 : Dev nD) (pre0.ref j)
theorem V_pre (c : Dev nD) (j : Fin 1) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbM0_0 : Memref sig .tc .smem S1 .i32 := Memref.whole main_arg0
abbrev htbM0_0 : tbM0_0.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (by decide : main_arg0 ∈ Pipeline.restRefs sig spec0)).trans (V_main_arg0 m c),
      ((h c).1 0).trans (((dats 0 c).arrAt_in 0 rfl _).trans ((hA c 0).trans (V_main_arg1 m c))),
      ((h c).1 1).trans (((dats 0 c).arrAt_in 1 rfl _).trans ((hA c 1).trans (V_main_arg2 m c))),
      ((h c).1 2).trans (((dats 0 c).arrAt_in 2 rfl _).trans ((hA c 2).trans (V_main_arg3 m c))),
      ((h c).1 3).trans (((dats 0 c).arrAt_in 3 rfl _).trans ((hA c 3).trans (V_main_arg4 m c))),
      ((h c).1 4).trans (((dats 0 c).arrAt_in 4 rfl _).trans ((hA c 4).trans (V_main_arg5 m c)))⟩) h

/-! ## The kernel body on any staging memrefs: a subtype the run finds -/

abbrev VO0_5 : View sig .tc .vmem S1024x704 .f32 := (Memref.whole cc0_stg5_0 : Memref sig .tc .vmem S1024x704 .f32).view
abbrev VO0_6 : View sig .tc .vmem S1024x704 .f32 := (Memref.whole cc0_stg6_0 : Memref sig .tc .vmem S1024x704 .f32).view
abbrev VO0_7 : View sig .tc .vmem S1024x704 .f32 := (Memref.whole cc0_stg7_0 : Memref sig .tc .vmem S1024x704 .f32).view
abbrev VO0_8 : View sig .tc .vmem S1024x704 .f32 := (Memref.whole cc0_stg8_0 : Memref sig .tc .vmem S1024x704 .f32).view
abbrev ms0_0 (hO : Ok m) (t : Fin (cfgM m hO).N) : Memref sig .tc .vmem S8x704x1024 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x704x1024 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1024x704 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1024x704 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1024x704 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1024x704 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1024x704 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1024x704 .f32 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1024x704 .f32 := spec0_8.stage ((cfgM m hO).slots t 8)
abbrev hs0_8 (hO : Ok m) (t : Fin (cfgM m hO).N) : (ms0_8 m hO t).IsWhole := hstage0_8 (((cfgM m hO).slots t 8).cast nbuf0_8)

section

variable (c : Dev nD) (i : grid0.Coords) (arg2 : Memref sig .tc .vmem S8x704x1024 .bf16) (harg2 : arg2.IsWhole) (arg3 : Memref sig .tc .vmem S1x704x1024 .bf16) (harg3 : arg3.IsWhole) (arg4 : Memref sig .tc .vmem S1024x704 .f32) (harg4 : arg4.IsWhole) (arg5 : Memref sig .tc .vmem S1024x704 .f32) (harg5 : arg5.IsWhole) (arg6 : Memref sig .tc .vmem S1024x704 .f32) (harg6 : arg6.IsWhole) (arg7 : Memref sig .tc .vmem S1024x704 .f32) (harg7 : arg7.IsWhole) (arg8 : Memref sig .tc .vmem S1024x704 .f32) (harg8 : arg8.IsWhole) (arg9 : Memref sig .tc .vmem S1024x704 .f32) (harg9 : arg9.IsWhole) (arg10 : Memref sig .tc .vmem S1024x704 .f32) (harg10 : arg10.IsWhole)
  (x0 : Vec F S8x704x1024 .bf16) (x1 : Vec F S1x704x1024 .bf16) (x2 : Vec F S1024x704 .f32) (x3 : Vec F S1024x704 .f32) (x4 : Vec F S1024x704 .f32) (xt0 : TbBuf0 (F := F) c tbM0_0)

set_option maxHeartbeats 1000000 in
/-- What the body leaves in each result's buffer, as the pieces stored, with the run that leaves them: a share is chosen
    eight times, the device's own or the one read from its slot. -/
noncomputable def kernelRun0_A :
    Σ' (L5 : List (View.Piece (Elt F) S1024x704 .f32)), Σ' (L6 : List (View.Piece (Elt F) S1024x704 .f32)), Σ' (L7 : List (View.Piece (Elt F) S1024x704 .f32)), { L8 : List (View.Piece (Elt F) S1024x704 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ tbPt0 c tbM0_0 xt0) -∗ K ⟨⟩))
          ⊢ wp frame (wpE (defs₀ (F := F)) Variants.none c none) E (cc0_adam_w_up i tbM0_0 htbM0_0 arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0_adam_w_up_eq_skeleton]; unfold cc0_adam_w_up_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, HT0, Hk⟩
    obtain rfl := harg2.eq_unread hf0; obtain rfl := harg3.eq_unread hf1; obtain rfl := harg4.eq_unread hf2; obtain rfl := harg5.eq_unread hf3; obtain rfl := harg6.eq_unread hf4
    sl_exec
    iapply (wp_chosen Variants.none (c : Thread nD τ) none E _ _ _ (View.setOn_subset_set _ _)) $$ H0
    iintro H0
    sl_exec
    iapply (wp_chosen Variants.none (c : Thread nD τ) none E _ _ _ (View.setOn_subset_set _ _)) $$ H0
    iintro H0
    sl_exec
    iapply (wp_chosen Variants.none (c : Thread nD τ) none E _ _ _ (View.setOn_subset_set _ _)) $$ H0
    iintro H0
    sl_exec
    iapply (wp_chosen Variants.none (c : Thread nD τ) none E _ _ _ (View.setOn_subset_set _ _)) $$ H0
    iintro H0
    sl_exec
    iapply (wp_chosen Variants.none (c : Thread nD τ) none E _ _ _ (View.setOn_subset_set _ _)) $$ H0
    iintro H0
    sl_exec
    iapply (wp_chosen Variants.none (c : Thread nD τ) none E _ _ _ (View.setOn_subset_set _ _)) $$ H0
    iintro H0
    sl_exec
    iapply (wp_chosen Variants.none (c : Thread nD τ) none E _ _ _ (View.setOn_subset_set _ _)) $$ H0
    iintro H0
    sl_exec
    iapply (wp_chosen Variants.none (c : Thread nD τ) none E _ _ _ (View.setOn_subset_set _ _)) $$ H0
    iintro H0
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    isplitl [H8]; · iexists _; iexact H8
    iexact HT0

theorem cover0_A_5  (y : S1024x704.Idx) :
    ∃ pc ∈ (kernelRun0_A c i arg2 harg2 arg3 harg3 arg4 harg4 arg5 harg5 arg6 harg6 arg7 harg7 arg8 harg8 arg9 harg9 arg10 harg10 x0 x1 x2 x3 x4 xt0).1, y ∈ pc.1.set :=
  View.cover_of_tiledL (kernelRun0_A c i arg2 harg2 arg3 harg3 arg4 harg4 arg5 harg5 arg6 harg6 arg7 harg7 arg8 harg8 arg9 harg9 arg10 harg10 x0 x1 x2 x3 x4 xt0).1 S1024x704.size (by sl_kernel_rfl) y

def out0_A_5 : Vec F S1024x704 .f32 :=
  VO0_5.read (Elt F) (VO0_5.writes (Elt F) VO0_5.junk (kernelRun0_A c i arg2 harg2 arg3 harg3 arg4 harg4 arg5 harg5 arg6 harg6 arg7 harg7 arg8 harg8 arg9 harg9 arg10 harg10 x0 x1 x2 x3 x4 xt0).1)

theorem cover0_A_6  (y : S1024x704.Idx) :
    ∃ pc ∈ (kernelRun0_A c i arg2 harg2 arg3 harg3 arg4 harg4 arg5 harg5 arg6 harg6 arg7 harg7 arg8 harg8 arg9 harg9 arg10 harg10 x0 x1 x2 x3 x4 xt0).2.1, y ∈ pc.1.set :=
  View.cover_of_tiledL (kernelRun0_A c i arg2 harg2 arg3 harg3 arg4 harg4 arg5 harg5 arg6 harg6 arg7 harg7 arg8 harg8 arg9 harg9 arg10 harg10 x0 x1 x2 x3 x4 xt0).2.1 S1024x704.size (by sl_kernel_rfl) y

def out0_A_6 : Vec F S1024x704 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 x0 x1 x2 x3 x4 xt0).2.1)

theorem cover0_A_7  (y : S1024x704.Idx) :
    ∃ pc ∈ (kernelRun0_A c i arg2 harg2 arg3 harg3 arg4 harg4 arg5 harg5 arg6 harg6 arg7 harg7 arg8 harg8 arg9 harg9 arg10 harg10 x0 x1 x2 x3 x4 xt0).2.2.1, y ∈ pc.1.set :=
  View.cover_of_tiledL (kernelRun0_A c i arg2 harg2 arg3 harg3 arg4 harg4 arg5 harg5 arg6 harg6 arg7 harg7 arg8 harg8 arg9 harg9 arg10 harg10 x0 x1 x2 x3 x4 xt0).2.2.1 S1024x704.size (by sl_kernel_rfl) y

def out0_A_7 : Vec F S1024x704 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 x0 x1 x2 x3 x4 xt0).2.2.1)

theorem cover0_A_8  (y : S1024x704.Idx) :
    ∃ pc ∈ (kernelRun0_A c i arg2 harg2 arg3 harg3 arg4 harg4 arg5 harg5 arg6 harg6 arg7 harg7 arg8 harg8 arg9 harg9 arg10 harg10 x0 x1 x2 x3 x4 xt0).2.2.2.1, y ∈ pc.1.set :=
  View.cover_of_tiledL (kernelRun0_A c i arg2 harg2 arg3 harg3 arg4 harg4 arg5 harg5 arg6 harg6 arg7 harg7 arg8 harg8 arg9 harg9 arg10 harg10 x0 x1 x2 x3 x4 xt0).2.2.2.1 S1024x704.size (by sl_kernel_rfl) y

def out0_A_8 : Vec F S1024x704 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 x0 x1 x2 x3 x4 xt0).2.2.2.1)

end

/-! ## What the outputs hold after each point -/

def outsAt0 (hO : Ok m) (c : Dev nD) (t : Fin (cfgM m hO).N) : Vec F S1024x704 .f32 × Vec F S1024x704 .f32 × Vec F S1024x704 .f32 × Vec F S1024x704 .f32 :=
  (out0_A_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0), out0_A_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0), out0_A_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0), out0_A_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0))

/-! ## The pipeline's proof data -/

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => (outsAt0 m hO c t).1
    | ⟨6, _⟩ => (outsAt0 m hO c t).2.1
    | ⟨7, _⟩ => (outsAt0 m hO c t).2.2.1
    | ⟨8, _⟩ => (outsAt0 m hO c t).2.2.2
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = (outsAt0 m hO c t).1 := by dsimp only [dats]; try rfl
theorem after0_6 (hO : Ok m) (c : Dev nD) (t : Fin (cfgM m hO).N) : (dats m hO 0 c).after 6 t = (outsAt0 m hO c t).2.1 := by dsimp only [dats]; try rfl
theorem after0_7 (hO : Ok m) (c : Dev nD) (t : Fin (cfgM m hO).N) : (dats m hO 0 c).after 7 t = (outsAt0 m hO c t).2.2.1 := by dsimp only [dats]; try rfl
theorem after0_8 (hO : Ok m) (c : Dev nD) (t : Fin (cfgM m hO).N) : (dats m hO 0 c).after 8 t = (outsAt0 m hO c t).2.2.2 := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

/-! ## The body obligation, at a generic point -/

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t))

set_option maxHeartbeats 800000 in
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7, after0_8]
  rw [show (dats m hO 0 c).Φ t.castSucc = iprop(Pipeline.ΦA spec0 c ∗ Pipeline.ΦT pre0 (tbl m) c) from rfl, PhiT0_eq]
  unfold outsAt0
  unfold out0_A_5 out0_A_6 out0_A_7 out0_A_8; (try dsimp only)
  iintro ⟨⟨HΦ, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_A c (grid0.coords t) _ _ _ _ _ _ _ _ _ _ _ _ _ _ _ _ _ _ (iblk m hO c 0 t) (iblk m hO c 1 t) (iblk m hO c 2 t) (iblk m hO c 3 t) (iblk m hO c 4 t) (tbl m 0)).2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [HT0]; · iexact HT0
  iintro ⟨H0, H1, H2, H3, H4, ⟨%e5, H5⟩, ⟨%e6, H6⟩, ⟨%e7, H7⟩, ⟨%e8, H8⟩, HT0⟩
  isplitl [HΦ HT0]
  · isplitl [HΦ]
    · iexact HΦ
    iexact HT0
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover0_A_5 c _ _ _ _ _ _ _ _ _ _ _ _ _ _ _ _ _ _ _ _ _ _ _ _ _)
  isplitl [H6]
  · unfold owns; iexists _; isplitr
    swap; · iexact H6
    ipureintro; exact View.read_writes_of_cover _ _ _ _ _ (cover0_A_6 c _ _ _ _ _ _ _ _ _ _ _ _ _ _ _ _ _ _ _ _ _ _ _ _ _)
  isplitl [H7]
  · unfold owns; iexists _; isplitr
    swap; · iexact H7
    ipureintro; exact View.read_writes_of_cover _ _ _ _ _ (cover0_A_7 c _ _ _ _ _ _ _ _ _ _ _ _ _ _ _ _ _ _ _ _ _ _ _ _ _)
  unfold owns; iexists _; isplitr
  swap; · iexact H8
  ipureintro; exact View.read_writes_of_cover _ _ _ _ _ (cover0_A_8 c _ _ _ _ _ _ _ _ _ _ _ _ _ _ _ _ _ _ _ _ _ _ _ _ _)

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run and the frame -/

set_option backward.isDefEq.respectTransparency.types false in
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (dats m hO) (A_eq m hO) (run_main m ρ hO)

theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO) ((θ_run defs _ _).mono (fun _ h => h.2) (run_main_quiescent m ρ hO))

end Cert.Kernel18Ideal.Gen

end
-- ==== Proof.AdamUp.lean ====
module

public import proofs.«01_k».proof.Proof.AdamUpRun
public import proofs.«01_k».proof.Proof.AdamStep
public import proofs.«01_k».proof.Proof.Gen.Kernel18
public import proofs.«01_k».proof.Proof.Gen.Reference18Ideal.Run
public import proofs.«01_k».proof.Proof.Gen.Pre_on_mesh18
public import proofs.«01_k».proof.Defs
public import Idealize.ShloMosaic.Lib.Pipeline.Value
public import Idealize.ShloMosaic.Lib.Pointwise

@[expose] public section

set_option maxRecDepth 16384

noncomputable section

/-!
  The optimiser's step on the weight to the inner width, kept transposed: the call.
-/

namespace Cert.Proof.AdamUp

open Idealize.ShloMosaic Idealize.ShloMosaic.TcCoe Idealize.SL.Sem
open Idealize.ShloMosaic.Pipeline (Dat)
open Cert.Kernel18Ideal Cert.Kernel18Ideal.Gen
open Cert.Proof.AdamStep

/-! ## The device's place: one of eight -/

section Place
variable {F : FTy → Type} [FloatOps F]

/-- A table whose word is one of the eight places admits every block the own share is read from. -/
theorem ok_of_place (pf : pre0.Contents (Elt F)) (h : (pf.at 0 (Rect.unit (s := S1) ![0] S1.size inb_S1_S1_0) numel1_S1 : BitVec 32).toNat < 8) : ok0 pf := by
  intro i
  refine ⟨fun a => ?_, .inr (Affine.block_words_dvd (of_decide_eq_true rfl) (by decide))⟩
  match a with
  | ⟨0, _⟩ => show ((pf.at 0 (Rect.unit (s := S1) ![0] S1.size inb_S1_S1_0) numel1_S1 : BitVec 32).toNat + 1) * 1 ≤ 8; omega
  | ⟨1, _⟩ => exact hinb0_0 i 1
  | ⟨2, _⟩ => exact hinb0_0 i 2

theorem word_tbl (m : (ℓ : Loc nD τ sig) → Buf (Elt F) ℓ) (c : Dev nD) :
    ((tbl m).at 0 (Rect.unit (s := S1) ![0] S1.size inb_S1_S1_0) numel1_S1 : BitVec 32) = (m ((c : Thread nD τ).loc main_arg0) : Vec F S1 .i32) (ix1 0) := by
  obtain rfl : c = 0 := Subsingleton.elim _ _
  show (m (((0 : Dev nD) : Thread nD τ).loc main_arg0) : Vec F S1 .i32) _ = _
  congr 1
  funext a
  match a with
  | ⟨0, _⟩ => rfl

theorem lt_of_pre (me : IVec S1 32) (x1 x2 : FVec F S8x704x1024 .bf16) (x3 x4 x5 : FVec F S1024x704 .f32)
    (h : Cert.Pre_on_mesh18.fn me x1 x2 x3 x4 x5 = fun _ => 1#1) : (me (ix1 0)).toNat < 8 :=
  place_lt _ (congrFun h (ix1 0))

theorem ok_of_lt (m : (ℓ : Loc nD τ sig) → Buf (Elt F) ℓ) (h : ((m ((((0 : Dev nD)) : Thread nD τ).loc main_arg0) : Vec F S1 .i32) (ix1 0) : BitVec 32).toNat < 8) : Ok m :=
  ok_of_place (tbl m) (by rw [word_tbl m 0]; exact h)

end Place

/-! ## One block -/

/-- The eight shares as the body chooses them. -/
abbrev shares (w : BitVec 32) (x0 : Vec Ideal S8x704x1024 .bf16) (x1 : Vec Ideal S1x704x1024 .bf16) : Fin 8 → FVec Ideal S704x1024 .bf16 := share k0_pay2 w x0 x1

/-- The blocks of the results, from the shares: the gradient, the change of the weight, the two moments. -/
abbrev first5 (v : Fin 8 → FVec Ideal S704x1024 .bf16) : FVec Ideal S704x1024 .f32 := k0_pay8 (v 0) (v 1) (v 2) (v 3) (v 4)
def gB (v : Fin 8 → FVec Ideal S704x1024 .bf16) : FVec Ideal S1024x704 .f32 := k0_pay12 (first5 v) (v 5) (v 6) (v 7)
def changeB (v : Fin 8 → FVec Ideal S704x1024 .bf16) (x2 x3 x4 : Vec Ideal S1024x704 .f32) : FVec Ideal S1024x704 .f32 := k0_pay1 x2 (k0_pay15 (first5 v) (v 5) (v 6) (v 7) x3) (k0_pay16 (first5 v) (v 5) (v 6) (v 7) x4)
def momB (v : Fin 8 → FVec Ideal S704x1024 .bf16) (x3 : Vec Ideal S1024x704 .f32) : FVec Ideal S1024x704 .f32 := k0_pay13 (first5 v) (v 5) (v 6) (v 7) x3
def secB (v : Fin 8 → FVec Ideal S704x1024 .bf16) (x4 : Vec Ideal S1024x704 .f32) : FVec Ideal S1024x704 .f32 := k0_pay14 (first5 v) (v 5) (v 6) (v 7) x4

theorem own_apply (x : Vec Ideal S1x704x1024 .bf16) (r : Fin 704) (l : Fin 1024) : k0_pay2 x (ix2 r l) = x (ix3 0 r l) := by
  pointwise [k0_pay2]

theorem gB_apply (v : Fin 8 → FVec Ideal S704x1024 .bf16) (r : Fin 704) (l : Fin 1024) : gB v (ix2 l r) = ∑ s : Fin 8, v s (ix2 r l) := by
  rw [Fin.sum_univ_eight]
  pointwise [gB, k0_pay12, k0_pay8]

theorem momB_eq (v : Fin 8 → FVec Ideal S704x1024 .bf16) (x3 : Vec Ideal S1024x704 .f32) : momB v x3 = momA (gB v) x3 := rfl
theorem secB_eq (v : Fin 8 → FVec Ideal S704x1024 .bf16) (x4 : Vec Ideal S1024x704 .f32) : secB v x4 = secA (gB v) x4 := rfl
theorem changeB_eq (v : Fin 8 → FVec Ideal S704x1024 .bf16) (x2 x3 x4 : Vec Ideal S1024x704 .f32) : changeB v x2 x3 x4 = changeA (gB v) x2 x3 x4 := rfl

/-- The word the body reads off the table. -/
def word {c : Dev nD} (xt0 : TbBuf0 (F := Ideal) c tbM0_0) : BitVec 32 :=
  View.readAt (Elt Ideal) tbM0_0.view (Rect.unit ![0] S1.size inb_S1_S1_0).toLoadRect xt0 (Shape.Idx.first (by decide))

set_option maxHeartbeats 1000000 in
/-- What the body leaves in the results' buffers. -/
theorem outs (c : Dev nD) (i a2 h2 a3 h3 a4 h4 a5 h5 a6 h6 a7 h7 a8 h8 a9 h9 a10 h10 x0 x1 x2 x3 x4 xt0) :
    (out0_A_5 (F := Ideal) c i a2 h2 a3 h3 a4 h4 a5 h5 a6 h6 a7 h7 a8 h8 a9 h9 a10 h10 x0 x1 x2 x3 x4 xt0, out0_A_6 (F := Ideal) c i a2 h2 a3 h3 a4 h4 a5 h5 a6 h6 a7 h7 a8 h8 a9 h9 a10 h10 x0 x1 x2 x3 x4 xt0, out0_A_7 (F := Ideal) c i a2 h2 a3 h3 a4 h4 a5 h5 a6 h6 a7 h7 a8 h8 a9 h9 a10 h10 x0 x1 x2 x3 x4 xt0, out0_A_8 (F := Ideal) c i a2 h2 a3 h3 a4 h4 a5 h5 a6 h6 a7 h7 a8 h8 a9 h9 a10 h10 x0 x1 x2 x3 x4 xt0)
      = (gB (shares (word xt0) x0 x1), changeB (shares (word xt0) x0 x1) x2 x3 x4, momB (shares (word xt0) x0 x1) x3, secB (shares (word xt0) x0 x1) x4) := by
  unfold out0_A_5 out0_A_6 out0_A_7 out0_A_8
  rw [View.read_writes_eq_canon _ _ _ (cover0_A_5 c i a2 h2 a3 h3 a4 h4 a5 h5 a6 h6 a7 h7 a8 h8 a9 h9 a10 h10 x0 x1 x2 x3 x4 xt0), View.read_writes_eq_canon _ _ _ (cover0_A_6 c i a2 h2 a3 h3 a4 h4 a5 h5 a6 h6 a7 h7 a8 h8 a9 h9 a10 h10 x0 x1 x2 x3 x4 xt0),
    View.read_writes_eq_canon _ _ _ (cover0_A_7 c i a2 h2 a3 h3 a4 h4 a5 h5 a6 h6 a7 h7 a8 h8 a9 h9 a10 h10 x0 x1 x2 x3 x4 xt0), View.read_writes_eq_canon _ _ _ (cover0_A_8 c i a2 h2 a3 h3 a4 h4 a5 h5 a6 h6 a7 h7 a8 h8 a9 h9 a10 h10 x0 x1 x2 x3 x4 xt0)]
  refine Prod.ext ?_ (Prod.ext ?_ (Prod.ext ?_ ?_))
  all_goals
    unfold kernelRun0_A
    dsimp only
    sl_unfold_words
    rw [View.canon_unit_zero hz2]
    simp only [View.readAt_eq_ld, h2.read_unread, h3.read_unread, h4.read_unread, h5.read_unread, h6.read_unread, View.ld_unit_zero (S := S1x704x1024) hz3, View.ld_unit_zero (S := S1024x704) hz2]
    rfl

/-! ## The blocks -/

theorem idx0 : ∀ t : Fin grid0.N, cc0_transform_0 (grid0.coords t) 0 = 0 ∧ cc0_transform_0 (grid0.coords t) 1 = t.val ∧ cc0_transform_0 (grid0.coords t) 2 = 0 := by decide +kernel
theorem coord : ∀ t : Fin grid0.N, (BitVec.ofNat 32 (grid0.coords t 0).val).toNat = t.val := by decide +kernel
theorem idx : ∀ t : Fin grid0.N, cc0_transform_2 (grid0.coords t) 0 = 0 ∧ cc0_transform_2 (grid0.coords t) 1 = t.val := by decide +kernel

/-- The row of the shares that a block's row is, a column of the arrays, and the entry that a block's entry is. -/
def row (t : Fin grid0.N) (r : Fin 704) : Fin 704 := ⟨704 * t.val + r.val, by have : t.val < 1 := t.isLt; omega⟩
def place (t : Fin grid0.N) (j : S1024x704.Idx) : S1024x704.Idx := ix2 (j 0) (row t (j 1))

/-- One account of the weight's, the moments' and the results' windows: all move along the columns alike. -/
theorem at_place (t : Fin grid0.N) (j : S1024x704.Idx) (i : S1024x704.Idx) (h0 : (i 0).val = cc0_transform_2 (grid0.coords t) 0 * 1024 + 1 * (j 0).val) (h1 : (i 1).val = cc0_transform_2 (grid0.coords t) 1 * 704 + 1 * (j 1).val) : i = place t j := by
  obtain ⟨e0, e1⟩ := idx t
  funext a
  apply Fin.ext
  match a with
  | ⟨0, _⟩ => show (i 0).val = (j 0).val; rw [h0, e0]; omega
  | ⟨1, _⟩ => show (i 1).val = 704 * t.val + (j 1).val; rw [h1, e1]; omega

theorem covered (i : S1024x704.Idx) : ∃ t : Fin grid0.N, ∀ a, cc0_transform_2 (grid0.coords t) a * S1024x704.size a ≤ (i a : Nat) ∧ (i a : Nat) < cc0_transform_2 (grid0.coords t) a * S1024x704.size a + S1024x704.size a := by
  have hi : (i 0 : Nat) < 1024 := (i 0).isLt
  have hl : (i 1 : Nat) < 704 := (i 1).isLt
  have hN : (i 1).val / 704 < grid0.N := by show _ < 1; omega
  obtain ⟨h0, h1⟩ := idx ⟨_, hN⟩
  refine ⟨⟨_, hN⟩, fun a => ?_⟩
  match a with
  | ⟨0, _⟩ => show cc0_transform_2 (grid0.coords ⟨_, hN⟩) 0 * 1024 ≤ (i 0 : Nat) ∧ (i 0 : Nat) < cc0_transform_2 (grid0.coords ⟨_, hN⟩) 0 * 1024 + 1024; rw [h0]; omega
  | ⟨1, _⟩ => show cc0_transform_2 (grid0.coords ⟨_, hN⟩) 1 * 704 ≤ (i 1 : Nat) ∧ (i 1 : Nat) < cc0_transform_2 (grid0.coords ⟨_, hN⟩) 1 * 704 + 704; rw [h1]; dsimp only; omega

variable (m : (ℓ : Loc nD τ sig) → Buf (Elt Ideal) ℓ) (ρ : Dev nD → PrngReg)

/-- The device's place and the arrays the call reads. -/
abbrev meA (c : Dev nD) : Vec Ideal S1 .i32 := m ((c : Thread nD τ).loc main_arg0)
abbrev slotsA (c : Dev nD) : Vec Ideal S8x704x1024 .bf16 := m ((c : Thread nD τ).loc main_arg1)
abbrev ownA (c : Dev nD) : Vec Ideal S8x704x1024 .bf16 := m ((c : Thread nD τ).loc main_arg2)
abbrev wA (c : Dev nD) : Vec Ideal S1024x704 .f32 := m ((c : Thread nD τ).loc main_arg3)
abbrev mA (c : Dev nD) : Vec Ideal S1024x704 .f32 := m ((c : Thread nD τ).loc main_arg4)
abbrev vA (c : Dev nD) : Vec Ideal S1024x704 .f32 := m ((c : Thread nD τ).loc main_arg5)

/-- The windows' blocks at a point and the table, at their shapes. -/
def b0 (hO : Ok m) (c : Dev nD) (t : Fin grid0.N) : Vec Ideal S8x704x1024 .bf16 := iblk m hO c 0 t
def b1 (hO : Ok m) (c : Dev nD) (t : Fin grid0.N) : Vec Ideal S1x704x1024 .bf16 := iblk m hO c 1 t
def b2 (hO : Ok m) (c : Dev nD) (t : Fin grid0.N) : Vec Ideal S1024x704 .f32 := iblk m hO c 2 t
def b3 (hO : Ok m) (c : Dev nD) (t : Fin grid0.N) : Vec Ideal S1024x704 .f32 := iblk m hO c 3 t
def b4 (hO : Ok m) (c : Dev nD) (t : Fin grid0.N) : Vec Ideal S1024x704 .f32 := iblk m hO c 4 t
def tb (c : Dev nD) : TbBuf0 (F := Ideal) c tbM0_0 := tbl m 0

theorem blk0 (hO : Ok m) (c : Dev nD) (t : Fin grid0.N) (s : Fin 8) (r : Fin 704) (l : Fin 1024) :
    b0 m hO c t (ix3 s r l) = slotsA m c (ix3 s (row t r) l) := by
  obtain ⟨h0, h1, h2⟩ := idx0 t
  have e : (((cfgM m hO).win 0).blk t).view.emb (ix3 s r l) = ix3 s (row t r) l := by
    funext a
    apply Fin.ext
    match a with
    | ⟨0, _⟩ => show cc0_transform_0 (grid0.coords t) 0 * 8 + 1 * s.val = s.val; rw [h0]; omega
    | ⟨1, _⟩ => show cc0_transform_0 (grid0.coords t) 1 * 704 + 1 * r.val = 704 * t.val + r.val; rw [h1]; omega
    | ⟨2, _⟩ => show cc0_transform_0 (grid0.coords t) 2 * 1024 + 1 * l.val = l.val; rw [h2]; omega
  exact (congrArg (slotsA m c) e)

theorem blk1 (hO : Ok m) (c : Dev nD) (hp : (meA m c (ix1 0) : BitVec 32).toNat < 8) (t : Fin grid0.N) (r : Fin 704) (l : Fin 1024) :
    b1 m hO c t (ix3 0 r l) = ownA m c (ix3 ⟨(meA m c (ix1 0) : BitVec 32).toNat, hp⟩ (row t r) l) := by
  have h1 := coord t
  have e : (((cfgM m hO).win 1).blk t).view.emb (ix3 0 r l) = ix3 (⟨(meA m c (ix1 0) : BitVec 32).toNat, hp⟩ : Fin 8) (row t r) l := by
    funext a
    apply Fin.ext
    match a with
    | ⟨0, _⟩ => show ((tbl m).at 0 (Rect.unit (s := S1) ![0] S1.size inb_S1_S1_0) numel1_S1 : BitVec 32).toNat * 1 + 1 * 0 = (meA m c (ix1 0) : BitVec 32).toNat; rw [Nat.mul_one, Nat.mul_zero, Nat.add_zero]; exact congrArg BitVec.toNat (word_tbl m c)
    | ⟨1, _⟩ => show (BitVec.ofNat 32 (grid0.coords t 0).val).toNat * 704 + 1 * r.val = 704 * t.val + r.val; rw [h1]; omega
    | ⟨2, _⟩ => show 0 * 1024 + 1 * l.val = l.val; omega
  exact (congrArg (ownA m c) e)

theorem blk2 (hO : Ok m) (c : Dev nD) (t : Fin grid0.N) : b2 m hO c t = fun j => wA m c (place t j) := funext fun j => congrArg (wA m c) (at_place t j _ rfl rfl)
theorem blk3 (hO : Ok m) (c : Dev nD) (t : Fin grid0.N) : b3 m hO c t = fun j => mA m c (place t j) := funext fun j => congrArg (mA m c) (at_place t j _ rfl rfl)
theorem blk4 (hO : Ok m) (c : Dev nD) (t : Fin grid0.N) : b4 m hO c t = fun j => vA m c (place t j) := funext fun j => congrArg (vA m c) (at_place t j _ rfl rfl)

theorem word_eq (c : Dev nD) : word (tb m c) = meA m c (ix1 0) := by
  refine Eq.trans ?_ (word_tbl m c)
  rfl

/-! ## The arrays -/

/-- The gradient, the change of the weight and the two new moments, of the arrays the call reads. -/
abbrev gA (c : Dev nD) : Vec Ideal S1024x704 .f32 := gradT (meA m c (ix1 0)) (slotsA m c) (ownA m c)
abbrev dA (c : Dev nD) : Vec Ideal S1024x704 .f32 := changeA (gA m c) (wA m c) (mA m c) (vA m c)
abbrev nmA (c : Dev nD) : Vec Ideal S1024x704 .f32 := momA (gA m c) (mA m c)
abbrev nvA (c : Dev nD) : Vec Ideal S1024x704 .f32 := secA (gA m c) (vA m c)

abbrev sh (hO : Ok m) (c : Dev nD) (t : Fin grid0.N) : Fin 8 → FVec Ideal S704x1024 .bf16 := shares (word (tb m c)) (b0 m hO c t) (b1 m hO c t)

/-- The gradient's block at a point. -/
theorem grad_blk (hO : Ok m) (c : Dev nD) (hp : (meA m c (ix1 0) : BitVec 32).toNat < 8) (t : Fin grid0.N) : gB (sh m hO c t) = fun j => gA m c (place t j) := by
  funext j
  obtain ⟨l, r, rfl⟩ : ∃ (l : Fin 1024) (r : Fin 704), j = ix2 l r := ⟨j 0, j 1, by funext a; match a with | ⟨0, _⟩ => rfl | ⟨1, _⟩ => rfl⟩
  refine (gB_apply _ r l).trans ?_
  rw [sh, word_eq]
  exact total_share k0_pay2 own_apply _ ⟨_, hp⟩ rfl (slotsA m c) (ownA m c) _ _ r (row t r) l (fun s => blk0 m hO c t s r l) (blk1 m hO c hp t r l)

theorem outs_at (hO : Ok m) (c : Dev nD) (t : Fin (cfgM m hO).N) :
    outsAt0 m hO c t = (gB (sh m hO c t), changeB (sh m hO c t) (b2 m hO c t) (b3 m hO c t) (b4 m hO c t), momB (sh m hO c t) (b3 m hO c t), secB (sh m hO c t) (b4 m hO c t)) :=
  outs c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0)

/-- What a point leaves in the results' buffers: the arrays' entries at the point's place. -/
theorem outs_place (hO : Ok m) (c : Dev nD) (hp : (meA m c (ix1 0) : BitVec 32).toNat < 8) (t : Fin (cfgM m hO).N) :
    outsAt0 m hO c t = ((fun j => gA m c (place t j)), (fun j => dA m c (place t j)), (fun j => nmA m c (place t j)), (fun j => nvA m c (place t j))) := by
  refine (outs_at m hO c t).trans ?_
  rw [changeB_eq, momB_eq, secB_eq, grad_blk m hO c hp t, blk2, blk3, blk4]
  rfl

theorem final5 (hO : Ok m) (c : Dev nD) (hp : (meA m c (ix1 0) : BitVec 32).toNat < 8) : (dats m hO 0 c).arrAt 5 (cfgM m hO).N = gA m c :=
  (dats m hO 0 c).arrAt_eq_of_cover 5 _ (fun t _ => by
    have e := outs_place m hO c hp t
    exact (after0_5 m hO c t).trans ((congrArg Prod.fst e).trans (funext fun (j : S1024x704.Idx) => congrArg (gA m c) (at_place t j _ rfl rfl).symm))) fun (i : S1024x704.Idx) => by
    obtain ⟨t, ht⟩ := covered i
    exact ⟨t, flush0_5 _ _, (Finset.ext_iff.mp (View.set_slice_whole main_v0_0 (((cfgM m hO).win 5).rect t)) i).mpr (Rect.mem_set_unit.mpr ht)⟩

theorem final6 (hO : Ok m) (c : Dev nD) (hp : (meA m c (ix1 0) : BitVec 32).toNat < 8) : (dats m hO 0 c).arrAt 6 (cfgM m hO).N = dA m c :=
  (dats m hO 0 c).arrAt_eq_of_cover 6 _ (fun t _ => by
    have e := outs_place m hO c hp t
    exact (after0_6 m hO c t).trans ((congrArg (fun p => p.2.1) e).trans (funext fun (j : S1024x704.Idx) => congrArg (dA m c) (at_place t j _ rfl rfl).symm))) fun (i : S1024x704.Idx) => by
    obtain ⟨t, ht⟩ := covered i
    exact ⟨t, flush0_6 _ _, (Finset.ext_iff.mp (View.set_slice_whole main_v0_1 (((cfgM m hO).win 6).rect t)) i).mpr (Rect.mem_set_unit.mpr ht)⟩

theorem final7 (hO : Ok m) (c : Dev nD) (hp : (meA m c (ix1 0) : BitVec 32).toNat < 8) : (dats m hO 0 c).arrAt 7 (cfgM m hO).N = nmA m c :=
  (dats m hO 0 c).arrAt_eq_of_cover 7 _ (fun t _ => by
    have e := outs_place m hO c hp t
    exact (after0_7 m hO c t).trans ((congrArg (fun p => p.2.2.1) e).trans (funext fun (j : S1024x704.Idx) => congrArg (nmA m c) (at_place t j _ rfl rfl).symm))) fun (i : S1024x704.Idx) => by
    obtain ⟨t, ht⟩ := covered i
    exact ⟨t, flush0_7 _ _, (Finset.ext_iff.mp (View.set_slice_whole main_v0_2 (((cfgM m hO).win 7).rect t)) i).mpr (Rect.mem_set_unit.mpr ht)⟩

theorem final8 (hO : Ok m) (c : Dev nD) (hp : (meA m c (ix1 0) : BitVec 32).toNat < 8) : (dats m hO 0 c).arrAt 8 (cfgM m hO).N = nvA m c :=
  (dats m hO 0 c).arrAt_eq_of_cover 8 _ (fun t _ => by
    have e := outs_place m hO c hp t
    exact (after0_8 m hO c t).trans ((congrArg (fun p => p.2.2.2) e).trans (funext fun (j : S1024x704.Idx) => congrArg (nvA m c) (at_place t j _ rfl rfl).symm))) fun (i : S1024x704.Idx) => by
    obtain ⟨t, ht⟩ := covered i
    exact ⟨t, flush0_8 _ _, (Finset.ext_iff.mp (View.set_slice_whole main_v0_3 (((cfgM m hO).win 8).rect t)) i).mpr (Rect.mem_set_unit.mpr ht)⟩

theorem run_value (hO : Ok m) (hp : ∀ c, (meA m c (ix1 0) : BitVec 32).toNat < 8) :
    θ_run defs (onTc (τ := τ) (main (F := Ideal))) ⟨m, fun _ => 0, ρ⟩ (fun r => ∀ c : Dev nD,
      r.2.mem ((c.tc : Thread nD τ).loc main_v0_0) = gA m c
      ∧ r.2.mem ((c.tc : Thread nD τ).loc main_v0_1) = dA m c
      ∧ r.2.mem ((c.tc : Thread nD τ).loc main_v0_2) = nmA m c
      ∧ r.2.mem ((c.tc : Thread nD τ).loc main_v0_3) = nvA m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h.1 c).1 5).trans (final5 m hO c (hp c)), ((h.1 c).1 6).trans (final6 m hO c (hp c)), ((h.1 c).1 7).trans (final7 m hO c (hp c)), ((h.1 c).1 8).trans (final8 m hO c (hp c)), h.2 c⟩)
    (θ_run_and (run_main m ρ hO) (unchanged m ρ hO))

/-! ## The claims -/

theorem body_text (i a1 h1 a2 h2 a3 h3 a4 h4 a5 h5 a6 h6 a7 h7 a8 h8 a9 h9 a10 h10) : Cert.Kernel18.cc0_adam_w_up (F := Bits) i a1 h1 a2 h2 a3 h3 a4 h4 a5 h5 a6 h6 a7 h7 a8 h8 a9 h9 a10 h10 = Cert.Kernel18Ideal.cc0_adam_w_up (F := Bits) i a1 h1 a2 h2 a3 h3 a4 h4 a5 h5 a6 h6 a7 h7 a8 h8 a9 h9 a10 h10 := rfl

theorem label_text : Cert.Kernel18.defs₀ (F := Bits) = Cert.Kernel18Ideal.defs₀ (F := Bits) := by
  unfold Cert.Kernel18.defs₀ Cert.Kernel18Ideal.defs₀
  refine congrArg (Defs.onTc (nD := nD) (τ := τ) (sig := sig) (Val := Elt Bits) (Λ := Λ₀)) ?_
  funext l x
  match l, x with
  | 0, (t, s) => exact body_text _ _ _ _ _ _ _ _ _ _ _ _ _ _ _ _ _ _ _ _ _
  | ⟨_ + 1, h⟩, _ => exact absurd h (Nat.not_lt.2 (Nat.le_add_left _ _))

/-- The two programs' body tables are one. -/
theorem defs_text : Cert.Kernel18.defs (F := Bits) = Cert.Kernel18Ideal.defs (F := Bits) :=
  congrArg (Pipeline.defs (Cert.Kernel18Ideal.pcfgs (F := Bits))) label_text

theorem at_table (D : Defs nD τ sig (Elt Bits) (Pipeline.Sig Λ₀ (Fin 1) fun p => (pcfgs (F := Bits) p).Adm)) (h : D = defs (F := Bits)) (s Q)
    (hr : θ_run (defs (F := Bits)) (onTc (τ := τ) (main (F := Bits))) s Q) : θ_run D (onTc (τ := τ) (main (F := Bits))) s Q := by
  subst h
  exact hr

theorem frame_bits : Cert.quiescent_Kernel18 := fun m ρ h =>
  at_table _ defs_text _ _ (Cert.Kernel18Ideal.Gen.frame (F := Bits) m ρ (ok_of_lt m (lt_of_pre _ _ _ _ _ _ (h 0))))

theorem frame_ideal : Cert.quiescent_Kernel18Ideal := fun m ρ h =>
  Cert.Kernel18Ideal.Gen.frame m ρ (ok_of_lt m (lt_of_pre _ _ _ _ _ _ (h 0)))

theorem claim18 : Cert.algebraic_Kernel18Ideal_Reference18Ideal := by
  intro m g m' g' hpre hargs
  have hO : Ok m := ok_of_lt m (lt_of_pre _ _ _ _ _ _ (hpre 0))
  have hp : ∀ c, (meA m c (ix1 0) : BitVec 32).toNat < 8 := fun c => lt_of_pre _ _ _ _ _ _ (hpre c)
  refine ⟨fun c => gA m c, fun c => dA m c, fun c => nmA m c, fun c => nvA m c,
    run_value m g hO hp, (θ_run _ _ _).mono (fun _ h c => ?_) (Cert.Reference18Ideal.Value.run m' g')⟩
  obtain ⟨e0, e1, e2, e3, e4, e5⟩ := hargs c
  obtain ⟨h0, h1, h2, h3, h4⟩ := h c
  refine ⟨h0.trans ?_, h1.trans ?_, h2.trans ?_, h3.trans ?_, h4⟩
  all_goals dsimp only
  · rw [e0, e1, e2]
    exact ref_gradT (ref_grad _ _ _ _ _ _ _ _ _ _) _
  · rw [e0, e1, e2, e3, e4, e5]
    exact (ref_change _ _ _ _ _).trans (congrArg (fun g => changeA g (wA m c) (mA m c) (vA m c)) (ref_gradT (ref_grad _ _ _ _ _ _ _ _ _ _) _))
  · rw [e0, e1, e2, e4]
    exact (ref_mom _ _ _).trans (congrArg (fun g => momA g (mA m c)) (ref_gradT (ref_grad _ _ _ _ _ _ _ _ _ _) _))
  · rw [e0, e1, e2, e5]
    exact (ref_sec _ _ _).trans (congrArg (fun g => secA g (vA m c)) (ref_gradT (ref_grad _ _ _ _ _ _ _ _ _ _) _))

end Cert.Proof.AdamUp

end
-- ==== Proof.lean ====
/- The claims of this directory: each frame is the generated run read at its arguments, each value claim is the
   theorem of the module that proves it. -/
module

public import proofs.«01_k».proof.Defs
public import proofs.«01_k».proof.Proof.Gen.Kernel.Frame
public import proofs.«01_k».proof.Proof.Gen.KernelIdeal.Frame
public import proofs.«01_k».proof.Proof.Gen.Kernel2.Frame
public import proofs.«01_k».proof.Proof.Gen.Kernel2Ideal.Frame
public import proofs.«01_k».proof.Proof.Gen.Kernel3.Frame
public import proofs.«01_k».proof.Proof.Gen.Kernel3Ideal.Frame
public import proofs.«01_k».proof.Proof.Gen.Kernel4.Frame
public import proofs.«01_k».proof.Proof.Gen.Kernel4Ideal.Frame
public import proofs.«01_k».proof.Proof.Gen.Kernel5.Frame
public import proofs.«01_k».proof.Proof.Gen.Kernel5Ideal.Frame
public import proofs.«01_k».proof.Proof.Gen.Kernel6.Frame
public import proofs.«01_k».proof.Proof.Gen.Kernel6Ideal.Frame
public import proofs.«01_k».proof.Proof.Gen.Kernel7.Frame
public import proofs.«01_k».proof.Proof.Gen.Kernel7Ideal.Frame
public import proofs.«01_k».proof.Proof.Gen.Kernel8.Frame
public import proofs.«01_k».proof.Proof.Gen.Kernel8Ideal.Frame
public import proofs.«01_k».proof.Proof.Gen.Kernel10.Frame
public import proofs.«01_k».proof.Proof.Gen.Kernel10Ideal.Frame
public import proofs.«01_k».proof.Proof.Gen.Kernel11.Frame
public import proofs.«01_k».proof.Proof.Gen.Kernel11Ideal.Frame
public import proofs.«01_k».proof.Proof.Gen.Kernel12.Frame
public import proofs.«01_k».proof.Proof.Gen.Kernel12Ideal.Frame
public import proofs.«01_k».proof.Proof.Gen.Kernel13.Frame
public import proofs.«01_k».proof.Proof.Gen.Kernel13Ideal.Frame
public import proofs.«01_k».proof.Proof.Gen.Kernel14.Frame
public import proofs.«01_k».proof.Proof.Gen.Kernel14Ideal.Frame
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Gen.Kernel4
public import proofs.«01_k».proof.Proof.Gen.Kernel4Ideal
public import proofs.«01_k».proof.Proof.Gen.Reference4Ideal
public import proofs.«01_k».proof.Proof.Gen.Kernel5
public import proofs.«01_k».proof.Proof.Gen.Kernel5Ideal
public import proofs.«01_k».proof.Proof.Gen.Reference5Ideal
public import proofs.«01_k».proof.Proof.Gen.Kernel6
public import proofs.«01_k».proof.Proof.Gen.Kernel6Ideal
public import proofs.«01_k».proof.Proof.Gen.Reference6Ideal
public import proofs.«01_k».proof.Proof.Gen.Kernel7
public import proofs.«01_k».proof.Proof.Gen.Kernel7Ideal
public import proofs.«01_k».proof.Proof.Gen.Reference7Ideal
public import proofs.«01_k».proof.Proof.Gen.Kernel8
public import proofs.«01_k».proof.Proof.Gen.Kernel8Ideal
public import proofs.«01_k».proof.Proof.Gen.Reference8Ideal
public import proofs.«01_k».proof.Proof.Gen.Kernel10
public import proofs.«01_k».proof.Proof.Gen.Kernel10Ideal
public import proofs.«01_k».proof.Proof.Gen.Reference10Ideal
public import proofs.«01_k».proof.Proof.Gen.Kernel11
public import proofs.«01_k».proof.Proof.Gen.Kernel11Ideal
public import proofs.«01_k».proof.Proof.Gen.Reference11Ideal
public import proofs.«01_k».proof.Proof.Gen.Kernel12
public import proofs.«01_k».proof.Proof.Gen.Kernel12Ideal
public import proofs.«01_k».proof.Proof.Gen.Reference12Ideal
public import proofs.«01_k».proof.Proof.Gen.Kernel13
public import proofs.«01_k».proof.Proof.Gen.Kernel13Ideal
public import proofs.«01_k».proof.Proof.Gen.Reference13Ideal
public import proofs.«01_k».proof.Proof.Gen.Kernel14
public import proofs.«01_k».proof.Proof.Gen.Kernel14Ideal
public import proofs.«01_k».proof.Proof.Gen.Reference14Ideal
public import proofs.«01_k».proof.Proof.Gen.Kernel15
public import proofs.«01_k».proof.Proof.Gen.Kernel15Ideal
public import proofs.«01_k».proof.Proof.Gen.Reference15Ideal
public import proofs.«01_k».proof.Proof.Gen.Kernel16
public import proofs.«01_k».proof.Proof.Gen.Kernel16Ideal
public import proofs.«01_k».proof.Proof.Gen.Reference16Ideal
public import proofs.«01_k».proof.Proof.Gen.Kernel17
public import proofs.«01_k».proof.Proof.Gen.Kernel17Ideal
public import proofs.«01_k».proof.Proof.Gen.Reference17Ideal
public import proofs.«01_k».proof.Proof.Gen.Kernel18
public import proofs.«01_k».proof.Proof.Gen.Kernel18Ideal
public import proofs.«01_k».proof.Proof.Gen.Reference18Ideal
public import proofs.«01_k».proof.Proof.Gen.Pre_on_mesh15
public import proofs.«01_k».proof.Proof.Gen.Pre_on_mesh16
public import proofs.«01_k».proof.Proof.Gen.Pre_on_mesh17
public import proofs.«01_k».proof.Proof.Gen.Pre_on_mesh18
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.Gen.Reference8Ideal.Run
public import proofs.«01_k».proof.Proof.Gen.Reference10Ideal.Run
public import proofs.«01_k».proof.Proof.Gen.Reference11Ideal.Run
public import proofs.«01_k».proof.Proof.Gen.Reference12Ideal.Run
public import proofs.«01_k».proof.Proof.Gen.Reference13Ideal.Run
public import proofs.«01_k».proof.Proof.Gen.Reference14Ideal.Run
public import proofs.«01_k».proof.Proof.Gen.Reference15Ideal.Run
public import proofs.«01_k».proof.Proof.Gen.Reference16Ideal.Run
public import proofs.«01_k».proof.Proof.Gen.Reference17Ideal.Run
public import proofs.«01_k».proof.Proof.Gen.Reference18Ideal.Run
public import proofs.«01_k».proof.Proof.Gen.Kernel3Ideal.Value
public import proofs.«01_k».proof.Proof.Gen.Kernel4Ideal.Value
public import proofs.«01_k».proof.Proof.Gen.Kernel5Ideal.Value
public import proofs.«01_k».proof.Proof.Gen.Kernel6Ideal.Value
public import proofs.«01_k».proof.Proof.Gen.Kernel7Ideal.Value
public import proofs.«01_k».proof.Proof.Gen.Kernel8Ideal.Value
public import proofs.«01_k».proof.Proof.Gen.Kernel11Ideal.Value
public import proofs.«01_k».proof.Proof.Gen.Kernel13Ideal.Value
public import proofs.«01_k».proof.Proof.Gen.Kernel14Ideal.Value
public import proofs.«01_k».proof.Proof.DwupRun
public import proofs.«01_k».proof.Proof.DwinRun
public import proofs.«01_k».proof.Proof.UpNormRun
public import proofs.«01_k».proof.Proof.InNormRun
public import proofs.«01_k».proof.Proof.ProductsRun
public import proofs.«01_k».proof.Proof.OutNorm
public import proofs.«01_k».proof.Proof.DownLossRun
public import proofs.«01_k».proof.Proof.Branches
public import proofs.«01_k».proof.Proof.OutGateClaim
public import proofs.«01_k».proof.Proof.AdamOut
public import proofs.«01_k».proof.Proof.AdamDown
public import proofs.«01_k».proof.Proof.AdamIn
public import proofs.«01_k».proof.Proof.AdamUp
public import Idealize.ShloMosaic.Adequacy

@[expose] public section

noncomputable section

namespace Cert.Proof

open Idealize.ShloMosaic Idealize.SL.Sem Cert.Kernel

theorem claim : Cert.Claim := ⟨
  Cert.Kernel.Gen.facts,
  Cert.KernelIdeal.Gen.facts,
  Cert.ReferenceIdeal.Gen.facts,
  Cert.Kernel2.Gen.facts,
  Cert.Kernel2Ideal.Gen.facts,
  Cert.Reference2Ideal.Gen.facts,
  Cert.Kernel3.Gen.facts,
  Cert.Kernel3Ideal.Gen.facts,
  Cert.Reference3Ideal.Gen.facts,
  Cert.Kernel4.Gen.facts,
  Cert.Kernel4Ideal.Gen.facts,
  Cert.Reference4Ideal.Gen.facts,
  Cert.Kernel5.Gen.facts,
  Cert.Kernel5Ideal.Gen.facts,
  Cert.Reference5Ideal.Gen.facts,
  Cert.Kernel6.Gen.facts,
  Cert.Kernel6Ideal.Gen.facts,
  Cert.Reference6Ideal.Gen.facts,
  Cert.Kernel7.Gen.facts,
  Cert.Kernel7Ideal.Gen.facts,
  Cert.Reference7Ideal.Gen.facts,
  Cert.Kernel8.Gen.facts,
  Cert.Kernel8Ideal.Gen.facts,
  Cert.Reference8Ideal.Gen.facts,
  Cert.Kernel10.Gen.facts,
  Cert.Kernel10Ideal.Gen.facts,
  Cert.Reference10Ideal.Gen.facts,
  Cert.Kernel11.Gen.facts,
  Cert.Kernel11Ideal.Gen.facts,
  Cert.Reference11Ideal.Gen.facts,
  Cert.Kernel12.Gen.facts,
  Cert.Kernel12Ideal.Gen.facts,
  Cert.Reference12Ideal.Gen.facts,
  Cert.Kernel13.Gen.facts,
  Cert.Kernel13Ideal.Gen.facts,
  Cert.Reference13Ideal.Gen.facts,
  Cert.Kernel14.Gen.facts,
  Cert.Kernel14Ideal.Gen.facts,
  Cert.Reference14Ideal.Gen.facts,
  Cert.Kernel15.Gen.facts,
  Cert.Kernel15Ideal.Gen.facts,
  Cert.Reference15Ideal.Gen.facts,
  Cert.Kernel16.Gen.facts,
  Cert.Kernel16Ideal.Gen.facts,
  Cert.Reference16Ideal.Gen.facts,
  Cert.Kernel17.Gen.facts,
  Cert.Kernel17Ideal.Gen.facts,
  Cert.Reference17Ideal.Gen.facts,
  Cert.Kernel18.Gen.facts,
  Cert.Kernel18Ideal.Gen.facts,
  Cert.Reference18Ideal.Gen.facts,
  Cert.Pre_on_mesh15.Gen.facts,
  Cert.Pre_on_mesh16.Gen.facts,
  Cert.Pre_on_mesh17.Gen.facts,
  Cert.Pre_on_mesh18.Gen.facts,
  fun m ρ _ => Cert.Kernel.Gen.frame m ρ,
  fun m ρ _ => Cert.KernelIdeal.Gen.frame m ρ,
  fun m ρ _ => (θ_run _ _ _).mono (fun r h => ⟨fun c => (h c).2.2, sem_eq_zero_of_no_sems (by decide) r.2⟩) (Cert.ReferenceIdeal.Value.run m ρ),
  fun m ρ _ => Cert.Kernel2.Gen.frame m ρ,
  fun m ρ _ => Cert.Kernel2Ideal.Gen.frame m ρ,
  fun m ρ _ => (θ_run _ _ _).mono (fun r h => ⟨fun c => (h c).2.2.2, sem_eq_zero_of_no_sems (by decide) r.2⟩) (Cert.Reference2Ideal.Value.run m ρ),
  fun m ρ _ => Cert.Kernel3.Gen.frame m ρ,
  fun m ρ _ => Cert.Kernel3Ideal.Gen.frame m ρ,
  fun m ρ _ => (θ_run _ _ _).mono (fun r h => ⟨fun c => (h c).2, sem_eq_zero_of_no_sems (by decide) r.2⟩) (Cert.Reference3Ideal.Value.run m ρ),
  fun m ρ _ => Cert.Kernel4.Gen.frame m ρ,
  fun m ρ _ => Cert.Kernel4Ideal.Gen.frame m ρ,
  fun m ρ _ => (θ_run _ _ _).mono (fun r h => ⟨fun c => (h c).2, sem_eq_zero_of_no_sems (by decide) r.2⟩) (Cert.Reference4Ideal.Value.run m ρ),
  fun m ρ _ => Cert.Kernel5.Gen.frame m ρ,
  fun m ρ _ => Cert.Kernel5Ideal.Gen.frame m ρ,
  fun m ρ _ => (θ_run _ _ _).mono (fun r h => ⟨fun c => (h c).2, sem_eq_zero_of_no_sems (by decide) r.2⟩) (Cert.Reference5Ideal.Value.run m ρ),
  fun m ρ _ => Cert.Kernel6.Gen.frame m ρ,
  fun m ρ _ => Cert.Kernel6Ideal.Gen.frame m ρ,
  fun m ρ _ => (θ_run _ _ _).mono (fun r h => ⟨fun c => (h c).2, sem_eq_zero_of_no_sems (by decide) r.2⟩) (Cert.Reference6Ideal.Value.run m ρ),
  fun m ρ _ => Cert.Kernel7.Gen.frame m ρ,
  fun m ρ _ => Cert.Kernel7Ideal.Gen.frame m ρ,
  fun m ρ _ => (θ_run _ _ _).mono (fun r h => ⟨fun c => (h c).2, sem_eq_zero_of_no_sems (by decide) r.2⟩) (Cert.Reference7Ideal.Value.run m ρ),
  fun m ρ _ => Cert.Kernel8.Gen.frame m ρ,
  fun m ρ _ => Cert.Kernel8Ideal.Gen.frame m ρ,
  fun m ρ _ => (θ_run _ _ _).mono (fun r h => ⟨fun c => (h c).2, sem_eq_zero_of_no_sems (by decide) r.2⟩) (Cert.Reference8Ideal.Value.run m ρ),
  fun m ρ _ => Cert.Kernel10.Gen.frame m ρ,
  fun m ρ _ => Cert.Kernel10Ideal.Gen.frame m ρ,
  fun m ρ _ => (θ_run _ _ _).mono (fun r h => ⟨fun c => (h c).2.2.2.2, sem_eq_zero_of_no_sems (by decide) r.2⟩) (Cert.Reference10Ideal.Value.run m ρ),
  fun m ρ _ => Cert.Kernel11.Gen.frame m ρ,
  fun m ρ _ => Cert.Kernel11Ideal.Gen.frame m ρ,
  fun m ρ _ => (θ_run _ _ _).mono (fun r h => ⟨fun c => (h c).2, sem_eq_zero_of_no_sems (by decide) r.2⟩) (Cert.Reference11Ideal.Value.run m ρ),
  fun m ρ _ => Cert.Kernel12.Gen.frame m ρ,
  fun m ρ _ => Cert.Kernel12Ideal.Gen.frame m ρ,
  fun m ρ _ => (θ_run _ _ _).mono (fun r h => ⟨fun c => (h c).2.2.2, sem_eq_zero_of_no_sems (by decide) r.2⟩) (Cert.Reference12Ideal.Value.run m ρ),
  fun m ρ _ => Cert.Kernel13.Gen.frame m ρ,
  fun m ρ _ => Cert.Kernel13Ideal.Gen.frame m ρ,
  fun m ρ _ => (θ_run _ _ _).mono (fun r h => ⟨fun c => (h c).2.2, sem_eq_zero_of_no_sems (by decide) r.2⟩) (Cert.Reference13Ideal.Value.run m ρ),
  fun m ρ _ => Cert.Kernel14.Gen.frame m ρ,
  fun m ρ _ => Cert.Kernel14Ideal.Gen.frame m ρ,
  fun m ρ _ => (θ_run _ _ _).mono (fun r h => ⟨fun c => (h c).2.2.2.2, sem_eq_zero_of_no_sems (by decide) r.2⟩) (Cert.Reference14Ideal.Value.run m ρ),
  Cert.Proof.AdamOut.frame_bits,
  Cert.Proof.AdamOut.frame_ideal,
  fun m ρ _ => (θ_run _ _ _).mono (fun r h => ⟨fun c => (h c).2.2.2.2, sem_eq_zero_of_no_sems (by decide) r.2⟩) (Cert.Reference15Ideal.Value.run m ρ),
  fun m ρ _ => (θ_run _ _ _).mono (fun r h => ⟨fun c => (h c).2.2.2.2, sem_eq_zero_of_no_sems (by decide) r.2⟩) (Cert.Reference15Ideal.Value.run m ρ),
  Cert.Proof.AdamDown.frame_bits,
  Cert.Proof.AdamDown.frame_ideal,
  fun m ρ _ => (θ_run _ _ _).mono (fun r h => ⟨fun c => (h c).2.2.2.2, sem_eq_zero_of_no_sems (by decide) r.2⟩) (Cert.Reference16Ideal.Value.run m ρ),
  fun m ρ _ => (θ_run _ _ _).mono (fun r h => ⟨fun c => (h c).2.2.2.2, sem_eq_zero_of_no_sems (by decide) r.2⟩) (Cert.Reference16Ideal.Value.run m ρ),
  Cert.Proof.AdamIn.frame_bits,
  Cert.Proof.AdamIn.frame_ideal,
  fun m ρ _ => (θ_run _ _ _).mono (fun r h => ⟨fun c => (h c).2.2.2.2, sem_eq_zero_of_no_sems (by decide) r.2⟩) (Cert.Reference17Ideal.Value.run m ρ),
  fun m ρ _ => (θ_run _ _ _).mono (fun r h => ⟨fun c => (h c).2.2.2.2, sem_eq_zero_of_no_sems (by decide) r.2⟩) (Cert.Reference17Ideal.Value.run m ρ),
  Cert.Proof.AdamUp.frame_bits,
  Cert.Proof.AdamUp.frame_ideal,
  fun m ρ _ => (θ_run _ _ _).mono (fun r h => ⟨fun c => (h c).2.2.2.2, sem_eq_zero_of_no_sems (by decide) r.2⟩) (Cert.Reference18Ideal.Value.run m ρ),
  fun m ρ _ => (θ_run _ _ _).mono (fun r h => ⟨fun c => (h c).2.2.2.2, sem_eq_zero_of_no_sems (by decide) r.2⟩) (Cert.Reference18Ideal.Value.run m ρ),
  trivial,
  Cert.Proof.InNorm.claim1,
  trivial,
  Cert.Proof.UpNorm.claim2,
  trivial,
  Cert.Proof.Dwup.claim3,
  trivial,
  Cert.Proof.Dwin.claim4,
  trivial,
  Cert.Proof.Df.claim5,
  trivial,
  Cert.Proof.Dwdn.claim6,
  trivial,
  Cert.Proof.Dwo.claim7,
  trivial,
  Cert.Proof.DoProj.claim8,
  trivial,
  Cert.Proof.OutGate.claim10,
  trivial,
  Cert.Proof.Up.claim11,
  trivial,
  Cert.Proof.DownLoss.claim12,
  trivial,
  Cert.Proof.OutNorm.claim13,
  trivial,
  Cert.Proof.Branches.claim14,
  trivial,
  Cert.Proof.AdamOut.claim15,
  trivial,
  Cert.Proof.AdamDown.claim16,
  trivial,
  Cert.Proof.AdamIn.claim17,
  trivial,
  Cert.Proof.AdamUp.claim18⟩

end Cert.Proof

end
